-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_values [hPre_finite_values : Cert.Pre_finite_values.Facts] (m : (ℓ : Loc Cert.KernelIdeal.nD Cert.KernelIdeal.τ Cert.KernelIdeal.sig) → Buf (Elt Ideal) ℓ) : Prop :=
  ∀ c : Dev Cert.KernelIdeal.nD,
    (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_values [hPre_finite_values : Cert.Pre_finite_values.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_NormIn (m : (ℓ : Loc Cert.NormIn.nD Cert.NormIn.τ Cert.NormIn.sig) → Buf (Elt Bits) ℓ) : Prop :=
  True

def Pre_NormInIdeal (m : (ℓ : Loc Cert.NormInIdeal.nD Cert.NormInIdeal.τ Cert.NormInIdeal.sig) → Buf (Elt Ideal) ℓ) : Prop :=
  True

def Pre_NormInRefIdeal (m : (ℓ : Loc Cert.NormInRefIdeal.nD Cert.NormInRefIdeal.τ Cert.NormInRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Experts [hPre_expert_tables : Cert.Pre_expert_tables.Facts] (m : (ℓ : Loc Cert.Experts.nD Cert.Experts.τ Cert.Experts.sig) → Buf (Elt Bits) ℓ) : Prop :=
  ∀ c : Dev Cert.Experts.nD,
    (Cert.Pre_expert_tables.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_expert_tables : Cert.Pre_expert_tables.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_expert_tables.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_expert_tables [hPre_expert_tables : Cert.Pre_expert_tables.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_expert_tables.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5))) = (fun _ => 1#1)

def Pre_ExpertsSecond [hPre_expert_tables : Cert.Pre_expert_tables.Facts] (m : (ℓ : Loc Cert.ExpertsSecond.nD Cert.ExpertsSecond.τ Cert.ExpertsSecond.sig) → Buf (Elt Bits) ℓ) : Prop :=
  ∀ c : Dev Cert.ExpertsSecond.nD,
    (Cert.Pre_expert_tables.fn (F := Bits) (m ((c.tc : Thread Cert.ExpertsSecond.nD Cert.ExpertsSecond.τ).loc Cert.ExpertsSecond.main_arg0)) (m ((c.tc : Thread Cert.ExpertsSecond.nD Cert.ExpertsSecond.τ).loc Cert.ExpertsSecond.main_arg1)) (m ((c.tc : Thread Cert.ExpertsSecond.nD Cert.ExpertsSecond.τ).loc Cert.ExpertsSecond.main_arg2)) (m ((c.tc : Thread Cert.ExpertsSecond.nD Cert.ExpertsSecond.τ).loc Cert.ExpertsSecond.main_arg3)) (m ((c.tc : Thread Cert.ExpertsSecond.nD Cert.ExpertsSecond.τ).loc Cert.ExpertsSecond.main_arg4)) (m ((c.tc : Thread Cert.ExpertsSecond.nD Cert.ExpertsSecond.τ).loc Cert.ExpertsSecond.main_arg5))) = (fun _ => 1#1)

def Pre_ExpertsSecondIdeal [hPre_expert_tables : Cert.Pre_expert_tables.Facts] (m : (ℓ : Loc Cert.ExpertsSecondIdeal.nD Cert.ExpertsSecondIdeal.τ Cert.ExpertsSecondIdeal.sig) → Buf (Elt Ideal) ℓ) : Prop :=
  ∀ c : Dev Cert.ExpertsSecondIdeal.nD,
    (Cert.Pre_expert_tables.fn (F := Ideal) (m ((c.tc : Thread Cert.ExpertsSecondIdeal.nD Cert.ExpertsSecondIdeal.τ).loc Cert.ExpertsSecondIdeal.main_arg0)) (m ((c.tc : Thread Cert.ExpertsSecondIdeal.nD Cert.ExpertsSecondIdeal.τ).loc Cert.ExpertsSecondIdeal.main_arg1)) (m ((c.tc : Thread Cert.ExpertsSecondIdeal.nD Cert.ExpertsSecondIdeal.τ).loc Cert.ExpertsSecondIdeal.main_arg2)) (m ((c.tc : Thread Cert.ExpertsSecondIdeal.nD Cert.ExpertsSecondIdeal.τ).loc Cert.ExpertsSecondIdeal.main_arg3)) (m ((c.tc : Thread Cert.ExpertsSecondIdeal.nD Cert.ExpertsSecondIdeal.τ).loc Cert.ExpertsSecondIdeal.main_arg4)) (m ((c.tc : Thread Cert.ExpertsSecondIdeal.nD Cert.ExpertsSecondIdeal.τ).loc Cert.ExpertsSecondIdeal.main_arg5))) = (fun _ => 1#1)

def Pre_ExpertsSecondRefIdeal (m : (ℓ : Loc Cert.ExpertsSecondRefIdeal.nD Cert.ExpertsSecondRefIdeal.τ Cert.ExpertsSecondRefIdeal.sig) → Buf (Elt Ideal) ℓ) : Prop :=
  True

def Pre_ExpertsSecondRefIdeal_expert_tables [hPre_expert_tables : Cert.Pre_expert_tables.Facts] (m : (ℓ : Loc Cert.ExpertsSecondRefIdeal.nD Cert.ExpertsSecondRefIdeal.τ Cert.ExpertsSecondRefIdeal.sig) → Buf (Elt Ideal) ℓ) : Prop :=
  ∀ c : Dev Cert.ExpertsSecondRefIdeal.nD,
    (Cert.Pre_expert_tables.fn (F := Ideal) (m ((c.tc : Thread Cert.ExpertsSecondRefIdeal.nD Cert.ExpertsSecondRefIdeal.τ).loc Cert.ExpertsSecondRefIdeal.main_arg0)) (m ((c.tc : Thread Cert.ExpertsSecondRefIdeal.nD Cert.ExpertsSecondRefIdeal.τ).loc Cert.ExpertsSecondRefIdeal.main_arg1)) (m ((c.tc : Thread Cert.ExpertsSecondRefIdeal.nD Cert.ExpertsSecondRefIdeal.τ).loc Cert.ExpertsSecondRefIdeal.main_arg2)) (m ((c.tc : Thread Cert.ExpertsSecondRefIdeal.nD Cert.ExpertsSecondRefIdeal.τ).loc Cert.ExpertsSecondRefIdeal.main_arg3)) (m ((c.tc : Thread Cert.ExpertsSecondRefIdeal.nD Cert.ExpertsSecondRefIdeal.τ).loc Cert.ExpertsSecondRefIdeal.main_arg4)) (m ((c.tc : Thread Cert.ExpertsSecondRefIdeal.nD Cert.ExpertsSecondRefIdeal.τ).loc Cert.ExpertsSecondRefIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_values [hKernelIdeal : Cert.KernelIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_values m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_values [hReferenceIdeal : Cert.ReferenceIdeal.Facts] [hPre_finite_values : Cert.Pre_finite_values.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_values m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2))
      ∧ r.2.sem = fun _ => 0)

def quiescent_NormIn [hNormIn : Cert.NormIn.Facts] : Prop :=
  ∀ (m : (ℓ : Loc Cert.NormIn.nD Cert.NormIn.τ Cert.NormIn.sig) → Buf (Elt Bits) ℓ) (g : Dev Cert.NormIn.nD → PrngReg), Pre_NormIn m →
    θ_run (Cert.NormIn.defs (F := Bits)) (onTc (τ := Cert.NormIn.τ) (Cert.NormIn.main (F := Bits))) ⟨m, fun _ => 0, g⟩ (fun r => (∀ c : Dev Cert.NormIn.nD,
      r.2.mem ((c.tc : Thread Cert.NormIn.nD Cert.NormIn.τ).loc Cert.NormIn.main_arg0) = m ((c.tc : Thread Cert.NormIn.nD Cert.NormIn.τ).loc Cert.NormIn.main_arg0)
      ∧ r.2.mem ((c.tc : Thread Cert.NormIn.nD Cert.NormIn.τ).loc Cert.NormIn.main_arg1) = m ((c.tc : Thread Cert.NormIn.nD Cert.NormIn.τ).loc Cert.NormIn.main_arg1)
      ∧ r.2.mem ((c.tc : Thread Cert.NormIn.nD Cert.NormIn.τ).loc Cert.NormIn.main_arg2) = m ((c.tc : Thread Cert.NormIn.nD Cert.NormIn.τ).loc Cert.NormIn.main_arg2))
      ∧ r.2.sem = fun _ => 0)

def quiescent_NormInIdeal [hNormInIdeal : Cert.NormInIdeal.Facts] : Prop :=
  ∀ (m : (ℓ : Loc Cert.NormInIdeal.nD Cert.NormInIdeal.τ Cert.NormInIdeal.sig) → Buf (Elt Ideal) ℓ) (g : Dev Cert.NormInIdeal.nD → PrngReg), Pre_NormInIdeal m →
    θ_run (Cert.NormInIdeal.defs (F := Ideal)) (onTc (τ := Cert.NormInIdeal.τ) (Cert.NormInIdeal.main (F := Ideal))) ⟨m, fun _ => 0, g⟩ (fun r => (∀ c : Dev Cert.NormInIdeal.nD,
      r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
      ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
      ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2))
      ∧ r.2.sem = fun _ => 0)

def quiescent_NormInRefIdeal [hNormInRefIdeal : Cert.NormInRefIdeal.Facts] : Prop :=
  ∀ (m : (ℓ : Loc Cert.NormInRefIdeal.nD Cert.NormInRefIdeal.τ Cert.NormInRefIdeal.sig) → Buf (Elt Ideal) ℓ) (g : Dev Cert.NormInRefIdeal.nD → PrngReg), Pre_NormInRefIdeal m →
    θ_run (Cert.NormInRefIdeal.defs (F := Ideal)) (onTc (τ := Cert.NormInRefIdeal.τ) (Cert.NormInRefIdeal.main (F := Ideal))) ⟨m, fun _ => 0, g⟩ (fun r => (∀ c : Dev Cert.NormInRefIdeal.nD,
      r.2.mem ((c.tc : Thread Cert.NormInRefIdeal.nD Cert.NormInRefIdeal.τ).loc Cert.NormInRefIdeal.main_arg0) = m ((c.tc : Thread Cert.NormInRefIdeal.nD Cert.NormInRefIdeal.τ).loc Cert.NormInRefIdeal.main_arg0)
      ∧ r.2.mem ((c.tc : Thread Cert.NormInRefIdeal.nD Cert.NormInRefIdeal.τ).loc Cert.NormInRefIdeal.main_arg1) = m ((c.tc : Thread Cert.NormInRefIdeal.nD Cert.NormInRefIdeal.τ).loc Cert.NormInRefIdeal.main_arg1)
      ∧ r.2.mem ((c.tc : Thread Cert.NormInRefIdeal.nD Cert.NormInRefIdeal.τ).loc Cert.NormInRefIdeal.main_arg2) = m ((c.tc : Thread Cert.NormInRefIdeal.nD Cert.NormInRefIdeal.τ).loc Cert.NormInRefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_Experts [hExperts : Cert.Experts.Facts] [hPre_expert_tables : Cert.Pre_expert_tables.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_expert_tables : Cert.Pre_expert_tables.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_ExpertsRefIdeal_pre_expert_tables [hExpertsRefIdeal : Cert.ExpertsRefIdeal.Facts] [hPre_expert_tables : Cert.Pre_expert_tables.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_expert_tables m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_ExpertsSecond [hExpertsSecond : Cert.ExpertsSecond.Facts] [hPre_expert_tables : Cert.Pre_expert_tables.Facts] : Prop :=
  ∀ (m : (ℓ : Loc Cert.ExpertsSecond.nD Cert.ExpertsSecond.τ Cert.ExpertsSecond.sig) → Buf (Elt Bits) ℓ) (g : Dev Cert.ExpertsSecond.nD → PrngReg), Pre_ExpertsSecond m →
    θ_run (Cert.ExpertsSecond.defs (F := Bits)) (onTc (τ := Cert.ExpertsSecond.τ) (Cert.ExpertsSecond.main (F := Bits))) ⟨m, fun _ => 0, g⟩ (fun r => (∀ c : Dev Cert.ExpertsSecond.nD,
      r.2.mem ((c.tc : Thread Cert.ExpertsSecond.nD Cert.ExpertsSecond.τ).loc Cert.ExpertsSecond.main_arg0) = m ((c.tc : Thread Cert.ExpertsSecond.nD Cert.ExpertsSecond.τ).loc Cert.ExpertsSecond.main_arg0)
      ∧ r.2.mem ((c.tc : Thread Cert.ExpertsSecond.nD Cert.ExpertsSecond.τ).loc Cert.ExpertsSecond.main_arg1) = m ((c.tc : Thread Cert.ExpertsSecond.nD Cert.ExpertsSecond.τ).loc Cert.ExpertsSecond.main_arg1)
      ∧ r.2.mem ((c.tc : Thread Cert.ExpertsSecond.nD Cert.ExpertsSecond.τ).loc Cert.ExpertsSecond.main_arg2) = m ((c.tc : Thread Cert.ExpertsSecond.nD Cert.ExpertsSecond.τ).loc Cert.ExpertsSecond.main_arg2)
      ∧ r.2.mem ((c.tc : Thread Cert.ExpertsSecond.nD Cert.ExpertsSecond.τ).loc Cert.ExpertsSecond.main_arg3) = m ((c.tc : Thread Cert.ExpertsSecond.nD Cert.ExpertsSecond.τ).loc Cert.ExpertsSecond.main_arg3)
      ∧ r.2.mem ((c.tc : Thread Cert.ExpertsSecond.nD Cert.ExpertsSecond.τ).loc Cert.ExpertsSecond.main_arg4) = m ((c.tc : Thread Cert.ExpertsSecond.nD Cert.ExpertsSecond.τ).loc Cert.ExpertsSecond.main_arg4)
      ∧ r.2.mem ((c.tc : Thread Cert.ExpertsSecond.nD Cert.ExpertsSecond.τ).loc Cert.ExpertsSecond.main_arg5) = m ((c.tc : Thread Cert.ExpertsSecond.nD Cert.ExpertsSecond.τ).loc Cert.ExpertsSecond.main_arg5))
      ∧ r.2.sem = fun _ => 0)

def quiescent_ExpertsSecondIdeal [hExpertsSecondIdeal : Cert.ExpertsSecondIdeal.Facts] [hPre_expert_tables : Cert.Pre_expert_tables.Facts] : Prop :=
  ∀ (m : (ℓ : Loc Cert.ExpertsSecondIdeal.nD Cert.ExpertsSecondIdeal.τ Cert.ExpertsSecondIdeal.sig) → Buf (Elt Ideal) ℓ) (g : Dev Cert.ExpertsSecondIdeal.nD → PrngReg), Pre_ExpertsSecondIdeal m →
    θ_run (Cert.ExpertsSecondIdeal.defs (F := Ideal)) (onTc (τ := Cert.ExpertsSecondIdeal.τ) (Cert.ExpertsSecondIdeal.main (F := Ideal))) ⟨m, fun _ => 0, g⟩ (fun r => (∀ c : Dev Cert.ExpertsSecondIdeal.nD,
      r.2.mem ((c.tc : Thread Cert.ExpertsSecondIdeal.nD Cert.ExpertsSecondIdeal.τ).loc Cert.ExpertsSecondIdeal.main_arg0) = m ((c.tc : Thread Cert.ExpertsSecondIdeal.nD Cert.ExpertsSecondIdeal.τ).loc Cert.ExpertsSecondIdeal.main_arg0)
      ∧ r.2.mem ((c.tc : Thread Cert.ExpertsSecondIdeal.nD Cert.ExpertsSecondIdeal.τ).loc Cert.ExpertsSecondIdeal.main_arg1) = m ((c.tc : Thread Cert.ExpertsSecondIdeal.nD Cert.ExpertsSecondIdeal.τ).loc Cert.ExpertsSecondIdeal.main_arg1)
      ∧ r.2.mem ((c.tc : Thread Cert.ExpertsSecondIdeal.nD Cert.ExpertsSecondIdeal.τ).loc Cert.ExpertsSecondIdeal.main_arg2) = m ((c.tc : Thread Cert.ExpertsSecondIdeal.nD Cert.ExpertsSecondIdeal.τ).loc Cert.ExpertsSecondIdeal.main_arg2)
      ∧ r.2.mem ((c.tc : Thread Cert.ExpertsSecondIdeal.nD Cert.ExpertsSecondIdeal.τ).loc Cert.ExpertsSecondIdeal.main_arg3) = m ((c.tc : Thread Cert.ExpertsSecondIdeal.nD Cert.ExpertsSecondIdeal.τ).loc Cert.ExpertsSecondIdeal.main_arg3)
      ∧ r.2.mem ((c.tc : Thread Cert.ExpertsSecondIdeal.nD Cert.ExpertsSecondIdeal.τ).loc Cert.ExpertsSecondIdeal.main_arg4) = m ((c.tc : Thread Cert.ExpertsSecondIdeal.nD Cert.ExpertsSecondIdeal.τ).loc Cert.ExpertsSecondIdeal.main_arg4)
      ∧ r.2.mem ((c.tc : Thread Cert.ExpertsSecondIdeal.nD Cert.ExpertsSecondIdeal.τ).loc Cert.ExpertsSecondIdeal.main_arg5) = m ((c.tc : Thread Cert.ExpertsSecondIdeal.nD Cert.ExpertsSecondIdeal.τ).loc Cert.ExpertsSecondIdeal.main_arg5))
      ∧ r.2.sem = fun _ => 0)

def quiescent_ExpertsSecondRefIdeal [hExpertsSecondRefIdeal : Cert.ExpertsSecondRefIdeal.Facts] : Prop :=
  ∀ (m : (ℓ : Loc Cert.ExpertsSecondRefIdeal.nD Cert.ExpertsSecondRefIdeal.τ Cert.ExpertsSecondRefIdeal.sig) → Buf (Elt Ideal) ℓ) (g : Dev Cert.ExpertsSecondRefIdeal.nD → PrngReg), Pre_ExpertsSecondRefIdeal m →
    θ_run (Cert.ExpertsSecondRefIdeal.defs (F := Ideal)) (onTc (τ := Cert.ExpertsSecondRefIdeal.τ) (Cert.ExpertsSecondRefIdeal.main (F := Ideal))) ⟨m, fun _ => 0, g⟩ (fun r => (∀ c : Dev Cert.ExpertsSecondRefIdeal.nD,
      r.2.mem ((c.tc : Thread Cert.ExpertsSecondRefIdeal.nD Cert.ExpertsSecondRefIdeal.τ).loc Cert.ExpertsSecondRefIdeal.main_arg0) = m ((c.tc : Thread Cert.ExpertsSecondRefIdeal.nD Cert.ExpertsSecondRefIdeal.τ).loc Cert.ExpertsSecondRefIdeal.main_arg0)
      ∧ r.2.mem ((c.tc : Thread Cert.ExpertsSecondRefIdeal.nD Cert.ExpertsSecondRefIdeal.τ).loc Cert.ExpertsSecondRefIdeal.main_arg1) = m ((c.tc : Thread Cert.ExpertsSecondRefIdeal.nD Cert.ExpertsSecondRefIdeal.τ).loc Cert.ExpertsSecondRefIdeal.main_arg1)
      ∧ r.2.mem ((c.tc : Thread Cert.ExpertsSecondRefIdeal.nD Cert.ExpertsSecondRefIdeal.τ).loc Cert.ExpertsSecondRefIdeal.main_arg2) = m ((c.tc : Thread Cert.ExpertsSecondRefIdeal.nD Cert.ExpertsSecondRefIdeal.τ).loc Cert.ExpertsSecondRefIdeal.main_arg2)
      ∧ r.2.mem ((c.tc : Thread Cert.ExpertsSecondRefIdeal.nD Cert.ExpertsSecondRefIdeal.τ).loc Cert.ExpertsSecondRefIdeal.main_arg3) = m ((c.tc : Thread Cert.ExpertsSecondRefIdeal.nD Cert.ExpertsSecondRefIdeal.τ).loc Cert.ExpertsSecondRefIdeal.main_arg3)
      ∧ r.2.mem ((c.tc : Thread Cert.ExpertsSecondRefIdeal.nD Cert.ExpertsSecondRefIdeal.τ).loc Cert.ExpertsSecondRefIdeal.main_arg4) = m ((c.tc : Thread Cert.ExpertsSecondRefIdeal.nD Cert.ExpertsSecondRefIdeal.τ).loc Cert.ExpertsSecondRefIdeal.main_arg4)
      ∧ r.2.mem ((c.tc : Thread Cert.ExpertsSecondRefIdeal.nD Cert.ExpertsSecondRefIdeal.τ).loc Cert.ExpertsSecondRefIdeal.main_arg5) = m ((c.tc : Thread Cert.ExpertsSecondRefIdeal.nD Cert.ExpertsSecondRefIdeal.τ).loc Cert.ExpertsSecondRefIdeal.main_arg5))
      ∧ r.2.sem = fun _ => 0)

def quiescent_ExpertsSecondRefIdeal_pre_expert_tables [hExpertsSecondRefIdeal : Cert.ExpertsSecondRefIdeal.Facts] [hPre_expert_tables : Cert.Pre_expert_tables.Facts] : Prop :=
  ∀ (m : (ℓ : Loc Cert.ExpertsSecondRefIdeal.nD Cert.ExpertsSecondRefIdeal.τ Cert.ExpertsSecondRefIdeal.sig) → Buf (Elt Ideal) ℓ) (g : Dev Cert.ExpertsSecondRefIdeal.nD → PrngReg), Pre_ExpertsSecondRefIdeal_expert_tables m →
    θ_run (Cert.ExpertsSecondRefIdeal.defs (F := Ideal)) (onTc (τ := Cert.ExpertsSecondRefIdeal.τ) (Cert.ExpertsSecondRefIdeal.main (F := Ideal))) ⟨m, fun _ => 0, g⟩ (fun r => (∀ c : Dev Cert.ExpertsSecondRefIdeal.nD,
      r.2.mem ((c.tc : Thread Cert.ExpertsSecondRefIdeal.nD Cert.ExpertsSecondRefIdeal.τ).loc Cert.ExpertsSecondRefIdeal.main_arg0) = m ((c.tc : Thread Cert.ExpertsSecondRefIdeal.nD Cert.ExpertsSecondRefIdeal.τ).loc Cert.ExpertsSecondRefIdeal.main_arg0)
      ∧ r.2.mem ((c.tc : Thread Cert.ExpertsSecondRefIdeal.nD Cert.ExpertsSecondRefIdeal.τ).loc Cert.ExpertsSecondRefIdeal.main_arg1) = m ((c.tc : Thread Cert.ExpertsSecondRefIdeal.nD Cert.ExpertsSecondRefIdeal.τ).loc Cert.ExpertsSecondRefIdeal.main_arg1)
      ∧ r.2.mem ((c.tc : Thread Cert.ExpertsSecondRefIdeal.nD Cert.ExpertsSecondRefIdeal.τ).loc Cert.ExpertsSecondRefIdeal.main_arg2) = m ((c.tc : Thread Cert.ExpertsSecondRefIdeal.nD Cert.ExpertsSecondRefIdeal.τ).loc Cert.ExpertsSecondRefIdeal.main_arg2)
      ∧ r.2.mem ((c.tc : Thread Cert.ExpertsSecondRefIdeal.nD Cert.ExpertsSecondRefIdeal.τ).loc Cert.ExpertsSecondRefIdeal.main_arg3) = m ((c.tc : Thread Cert.ExpertsSecondRefIdeal.nD Cert.ExpertsSecondRefIdeal.τ).loc Cert.ExpertsSecondRefIdeal.main_arg3)
      ∧ r.2.mem ((c.tc : Thread Cert.ExpertsSecondRefIdeal.nD Cert.ExpertsSecondRefIdeal.τ).loc Cert.ExpertsSecondRefIdeal.main_arg4) = m ((c.tc : Thread Cert.ExpertsSecondRefIdeal.nD Cert.ExpertsSecondRefIdeal.τ).loc Cert.ExpertsSecondRefIdeal.main_arg4)
      ∧ r.2.mem ((c.tc : Thread Cert.ExpertsSecondRefIdeal.nD Cert.ExpertsSecondRefIdeal.τ).loc Cert.ExpertsSecondRefIdeal.main_arg5) = m ((c.tc : Thread Cert.ExpertsSecondRefIdeal.nD Cert.ExpertsSecondRefIdeal.τ).loc Cert.ExpertsSecondRefIdeal.main_arg5))
      ∧ r.2.sem = fun _ => 0)

def preserves_Kernel_KernelIdeal : Prop :=
  True

def algebraic_KernelIdeal_ReferenceIdeal_pre_finite_values [hKernelIdeal : Cert.KernelIdeal.Facts] [hReferenceIdeal : Cert.ReferenceIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_values m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2))

def preserves_NormIn_NormInIdeal : Prop :=
  True

def algebraic_NormInIdeal_NormInRefIdeal [hNormInIdeal : Cert.NormInIdeal.Facts] [hNormInRefIdeal : Cert.NormInRefIdeal.Facts] : Prop :=
  ∀ (m : (ℓ : Loc Cert.NormInIdeal.nD Cert.NormInIdeal.τ Cert.NormInIdeal.sig) → Buf (Elt Ideal) ℓ) (g : Dev Cert.NormInIdeal.nD → PrngReg)
    (m' : (ℓ : Loc Cert.NormInRefIdeal.nD Cert.NormInRefIdeal.τ Cert.NormInRefIdeal.sig) → Buf (Elt Ideal) ℓ) (g' : Dev Cert.NormInRefIdeal.nD → PrngReg), Pre_NormInIdeal m →
    (∀ c : Dev Cert.NormInIdeal.nD,
      m' ((c.tc : Thread Cert.NormInRefIdeal.nD Cert.NormInRefIdeal.τ).loc Cert.NormInRefIdeal.main_arg0) = m ((c.tc : Thread Cert.NormInIdeal.nD Cert.NormInIdeal.τ).loc Cert.NormInIdeal.main_arg0)
      ∧ m' ((c.tc : Thread Cert.NormInRefIdeal.nD Cert.NormInRefIdeal.τ).loc Cert.NormInRefIdeal.main_arg1) = m ((c.tc : Thread Cert.NormInIdeal.nD Cert.NormInIdeal.τ).loc Cert.NormInIdeal.main_arg1)
      ∧ m' ((c.tc : Thread Cert.NormInRefIdeal.nD Cert.NormInRefIdeal.τ).loc Cert.NormInRefIdeal.main_arg2) = m ((c.tc : Thread Cert.NormInIdeal.nD Cert.NormInIdeal.τ).loc Cert.NormInIdeal.main_arg2)) →
    ∃ (v0 : (c : Dev Cert.NormInIdeal.nD) → Buf (Elt Ideal) ((c.tc : Thread Cert.NormInIdeal.nD Cert.NormInIdeal.τ).loc Cert.NormInIdeal.main_v1)),
      θ_run (Cert.NormInIdeal.defs (F := Ideal)) (onTc (τ := Cert.NormInIdeal.τ) (Cert.NormInIdeal.main (F := Ideal))) ⟨m, fun _ => 0, g⟩ (fun r => ∀ c : Dev Cert.NormInIdeal.nD,
          r.2.mem ((c.tc : Thread Cert.NormInIdeal.nD Cert.NormInIdeal.τ).loc Cert.NormInIdeal.main_v1) = v0 c
          ∧ r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
          ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
          ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2))
      ∧ θ_run (Cert.NormInRefIdeal.defs (F := Ideal)) (onTc (τ := Cert.NormInRefIdeal.τ) (Cert.NormInRefIdeal.main (F := Ideal))) ⟨m', fun _ => 0, g'⟩ (fun r => ∀ c : Dev Cert.NormInRefIdeal.nD,
          r.2.mem ((c.tc : Thread Cert.NormInRefIdeal.nD Cert.NormInRefIdeal.τ).loc Cert.NormInRefIdeal.main_v13) = v0 c
          ∧ r.2.mem ((c.tc : Thread Cert.NormInRefIdeal.nD Cert.NormInRefIdeal.τ).loc Cert.NormInRefIdeal.main_arg0) = m' ((c.tc : Thread Cert.NormInRefIdeal.nD Cert.NormInRefIdeal.τ).loc Cert.NormInRefIdeal.main_arg0)
          ∧ r.2.mem ((c.tc : Thread Cert.NormInRefIdeal.nD Cert.NormInRefIdeal.τ).loc Cert.NormInRefIdeal.main_arg1) = m' ((c.tc : Thread Cert.NormInRefIdeal.nD Cert.NormInRefIdeal.τ).loc Cert.NormInRefIdeal.main_arg1)
          ∧ r.2.mem ((c.tc : Thread Cert.NormInRefIdeal.nD Cert.NormInRefIdeal.τ).loc Cert.NormInRefIdeal.main_arg2) = m' ((c.tc : Thread Cert.NormInRefIdeal.nD Cert.NormInRefIdeal.τ).loc Cert.NormInRefIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v1_0)) (v1 : (c : Dev Cert.ProjIdeal.nD) → Buf (Elt Ideal) ((c.tc : Thread Cert.ProjIdeal.nD Cert.ProjIdeal.τ).loc Cert.ProjIdeal.main_v1_1)) (v2 : (c : Dev Cert.ProjIdeal.nD) → Buf (Elt Ideal) ((c.tc : Thread Cert.ProjIdeal.nD Cert.ProjIdeal.τ).loc Cert.ProjIdeal.main_v1_2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v1_0) = v0 c
          ∧ r.2.mem ((c.tc : Thread Cert.ProjIdeal.nD Cert.ProjIdeal.τ).loc Cert.ProjIdeal.main_v1_1) = v1 c
          ∧ r.2.mem ((c.tc : Thread Cert.ProjIdeal.nD Cert.ProjIdeal.τ).loc Cert.ProjIdeal.main_v1_2) = v2 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v1) = v0 c
          ∧ r.2.mem ((c.tc : Thread Cert.ProjRefIdeal.nD Cert.ProjRefIdeal.τ).loc Cert.ProjRefIdeal.main_v14) = v1 c
          ∧ r.2.mem ((c.tc : Thread Cert.ProjRefIdeal.nD Cert.ProjRefIdeal.τ).loc Cert.ProjRefIdeal.main_v15) = v2 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def preserves_Experts_ExpertsIdeal : Prop :=
  True

def algebraic_ExpertsIdeal_ExpertsRefIdeal [hExpertsIdeal : Cert.ExpertsIdeal.Facts] [hExpertsRefIdeal : Cert.ExpertsRefIdeal.Facts] [hPre_expert_tables : Cert.Pre_expert_tables.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v39) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5))

def preserves_ExpertsSecond_ExpertsSecondIdeal : Prop :=
  True

def algebraic_ExpertsSecondIdeal_ExpertsSecondRefIdeal [hExpertsSecondIdeal : Cert.ExpertsSecondIdeal.Facts] [hExpertsSecondRefIdeal : Cert.ExpertsSecondRefIdeal.Facts] [hPre_expert_tables : Cert.Pre_expert_tables.Facts] : Prop :=
  ∀ (m : (ℓ : Loc Cert.ExpertsSecondIdeal.nD Cert.ExpertsSecondIdeal.τ Cert.ExpertsSecondIdeal.sig) → Buf (Elt Ideal) ℓ) (g : Dev Cert.ExpertsSecondIdeal.nD → PrngReg)
    (m' : (ℓ : Loc Cert.ExpertsSecondRefIdeal.nD Cert.ExpertsSecondRefIdeal.τ Cert.ExpertsSecondRefIdeal.sig) → Buf (Elt Ideal) ℓ) (g' : Dev Cert.ExpertsSecondRefIdeal.nD → PrngReg), Pre_ExpertsSecondIdeal m →
    (∀ c : Dev Cert.ExpertsSecondIdeal.nD,
      m' ((c.tc : Thread Cert.ExpertsSecondRefIdeal.nD Cert.ExpertsSecondRefIdeal.τ).loc Cert.ExpertsSecondRefIdeal.main_arg0) = m ((c.tc : Thread Cert.ExpertsSecondIdeal.nD Cert.ExpertsSecondIdeal.τ).loc Cert.ExpertsSecondIdeal.main_arg0)
      ∧ m' ((c.tc : Thread Cert.ExpertsSecondRefIdeal.nD Cert.ExpertsSecondRefIdeal.τ).loc Cert.ExpertsSecondRefIdeal.main_arg1) = m ((c.tc : Thread Cert.ExpertsSecondIdeal.nD Cert.ExpertsSecondIdeal.τ).loc Cert.ExpertsSecondIdeal.main_arg1)
      ∧ m' ((c.tc : Thread Cert.ExpertsSecondRefIdeal.nD Cert.ExpertsSecondRefIdeal.τ).loc Cert.ExpertsSecondRefIdeal.main_arg2) = m ((c.tc : Thread Cert.ExpertsSecondIdeal.nD Cert.ExpertsSecondIdeal.τ).loc Cert.ExpertsSecondIdeal.main_arg2)
      ∧ m' ((c.tc : Thread Cert.ExpertsSecondRefIdeal.nD Cert.ExpertsSecondRefIdeal.τ).loc Cert.ExpertsSecondRefIdeal.main_arg3) = m ((c.tc : Thread Cert.ExpertsSecondIdeal.nD Cert.ExpertsSecondIdeal.τ).loc Cert.ExpertsSecondIdeal.main_arg3)
      ∧ m' ((c.tc : Thread Cert.ExpertsSecondRefIdeal.nD Cert.ExpertsSecondRefIdeal.τ).loc Cert.ExpertsSecondRefIdeal.main_arg4) = m ((c.tc : Thread Cert.ExpertsSecondIdeal.nD Cert.ExpertsSecondIdeal.τ).loc Cert.ExpertsSecondIdeal.main_arg4)
      ∧ m' ((c.tc : Thread Cert.ExpertsSecondRefIdeal.nD Cert.ExpertsSecondRefIdeal.τ).loc Cert.ExpertsSecondRefIdeal.main_arg5) = m ((c.tc : Thread Cert.ExpertsSecondIdeal.nD Cert.ExpertsSecondIdeal.τ).loc Cert.ExpertsSecondIdeal.main_arg5)) →
    ∃ (v0 : (c : Dev Cert.ExpertsSecondIdeal.nD) → Buf (Elt Ideal) ((c.tc : Thread Cert.ExpertsSecondIdeal.nD Cert.ExpertsSecondIdeal.τ).loc Cert.ExpertsSecondIdeal.main_v0)),
      θ_run (Cert.ExpertsSecondIdeal.defs (F := Ideal)) (onTc (τ := Cert.ExpertsSecondIdeal.τ) (Cert.ExpertsSecondIdeal.main (F := Ideal))) ⟨m, fun _ => 0, g⟩ (fun r => ∀ c : Dev Cert.ExpertsSecondIdeal.nD,
          r.2.mem ((c.tc : Thread Cert.ExpertsSecondIdeal.nD Cert.ExpertsSecondIdeal.τ).loc Cert.ExpertsSecondIdeal.main_v0) = v0 c
          ∧ r.2.mem ((c.tc : Thread Cert.ExpertsSecondIdeal.nD Cert.ExpertsSecondIdeal.τ).loc Cert.ExpertsSecondIdeal.main_arg0) = m ((c.tc : Thread Cert.ExpertsSecondIdeal.nD Cert.ExpertsSecondIdeal.τ).loc Cert.ExpertsSecondIdeal.main_arg0)
          ∧ r.2.mem ((c.tc : Thread Cert.ExpertsSecondIdeal.nD Cert.ExpertsSecondIdeal.τ).loc Cert.ExpertsSecondIdeal.main_arg1) = m ((c.tc : Thread Cert.ExpertsSecondIdeal.nD Cert.ExpertsSecondIdeal.τ).loc Cert.ExpertsSecondIdeal.main_arg1)
          ∧ r.2.mem ((c.tc : Thread Cert.ExpertsSecondIdeal.nD Cert.ExpertsSecondIdeal.τ).loc Cert.ExpertsSecondIdeal.main_arg2) = m ((c.tc : Thread Cert.ExpertsSecondIdeal.nD Cert.ExpertsSecondIdeal.τ).loc Cert.ExpertsSecondIdeal.main_arg2)
          ∧ r.2.mem ((c.tc : Thread Cert.ExpertsSecondIdeal.nD Cert.ExpertsSecondIdeal.τ).loc Cert.ExpertsSecondIdeal.main_arg3) = m ((c.tc : Thread Cert.ExpertsSecondIdeal.nD Cert.ExpertsSecondIdeal.τ).loc Cert.ExpertsSecondIdeal.main_arg3)
          ∧ r.2.mem ((c.tc : Thread Cert.ExpertsSecondIdeal.nD Cert.ExpertsSecondIdeal.τ).loc Cert.ExpertsSecondIdeal.main_arg4) = m ((c.tc : Thread Cert.ExpertsSecondIdeal.nD Cert.ExpertsSecondIdeal.τ).loc Cert.ExpertsSecondIdeal.main_arg4)
          ∧ r.2.mem ((c.tc : Thread Cert.ExpertsSecondIdeal.nD Cert.ExpertsSecondIdeal.τ).loc Cert.ExpertsSecondIdeal.main_arg5) = m ((c.tc : Thread Cert.ExpertsSecondIdeal.nD Cert.ExpertsSecondIdeal.τ).loc Cert.ExpertsSecondIdeal.main_arg5))
      ∧ θ_run (Cert.ExpertsSecondRefIdeal.defs (F := Ideal)) (onTc (τ := Cert.ExpertsSecondRefIdeal.τ) (Cert.ExpertsSecondRefIdeal.main (F := Ideal))) ⟨m', fun _ => 0, g'⟩ (fun r => ∀ c : Dev Cert.ExpertsSecondRefIdeal.nD,
          r.2.mem ((c.tc : Thread Cert.ExpertsSecondRefIdeal.nD Cert.ExpertsSecondRefIdeal.τ).loc Cert.ExpertsSecondRefIdeal.main_v39) = v0 c
          ∧ r.2.mem ((c.tc : Thread Cert.ExpertsSecondRefIdeal.nD Cert.ExpertsSecondRefIdeal.τ).loc Cert.ExpertsSecondRefIdeal.main_arg0) = m' ((c.tc : Thread Cert.ExpertsSecondRefIdeal.nD Cert.ExpertsSecondRefIdeal.τ).loc Cert.ExpertsSecondRefIdeal.main_arg0)
          ∧ r.2.mem ((c.tc : Thread Cert.ExpertsSecondRefIdeal.nD Cert.ExpertsSecondRefIdeal.τ).loc Cert.ExpertsSecondRefIdeal.main_arg1) = m' ((c.tc : Thread Cert.ExpertsSecondRefIdeal.nD Cert.ExpertsSecondRefIdeal.τ).loc Cert.ExpertsSecondRefIdeal.main_arg1)
          ∧ r.2.mem ((c.tc : Thread Cert.ExpertsSecondRefIdeal.nD Cert.ExpertsSecondRefIdeal.τ).loc Cert.ExpertsSecondRefIdeal.main_arg2) = m' ((c.tc : Thread Cert.ExpertsSecondRefIdeal.nD Cert.ExpertsSecondRefIdeal.τ).loc Cert.ExpertsSecondRefIdeal.main_arg2)
          ∧ r.2.mem ((c.tc : Thread Cert.ExpertsSecondRefIdeal.nD Cert.ExpertsSecondRefIdeal.τ).loc Cert.ExpertsSecondRefIdeal.main_arg3) = m' ((c.tc : Thread Cert.ExpertsSecondRefIdeal.nD Cert.ExpertsSecondRefIdeal.τ).loc Cert.ExpertsSecondRefIdeal.main_arg3)
          ∧ r.2.mem ((c.tc : Thread Cert.ExpertsSecondRefIdeal.nD Cert.ExpertsSecondRefIdeal.τ).loc Cert.ExpertsSecondRefIdeal.main_arg4) = m' ((c.tc : Thread Cert.ExpertsSecondRefIdeal.nD Cert.ExpertsSecondRefIdeal.τ).loc Cert.ExpertsSecondRefIdeal.main_arg4)
          ∧ r.2.mem ((c.tc : Thread Cert.ExpertsSecondRefIdeal.nD Cert.ExpertsSecondRefIdeal.τ).loc Cert.ExpertsSecondRefIdeal.main_arg5) = m' ((c.tc : Thread Cert.ExpertsSecondRefIdeal.nD Cert.ExpertsSecondRefIdeal.τ).loc Cert.ExpertsSecondRefIdeal.main_arg5))

def Claim : Prop :=
  ∃ (hKernel : Cert.Kernel.Facts) (hKernelIdeal : Cert.KernelIdeal.Facts) (hReferenceIdeal : Cert.ReferenceIdeal.Facts) (hNorm : Cert.Norm.Facts) (hNormIdeal : Cert.NormIdeal.Facts) (hNormRefIdeal : Cert.NormRefIdeal.Facts) (hNormIn : Cert.NormIn.Facts) (hNormInIdeal : Cert.NormInIdeal.Facts) (hNormInRefIdeal : Cert.NormInRefIdeal.Facts) (hProj : Cert.Proj.Facts) (hProjIdeal : Cert.ProjIdeal.Facts) (hProjRefIdeal : Cert.ProjRefIdeal.Facts) (hExperts : Cert.Experts.Facts) (hExpertsIdeal : Cert.ExpertsIdeal.Facts) (hExpertsRefIdeal : Cert.ExpertsRefIdeal.Facts) (hExpertsSecond : Cert.ExpertsSecond.Facts) (hExpertsSecondIdeal : Cert.ExpertsSecondIdeal.Facts) (hExpertsSecondRefIdeal : Cert.ExpertsSecondRefIdeal.Facts) (hPre_finite_values : Cert.Pre_finite_values.Facts) (hPre_expert_tables : Cert.Pre_expert_tables.Facts),
    quiescent_Kernel (hKernel := hKernel)
    ∧ quiescent_KernelIdeal (hKernelIdeal := hKernelIdeal)
    ∧ quiescent_KernelIdeal_pre_finite_values (hKernelIdeal := hKernelIdeal) (hPre_finite_values := hPre_finite_values)
    ∧ quiescent_ReferenceIdeal (hReferenceIdeal := hReferenceIdeal)
    ∧ quiescent_ReferenceIdeal_pre_finite_values (hReferenceIdeal := hReferenceIdeal) (hPre_finite_values := hPre_finite_values)
    ∧ quiescent_Norm (hNorm := hNorm)
    ∧ quiescent_NormIdeal (hNormIdeal := hNormIdeal)
    ∧ quiescent_NormRefIdeal (hNormRefIdeal := hNormRefIdeal)
    ∧ quiescent_NormIn (hNormIn := hNormIn)
    ∧ quiescent_NormInIdeal (hNormInIdeal := hNormInIdeal)
    ∧ quiescent_NormInRefIdeal (hNormInRefIdeal := hNormInRefIdeal)
    ∧ quiescent_Proj (hProj := hProj)
    ∧ quiescent_ProjIdeal (hProjIdeal := hProjIdeal)
    ∧ quiescent_ProjRefIdeal (hProjRefIdeal := hProjRefIdeal)
    ∧ quiescent_Experts (hExperts := hExperts) (hPre_expert_tables := hPre_expert_tables)
    ∧ quiescent_ExpertsIdeal (hExpertsIdeal := hExpertsIdeal) (hPre_expert_tables := hPre_expert_tables)
    ∧ quiescent_ExpertsRefIdeal (hExpertsRefIdeal := hExpertsRefIdeal)
    ∧ quiescent_ExpertsRefIdeal_pre_expert_tables (hExpertsRefIdeal := hExpertsRefIdeal) (hPre_expert_tables := hPre_expert_tables)
    ∧ quiescent_ExpertsSecond (hExpertsSecond := hExpertsSecond) (hPre_expert_tables := hPre_expert_tables)
    ∧ quiescent_ExpertsSecondIdeal (hExpertsSecondIdeal := hExpertsSecondIdeal) (hPre_expert_tables := hPre_expert_tables)
    ∧ quiescent_ExpertsSecondRefIdeal (hExpertsSecondRefIdeal := hExpertsSecondRefIdeal)
    ∧ quiescent_ExpertsSecondRefIdeal_pre_expert_tables (hExpertsSecondRefIdeal := hExpertsSecondRefIdeal) (hPre_expert_tables := hPre_expert_tables)
    ∧ preserves_Kernel_KernelIdeal
    ∧ algebraic_KernelIdeal_ReferenceIdeal_pre_finite_values (hKernelIdeal := hKernelIdeal) (hReferenceIdeal := hReferenceIdeal) (hPre_finite_values := hPre_finite_values)
    ∧ preserves_Norm_NormIdeal
    ∧ algebraic_NormIdeal_NormRefIdeal (hNormIdeal := hNormIdeal) (hNormRefIdeal := hNormRefIdeal)
    ∧ preserves_NormIn_NormInIdeal
    ∧ algebraic_NormInIdeal_NormInRefIdeal (hNormInIdeal := hNormInIdeal) (hNormInRefIdeal := hNormInRefIdeal)
    ∧ preserves_Proj_ProjIdeal
    ∧ algebraic_ProjIdeal_ProjRefIdeal (hProjIdeal := hProjIdeal) (hProjRefIdeal := hProjRefIdeal)
    ∧ preserves_Experts_ExpertsIdeal
    ∧ algebraic_ExpertsIdeal_ExpertsRefIdeal (hExpertsIdeal := hExpertsIdeal) (hExpertsRefIdeal := hExpertsRefIdeal) (hPre_expert_tables := hPre_expert_tables)
    ∧ preserves_ExpertsSecond_ExpertsSecondIdeal
    ∧ algebraic_ExpertsSecondIdeal_ExpertsSecondRefIdeal (hExpertsSecondIdeal := hExpertsSecondIdeal) (hExpertsSecondRefIdeal := hExpertsSecondRefIdeal) (hPre_expert_tables := hPre_expert_tables)
-- ==== Pre_expert_tables.lean ====
abbrev S25088x2048 : Shape := ⟨2, ![25088, 2048]⟩
abbrev S98 : Shape := ⟨1, ![98]⟩
abbrev S1 : Shape := ⟨1, ![1]⟩
abbrev S2x32x2048x512 : Shape := ⟨4, ![2, 32, 2048, 512]⟩
abbrev S2x32x512x2048 : Shape := ⟨4, ![2, 32, 512, 2048]⟩
abbrev S_ : Shape := ⟨0, ![]⟩

class Facts : Prop where
  bcast_S_S98 : S_.BroadcastsInDim S98 (![] : Fin 0 → Fin S98.rank)
  reducesTo_S98_S_d0 : S98.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S25088x2048 .f32) (main_arg1 : IVec S98 32) (main_arg2 : IVec S1 32) (main_arg3 : FVec F S2x32x2048x512 .f32) (main_arg4 : FVec F S2x32x2048x512 .f32) (main_arg5 : FVec F S2x32x512x2048 .f32) : IVec S_ 1 :=
  let main_c : IVec S_ 32 := constantI S_ 32 0#32
  let main_v0 : IVec S98 32 := broadcastInDim S98 ![] bcast_S_S98 main_c
  let main_v1 : IVec S98 1 := cmpi .sge main_arg1 main_v0
  let main_c_0 : IVec S_ 32 := constantI S_ 32 32#32
  let main_v2 : IVec S98 32 := broadcastInDim S98 ![] bcast_S_S98 main_c_0
  let main_v3 : IVec S98 1 := cmpi .slt main_arg1 main_v2
  let main_v4 : IVec S98 1 := andi main_v1 main_v3
  let main_c_1 : IVec S_ 1 := constantI S_ 1 1#1
  let main_v5 : IVec S_ 1 := (fun x v => Host.reduce IntOp.andi x v reducesTo_S98_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg2 main_v6
  let main_c_3 : IVec S_ 32 := constantI S_ 32 98#32
  let main_v8 : IVec S1 32 := broadcastInDim S1 ![] bcast_S_S1 main_c_3
  let main_v9 : IVec S1 1 := cmpi .sle main_arg2 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Pre_finite_values.lean ====
abbrev S8448x6144 : Shape := ⟨2, ![8448, 6144]⟩
abbrev S8448x2048 : Shape := ⟨2, ![8448, 2048]⟩
abbrev S4x128 : Shape := ⟨2, ![4, 128]⟩
abbrev S8x256 : Shape := ⟨2, ![8, 256]⟩
abbrev S8192x6144 : Shape := ⟨2, ![8192, 6144]⟩
abbrev S_ : Shape := ⟨0, ![]⟩

class Facts : Prop where
  slices_S8448x6144_S8192x6144_0_0 : S8448x6144.Slices ![0, 0] S8192x6144
  bcast_S_S8192x6144 : S_.BroadcastsInDim S8192x6144 (![] : Fin 0 → Fin S8192x6144.rank)
  reducesTo_S8192x6144_S_d0_1 : S8192x6144.ReducesTo [0, 1] S_
  h_S_ : 0 < S_.numel
  bcast_S_S4x128 : S_.BroadcastsInDim S4x128 (![] : Fin 0 → Fin S4x128.rank)
  reducesTo_S4x128_S_d0_1 : S4x128.ReducesTo [0, 1] S_

variable [Facts]

def fn {F : FTy → Type} [FloatOps F] (main_arg0 : FVec F S8448x6144 .f32) (main_arg1 : FVec F S8448x2048 .f32) (main_arg2 : FVec F S4x128 .f32) (main_arg3 : FVec F S8x256 .f32) : IVec S_ 1 :=
  let main_v0 : FVec F S8192x6144 .f32 := (extractStridedSlice S8192x6144 ![0, 0] · slices_S8448x6144_S8192x6144_0_0) main_arg0
  let main_v1 : FVec F S8192x6144 .f32 := Host.absf main_v0
  let main_cst : FVec F S_ .f32 := constant S_ .f32 0x7F800000#32
  let main_v2 : FVec F S8192x6144 .f32 := broadcastInDim S8192x6144 ![] bcast_S_S8192x6144 main_cst
  let main_v3 : IVec S8192x6144 1 := cmpf .olt main_v1 main_v2
  let main_c : IVec S_ 1 := constantI S_ 1 1#1
  let main_v4 : IVec S_ 1 := (fun x v => Host.reduce IntOp.andi x v reducesTo_S8192x6144_S_d0_1 h_S_) main_v3 main_c
  let main_v5 : FVec F S4x128 .f32 := Host.absf main_arg2
  let main_cst_0 : FVec F S_ .f32 := constant S_ .f32 0x7F800000#32
  let main_v6 : FVec F S4x128 .f32 := broadcastInDim S4x128 ![] bcast_S_S4x128 main_cst_0
  let main_v7 : IVec S4x128 1 := cmpf .olt main_v5 main_v6
  let main_c_1 : IVec S_ 1 := constantI S_ 1 1#1
  let main_v8 : IVec S_ 1 := (fun x v => Host.reduce IntOp.andi x v reducesTo_S4x128_S_d0_1 h_S_) main_v7 main_c_1
  let main_v9 : IVec S_ 1 := andi main_v4 main_v8
  main_v9
-- ==== Kernel.lean ====
abbrev S8448x6144 : Shape := ⟨2, ![8448, 6144]⟩
abbrev S8448x2048 : Shape := ⟨2, ![8448, 2048]⟩
abbrev S4x128 : Shape := ⟨2, ![4, 128]⟩
abbrev S8x256 : Shape := ⟨2, ![8, 256]⟩
abbrev S36 : Shape := ⟨1, ![36]⟩
abbrev S8192x6144 : Shape := ⟨2, ![8192, 6144]⟩
abbrev S8192x2048 : Shape := ⟨2, ![8192, 2048]⟩
abbrev S8 : Shape := ⟨1, ![8]⟩
abbrev S_ : Shape := ⟨0, ![]⟩
abbrev S8x1x256 : Shape := ⟨3, ![8, 1, 256]⟩
abbrev S512x256 : Shape := ⟨2, ![512, 256]⟩
abbrev S1 : Shape := ⟨1, ![1]⟩
abbrev S1x1x256 : Shape := ⟨3, ![1, 1, 256]⟩
abbrev S2x512x128 : Shape := ⟨3, ![2, 512, 128]⟩
abbrev S2x512x256 : Shape := ⟨3, ![2, 512, 256]⟩
abbrev S512x512 : Shape := ⟨2, ![512, 512]⟩
abbrev S512x128 : Shape := ⟨2, ![512, 128]⟩
abbrev S1x512x128 : Shape := ⟨3, ![1, 512, 128]⟩
abbrev S512 : Shape := ⟨1, ![512]⟩
abbrev S512x1 : Shape := ⟨2, ![512, 1]⟩
abbrev S1x512x256 : Shape := ⟨3, ![1, 512, 256]⟩
abbrev S1x128 : Shape := ⟨2, ![1, 128]⟩
abbrev S1x1 : Shape := ⟨2, ![1, 1]⟩
abbrev S1x256 : Shape := ⟨2, ![1, 256]⟩

abbrev nBuf : Space → Nat
  | .hbm => 24
  | .vmem => 14
  | .smem => 3
  | _ => 0

abbrev bufTy : (tb : Table) → Fin (tcTables nBuf tb) → BufTy
  | .hbm, ⟨0, _⟩ => ⟨S8448x6144, .f32⟩
  | .hbm, ⟨1, _⟩ => ⟨S8448x2048, .f32⟩
  | .hbm, ⟨2, _⟩ => ⟨S4x128, .f32⟩
  | .hbm, ⟨3, _⟩ => ⟨S8x256, .f32⟩
  | .hbm, ⟨4, _⟩ => ⟨S8192x6144, .f32⟩
  | .hbm, ⟨5, _⟩ => ⟨S8192x6144, .f32⟩
  | .hbm, ⟨6, _⟩ => ⟨S8192x6144, .f32⟩
  | .hbm, ⟨7, _⟩ => ⟨S8192x2048, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S8, .f32⟩
  | .hbm, ⟨22, _⟩ => ⟨S8x1x256, .f32⟩
  | .hbm, ⟨23, _⟩ => ⟨S8192x2048, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S4x128, .f32⟩
  | .local _ .vmem, ⟨7, _⟩ => ⟨S1x1x256, .f32⟩
  | .local _ .vmem, ⟨8, _⟩ => ⟨S1x1x256, .f32⟩
  | .local _ .vmem, ⟨9, _⟩ => ⟨S512x256, .f32⟩
  | .local _ .vmem, ⟨10, _⟩ => ⟨S512x256, .f32⟩
  | .local _ .vmem, ⟨11, _⟩ => ⟨S2x512x128, .f32⟩
  | .local _ .vmem, ⟨12, _⟩ => ⟨S2x512x128, .f32⟩
  | .local _ .vmem, ⟨13, _⟩ => ⟨S2x512x256, .f32⟩
  | .local _ .smem, ⟨0, _⟩ => ⟨S36, .i32⟩
  | .local _ .smem, ⟨1, _⟩ => ⟨S36, .i32⟩
  | .local _ .smem, ⟨2, _⟩ => ⟨S8, .f32⟩
  | _, _ => ⟨S8448x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨2, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.smem, 0, rfl⟩
abbrev main_c_0 : Ref sig .tc := ⟨.smem, 1, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_stg0_0 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![2, 8, 36], ![false, false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg2 : BitVec 32 := BitVec.ofNat 32 (i 2).val
  let v1 : Index := Scalar.indexCast arg2
  ![v1.toNat]
def k0_off2 (i : grid0.Coords) : Fin 1 → Nat :=
  let arg1 : BitVec 32 := BitVec.ofNat 32 (i 1).val
  let v24 : Index := Scalar.indexCast arg1
  ![v24.toNat]
def k0_cond2 (v1 : BitVec 32) (v3 : BitVec 32) : BitVec 1 :=
  let c1_i32_66 : BitVec 32 := 1#32
  let v164 : BitVec 32 := Scalar.addi v1 c1_i32_66
  let c512_i32_67 : BitVec 32 := 512#32
  let v165 : BitVec 32 := Scalar.muli v164 c512_i32_67
  let c1_i32_68 : BitVec 32 := 1#32
  let v166 : BitVec 32 := Scalar.subi v165 c1_i32_68
  let c0_i32_70 : BitVec 32 := 0#32
  let v168 : BitVec 1 := Scalar.cmpi .sgt v166 c0_i32_70
  let v169 : BitVec 32 := Scalar.extui v168
  let c0_i32_71 : BitVec 32 := 0#32
  let v170 : BitVec 1 := Scalar.cmpi .slt v166 c0_i32_71
  let v171 : BitVec 32 := Scalar.extui v170
  let v172 : BitVec 32 := Scalar.subi v169 v171
  let c512_i32_69 : BitVec 32 := 512#32
  let c0_i32_72 : BitVec 32 := 0#32
  let v173 : BitVec 1 := Scalar.cmpi .sgt c512_i32_69 c0_i32_72
  let v174 : BitVec 32 := Scalar.extui v173
  let c0_i32_73 : BitVec 32 := 0#32
  let v175 : BitVec 1 := Scalar.cmpi .slt c512_i32_69 c0_i32_73
  let v176 : BitVec 32 := Scalar.extui v175
  let v177 : BitVec 32 := Scalar.subi v174 v176
  let v178 : BitVec 1 := Scalar.cmpi .ne v172 v177
  let v179 : BitVec 32 := Scalar.remsi v166 c512_i32_69
  let c0_i32_74 : BitVec 32 := 0#32
  let v180 : BitVec 1 := Scalar.cmpi .ne v179 c0_i32_74
  let v181 : BitVec 1 := Scalar.andi v178 v180
  let v167 : BitVec 32 := Scalar.divsi v166 c512_i32_69
  let c1_i32_75 : BitVec 32 := 1#32
  let v182 : BitVec 32 := Scalar.subi v167 c1_i32_75
  let v183 : BitVec 32 := Scalar.select v181 v182 v167
  let v184 : BitVec 1 := Scalar.cmpi .eq v3 v183
  let v185 : BitVec 32 := Scalar.extui v184
  let c0_i32_76 : BitVec 32 := 0#32
  let v186 : BitVec 1 := Scalar.cmpi .ne v185 c0_i32_76
  v186

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 0 (Rect.unit (s := S36) ![v1.toNat] S1.size (k0_off1_inb i)) numel1_S1
  let v3 : BitVec 32 := Scalar.addi v0 v2
  let c0_i32 : BitVec 32 := 0#32
  ![v3.toNat, arg1.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 1 (Rect.unit (s := S36) ![v1.toNat] S1.size (k0_off1_inb i)) numel1_S1
  let v3 : BitVec 32 := Scalar.addi v0 v2
  let c8_i32_0 : BitVec 32 := 8#32
  let v4 : BitVec 32 := Scalar.addi c8_i32_0 arg1
  let c0_i32 : BitVec 32 := 0#32
  ![v3.toNat, v4.toNat]

def cc0_transform_3 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 1 (Rect.unit (s := S36) ![v1.toNat] S1.size (k0_off1_inb i)) numel1_S1
  let v3 : BitVec 32 := Scalar.addi v0 v2
  let c16_i32 : BitVec 32 := 16#32
  let v4 : BitVec 32 := Scalar.addi c16_i32 arg1
  let c0_i32 : BitVec 32 := 0#32
  ![v3.toNat, v4.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 0 (Rect.unit (s := S36) ![v1.toNat] S1.size (k0_off1_inb i)) numel1_S1
  let v3 : BitVec 32 := Scalar.addi v0 v2
  let c0_i32 : BitVec 32 := 0#32
  ![v3.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S8448x6144 : Shape := ⟨2, ![8448, 6144]⟩
abbrev S8448x2048 : Shape := ⟨2, ![8448, 2048]⟩
abbrev S4x128 : Shape := ⟨2, ![4, 128]⟩
abbrev S8x256 : Shape := ⟨2, ![8, 256]⟩
abbrev S8192x6144 : Shape := ⟨2, ![8192, 6144]⟩
abbrev S8192x2048 : Shape := ⟨2, ![8192, 2048]⟩
abbrev S2x4096x8x256 : Shape := ⟨4, ![2, 4096, 8, 256]⟩
abbrev S4096 : Shape := ⟨1, ![4096]⟩
abbrev S1x128 : Shape := ⟨2, ![1, 128]⟩
abbrev S128 : Shape := ⟨1, ![128]⟩
abbrev S_ : Shape := ⟨0, ![]⟩
abbrev S8 : Shape := ⟨1, ![8]⟩
abbrev S4096x1 : Shape := ⟨2, ![4096, 1]⟩
abbrev S1x4096 : Shape := ⟨2, ![1, 4096]⟩
abbrev S4096x4096 : Shape := ⟨2, ![4096, 4096]⟩
abbrev S8x1x1 : Shape := ⟨3, ![8, 1, 1]⟩
abbrev S1x4096x4096 : Shape := ⟨3, ![1, 4096, 4096]⟩
abbrev S8x4096x4096 : Shape := ⟨3, ![8, 4096, 4096]⟩
abbrev S2x4096x8x128 : Shape := ⟨4, ![2, 4096, 8, 128]⟩
abbrev S2x8x4096x4096 : Shape := ⟨4, ![2, 8, 4096, 4096]⟩
abbrev S1x8x4096x4096 : Shape := ⟨4, ![1, 8, 4096, 4096]⟩
abbrev S2x8x4096 : Shape := ⟨3, ![2, 8, 4096]⟩
abbrev S2x8x4096x1 : Shape := ⟨4, ![2, 8, 4096, 1]⟩
abbrev S2x8x256x4096 : Shape := ⟨4, ![2, 8, 256, 4096]⟩
abbrev S2x4096x8 : Shape := ⟨3, ![2, 4096, 8]⟩
abbrev S2x4096x8x1 : Shape := ⟨4, ![2, 4096, 8, 1]⟩
abbrev S1x1x8x256 : Shape := ⟨4, ![1, 1, 8, 256]⟩

abbrev nBuf : Space → Nat
  | .hbm => 180
  | .vmem => 0
  | .smem => 0
  | _ => 0

abbrev hbmTy0_0 (i : Nat) : BufTy := match i % 128 with
  | 0 => ⟨S8448x6144, .f32⟩
  | 1 => ⟨S8448x2048, .f32⟩
  | 2 => ⟨S4x128, .f32⟩
  | 3 => ⟨S8x256, .f32⟩
  | 4 => ⟨S8192x6144, .f32⟩
  | 5 => ⟨S8192x2048, .f32⟩
  | 6 => ⟨S8192x2048, .f32⟩
  | 7 => ⟨S8192x2048, .f32⟩
  | 8 => ⟨S2x4096x8x256, .f32⟩
  | 9 => ⟨S2x4096x8x256, .f32⟩
  | 10 => ⟨S2x4096x8x256, .f32⟩
  | 11 => ⟨S4096, .i32⟩
  | 12 => ⟨S1x128, .f32⟩
  | 13 => ⟨S128, .f32⟩
  | 14 => ⟨S1x128, .f32⟩
  | 15 => ⟨S128, .f32⟩
  | 16 => ⟨S128, .f32⟩
  | 17 => ⟨S_, .f32⟩
  | 18 => ⟨S_, .f32⟩
  | 19 => ⟨S_, .f32⟩
  | 20 => ⟨S1x128, .f32⟩
  | 21 => ⟨S128, .f32⟩
  | 22 => ⟨S1x128, .f32⟩
  | 23 => ⟨S128, .f32⟩
  | 24 => ⟨S128, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S8, .f32⟩
  | 32 => ⟨S_, .f32⟩
  | 33 => ⟨S8, .f32⟩
  | 34 => ⟨S8, .f32⟩
  | 35 => ⟨S_, .f32⟩
  | 36 => ⟨S8, .f32⟩
  | 37 => ⟨S8, .f32⟩
  | 38 => ⟨S_, .f32⟩
  | 39 => ⟨S8, .f32⟩
  | 40 => ⟨S8, .f32⟩
  | 41 => ⟨S_, .f32⟩
  | 42 => ⟨S8, .f32⟩
  | 43 => ⟨S8, .f32⟩
  | 44 => ⟨S8, .f32⟩
  | 45 => ⟨S4096x1, .i32⟩
  | 46 => ⟨S1x4096, .i32⟩
  | 47 => ⟨S4096x4096, .i32⟩
  | 48 => ⟨S4096x4096, .i32⟩
  | 49 => ⟨S4096x4096, .i32⟩
  | 50 => ⟨S4096x4096, .i32⟩
  | 51 => ⟨S4096x4096, .f32⟩
  | 52 => ⟨S8x1x1, .f32⟩
  | 53 => ⟨S8x1x1, .f32⟩
  | 54 => ⟨S1x4096x4096, .f32⟩
  | 55 => ⟨S8x4096x4096, .f32⟩
  | 56 => ⟨S8x4096x4096, .f32⟩
  | 57 => ⟨S8x4096x4096, .f32⟩
  | 58 => ⟨S_, .i32⟩
  | 59 => ⟨S_, .i32⟩
  | 60 => ⟨S4096, .i32⟩
  | 61 => ⟨S4096, .i32⟩
  | 62 => ⟨S4096, .i32⟩
  | 63 => ⟨S_, .i32⟩
  | 64 => ⟨S4096, .i32⟩
  | 65 => ⟨S4096, .i1⟩
  | 66 => ⟨S4096, .i32⟩
  | 67 => ⟨S4096, .i32⟩
  | 68 => ⟨S_, .i32⟩
  | 69 => ⟨S4096, .i32⟩
  | 70 => ⟨S4096, .i1⟩
  | 71 => ⟨S4096, .i1⟩
  | 72 => ⟨S_, .i32⟩
  | 73 => ⟨S4096, .i32⟩
  | 74 => ⟨S4096, .i32⟩
  | 75 => ⟨S4096, .i32⟩
  | 76 => ⟨S1x4096, .i32⟩
  | 77 => ⟨S_, .i32⟩
  | 78 => ⟨S_, .i32⟩
  | 79 => ⟨S4096, .i32⟩
  | 80 => ⟨S4096, .i32⟩
  | 81 => ⟨S4096, .i32⟩
  | 82 => ⟨S_, .i32⟩
  | 83 => ⟨S4096, .i32⟩
  | 84 => ⟨S4096, .i1⟩
  | 85 => ⟨S4096, .i32⟩
  | 86 => ⟨S4096, .i32⟩
  | 87 => ⟨S_, .i32⟩
  | 88 => ⟨S4096, .i32⟩
  | 89 => ⟨S4096, .i1⟩
  | 90 => ⟨S4096, .i1⟩
  | 91 => ⟨S_, .i32⟩
  | 92 => ⟨S4096, .i32⟩
  | 93 => ⟨S4096, .i32⟩
  | 94 => ⟨S4096, .i32⟩
  | 95 => ⟨S4096x1, .i32⟩
  | 96 => ⟨S4096x4096, .i32⟩
  | 97 => ⟨S4096x4096, .i32⟩
  | 98 => ⟨S4096x4096, .i1⟩
  | 99 => ⟨S2x4096x8x128, .f32⟩
  | 100 => ⟨S2x4096x8x128, .f32⟩
  | 101 => ⟨S2x8x4096x4096, .f32⟩
  | 102 => ⟨S_, .f32⟩
  | 103 => ⟨S2x8x4096x4096, .f32⟩
  | 104 => ⟨S2x8x4096x4096, .f32⟩
  | 105 => ⟨S1x8x4096x4096, .f32⟩
  | 106 => ⟨S2x8x4096x4096, .f32⟩
  | 107 => ⟨S2x8x4096x4096, .f32⟩
  | 108 => ⟨S_, .f32⟩
  | 109 => ⟨S_, .f32⟩
  | 110 => ⟨S2x8x4096x4096, .i1⟩
  | 111 => ⟨S2x8x4096x4096, .f32⟩
  | 112 => ⟨S2x8x4096x4096, .f32⟩
  | 113 => ⟨S_, .f32⟩
  | 114 => ⟨S2x8x4096, .f32⟩
  | 115 => ⟨S_, .f32⟩
  | 116 => ⟨S2x8x4096, .f32⟩
  | 117 => ⟨S2x8x4096, .f32⟩
  | 118 => ⟨S2x8x4096x1, .f32⟩
  | 119 => ⟨S2x8x4096x4096, .f32⟩
  | 120 => ⟨S2x8x4096x4096, .f32⟩
  | 121 => ⟨S2x8x4096x4096, .f32⟩
  | 122 => ⟨S_, .f32⟩
  | 123 => ⟨S2x8x4096, .f32⟩
  | 124 => ⟨S2x8x4096x1, .f32⟩
  | 125 => ⟨S2x8x4096x4096, .f32⟩
  | 126 => ⟨S2x8x4096x4096, .f32⟩
  | 127 => ⟨S2x4096x8x128, .f32⟩
  | _ => ⟨S8448x6144, .f32⟩

abbrev hbmTy0_1 (i : Nat) : BufTy := match i % 128 with
  | 0 => ⟨S2x4096x8x128, .f32⟩
  | 1 => ⟨S2x8x4096x4096, .f32⟩
  | 2 => ⟨S_, .f32⟩
  | 3 => ⟨S2x8x4096x4096, .f32⟩
  | 4 => ⟨S2x8x4096x4096, .f32⟩
  | 5 => ⟨S1x8x4096x4096, .f32⟩
  | 6 => ⟨S2x8x4096x4096, .f32⟩
  | 7 => ⟨S2x8x4096x4096, .f32⟩
  | 8 => ⟨S_, .f32⟩
  | 9 => ⟨S_, .f32⟩
  | 10 => ⟨S2x8x4096x4096, .i1⟩
  | 11 => ⟨S2x8x4096x4096, .f32⟩
  | 12 => ⟨S2x8x4096x4096, .f32⟩
  | 13 => ⟨S_, .f32⟩
  | 14 => ⟨S2x8x4096, .f32⟩
  | 15 => ⟨S_, .f32⟩
  | 16 => ⟨S2x8x4096, .f32⟩
  | 17 => ⟨S2x8x4096, .f32⟩
  | 18 => ⟨S2x8x4096x1, .f32⟩
  | 19 => ⟨S2x8x4096x4096, .f32⟩
  | 20 => ⟨S2x8x4096x4096, .f32⟩
  | 21 => ⟨S2x8x4096x4096, .f32⟩
  | 22 => ⟨S_, .f32⟩
  | 23 => ⟨S2x8x4096, .f32⟩
  | 24 => ⟨S2x8x4096x1, .f32⟩
  | 25 => ⟨S2x8x4096x4096, .f32⟩
  | 26 => ⟨S2x8x4096x4096, .f32⟩
  | 27 => ⟨S2x8x4096x4096, .f32⟩
  | 28 => ⟨S2x8x4096x4096, .f32⟩
  | 29 => ⟨S2x8x4096x4096, .f32⟩
  | 30 => ⟨S2x8x256x4096, .f32⟩
  | 31 => ⟨S2x4096x8x256, .f32⟩
  | 32 => ⟨S2x4096x8x256, .f32⟩
  | 33 => ⟨S_, .f32⟩
  | 34 => ⟨S2x4096x8, .f32⟩
  | 35 => ⟨S2x4096x8x1, .f32⟩
  | 36 => ⟨S_, .f32⟩
  | 37 => ⟨S2x4096x8x1, .f32⟩
  | 38 => ⟨S2x4096x8x1, .f32⟩
  | 39 => ⟨S_, .f32⟩
  | 40 => ⟨S2x4096x8x1, .f32⟩
  | 41 => ⟨S2x4096x8x1, .f32⟩
  | 42 => ⟨S2x4096x8x1, .f32⟩
  | 43 => ⟨S2x4096x8x256, .f32⟩
  | 44 => ⟨S2x4096x8x256, .f32⟩
  | 45 => ⟨S1x1x8x256, .f32⟩
  | 46 => ⟨S2x4096x8x256, .f32⟩
  | 47 => ⟨S2x4096x8x256, .f32⟩
  | 48 => ⟨S_, .f32⟩
  | 49 => ⟨S2x4096x8x256, .f32⟩
  | 50 => ⟨S2x4096x8x256, .f32⟩
  | 51 => ⟨S8192x2048, .f32⟩
  | _ => ⟨S8448x6144, .f32⟩

abbrev hbmTy (i : Nat) : BufTy := match i / 128 with
  | 0 => hbmTy0_0 i
  | 1 => hbmTy0_1 i
  | _ => ⟨S8448x6144, .f32⟩

abbrev bufTy : (tb : Table) → Fin (tcTables nBuf tb) → BufTy
  | .hbm, ⟨i, _⟩ => hbmTy i
  | _, _ => ⟨S8448x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_c : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_call0_v5 : Ref sig .tc := ⟨.hbm, 64, rfl⟩
abbrev main_call0_v6 : Ref sig .tc := ⟨.hbm, 65, rfl⟩
abbrev main_call0_v7 : Ref sig .tc := ⟨.hbm, 66, rfl⟩
abbrev main_call0_v8 : Ref sig .tc := ⟨.hbm, 67, rfl⟩
abbrev main_call0_c : Ref sig .tc := ⟨.hbm, 68, rfl⟩
abbrev main_call0_v9 : Ref sig .tc := ⟨.hbm, 69, rfl⟩
abbrev main_call0_v10 : Ref sig .tc := ⟨.hbm, 70, rfl⟩
abbrev main_call0_v11 : Ref sig .tc := ⟨.hbm, 71, rfl⟩
abbrev main_call0_c_0 : Ref sig .tc := ⟨.hbm, 72, rfl⟩
abbrev main_call0_v12 : Ref sig .tc := ⟨.hbm, 73, rfl⟩
abbrev main_call0_v13 : Ref sig .tc := ⟨.hbm, 74, rfl⟩
abbrev main_v47 : Ref sig .tc := ⟨.hbm, 75, rfl⟩
abbrev main_v48 : Ref sig .tc := ⟨.hbm, 76, rfl⟩
abbrev main_c_6 : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_call1_v3 : Ref sig .tc := ⟨.hbm, 81, rfl⟩
abbrev main_call1_v4 : Ref sig .tc := ⟨.hbm, 82, rfl⟩
abbrev main_call1_v5 : Ref sig .tc := ⟨.hbm, 83, rfl⟩
abbrev main_call1_v6 : Ref sig .tc := ⟨.hbm, 84, rfl⟩
abbrev main_call1_v7 : Ref sig .tc := ⟨.hbm, 85, rfl⟩
abbrev main_call1_v8 : Ref sig .tc := ⟨.hbm, 86, rfl⟩
abbrev main_call1_c : Ref sig .tc := ⟨.hbm, 87, rfl⟩
abbrev main_call1_v9 : Ref sig .tc := ⟨.hbm, 88, rfl⟩
abbrev main_call1_v10 : Ref sig .tc := ⟨.hbm, 89, rfl⟩
abbrev main_call1_v11 : Ref sig .tc := ⟨.hbm, 90, rfl⟩
abbrev main_call1_c_0 : Ref sig .tc := ⟨.hbm, 91, rfl⟩
abbrev main_call1_v12 : Ref sig .tc := ⟨.hbm, 92, rfl⟩
abbrev main_call1_v13 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_cst_7 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_cst_8 : Ref sig .tc := ⟨.hbm, 108, rfl⟩
abbrev main_call2_v0 : Ref sig .tc := ⟨.hbm, 109, rfl⟩
abbrev main_call2_v1 : Ref sig .tc := ⟨.hbm, 110, rfl⟩
abbrev main_call2_v2 : Ref sig .tc := ⟨.hbm, 111, rfl⟩
abbrev main_v62 : Ref sig .tc := ⟨.hbm, 112, rfl⟩
abbrev main_cst_9 : Ref sig .tc := ⟨.hbm, 113, rfl⟩
abbrev main_v63 : Ref sig .tc := ⟨.hbm, 114, rfl⟩
abbrev main_cst_10 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_cst_11 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_cst_12 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_cst_13 : Ref sig .tc := ⟨.hbm, 136, rfl⟩
abbrev main_call3_v0 : Ref sig .tc := ⟨.hbm, 137, rfl⟩
abbrev main_call3_v1 : Ref sig .tc := ⟨.hbm, 138, rfl⟩
abbrev main_call3_v2 : Ref sig .tc := ⟨.hbm, 139, rfl⟩
abbrev main_v82 : Ref sig .tc := ⟨.hbm, 140, rfl⟩
abbrev main_cst_14 : Ref sig .tc := ⟨.hbm, 141, rfl⟩
abbrev main_v83 : Ref sig .tc := ⟨.hbm, 142, rfl⟩
abbrev main_cst_15 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_cst_16 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_cst_17 : Ref sig .tc := ⟨.hbm, 161, rfl⟩
abbrev main_v100 : Ref sig .tc := ⟨.hbm, 162, rfl⟩
abbrev main_v101 : Ref sig .tc := ⟨.hbm, 163, rfl⟩
abbrev main_cst_18 : Ref sig .tc := ⟨.hbm, 164, rfl⟩
abbrev main_v102 : Ref sig .tc := ⟨.hbm, 165, rfl⟩
abbrev main_v103 : Ref sig .tc := ⟨.hbm, 166, rfl⟩
abbrev main_cst_19 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_cst_20 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩

abbrev nD : Nat := 1
abbrev τ : Topo := Topo.v7x

variable {F : FTy → Type} [FloatOps F]
-- ==== Norm.lean ====
abbrev S8448x2048 : Shape := ⟨2, ![8448, 2048]⟩
abbrev S2048 : Shape := ⟨1, ![2048]⟩
abbrev S2048x6144 : Shape := ⟨2, ![2048, 6144]⟩
abbrev S1x2048 : Shape := ⟨2, ![1, 2048]⟩
abbrev S8448x6144 : Shape := ⟨2, ![8448, 6144]⟩
abbrev S768x2048 : Shape := ⟨2, ![768, 2048]⟩
abbrev S2048x1024 : Shape := ⟨2, ![2048, 1024]⟩
abbrev S768x1024 : Shape := ⟨2, ![768, 1024]⟩
abbrev S768 : Shape := ⟨1, ![768]⟩
abbrev S768x1 : Shape := ⟨2, ![768, 1]⟩

abbrev nBuf : Space → Nat
  | .hbm => 5
  | .vmem => 8
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2048x6144, .f32⟩
  | .hbm, ⟨3, _⟩ => ⟨S1x2048, .f32⟩
  | .hbm, ⟨4, _⟩ => ⟨S8448x6144, .f32⟩
  | .local _ .vmem, ⟨0, _⟩ => ⟨S768x2048, .f32⟩
  | .local _ .vmem, ⟨1, _⟩ => ⟨S768x2048, .f32⟩
  | .local _ .vmem, ⟨2, _⟩ => ⟨S1x2048, .f32⟩
  | .local _ .vmem, ⟨3, _⟩ => ⟨S2048x1024, .f32⟩
  | .local _ .vmem, ⟨4, _⟩ => ⟨S2048x1024, .f32⟩
  | .local _ .vmem, ⟨5, _⟩ => ⟨S768x1024, .f32⟩
  | .local _ .vmem, ⟨6, _⟩ => ⟨S768x1024, .f32⟩
  | .local _ .vmem, ⟨7, _⟩ => ⟨S768x2048, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![11, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== NormRefIdeal.lean ====
abbrev S8448x2048 : Shape := ⟨2, ![8448, 2048]⟩
abbrev S2048 : Shape := ⟨1, ![2048]⟩
abbrev S2048x6144 : Shape := ⟨2, ![2048, 6144]⟩
abbrev S_ : Shape := ⟨0, ![]⟩
abbrev S8448 : Shape := ⟨1, ![8448]⟩
abbrev S8448x1 : Shape := ⟨2, ![8448, 1]⟩
abbrev S1x2048 : Shape := ⟨2, ![1, 2048]⟩
abbrev S8448x6144 : Shape := ⟨2, ![8448, 6144]⟩

abbrev nBuf : Space → Nat
  | .hbm => 20
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2048x6144, .f32⟩
  | .hbm, ⟨3, _⟩ => ⟨S8448x2048, .f32⟩
  | .hbm, ⟨4, _⟩ => ⟨S_, .f32⟩
  | .hbm, ⟨5, _⟩ => ⟨S8448, .f32⟩
  | .hbm, ⟨6, _⟩ => ⟨S8448x1, .f32⟩
  | .hbm, ⟨7, _⟩ => ⟨S_, .f32⟩
  | .hbm, ⟨8, _⟩ => ⟨S8448x1, .f32⟩
  | .hbm, ⟨9, _⟩ => ⟨S8448x1, .f32⟩
  | .hbm, ⟨10, _⟩ => ⟨S_, .f32⟩
  | .hbm, ⟨11, _⟩ => ⟨S8448x1, .f32⟩
  | .hbm, ⟨12, _⟩ => ⟨S8448x1, .f32⟩
  | .hbm, ⟨13, _⟩ => ⟨S8448x1, .f32⟩
  | .hbm, ⟨14, _⟩ => ⟨S8448x2048, .f32⟩
  | .hbm, ⟨15, _⟩ => ⟨S8448x2048, .f32⟩
  | .hbm, ⟨16, _⟩ => ⟨S1x2048, .f32⟩
  | .hbm, ⟨17, _⟩ => ⟨S8448x2048, .f32⟩
  | .hbm, ⟨18, _⟩ => ⟨S8448x2048, .f32⟩
  | .hbm, ⟨19, _⟩ => ⟨S8448x6144, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== NormIn.lean ====
abbrev S8448x2048 : Shape := ⟨2, ![8448, 2048]⟩
abbrev S2048 : Shape := ⟨1, ![2048]⟩
abbrev S2048x6400 : Shape := ⟨2, ![2048, 6400]⟩
abbrev S1x2048 : Shape := ⟨2, ![1, 2048]⟩
abbrev S8448x6400 : Shape := ⟨2, ![8448, 6400]⟩
abbrev S768x2048 : Shape := ⟨2, ![768, 2048]⟩
abbrev S2048x1280 : Shape := ⟨2, ![2048, 1280]⟩
abbrev S768x1280 : Shape := ⟨2, ![768, 1280]⟩
abbrev S768 : Shape := ⟨1, ![768]⟩
abbrev S768x1 : Shape := ⟨2, ![768, 1]⟩

abbrev nBuf : Space → Nat
  | .hbm => 5
  | .vmem => 8
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2048x6400, .f32⟩
  | .hbm, ⟨3, _⟩ => ⟨S1x2048, .f32⟩
  | .hbm, ⟨4, _⟩ => ⟨S8448x6400, .f32⟩
  | .local _ .vmem, ⟨0, _⟩ => ⟨S768x2048, .f32⟩
  | .local _ .vmem, ⟨1, _⟩ => ⟨S768x2048, .f32⟩
  | .local _ .vmem, ⟨2, _⟩ => ⟨S1x2048, .f32⟩
  | .local _ .vmem, ⟨3, _⟩ => ⟨S2048x1280, .f32⟩
  | .local _ .vmem, ⟨4, _⟩ => ⟨S2048x1280, .f32⟩
  | .local _ .vmem, ⟨5, _⟩ => ⟨S768x1280, .f32⟩
  | .local _ .vmem, ⟨6, _⟩ => ⟨S768x1280, .f32⟩
  | .local _ .vmem, ⟨7, _⟩ => ⟨S768x2048, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![11, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S768x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== NormInRefIdeal.lean ====
abbrev S8448x2048 : Shape := ⟨2, ![8448, 2048]⟩
abbrev S2048 : Shape := ⟨1, ![2048]⟩
abbrev S2048x6400 : Shape := ⟨2, ![2048, 6400]⟩
abbrev S_ : Shape := ⟨0, ![]⟩
abbrev S8448 : Shape := ⟨1, ![8448]⟩
abbrev S8448x1 : Shape := ⟨2, ![8448, 1]⟩
abbrev S1x2048 : Shape := ⟨2, ![1, 2048]⟩
abbrev S8448x6400 : Shape := ⟨2, ![8448, 6400]⟩

abbrev nBuf : Space → Nat
  | .hbm => 20
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2048x6400, .f32⟩
  | .hbm, ⟨3, _⟩ => ⟨S8448x2048, .f32⟩
  | .hbm, ⟨4, _⟩ => ⟨S_, .f32⟩
  | .hbm, ⟨5, _⟩ => ⟨S8448, .f32⟩
  | .hbm, ⟨6, _⟩ => ⟨S8448x1, .f32⟩
  | .hbm, ⟨7, _⟩ => ⟨S_, .f32⟩
  | .hbm, ⟨8, _⟩ => ⟨S8448x1, .f32⟩
  | .hbm, ⟨9, _⟩ => ⟨S8448x1, .f32⟩
  | .hbm, ⟨10, _⟩ => ⟨S_, .f32⟩
  | .hbm, ⟨11, _⟩ => ⟨S8448x1, .f32⟩
  | .hbm, ⟨12, _⟩ => ⟨S8448x1, .f32⟩
  | .hbm, ⟨13, _⟩ => ⟨S8448x1, .f32⟩
  | .hbm, ⟨14, _⟩ => ⟨S8448x2048, .f32⟩
  | .hbm, ⟨15, _⟩ => ⟨S8448x2048, .f32⟩
  | .hbm, ⟨16, _⟩ => ⟨S1x2048, .f32⟩
  | .hbm, ⟨17, _⟩ => ⟨S8448x2048, .f32⟩
  | .hbm, ⟨18, _⟩ => ⟨S8448x2048, .f32⟩
  | .hbm, ⟨19, _⟩ => ⟨S8448x6400, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proj.lean ====
abbrev S8448x2048 : Shape := ⟨2, ![8448, 2048]⟩
abbrev S2048x2048 : Shape := ⟨2, ![2048, 2048]⟩
abbrev S2048 : Shape := ⟨1, ![2048]⟩
abbrev S2048x128 : Shape := ⟨2, ![2048, 128]⟩
abbrev S1x2048 : Shape := ⟨2, ![1, 2048]⟩
abbrev S8448x128 : Shape := ⟨2, ![8448, 128]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩

abbrev nBuf : Space → Nat
  | .hbm => 9
  | .vmem => 13
  | .smem => 0
  | _ => 0

abbrev bufTy : (tb : Table) → Fin (tcTables nBuf tb) → BufTy
  | .hbm, ⟨0, _⟩ => ⟨S8448x2048, .f32⟩
  | .hbm, ⟨1, _⟩ => ⟨S2048x2048, .f32⟩
  | .hbm, ⟨2, _⟩ => ⟨S8448x2048, .f32⟩
  | .hbm, ⟨3, _⟩ => ⟨S2048, .f32⟩
  | .hbm, ⟨4, _⟩ => ⟨S2048x128, .f32⟩
  | .hbm, ⟨5, _⟩ => ⟨S1x2048, .f32⟩
  | .hbm, ⟨6, _⟩ => ⟨S8448x2048, .f32⟩
  | .hbm, ⟨7, _⟩ => ⟨S8448x2048, .f32⟩
  | .hbm, ⟨8, _⟩ => ⟨S8448x128, .f32⟩
  | .local _ .vmem, ⟨0, _⟩ => ⟨S256x2048, .f32⟩
  | .local _ .vmem, ⟨1, _⟩ => ⟨S256x2048, .f32⟩
  | .local _ .vmem, ⟨2, _⟩ => ⟨S2048x2048, .f32⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S2048x128, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x128, .f32⟩
  | .local _ .vmem, ⟨12, _⟩ => ⟨S256x128, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ProjRefIdeal.lean ====
abbrev S8448x2048 : Shape := ⟨2, ![8448, 2048]⟩
abbrev S2048x2048 : Shape := ⟨2, ![2048, 2048]⟩
abbrev S2048 : Shape := ⟨1, ![2048]⟩
abbrev S2048x128 : Shape := ⟨2, ![2048, 128]⟩
abbrev S_ : Shape := ⟨0, ![]⟩
abbrev S8448 : Shape := ⟨1, ![8448]⟩
abbrev S8448x1 : Shape := ⟨2, ![8448, 1]⟩
abbrev S1x2048 : Shape := ⟨2, ![1, 2048]⟩
abbrev S8448x128 : Shape := ⟨2, ![8448, 128]⟩

abbrev nBuf : Space → Nat
  | .hbm => 24
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048x2048, .f32⟩
  | .hbm, ⟨2, _⟩ => ⟨S8448x2048, .f32⟩
  | .hbm, ⟨3, _⟩ => ⟨S2048, .f32⟩
  | .hbm, ⟨4, _⟩ => ⟨S2048x128, .f32⟩
  | .hbm, ⟨5, _⟩ => ⟨S8448x2048, .f32⟩
  | .hbm, ⟨6, _⟩ => ⟨S8448x2048, .f32⟩
  | .hbm, ⟨7, _⟩ => ⟨S8448x2048, .f32⟩
  | .hbm, ⟨8, _⟩ => ⟨S_, .f32⟩
  | .hbm, ⟨9, _⟩ => ⟨S8448, .f32⟩
  | .hbm, ⟨10, _⟩ => ⟨S8448x1, .f32⟩
  | .hbm, ⟨11, _⟩ => ⟨S_, .f32⟩
  | .hbm, ⟨12, _⟩ => ⟨S8448x1, .f32⟩
  | .hbm, ⟨13, _⟩ => ⟨S8448x1, .f32⟩
  | .hbm, ⟨14, _⟩ => ⟨S_, .f32⟩
  | .hbm, ⟨15, _⟩ => ⟨S8448x1, .f32⟩
  | .hbm, ⟨16, _⟩ => ⟨S8448x1, .f32⟩
  | .hbm, ⟨17, _⟩ => ⟨S8448x1, .f32⟩
  | .hbm, ⟨18, _⟩ => ⟨S8448x2048, .f32⟩
  | .hbm, ⟨19, _⟩ => ⟨S8448x2048, .f32⟩
  | .hbm, ⟨20, _⟩ => ⟨S1x2048, .f32⟩
  | .hbm, ⟨21, _⟩ => ⟨S8448x2048, .f32⟩
  | .hbm, ⟨22, _⟩ => ⟨S8448x2048, .f32⟩
  | .hbm, ⟨23, _⟩ => ⟨S8448x128, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Experts.lean ====
abbrev S25088x2048 : Shape := ⟨2, ![25088, 2048]⟩
abbrev S98 : Shape := ⟨1, ![98]⟩
abbrev S1 : Shape := ⟨1, ![1]⟩
abbrev S2x32x2048x512 : Shape := ⟨4, ![2, 32, 2048, 512]⟩
abbrev S2x32x512x2048 : Shape := ⟨4, ![2, 32, 512, 2048]⟩
abbrev S256x2048 : Shape := ⟨2, ![256, 2048]⟩
abbrev S1x1x2048x512 : Shape := ⟨4, ![1, 1, 2048, 512]⟩
abbrev S1x1x512x2048 : Shape := ⟨4, ![1, 1, 512, 2048]⟩
abbrev S2048x512 : Shape := ⟨2, ![2048, 512]⟩
abbrev S256x512 : Shape := ⟨2, ![256, 512]⟩
abbrev S512x2048 : Shape := ⟨2, ![512, 2048]⟩

abbrev nBuf : Space → Nat
  | .hbm => 5
  | .vmem => 10
  | .smem => 2
  | _ => 0

abbrev bufTy : (tb : Table) → Fin (tcTables nBuf tb) → BufTy
  | .hbm, ⟨0, _⟩ => ⟨S25088x2048, .f32⟩
  | .hbm, ⟨1, _⟩ => ⟨S2x32x2048x512, .f32⟩
  | .hbm, ⟨2, _⟩ => ⟨S2x32x2048x512, .f32⟩
  | .hbm, ⟨3, _⟩ => ⟨S2x32x512x2048, .f32⟩
  | .hbm, ⟨4, _⟩ => ⟨S25088x2048, .f32⟩
  | .local _ .vmem, ⟨0, _⟩ => ⟨S256x2048, .f32⟩
  | .local _ .vmem, ⟨1, _⟩ => ⟨S256x2048, .f32⟩
  | .local _ .vmem, ⟨2, _⟩ => ⟨S1x1x2048x512, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x2048x512, .f32⟩
  | .local _ .vmem, ⟨6, _⟩ => ⟨S1x1x512x2048, .f32⟩
  | .local _ .vmem, ⟨7, _⟩ => ⟨S1x1x512x2048, .f32⟩
  | .local _ .vmem, ⟨8, _⟩ => ⟨S256x2048, .f32⟩
  | .local _ .vmem, ⟨9, _⟩ => ⟨S256x2048, .f32⟩
  | .local _ .smem, ⟨0, _⟩ => ⟨S98, .i32⟩
  | .local _ .smem, ⟨1, _⟩ => ⟨S1, .i32⟩
  | _, _ => ⟨S25088x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![98], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S98.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S98) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S98.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S98) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S98.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S98) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsRefIdeal.lean ====
abbrev S25088x2048 : Shape := ⟨2, ![25088, 2048]⟩
abbrev S98 : Shape := ⟨1, ![98]⟩
abbrev S1 : Shape := ⟨1, ![1]⟩
abbrev S2x32x2048x512 : Shape := ⟨4, ![2, 32, 2048, 512]⟩
abbrev S2x32x512x2048 : Shape := ⟨4, ![2, 32, 512, 2048]⟩
abbrev S1x32x2048x512 : Shape := ⟨4, ![1, 32, 2048, 512]⟩
abbrev S32x2048x512 : Shape := ⟨3, ![32, 2048, 512]⟩
abbrev S1x32x512x2048 : Shape := ⟨4, ![1, 32, 512, 2048]⟩
abbrev S32x512x2048 : Shape := ⟨3, ![32, 512, 2048]⟩
abbrev S98x256x2048 : Shape := ⟨3, ![98, 256, 2048]⟩
abbrev S_ : Shape := ⟨0, ![]⟩
abbrev S98x1 : Shape := ⟨2, ![98, 1]⟩
abbrev S98x2048x512 : Shape := ⟨3, ![98, 2048, 512]⟩
abbrev S98x256x512 : Shape := ⟨3, ![98, 256, 512]⟩
abbrev S98x512x2048 : Shape := ⟨3, ![98, 512, 2048]⟩
abbrev S98x1x1 : Shape := ⟨3, ![98, 1, 1]⟩

abbrev nBuf : Space → Nat
  | .hbm => 64
  | .vmem => 0
  | .smem => 0
  | _ => 0

abbrev bufTy : (tb : Table) → Fin (tcTables nBuf tb) → BufTy
  | .hbm, ⟨0, _⟩ => ⟨S25088x2048, .f32⟩
  | .hbm, ⟨1, _⟩ => ⟨S98, .i32⟩
  | .hbm, ⟨2, _⟩ => ⟨S1, .i32⟩
  | .hbm, ⟨3, _⟩ => ⟨S2x32x2048x512, .f32⟩
  | .hbm, ⟨4, _⟩ => ⟨S2x32x2048x512, .f32⟩
  | .hbm, ⟨5, _⟩ => ⟨S2x32x512x2048, .f32⟩
  | .hbm, ⟨6, _⟩ => ⟨S1x32x2048x512, .f32⟩
  | .hbm, ⟨7, _⟩ => ⟨S32x2048x512, .f32⟩
  | .hbm, ⟨8, _⟩ => ⟨S1x32x2048x512, .f32⟩
  | .hbm, ⟨9, _⟩ => ⟨S32x2048x512, .f32⟩
  | .hbm, ⟨10, _⟩ => ⟨S1x32x512x2048, .f32⟩
  | .hbm, ⟨11, _⟩ => ⟨S32x512x2048, .f32⟩
  | .hbm, ⟨12, _⟩ => ⟨S98x256x2048, .f32⟩
  | .hbm, ⟨13, _⟩ => ⟨S_, .i32⟩
  | .hbm, ⟨14, _⟩ => ⟨S98, .i32⟩
  | .hbm, ⟨15, _⟩ => ⟨S98, .i1⟩
  | .hbm, ⟨16, _⟩ => ⟨S_, .i32⟩
  | .hbm, ⟨17, _⟩ => ⟨S98, .i32⟩
  | .hbm, ⟨18, _⟩ => ⟨S98, .i32⟩
  | .hbm, ⟨19, _⟩ => ⟨S98, .i32⟩
  | .hbm, ⟨20, _⟩ => ⟨S98x1, .i32⟩
  | .hbm, ⟨21, _⟩ => ⟨S98x2048x512, .f32⟩
  | .hbm, ⟨22, _⟩ => ⟨S98x256x512, .f32⟩
  | .hbm, ⟨23, _⟩ => ⟨S98x256x512, .f32⟩
  | .hbm, ⟨24, _⟩ => ⟨S98x256x512, .f32⟩
  | .hbm, ⟨25, _⟩ => ⟨S_, .f32⟩
  | .hbm, ⟨26, _⟩ => ⟨S98x256x512, .f32⟩
  | .hbm, ⟨27, _⟩ => ⟨S98x256x512, .f32⟩
  | .hbm, ⟨28, _⟩ => ⟨S_, .f32⟩
  | .hbm, ⟨29, _⟩ => ⟨S98x256x512, .f32⟩
  | .hbm, ⟨30, _⟩ => ⟨S98x256x512, .f32⟩
  | .hbm, ⟨31, _⟩ => ⟨S98x256x512, .f32⟩
  | .hbm, ⟨32, _⟩ => ⟨S_, .i32⟩
  | .hbm, ⟨33, _⟩ => ⟨S98, .i32⟩
  | .hbm, ⟨34, _⟩ => ⟨S98, .i1⟩
  | .hbm, ⟨35, _⟩ => ⟨S_, .i32⟩
  | .hbm, ⟨36, _⟩ => ⟨S98, .i32⟩
  | .hbm, ⟨37, _⟩ => ⟨S98, .i32⟩
  | .hbm, ⟨38, _⟩ => ⟨S98, .i32⟩
  | .hbm, ⟨39, _⟩ => ⟨S98x1, .i32⟩
  | .hbm, ⟨40, _⟩ => ⟨S98x2048x512, .f32⟩
  | .hbm, ⟨41, _⟩ => ⟨S98x256x512, .f32⟩
  | .hbm, ⟨42, _⟩ => ⟨S98x256x512, .f32⟩
  | .hbm, ⟨43, _⟩ => ⟨S_, .i32⟩
  | .hbm, ⟨44, _⟩ => ⟨S98, .i32⟩
  | .hbm, ⟨45, _⟩ => ⟨S98, .i1⟩
  | .hbm, ⟨46, _⟩ => ⟨S_, .i32⟩
  | .hbm, ⟨47, _⟩ => ⟨S98, .i32⟩
  | .hbm, ⟨48, _⟩ => ⟨S98, .i32⟩
  | .hbm, ⟨49, _⟩ => ⟨S98, .i32⟩
  | .hbm, ⟨50, _⟩ => ⟨S98x1, .i32⟩
  | .hbm, ⟨51, _⟩ => ⟨S98x512x2048, .f32⟩
  | .hbm, ⟨52, _⟩ => ⟨S98x256x2048, .f32⟩
  | .hbm, ⟨53, _⟩ => ⟨S98, .i32⟩
  | .hbm, ⟨54, _⟩ => ⟨S_, .i32⟩
  | .hbm, ⟨55, _⟩ => ⟨S98, .i32⟩
  | .hbm, ⟨56, _⟩ => ⟨S98, .i1⟩
  | .hbm, ⟨57, _⟩ => ⟨S98x1x1, .i1⟩
  | .hbm, ⟨58, _⟩ => ⟨S_, .f32⟩
  | .hbm, ⟨59, _⟩ => ⟨S_, .f32⟩
  | .hbm, ⟨60, _⟩ => ⟨S98x256x2048, .i1⟩
  | .hbm, ⟨61, _⟩ => ⟨S98x256x2048, .f32⟩
  | .hbm, ⟨62, _⟩ => ⟨S98x256x2048, .f32⟩
  | .hbm, ⟨63, _⟩ => ⟨S25088x2048, .f32⟩
  | _, _ => ⟨S25088x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_c_1 : Ref sig .tc := ⟨.hbm, 32, rfl⟩
abbrev main_v16 : Ref sig .tc := ⟨.hbm, 33, rfl⟩
abbrev main_v17 : Ref sig .tc := ⟨.hbm, 34, rfl⟩
abbrev main_c_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_3 : Ref sig .tc := ⟨.hbm, 43, rfl⟩
abbrev main_v25 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v38 : Ref sig .tc := ⟨.hbm, 62, rfl⟩
abbrev main_v39 : Ref sig .tc := ⟨.hbm, 63, rfl⟩

abbrev nD : Nat := 1
abbrev τ : Topo := Topo.v7x

variable {F : FTy → Type} [FloatOps F]
-- ==== ExpertsSecond.lean ====
abbrev S25088x2048 : Shape := ⟨2, ![25088, 2048]⟩
abbrev S98 : Shape := ⟨1, ![98]⟩
abbrev S1 : Shape := ⟨1, ![1]⟩
abbrev S2x32x2048x512 : Shape := ⟨4, ![2, 32, 2048, 512]⟩
abbrev S2x32x512x2048 : Shape := ⟨4, ![2, 32, 512, 2048]⟩
abbrev S256x2048 : Shape := ⟨2, ![256, 2048]⟩
abbrev S1x1x2048x512 : Shape := ⟨4, ![1, 1, 2048, 512]⟩
abbrev S1x1x512x2048 : Shape := ⟨4, ![1, 1, 512, 2048]⟩
abbrev S2048x512 : Shape := ⟨2, ![2048, 512]⟩
abbrev S256x512 : Shape := ⟨2, ![256, 512]⟩
abbrev S512x2048 : Shape := ⟨2, ![512, 2048]⟩

abbrev nBuf : Space → Nat
  | .hbm => 5
  | .vmem => 10
  | .smem => 2
  | _ => 0

abbrev bufTy : (tb : Table) → Fin (tcTables nBuf tb) → BufTy
  | .hbm, ⟨0, _⟩ => ⟨S25088x2048, .f32⟩
  | .hbm, ⟨1, _⟩ => ⟨S2x32x2048x512, .f32⟩
  | .hbm, ⟨2, _⟩ => ⟨S2x32x2048x512, .f32⟩
  | .hbm, ⟨3, _⟩ => ⟨S2x32x512x2048, .f32⟩
  | .hbm, ⟨4, _⟩ => ⟨S25088x2048, .f32⟩
  | .local _ .vmem, ⟨0, _⟩ => ⟨S256x2048, .f32⟩
  | .local _ .vmem, ⟨1, _⟩ => ⟨S256x2048, .f32⟩
  | .local _ .vmem, ⟨2, _⟩ => ⟨S1x1x2048x512, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x2048x512, .f32⟩
  | .local _ .vmem, ⟨6, _⟩ => ⟨S1x1x512x2048, .f32⟩
  | .local _ .vmem, ⟨7, _⟩ => ⟨S1x1x512x2048, .f32⟩
  | .local _ .vmem, ⟨8, _⟩ => ⟨S256x2048, .f32⟩
  | .local _ .vmem, ⟨9, _⟩ => ⟨S256x2048, .f32⟩
  | .local _ .smem, ⟨0, _⟩ => ⟨S98, .i32⟩
  | .local _ .smem, ⟨1, _⟩ => ⟨S1, .i32⟩
  | _, _ => ⟨S25088x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![98], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S98.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S98) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_2 (k0_off1_inb : ∀ i : grid0.Coords, ∀ a, (k0_off1 i) a + S1.size a ≤ S98.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S98) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_3 (k0_off1_inb : ∀ i : grid0.Coords, ∀ a, (k0_off1 i) a + S1.size a ≤ S98.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S98) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsSecondRefIdeal.lean ====
abbrev S25088x2048 : Shape := ⟨2, ![25088, 2048]⟩
abbrev S98 : Shape := ⟨1, ![98]⟩
abbrev S1 : Shape := ⟨1, ![1]⟩
abbrev S2x32x2048x512 : Shape := ⟨4, ![2, 32, 2048, 512]⟩
abbrev S2x32x512x2048 : Shape := ⟨4, ![2, 32, 512, 2048]⟩
abbrev S1x32x2048x512 : Shape := ⟨4, ![1, 32, 2048, 512]⟩
abbrev S32x2048x512 : Shape := ⟨3, ![32, 2048, 512]⟩
abbrev S1x32x512x2048 : Shape := ⟨4, ![1, 32, 512, 2048]⟩
abbrev S32x512x2048 : Shape := ⟨3, ![32, 512, 2048]⟩
abbrev S98x256x2048 : Shape := ⟨3, ![98, 256, 2048]⟩
abbrev S_ : Shape := ⟨0, ![]⟩
abbrev S98x1 : Shape := ⟨2, ![98, 1]⟩
abbrev S98x2048x512 : Shape := ⟨3, ![98, 2048, 512]⟩
abbrev S98x256x512 : Shape := ⟨3, ![98, 256, 512]⟩
abbrev S98x512x2048 : Shape := ⟨3, ![98, 512, 2048]⟩
abbrev S98x1x1 : Shape := ⟨3, ![98, 1, 1]⟩

abbrev nBuf : Space → Nat
  | .hbm => 64
  | .vmem => 0
  | .smem => 0
  | _ => 0

abbrev bufTy : (tb : Table) → Fin (tcTables nBuf tb) → BufTy
  | .hbm, ⟨0, _⟩ => ⟨S25088x2048, .f32⟩
  | .hbm, ⟨1, _⟩ => ⟨S98, .i32⟩
  | .hbm, ⟨2, _⟩ => ⟨S1, .i32⟩
  | .hbm, ⟨3, _⟩ => ⟨S2x32x2048x512, .f32⟩
  | .hbm, ⟨4, _⟩ => ⟨S2x32x2048x512, .f32⟩
  | .hbm, ⟨5, _⟩ => ⟨S2x32x512x2048, .f32⟩
  | .hbm, ⟨6, _⟩ => ⟨S1x32x2048x512, .f32⟩
  | .hbm, ⟨7, _⟩ => ⟨S32x2048x512, .f32⟩
  | .hbm, ⟨8, _⟩ => ⟨S1x32x2048x512, .f32⟩
  | .hbm, ⟨9, _⟩ => ⟨S32x2048x512, .f32⟩
  | .hbm, ⟨10, _⟩ => ⟨S1x32x512x2048, .f32⟩
  | .hbm, ⟨11, _⟩ => ⟨S32x512x2048, .f32⟩
  | .hbm, ⟨12, _⟩ => ⟨S98x256x2048, .f32⟩
  | .hbm, ⟨13, _⟩ => ⟨S_, .i32⟩
  | .hbm, ⟨14, _⟩ => ⟨S98, .i32⟩
  | .hbm, ⟨15, _⟩ => ⟨S98, .i1⟩
  | .hbm, ⟨16, _⟩ => ⟨S_, .i32⟩
  | .hbm, ⟨17, _⟩ => ⟨S98, .i32⟩
  | .hbm, ⟨18, _⟩ => ⟨S98, .i32⟩
  | .hbm, ⟨19, _⟩ => ⟨S98, .i32⟩
  | .hbm, ⟨20, _⟩ => ⟨S98x1, .i32⟩
  | .hbm, ⟨21, _⟩ => ⟨S98x2048x512, .f32⟩
  | .hbm, ⟨22, _⟩ => ⟨S98x256x512, .f32⟩
  | .hbm, ⟨23, _⟩ => ⟨S98x256x512, .f32⟩
  | .hbm, ⟨24, _⟩ => ⟨S98x256x512, .f32⟩
  | .hbm, ⟨25, _⟩ => ⟨S_, .f32⟩
  | .hbm, ⟨26, _⟩ => ⟨S98x256x512, .f32⟩
  | .hbm, ⟨27, _⟩ => ⟨S98x256x512, .f32⟩
  | .hbm, ⟨28, _⟩ => ⟨S_, .f32⟩
  | .hbm, ⟨29, _⟩ => ⟨S98x256x512, .f32⟩
  | .hbm, ⟨30, _⟩ => ⟨S98x256x512, .f32⟩
  | .hbm, ⟨31, _⟩ => ⟨S98x256x512, .f32⟩
  | .hbm, ⟨32, _⟩ => ⟨S_, .i32⟩
  | .hbm, ⟨33, _⟩ => ⟨S98, .i32⟩
  | .hbm, ⟨34, _⟩ => ⟨S98, .i1⟩
  | .hbm, ⟨35, _⟩ => ⟨S_, .i32⟩
  | .hbm, ⟨36, _⟩ => ⟨S98, .i32⟩
  | .hbm, ⟨37, _⟩ => ⟨S98, .i32⟩
  | .hbm, ⟨38, _⟩ => ⟨S98, .i32⟩
  | .hbm, ⟨39, _⟩ => ⟨S98x1, .i32⟩
  | .hbm, ⟨40, _⟩ => ⟨S98x2048x512, .f32⟩
  | .hbm, ⟨41, _⟩ => ⟨S98x256x512, .f32⟩
  | .hbm, ⟨42, _⟩ => ⟨S98x256x512, .f32⟩
  | .hbm, ⟨43, _⟩ => ⟨S_, .i32⟩
  | .hbm, ⟨44, _⟩ => ⟨S98, .i32⟩
  | .hbm, ⟨45, _⟩ => ⟨S98, .i1⟩
  | .hbm, ⟨46, _⟩ => ⟨S_, .i32⟩
  | .hbm, ⟨47, _⟩ => ⟨S98, .i32⟩
  | .hbm, ⟨48, _⟩ => ⟨S98, .i32⟩
  | .hbm, ⟨49, _⟩ => ⟨S98, .i32⟩
  | .hbm, ⟨50, _⟩ => ⟨S98x1, .i32⟩
  | .hbm, ⟨51, _⟩ => ⟨S98x512x2048, .f32⟩
  | .hbm, ⟨52, _⟩ => ⟨S98x256x2048, .f32⟩
  | .hbm, ⟨53, _⟩ => ⟨S98, .i32⟩
  | .hbm, ⟨54, _⟩ => ⟨S_, .i32⟩
  | .hbm, ⟨55, _⟩ => ⟨S98, .i32⟩
  | .hbm, ⟨56, _⟩ => ⟨S98, .i1⟩
  | .hbm, ⟨57, _⟩ => ⟨S98x1x1, .i1⟩
  | .hbm, ⟨58, _⟩ => ⟨S_, .f32⟩
  | .hbm, ⟨59, _⟩ => ⟨S_, .f32⟩
  | .hbm, ⟨60, _⟩ => ⟨S98x256x2048, .i1⟩
  | .hbm, ⟨61, _⟩ => ⟨S98x256x2048, .f32⟩
  | .hbm, ⟨62, _⟩ => ⟨S98x256x2048, .f32⟩
  | .hbm, ⟨63, _⟩ => ⟨S25088x2048, .f32⟩
  | _, _ => ⟨S25088x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_c_1 : Ref sig .tc := ⟨.hbm, 32, rfl⟩
abbrev main_v16 : Ref sig .tc := ⟨.hbm, 33, rfl⟩
abbrev main_v17 : Ref sig .tc := ⟨.hbm, 34, rfl⟩
abbrev main_c_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_3 : Ref sig .tc := ⟨.hbm, 43, rfl⟩
abbrev main_v25 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v38 : Ref sig .tc := ⟨.hbm, 62, rfl⟩
abbrev main_v39 : Ref sig .tc := ⟨.hbm, 63, rfl⟩

abbrev nD : Nat := 1
abbrev τ : Topo := Topo.v7x

variable {F : FTy → Type} [FloatOps F]
-- ==== Proof.Rms.lean ====
module

public import Idealize.ShloMosaic.PureOps.Ideal.Laws

@[expose] public section
noncomputable section

/-!
# The layer's root-mean-square norm of one row

The layer normalizes a row of 2048 numbers by the reciprocal root of its mean square (plus a small constant) and
scales every column by a gain.  Every kernel of this certificate that reads the hidden state starts with it.
-/

namespace Cert.Layer
open Idealize.ShloMosaic

/-- The reciprocal root-mean-square of a row of 2048 numbers; the two words are the row's length and the small
constant of the norm. -/
def invRms (x : Fin 2048 → EReal) : EReal :=
  Ideal.rsqrt (Ideal.div (∑ j, x j * x j) (Ideal.ofBits FTy.f32 1157627904#32) + Ideal.ofBits FTy.f32 897988541#32)

/-- Column `k` of the normalized row `x` under the gain `g`. -/
def normAt (x g : Fin 2048 → EReal) (k : Fin 2048) : EReal := x k * invRms x * g k

end Cert.Layer

end
-- ==== Proof.NormValue.lean ====
module

public import proofs.«01_k».proof.Proof.Gen.NormIdeal.Value
public import proofs.«01_k».proof.Proof.Gen.NormRefIdeal.Run
public import proofs.«01_k».proof.Proof.Rms
public import Idealize.ShloMosaic.Lib.Pointwise
public import Idealize.ShloMosaic.Lib.Pipeline.ValueKit
public import Idealize.ShloMosaic.Lib.Pipeline.ReadBack

@[expose] public section
set_option maxRecDepth 16384
noncomputable section

/-!
# The fused norm and projection (6144 columns): its array is the reference's product

The grid is 11 bands of 768 rows by 6 strips of 1024 columns, strips innermost.  The first strip of a band normalizes
the band's rows into a scratch buffer; every strip multiplies that buffer by its own columns of the weights.
-/

namespace Cert.NormIdeal.Mine
open Cert.NormIdeal Cert.NormIdeal.Gen Cert.NormIdeal.Value Cert.Layer
open Idealize.ShloMosaic Idealize.ShloMosaic.TcCoe Idealize.SL.Sem
open Idealize.ShloMosaic.Pipeline (Dat Cfg Window)

variable (m : (ℓ : Loc nD τ sig) → Buf (Elt Ideal) ℓ)

/-- The hidden state's row `r`, read from the first argument. -/
def row (c : Dev nD) (r : Fin 8448) : Fin 2048 → EReal := fun k => m ((c : Thread nD τ).loc main_arg0) (ix2 r k)
/-- The norm's gain, read from the second argument. -/
def gain (c : Dev nD) : Fin 2048 → EReal := fun k => m ((c : Thread nD τ).loc main_arg1) (ix1 k)

/-- The row of the array that row `r` of point `n`'s band is. -/
def bandRow (n : ℕ) (h : n < cfg0.N) (r : Fin 768) : Fin 8448 :=
  ⟨768 * (n / 6) + r.val, by have : cfg0.N = 66 := N_0; omega⟩

/-- A point's first block is its band of the hidden state. -/
theorem blk0 (c : Dev nD) (t : Fin cfg0.N) (r : Fin 768) (k : Fin 2048) :
    iblk m c 0 t (ix2 r k) = row m c (bandRow t.val t.isLt r) k := by
  have e : ∀ t : Fin cfg0.N, win0_0.index t = ![t.val / 6, 0] := (by decide +kernel : ∀ t : Fin grid0.N, _)
  unfold row bandRow
  blk_ext [iblk, V, e t]

/-- Every point's second block is the whole gain (which the host reshapes to one row). -/
theorem blk1 (c : Dev nD) (t : Fin cfg0.N) (k : Fin 2048) :
    iblk m c 1 t (ix2 0 k) = gain m c k := by
  have e : ∀ t : Fin cfg0.N, win0_1.index t = ![0, 0] := (by decide +kernel : ∀ t : Fin grid0.N, _)
  unfold gain
  blk_simp [iblk, e t]
  entry_read
  pointwise
  blk_ext [e t]

/-- A point's third block is its strip of the weights' columns. -/
theorem blk2 (c : Dev nD) (t : Fin cfg0.N) (j : Fin 2048) (k : Fin 1024) :
    iblk m c 2 t (ix2 j k) = m ((c : Thread nD τ).loc main_arg2) (ix2 j ⟨1024 * (t.val % 6) + k.val, by omega⟩) := by
  have e : ∀ t : Fin cfg0.N, win0_2.index t = ![0, t.val % 6] := (by decide +kernel : ∀ t : Fin grid0.N, _)
  blk_ext [iblk, V, e t]

/-- The first strip of a band leaves the normalized rows in the scratch buffer. -/
theorem scratch_first (c : Dev nD) (t : Fin cfg0.N) (h0 : t.val % 6 = 0) (r : Fin 768) (k : Fin 2048) :
    (outsAt0 m c t.val t.isLt).2 (ix2 r k) = normAt (row m c (bandRow t.val t.isLt r)) (gain m c) k := by
  rw [outsAt0_A m c t h0]
  frame_out
  pointwise [k0_pay1]
  simp only [blk0, blk1]
  rfl

/-- Every other strip leaves the scratch buffer as it found it. -/
theorem scratch_kept (c : Dev nD) (t : Fin cfg0.N) (h0 : ¬ t.val % 6 = 0) :
    (outsAt0 m c t.val t.isLt).2 = (outsAt0 m c (t.val - 1) (Nat.lt_of_le_of_lt (Nat.sub_le _ _) t.isLt)).2 := by
  rw [outsAt0_B m c t h0]
  simp only [sout0_B_0]

/-- After every point the scratch buffer holds the normalized rows of the point's band. -/
theorem scratch_eq (c : Dev nD) (r : Fin 768) (k : Fin 2048) : ∀ (n : ℕ) (h : n < cfg0.N),
    (outsAt0 m c n h).2 (ix2 r k) = normAt (row m c (bandRow n h r)) (gain m c) k := by
  intro n
  induction n with
  | zero => exact fun h => scratch_first m c ⟨0, h⟩ rfl r k
  | succ n ih =>
    intro h
    by_cases h0 : (n + 1) % 6 = 0
    · exact scratch_first m c ⟨n + 1, h⟩ h0 r k
    · have e := scratch_kept m c ⟨n + 1, h⟩ h0
      have hb : bandRow (n + 1) h r = bandRow n (by omega) r := by
        unfold bandRow; apply Fin.ext; show 768 * ((n + 1) / 6) + r.val = 768 * (n / 6) + r.val; omega
      rw [hb]
      exact (congrFun e (ix2 r k)).trans (ih (by omega))

/-- A point's output block is the scratch buffer times the point's strip of weights: on a band's first strip … -/
theorem block_first (c : Dev nD) (t : Fin cfg0.N) (h0 : t.val % 6 = 0) (r : Fin 768) (k : Fin 1024) :
    (outsAt0 m c t.val t.isLt).1 (ix2 r k) = ∑ j : Fin 2048, (outsAt0 m c t.val t.isLt).2 (ix2 r j) * iblk m c 2 t (ix2 j k) := by
  rw [outsAt0_A m c t h0]
  frame_out
  generalize (k0_pay1 (F := Ideal) _ _) = P
  pointwise [k0_pay2]

/-- … and on the strips after it. -/
theorem block_later (c : Dev nD) (t : Fin cfg0.N) (h0 : ¬ t.val % 6 = 0) (r : Fin 768) (k : Fin 1024) :
    (outsAt0 m c t.val t.isLt).1 (ix2 r k) = ∑ j : Fin 2048, (outsAt0 m c t.val t.isLt).2 (ix2 r j) * iblk m c 2 t (ix2 j k) := by
  rw [scratch_kept m c t h0, outsAt0_B m c t h0]
  frame_out
  simp only [read_unread_whole]
  pointwise [k0_pay2]

/-- Entry `(r, k)` of the layer's product: the normalized row `r` against column `k` of the weights. -/
def prodAt (c : Dev nD) (r : Fin 8448) (k : Fin 6144) : EReal :=
  ∑ j : Fin 2048, normAt (row m c r) (gain m c) j * m ((c : Thread nD τ).loc main_arg2) (ix2 j k)

/-- What one point leaves in its output block, entry by entry. -/
theorem block_eq (c : Dev nD) (t : Fin cfg0.N) (r : Fin 768) (k : Fin 1024) :
    (outsAt0 m c t.val t.isLt).1 (ix2 r k)
      = prodAt m c (bandRow t.val t.isLt r) ⟨1024 * (t.val % 6) + k.val, by omega⟩ := by
  have h : (outsAt0 m c t.val t.isLt).1 (ix2 r k)
      = ∑ j : Fin 2048, (outsAt0 m c t.val t.isLt).2 (ix2 r j) * iblk m c 2 t (ix2 j k) := by
    by_cases h0 : t.val % 6 = 0
    · exact block_first m c t h0 r k
    · exact block_later m c t h0 r k
  rw [h]
  unfold prodAt
  refine Finset.sum_congr rfl fun j _ => ?_
  rw [scratch_eq m c r j t.val t.isLt, blk2]

/-- The array after the run, entry by entry. -/
theorem array_eq (c : Dev nD) (r : Fin 8448) (k : Fin 6144) :
    G3 m c (ix2 r k) = prodAt m c r k := by
  have hN : cfg0.N = 66 := N_0
  have hr := r.isLt
  have hk := k.isLt
  have hp : pt3Of (ix2 r k) = 6 * (r.val / 768) + k.val / 1024 := by
    show 6 * (r.val / 768 - 0) + 1 * (k.val / 1024 - 0) = _
    omega
  have hlt : 6 * (r.val / 768) + k.val / 1024 < cfg0.N := by omega
  have key := block_eq m c ⟨6 * (r.val / 768) + k.val / 1024, hlt⟩ ⟨r.val % 768, by omega⟩ ⟨k.val % 1024, by omega⟩
  rw [outsAt0_sweep] at key
  unfold G3
  rw [dif_pos (by rw [hp]; exact hlt)]
  have hl : loc3Of (ix2 r k) = ix2 ⟨r.val % 768, by omega⟩ ⟨k.val % 1024, by omega⟩ := by
    funext a
    match a with
    | ⟨0, _⟩ => rfl
    | ⟨1, _⟩ => rfl
  rw [hl, fold0_congr m c _ _ _ _ (hp.trans (rfl : _ = (⟨6 * (r.val / 768) + k.val / 1024, hlt⟩ : Fin cfg0.N).val))]
  refine key.trans ?_
  congr 1
  · unfold bandRow; apply Fin.ext
    show 768 * ((6 * (r.val / 768) + k.val / 1024) / 6) + r.val % 768 = r.val; omega
  · apply Fin.ext
    show 1024 * ((6 * (r.val / 768) + k.val / 1024) % 6) + k.val % 1024 = k.val; omega

end Cert.NormIdeal.Mine

namespace Cert.NormRefIdeal.Mine
open Cert.NormRefIdeal Cert.NormRefIdeal.Gen Cert.Layer
open Idealize.ShloMosaic Idealize.ShloMosaic.TcCoe

/-- The reference's result as an operation on its three arguments. -/
def term (X : FVec Ideal S8448x2048 .f32) (g : FVec Ideal S2048 .f32) (w : FVec Ideal S2048x6144 .f32) :
    FVec Ideal S8448x6144 .f32 :=
  Host.dotGeneral dot_S8448x2048_S2048x6144_S8448x6144_1_0_0_1_n_n none (mulf (mulf X (broadcastInDim S8448x2048 ![0, 1] bcast_S8448x1_S8448x2048_0_1 (Host.rsqrt (addf (Host.divf (broadcastInDim S8448x1 ![0] bcast_S8448_S8448x1_0 (Host.reduceAdd (mulf X X) (constant S_ .f32 0x00000000#32) reducesTo_S8448x2048_S8448_d1 h_S_)) (broadcastInDim S8448x1 ![] bcast_S_S8448x1 (constant S_ .f32 0x45000000#32))) (broadcastInDim S8448x1 ![] bcast_S_S8448x1 (constant S_ .f32 0x358637BD#32)))))) (broadcastInDim S8448x2048 ![0, 1] bcast_S1x2048_S8448x2048_0_1 (broadcastInDim S1x2048 ![1] bcast_S2048_S1x2048_1 g))) w

/-- What the reference computes, entry by entry. -/
theorem term_at (X : FVec Ideal S8448x2048 .f32) (g : FVec Ideal S2048 .f32) (w : FVec Ideal S2048x6144 .f32)
    (r : Fin 8448) (k : Fin 6144) :
    term X g w (ix2 r k) = ∑ j : Fin 2048, normAt (fun k => X (ix2 r k)) (fun k => g (ix1 k)) j * w (ix2 j k) := by
  pointwise [term]
  rfl

end Cert.NormRefIdeal.Mine

namespace Cert.NormIdeal.Mine
open Cert.NormIdeal Cert.NormIdeal.Gen Cert.NormIdeal.Value Cert.Layer
open Idealize.ShloMosaic Idealize.ShloMosaic.TcCoe

/-- THE EQUATION: the kernel's array is the reference's term of the kernel's own arguments. -/
theorem value (m : (ℓ : Loc nD τ sig) → Buf (Elt Ideal) ℓ) (c : Dev nD) :
    G3 m c = Cert.NormRefIdeal.Mine.term (m ((c : Thread nD τ).loc main_arg0)) (m ((c : Thread nD τ).loc main_arg1))
      (m ((c : Thread nD τ).loc main_arg2)) := by
  funext i
  obtain ⟨r, k, rfl⟩ : ∃ (r : Fin 8448) (k : Fin 6144), i = ix2 r k := ⟨i 0, i 1, eq_ix2 i⟩
  rw [array_eq, Cert.NormRefIdeal.Mine.term_at]
  rfl

end Cert.NormIdeal.Mine

end
-- ==== Proof.NormInValue.lean ====
module

public import proofs.«01_k».proof.Proof.Gen.NormInIdeal.Value
public import proofs.«01_k».proof.Proof.Gen.NormInRefIdeal.Run
public import proofs.«01_k».proof.Proof.Rms
public import Idealize.ShloMosaic.Lib.Pointwise
public import Idealize.ShloMosaic.Lib.Pipeline.ValueKit
public import Idealize.ShloMosaic.Lib.Pipeline.ReadBack

@[expose] public section
set_option maxRecDepth 16384
noncomputable section

/-!
# The fused norm and projection (6400 columns): its array is the reference's product

The grid is 11 bands of 768 rows by 5 strips of 1280 columns, strips innermost.  The first strip of a band normalizes
the band's rows into a scratch buffer; every strip multiplies that buffer by its own columns of the weights.
-/

namespace Cert.NormInIdeal.Mine
open Cert.NormInIdeal Cert.NormInIdeal.Gen Cert.NormInIdeal.Value Cert.Layer
open Idealize.ShloMosaic Idealize.ShloMosaic.TcCoe Idealize.SL.Sem
open Idealize.ShloMosaic.Pipeline (Dat Cfg Window)

variable (m : (ℓ : Loc nD τ sig) → Buf (Elt Ideal) ℓ)

/-- The hidden state's row `r`, read from the first argument. -/
def row (c : Dev nD) (r : Fin 8448) : Fin 2048 → EReal := fun k => m ((c : Thread nD τ).loc main_arg0) (ix2 r k)
/-- The norm's gain, read from the second argument. -/
def gain (c : Dev nD) : Fin 2048 → EReal := fun k => m ((c : Thread nD τ).loc main_arg1) (ix1 k)

/-- The row of the array that row `r` of point `n`'s band is. -/
def bandRow (n : ℕ) (h : n < cfg0.N) (r : Fin 768) : Fin 8448 :=
  ⟨768 * (n / 5) + r.val, by have : cfg0.N = 55 := N_0; omega⟩

/-- A point's first block is its band of the hidden state. -/
theorem blk0 (c : Dev nD) (t : Fin cfg0.N) (r : Fin 768) (k : Fin 2048) :
    iblk m c 0 t (ix2 r k) = row m c (bandRow t.val t.isLt r) k := by
  have e : ∀ t : Fin cfg0.N, win0_0.index t = ![t.val / 5, 0] := (by decide +kernel : ∀ t : Fin grid0.N, _)
  unfold row bandRow
  blk_ext [iblk, V, e t]

/-- Every point's second block is the whole gain (which the host reshapes to one row). -/
theorem blk1 (c : Dev nD) (t : Fin cfg0.N) (k : Fin 2048) :
    iblk m c 1 t (ix2 0 k) = gain m c k := by
  have e : ∀ t : Fin cfg0.N, win0_1.index t = ![0, 0] := (by decide +kernel : ∀ t : Fin grid0.N, _)
  unfold gain
  blk_simp [iblk, e t]
  entry_read
  pointwise
  blk_ext [e t]

/-- A point's third block is its strip of the weights' columns. -/
theorem blk2 (c : Dev nD) (t : Fin cfg0.N) (j : Fin 2048) (k : Fin 1280) :
    iblk m c 2 t (ix2 j k) = m ((c : Thread nD τ).loc main_arg2) (ix2 j ⟨1280 * (t.val % 5) + k.val, by omega⟩) := by
  have e : ∀ t : Fin cfg0.N, win0_2.index t = ![0, t.val % 5] := (by decide +kernel : ∀ t : Fin grid0.N, _)
  blk_ext [iblk, V, e t]

/-- The first strip of a band leaves the normalized rows in the scratch buffer. -/
theorem scratch_first (c : Dev nD) (t : Fin cfg0.N) (h0 : t.val % 5 = 0) (r : Fin 768) (k : Fin 2048) :
    (outsAt0 m c t.val t.isLt).2 (ix2 r k) = normAt (row m c (bandRow t.val t.isLt r)) (gain m c) k := by
  rw [outsAt0_A m c t h0]
  frame_out
  pointwise [k0_pay1]
  simp only [blk0, blk1]
  rfl

/-- Every other strip leaves the scratch buffer as it found it. -/
theorem scratch_kept (c : Dev nD) (t : Fin cfg0.N) (h0 : ¬ t.val % 5 = 0) :
    (outsAt0 m c t.val t.isLt).2 = (outsAt0 m c (t.val - 1) (Nat.lt_of_le_of_lt (Nat.sub_le _ _) t.isLt)).2 := by
  rw [outsAt0_B m c t h0]
  simp only [sout0_B_0]

/-- After every point the scratch buffer holds the normalized rows of the point's band. -/
theorem scratch_eq (c : Dev nD) (r : Fin 768) (k : Fin 2048) : ∀ (n : ℕ) (h : n < cfg0.N),
    (outsAt0 m c n h).2 (ix2 r k) = normAt (row m c (bandRow n h r)) (gain m c) k := by
  intro n
  induction n with
  | zero => exact fun h => scratch_first m c ⟨0, h⟩ rfl r k
  | succ n ih =>
    intro h
    by_cases h0 : (n + 1) % 5 = 0
    · exact scratch_first m c ⟨n + 1, h⟩ h0 r k
    · have e := scratch_kept m c ⟨n + 1, h⟩ h0
      have hb : bandRow (n + 1) h r = bandRow n (by omega) r := by
        unfold bandRow; apply Fin.ext; show 768 * ((n + 1) / 5) + r.val = 768 * (n / 5) + r.val; omega
      rw [hb]
      exact (congrFun e (ix2 r k)).trans (ih (by omega))

/-- A point's output block is the scratch buffer times the point's strip of weights: on a band's first strip … -/
theorem block_first (c : Dev nD) (t : Fin cfg0.N) (h0 : t.val % 5 = 0) (r : Fin 768) (k : Fin 1280) :
    (outsAt0 m c t.val t.isLt).1 (ix2 r k) = ∑ j : Fin 2048, (outsAt0 m c t.val t.isLt).2 (ix2 r j) * iblk m c 2 t (ix2 j k) := by
  rw [outsAt0_A m c t h0]
  frame_out
  generalize (k0_pay1 (F := Ideal) _ _) = P
  pointwise [k0_pay2]

/-- … and on the strips after it. -/
theorem block_later (c : Dev nD) (t : Fin cfg0.N) (h0 : ¬ t.val % 5 = 0) (r : Fin 768) (k : Fin 1280) :
    (outsAt0 m c t.val t.isLt).1 (ix2 r k) = ∑ j : Fin 2048, (outsAt0 m c t.val t.isLt).2 (ix2 r j) * iblk m c 2 t (ix2 j k) := by
  rw [scratch_kept m c t h0, outsAt0_B m c t h0]
  frame_out
  simp only [read_unread_whole]
  pointwise [k0_pay2]

/-- Entry `(r, k)` of the layer's product: the normalized row `r` against column `k` of the weights. -/
def prodAt (c : Dev nD) (r : Fin 8448) (k : Fin 6400) : EReal :=
  ∑ j : Fin 2048, normAt (row m c r) (gain m c) j * m ((c : Thread nD τ).loc main_arg2) (ix2 j k)

/-- What one point leaves in its output block, entry by entry. -/
theorem block_eq (c : Dev nD) (t : Fin cfg0.N) (r : Fin 768) (k : Fin 1280) :
    (outsAt0 m c t.val t.isLt).1 (ix2 r k)
      = prodAt m c (bandRow t.val t.isLt r) ⟨1280 * (t.val % 5) + k.val, by omega⟩ := by
  have h : (outsAt0 m c t.val t.isLt).1 (ix2 r k)
      = ∑ j : Fin 2048, (outsAt0 m c t.val t.isLt).2 (ix2 r j) * iblk m c 2 t (ix2 j k) := by
    by_cases h0 : t.val % 5 = 0
    · exact block_first m c t h0 r k
    · exact block_later m c t h0 r k
  rw [h]
  unfold prodAt
  refine Finset.sum_congr rfl fun j _ => ?_
  rw [scratch_eq m c r j t.val t.isLt, blk2]

/-- The array after the run, entry by entry. -/
theorem array_eq (c : Dev nD) (r : Fin 8448) (k : Fin 6400) :
    G3 m c (ix2 r k) = prodAt m c r k := by
  have hN : cfg0.N = 55 := N_0
  have hr := r.isLt
  have hk := k.isLt
  have hp : pt3Of (ix2 r k) = 5 * (r.val / 768) + k.val / 1280 := by
    show 5 * (r.val / 768 - 0) + 1 * (k.val / 1280 - 0) = _
    omega
  have hlt : 5 * (r.val / 768) + k.val / 1280 < cfg0.N := by omega
  have key := block_eq m c ⟨5 * (r.val / 768) + k.val / 1280, hlt⟩ ⟨r.val % 768, by omega⟩ ⟨k.val % 1280, by omega⟩
  rw [outsAt0_sweep] at key
  unfold G3
  rw [dif_pos (by rw [hp]; exact hlt)]
  have hl : loc3Of (ix2 r k) = ix2 ⟨r.val % 768, by omega⟩ ⟨k.val % 1280, by omega⟩ := by
    funext a
    match a with
    | ⟨0, _⟩ => rfl
    | ⟨1, _⟩ => rfl
  rw [hl, fold0_congr m c _ _ _ _ (hp.trans (rfl : _ = (⟨5 * (r.val / 768) + k.val / 1280, hlt⟩ : Fin cfg0.N).val))]
  refine key.trans ?_
  congr 1
  · unfold bandRow; apply Fin.ext
    show 768 * ((5 * (r.val / 768) + k.val / 1280) / 5) + r.val % 768 = r.val; omega
  · apply Fin.ext
    show 1280 * ((5 * (r.val / 768) + k.val / 1280) % 5) + k.val % 1280 = k.val; omega

end Cert.NormInIdeal.Mine

namespace Cert.NormInRefIdeal.Mine
open Cert.NormInRefIdeal Cert.NormInRefIdeal.Gen Cert.Layer
open Idealize.ShloMosaic Idealize.ShloMosaic.TcCoe

/-- The reference's result as an operation on its three arguments. -/
def term (X : FVec Ideal S8448x2048 .f32) (g : FVec Ideal S2048 .f32) (w : FVec Ideal S2048x6400 .f32) :
    FVec Ideal S8448x6400 .f32 :=
  Host.dotGeneral dot_S8448x2048_S2048x6400_S8448x6400_1_0_0_1_n_n none (mulf (mulf X (broadcastInDim S8448x2048 ![0, 1] bcast_S8448x1_S8448x2048_0_1 (Host.rsqrt (addf (Host.divf (broadcastInDim S8448x1 ![0] bcast_S8448_S8448x1_0 (Host.reduceAdd (mulf X X) (constant S_ .f32 0x00000000#32) reducesTo_S8448x2048_S8448_d1 h_S_)) (broadcastInDim S8448x1 ![] bcast_S_S8448x1 (constant S_ .f32 0x45000000#32))) (broadcastInDim S8448x1 ![] bcast_S_S8448x1 (constant S_ .f32 0x358637BD#32)))))) (broadcastInDim S8448x2048 ![0, 1] bcast_S1x2048_S8448x2048_0_1 (broadcastInDim S1x2048 ![1] bcast_S2048_S1x2048_1 g))) w

/-- What the reference computes, entry by entry. -/
theorem term_at (X : FVec Ideal S8448x2048 .f32) (g : FVec Ideal S2048 .f32) (w : FVec Ideal S2048x6400 .f32)
    (r : Fin 8448) (k : Fin 6400) :
    term X g w (ix2 r k) = ∑ j : Fin 2048, normAt (fun k => X (ix2 r k)) (fun k => g (ix1 k)) j * w (ix2 j k) := by
  pointwise [term]
  rfl

end Cert.NormInRefIdeal.Mine

namespace Cert.NormInIdeal.Mine
open Cert.NormInIdeal Cert.NormInIdeal.Gen Cert.NormInIdeal.Value Cert.Layer
open Idealize.ShloMosaic Idealize.ShloMosaic.TcCoe

/-- THE EQUATION: the kernel's array is the reference's term of the kernel's own arguments. -/
theorem value (m : (ℓ : Loc nD τ sig) → Buf (Elt Ideal) ℓ) (c : Dev nD) :
    G3 m c = Cert.NormInRefIdeal.Mine.term (m ((c : Thread nD τ).loc main_arg0)) (m ((c : Thread nD τ).loc main_arg1))
      (m ((c : Thread nD τ).loc main_arg2)) := by
  funext i
  obtain ⟨r, k, rfl⟩ : ∃ (r : Fin 8448) (k : Fin 6400), i = ix2 r k := ⟨i 0, i 1, eq_ix2 i⟩
  rw [array_eq, Cert.NormInRefIdeal.Mine.term_at]
  rfl

end Cert.NormInIdeal.Mine

end
-- ==== Proof.ProjValue.lean ====
module

public import proofs.«01_k».proof.Proof.Gen.ProjIdeal.Value
public import proofs.«01_k».proof.Proof.Gen.ProjRefIdeal.Run
public import proofs.«01_k».proof.Proof.Rms
public import Idealize.ShloMosaic.Lib.Pointwise
public import Idealize.ShloMosaic.Lib.Pipeline.ValueKit

@[expose] public section
set_option maxRecDepth 16384
noncomputable section

/-!
# The output projection: its three arrays are the reference's

The grid is 33 bands of 256 rows; a point adds the projected attention rows to the residual stream, normalizes the sum,
and multiplies the normalized rows by the router's weights.
-/

namespace Cert.ProjRefIdeal.Mine
open Cert.ProjRefIdeal Cert.ProjRefIdeal.Gen Cert.Layer
open Idealize.ShloMosaic Idealize.ShloMosaic.TcCoe

/-- The residual stream after the projection, as the reference writes it. -/
def sumT (o : FVec Ideal S8448x2048 .f32) (wo : FVec Ideal S2048x2048 .f32) (x : FVec Ideal S8448x2048 .f32) :
    FVec Ideal S8448x2048 .f32 :=
  addf x (Host.dotGeneral dot_S8448x2048_S2048x2048_S8448x2048_1_0_0_1_n_n none o wo)

/-- The norm of an array's rows, as the reference writes it. -/
def normT (x1 : FVec Ideal S8448x2048 .f32) (g : FVec Ideal S2048 .f32) : FVec Ideal S8448x2048 .f32 :=
  mulf (mulf x1 (broadcastInDim S8448x2048 ![0, 1] bcast_S8448x1_S8448x2048_0_1 (Host.rsqrt (addf (Host.divf (broadcastInDim S8448x1 ![0] bcast_S8448_S8448x1_0 (Host.reduceAdd (mulf x1 x1) (constant S_ .f32 0x00000000#32) reducesTo_S8448x2048_S8448_d1 h_S_)) (broadcastInDim S8448x1 ![] bcast_S_S8448x1 (constant S_ .f32 0x45000000#32))) (broadcastInDim S8448x1 ![] bcast_S_S8448x1 (constant S_ .f32 0x358637BD#32)))))) (broadcastInDim S8448x2048 ![0, 1] bcast_S1x2048_S8448x2048_0_1 (broadcastInDim S1x2048 ![1] bcast_S2048_S1x2048_1 g))

/-- The router's product, as the reference writes it. -/
def routeT (h : FVec Ideal S8448x2048 .f32) (wr : FVec Ideal S2048x128 .f32) : FVec Ideal S8448x128 .f32 :=
  Host.dotGeneral dot_S8448x2048_S2048x128_S8448x128_1_0_0_1_n_n none h wr

/-- An entry of the sum. -/
theorem sumT_at (o : FVec Ideal S8448x2048 .f32) (wo : FVec Ideal S2048x2048 .f32) (x : FVec Ideal S8448x2048 .f32)
    (r : Fin 8448) (k : Fin 2048) :
    sumT o wo x (ix2 r k) = x (ix2 r k) + ∑ j : Fin 2048, o (ix2 r j) * wo (ix2 j k) := by
  pointwise [sumT]

/-- An entry of the norm. -/
theorem normT_at (x1 : FVec Ideal S8448x2048 .f32) (g : FVec Ideal S2048 .f32) (r : Fin 8448) (k : Fin 2048) :
    normT x1 g (ix2 r k) = normAt (fun k => x1 (ix2 r k)) (fun k => g (ix1 k)) k := by
  pointwise [normT]
  rfl

/-- An entry of the router's product. -/
theorem routeT_at (h : FVec Ideal S8448x2048 .f32) (wr : FVec Ideal S2048x128 .f32) (r : Fin 8448) (k : Fin 128) :
    routeT h wr (ix2 r k) = ∑ j : Fin 2048, h (ix2 r j) * wr (ix2 j k) := by
  pointwise [routeT]

end Cert.ProjRefIdeal.Mine

namespace Cert.ProjIdeal.Mine
open Cert.ProjIdeal Cert.ProjIdeal.Gen Cert.ProjIdeal.Value Cert.Layer Cert.ProjRefIdeal.Mine
open Idealize.ShloMosaic Idealize.ShloMosaic.TcCoe Idealize.SL.Sem
open Idealize.ShloMosaic.Pipeline (Dat Cfg Window)

variable (m : (ℓ : Loc nD τ sig) → Buf (Elt Ideal) ℓ)

/-- The residual stream after the projection, of the kernel's own arguments. -/
abbrev SUM (c : Dev nD) := sumT (m ((c : Thread nD τ).loc main_arg0)) (m ((c : Thread nD τ).loc main_arg1)) (m ((c : Thread nD τ).loc main_arg2))
/-- The normalized stream. -/
abbrev NORM (c : Dev nD) := normT (SUM m c) (m ((c : Thread nD τ).loc main_arg3))
/-- The router's product. -/
abbrev ROUTE (c : Dev nD) := routeT (NORM m c) (m ((c : Thread nD τ).loc main_arg4))

/-- The row of the arrays that row `r` of point `t`'s band is. -/
def bandRow (t : Fin cfg0.N) (r : Fin 256) : Fin 8448 :=
  ⟨256 * t.val + r.val, by have := t.isLt; have : cfg0.N = 33 := N_0; omega⟩

/-- Which block each window is at. -/
theorem places : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0]
    ∧ win0_7.index t = ![t.val, 0] :=
  (by decide +kernel : ∀ t : Fin grid0.N, _)

theorem blk0 (c : Dev nD) (t : Fin cfg0.N) (r : Fin 256) (k : Fin 2048) :
    iblk m c 0 t (ix2 r k) = m ((c : Thread nD τ).loc main_arg0) (ix2 (bandRow t r) k) := by
  unfold bandRow
  blk_ext [iblk, V, (places t).1]
theorem blk1 (c : Dev nD) (t : Fin cfg0.N) (r : Fin 2048) (k : Fin 2048) :
    iblk m c 1 t (ix2 r k) = m ((c : Thread nD τ).loc main_arg1) (ix2 r k) := by
  blk_ext [iblk, V, (places t).2.1]
theorem blk2 (c : Dev nD) (t : Fin cfg0.N) (r : Fin 256) (k : Fin 2048) :
    iblk m c 2 t (ix2 r k) = m ((c : Thread nD τ).loc main_arg2) (ix2 (bandRow t r) k) := by
  unfold bandRow
  blk_ext [iblk, V, (places t).2.2.1]
theorem blk3 (c : Dev nD) (t : Fin cfg0.N) (k : Fin 2048) :
    iblk m c 3 t (ix2 0 k) = m ((c : Thread nD τ).loc main_arg3) (ix1 k) := by
  blk_simp [iblk, (places t).2.2.2.1]
  entry_read
  pointwise
  blk_ext [(places t).2.2.2.1]
theorem blk4 (c : Dev nD) (t : Fin cfg0.N) (r : Fin 2048) (k : Fin 128) :
    iblk m c 4 t (ix2 r k) = m ((c : Thread nD τ).loc main_arg4) (ix2 r k) := by
  blk_ext [iblk, V, (places t).2.2.2.2.1]

/-- A point's first output block: its rows of the residual stream. -/
theorem out5_at (c : Dev nD) (t : Fin cfg0.N) (r : Fin 256) (k : Fin 2048) :
    (dats m 0 c).after 5 t (ix2 r k) = SUM m c (ix2 (bandRow t r) k) := by
  unfold SUM
  rw [after0_5, sumT_at]
  frame_out
  pointwise [k0_pay1]
  simp only [blk0, blk1, blk2]

/-- Its second: the same rows normalized. -/
theorem out6_at (c : Dev nD) (t : Fin cfg0.N) (r : Fin 256) (k : Fin 2048) :
    (dats m 0 c).after 6 t (ix2 r k) = NORM m c (ix2 (bandRow t r) k) := by
  unfold NORM SUM
  rw [after0_6, normT_at]
  simp only [sumT_at]
  frame_out
  pointwise [k0_pay2, k0_pay1]
  simp only [blk0, blk1, blk2, blk3]
  rfl

/-- Its third: the normalized rows times the router's weights. -/
theorem out7_at (c : Dev nD) (t : Fin cfg0.N) (r : Fin 256) (k : Fin 128) :
    (dats m 0 c).after 7 t (ix2 r k) = ROUTE m c (ix2 (bandRow t r) k) := by
  unfold ROUTE NORM SUM
  rw [after0_7, routeT_at]
  simp only [normT_at, sumT_at]
  frame_out
  pointwise [k0_pay3, k0_pay2, k0_pay1]
  simp only [blk0, blk1, blk2, blk3, blk4]
  rfl

/-- The first array after the run. -/
theorem final5 (c : Dev nD) : (dats m 0 c).arrAt 5 (cfgs 0).N = SUM m c := by
  refine (dats m 0 c).arrAt_eq_of_covers 5 _ (by decide +kernel) fun t _ y => ?_
  blk_simp
  obtain ⟨r, k, rfl⟩ : ∃ (r : Fin 256) (k : Fin 2048), y = ix2 r k := ⟨y 0, y 1, eq_ix2 y⟩
  refine (out5_at m c t r k).trans ?_
  unfold bandRow
  blk_ext [(places t).2.2.2.2.2.1]

/-- The second. -/
theorem final6 (c : Dev nD) : (dats m 0 c).arrAt 6 (cfgs 0).N = NORM m c := by
  refine (dats m 0 c).arrAt_eq_of_covers 6 _ (by decide +kernel) fun t _ y => ?_
  blk_simp
  obtain ⟨r, k, rfl⟩ : ∃ (r : Fin 256) (k : Fin 2048), y = ix2 r k := ⟨y 0, y 1, eq_ix2 y⟩
  refine (out6_at m c t r k).trans ?_
  unfold bandRow
  blk_ext [(places t).2.2.2.2.2.2.1]

/-- The third. -/
theorem final7 (c : Dev nD) : (dats m 0 c).arrAt 7 (cfgs 0).N = ROUTE m c := by
  refine (dats m 0 c).arrAt_eq_of_covers 7 _ (by decide +kernel) fun t _ y => ?_
  blk_simp
  obtain ⟨r, k, rfl⟩ : ∃ (r : Fin 256) (k : Fin 128), y = ix2 r k := ⟨y 0, y 1, eq_ix2 y⟩
  refine (out7_at m c t r k).trans ?_
  unfold bandRow
  blk_ext [(places t).2.2.2.2.2.2.2]

end Cert.ProjIdeal.Mine

end
-- ==== Proof.Pairs.lean ====
module

public import proofs.«01_k».proof.Defs
public import proofs.«01_k».proof.Proof.NormValue
public import proofs.«01_k».proof.Proof.NormInValue
public import proofs.«01_k».proof.Proof.ProjValue

@[expose] public section
noncomputable section

/-!
# The value claims of the two norms and of the output projection

Each pairs the kernel's run (its arrays at the reference's term of the kernel's own arguments) with the reference's run
(its results at that term of arguments that agree).
-/

namespace Cert.Pairs
open Idealize.ShloMosaic Idealize.SL.Sem

theorem norm : Cert.algebraic_NormIdeal_NormRefIdeal (hNormIdeal := Cert.NormIdeal.Gen.facts) (hNormRefIdeal := Cert.NormRefIdeal.Gen.facts) := by
  intro m g m' g' _ hagree
  refine ⟨_, Cert.NormIdeal.Value.run m g, (θ_run _ _ _).mono (fun r h c => ?_) (Cert.NormRefIdeal.Value.run m' g')⟩
  refine ⟨(h c).1.trans ?_, (h c).2⟩
  rw [(hagree c).1, (hagree c).2.1, (hagree c).2.2]
  exact (Cert.NormIdeal.Mine.value m c).symm

theorem normIn : Cert.algebraic_NormInIdeal_NormInRefIdeal (hNormInIdeal := Cert.NormInIdeal.Gen.facts) (hNormInRefIdeal := Cert.NormInRefIdeal.Gen.facts) := by
  intro m g m' g' _ hagree
  refine ⟨_, Cert.NormInIdeal.Value.run m g, (θ_run _ _ _).mono (fun r h c => ?_) (Cert.NormInRefIdeal.Value.run m' g')⟩
  refine ⟨(h c).1.trans ?_, (h c).2⟩
  rw [(hagree c).1, (hagree c).2.1, (hagree c).2.2]
  exact (Cert.NormInIdeal.Mine.value m c).symm

theorem proj : Cert.algebraic_ProjIdeal_ProjRefIdeal (hProjIdeal := Cert.ProjIdeal.Gen.facts) (hProjRefIdeal := Cert.ProjRefIdeal.Gen.facts) := by
  intro m g m' g' _ hagree
  refine ⟨_, _, _, Cert.ProjIdeal.Value.run_blocks m g, (θ_run _ _ _).mono (fun r h c => ?_) (Cert.ProjRefIdeal.Value.run m' g')⟩
  obtain ⟨h1, h2, h3, h4⟩ := h c
  obtain ⟨a0, a1, a2, a3, a4⟩ := hagree c
  refine ⟨h1.trans ?_, h2.trans ?_, h3.trans ?_, h4⟩
  · rw [a0, a1, a2]; exact (Cert.ProjIdeal.Mine.final5 m c).symm
  · rw [a0, a1, a2, a3]; exact (Cert.ProjIdeal.Mine.final6 m c).symm
  · rw [a0, a1, a2, a3, a4]; exact (Cert.ProjIdeal.Mine.final7 m c).symm

end Cert.Pairs

end
-- ==== Proof.AttnBits.Runs.lean ====
/- The four ways through the body (first tile or not, last tile or not), run once each. -/
module

public import proofs.«01_k».proof.Proof.Gen.Kernel.Skeleton
public import proofs.«01_k».proof.Proof.AttnBits.Pins

@[expose] public section

set_option maxRecDepth 16384
set_option Elab.async false

noncomputable section

namespace Cert.Kernel.Attn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resource algebra of the bit-exact program. -/
local notation "𝕄" => MT nD τ sig Unit (Elt Bits) ℕ (UR sig nD τ) ℕ

/-! ## The kernel body per control path, on symbolic staging memrefs: a subtype the run finds -/

/-- One staging buffer of output window 6, through which its contents are stated (`View.read_writes_of_cover`). -/
abbrev VO0_6 : View sig .tc .vmem S512x256 .f32 := (Memref.whole cc0_stg6_0 : Memref sig .tc .vmem S512x256 .f32).view

set_option backward.proofsInPublic true in
set_option maxHeartbeats 8000000 in
/-- PATH A (points 0, 36, … 540: 16 of 576): what the body leaves — per stored output its pieces (last first), per scratch its
    contents — WITH the proof that, on whole staging memrefs, from the inputs at their blocks, the tables, the outputs
    (6: stored) and the scratches (0: covered, 1: covered, 2: covered), under the path's decisions as
    hypotheses over the words the body reads (`hc0`; `k0_h2`), the body runs to the continuation holding all of it as stated. The
    skeleton (`Gen.*_eq_skeleton`) run by `sl_exec`, loops of literal trip count unrolled by the run, the others by `sl_unroll`. -/
noncomputable def kernelRun0_A (c : Dev nD) (i : grid0.Coords) (arg5 : Memref sig .tc .smem S8 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4x128 .f32) (harg9 : arg9.IsWhole) (arg10 : Memref sig .tc .vmem S1x1x256 .f32) (harg10 : arg10.IsWhole) (arg11 : Memref sig .tc .vmem S512x256 .f32) (harg11 : arg11.IsWhole) (T0 : (S36.Idx → Elt Bits .i32)) (T1 : (S36.Idx → Elt Bits .i32))
     (x0 : (S8.Idx → Elt Bits .f32)) (x1 : (S512x256.Idx → Elt Bits .f32)) (x2 : (S512x256.Idx → Elt Bits .f32)) (x3 : (S512x256.Idx → Elt Bits .f32)) (x4 : (S4x128.Idx → Elt Bits .f32)) (x5 : (S1x1x256.Idx → Elt Bits .f32)) (hc0 : (Scalar.cmpi .ne (Scalar.extui (Scalar.cmpi .eq (View.readAt (Elt Bits) (tbM0_1).view (Rect.unit (s := S36) (k0_off1 i) S1.size (k0_off1_inb i)).toLoadRect T1 (Shape.Idx.first (numel1_S1.symm ▸ Nat.one_pos))) 0#32)) 0#32) = 1#1) (k0_h2 : k0_cond2 (View.readAt (Elt Bits) (tbM0_0).view (Rect.unit (s := S36) (k0_off1 i) S1.size (k0_off1_inb i)).toLoadRect T0 (Shape.Idx.first (numel1_S1.symm ▸ Nat.one_pos))) (View.readAt (Elt Bits) (tbM0_1).view (Rect.unit (s := S36) (k0_off1 i) S1.size (k0_off1_inb i)).toLoadRect T1 (Shape.Idx.first (numel1_S1.symm ▸ Nat.one_pos))) = 1#1) :
    Σ' (out0 : List (View.Piece (Elt Bits) S512x256 .f32)) (out1 : Buf (Elt Bits) ((c : Thread nD τ).loc cc0_scratch0)) (out2 : Buf (Elt Bits) ((c : Thread nD τ).loc cc0_scratch1)), { out3 : Buf (Elt Bits) ((c : Thread nD τ).loc cc0_scratch2) //
      ∀ (xa0 : Buf (Elt Bits) ((c : Thread nD τ).loc cc0_scratch0)) (xa1 : Buf (Elt Bits) ((c : Thread nD τ).loc cc0_scratch1)) (xa2 : Buf (Elt Bits) ((c : Thread nD τ).loc cc0_scratch2)) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (arg9.view.loc (c : Thread nD τ) ↦[arg9.view.set]{fullShare} arg9.view.rep x4)
          ∗ (arg10.view.loc (c : Thread nD τ) ↦[arg10.view.set]{fullShare} arg10.view.rep x5)
          ∗ (tbM0_0.view.loc (c : Thread nD τ) ↦{fullShare.right} T0)
          ∗ (tbM0_1.view.loc (c : Thread nD τ) ↦{fullShare.right} T1)
          ∗ (∃ d, owns (c : Thread nD τ) arg11 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (arg8.view.loc (c : Thread nD τ) ↦[arg8.view.set]{fullShare} arg8.view.rep x3)
              ∗ (arg9.view.loc (c : Thread nD τ) ↦[arg9.view.set]{fullShare} arg9.view.rep x4)
              ∗ (arg10.view.loc (c : Thread nD τ) ↦[arg10.view.set]{fullShare} arg10.view.rep x5)
              ∗ (tbM0_0.view.loc (c : Thread nD τ) ↦{fullShare.right} T0)
              ∗ (tbM0_1.view.loc (c : Thread nD τ) ↦{fullShare.right} T1)
              ∗ (∃ f, arg11.view.loc (c : Thread nD τ) ↦[arg11.view.set]{fullShare} arg11.view.writes (Elt Bits) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)) -∗ K ⟨⟩))
          ⊢ wp frame (wpE (defs₀ (F := Bits)) Variants.none c none) Set.univ (cc0_diff_attn_prompt i tbM0_0 (Memref.isWhole_whole _) tbM0_1 (Memref.isWhole_whole _) arg5 harg5 arg6 harg6 arg7 harg7 arg8 harg8 arg9 harg9 arg10 harg10 (Memref.whole main_v3) (Memref.isWhole_whole _) arg11 harg11 scM0_0 (Memref.isWhole_whole _) scM0_1 (Memref.isWhole_whole _) scM0_2 (Memref.isWhole_whole _)) K } :=
  ⟨_, _, _, _, fun (xa0 : Buf (Elt Bits) ((c : Thread nD τ).loc cc0_scratch0)) (xa1 : Buf (Elt Bits) ((c : Thread nD τ).loc cc0_scratch1)) (xa2 : Buf (Elt Bits) ((c : Thread nD τ).loc cc0_scratch2)) K => by
    unfold owns
    rw [cc0_diff_attn_prompt_eq_skeleton]; unfold cc0_diff_attn_prompt_skel
    iintro ⟨H0, H1, H2, H3, H4, H5, HT0, HT1, ⟨%d6, %f6, -, HO6⟩, HS0, HS1, HS2, Hk⟩
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = k0_cond2 _ _ = _; exact k0_h2))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO6]; · iexists _; iexact HO6
    isplitl [HS0]; · iexact HS0
    isplitl [HS1]; · iexact HS1
    iexact HS2⟩

/-- Path A's pieces for output 6 tile its block (1 store of `S512x256`: the kernel evaluates the tiling, Lib/Ring.lean `Piece.tiledL`). -/
theorem cover0_A_6 (c : Dev nD) (i : grid0.Coords) (arg5 : Memref sig .tc .smem S8 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4x128 .f32) (harg9 : arg9.IsWhole) (arg10 : Memref sig .tc .vmem S1x1x256 .f32) (harg10 : arg10.IsWhole) (arg11 : Memref sig .tc .vmem S512x256 .f32) (harg11 : arg11.IsWhole) (T0 : (S36.Idx → Elt Bits .i32)) (T1 : (S36.Idx → Elt Bits .i32))
     (x0 : (S8.Idx → Elt Bits .f32)) (x1 : (S512x256.Idx → Elt Bits .f32)) (x2 : (S512x256.Idx → Elt Bits .f32)) (x3 : (S512x256.Idx → Elt Bits .f32)) (x4 : (S4x128.Idx → Elt Bits .f32)) (x5 : (S1x1x256.Idx → Elt Bits .f32)) (hc0 : (Scalar.cmpi .ne (Scalar.extui (Scalar.cmpi .eq (View.readAt (Elt Bits) (tbM0_1).view (Rect.unit (s := S36) (k0_off1 i) S1.size (k0_off1_inb i)).toLoadRect T1 (Shape.Idx.first (numel1_S1.symm ▸ Nat.one_pos))) 0#32)) 0#32) = 1#1) (k0_h2 : k0_cond2 (View.readAt (Elt Bits) (tbM0_0).view (Rect.unit (s := S36) (k0_off1 i) S1.size (k0_off1_inb i)).toLoadRect T0 (Shape.Idx.first (numel1_S1.symm ▸ Nat.one_pos))) (View.readAt (Elt Bits) (tbM0_1).view (Rect.unit (s := S36) (k0_off1 i) S1.size (k0_off1_inb i)).toLoadRect T1 (Shape.Idx.first (numel1_S1.symm ▸ Nat.one_pos))) = 1#1) (y : S512x256.Idx) :
    ∃ pc ∈ (kernelRun0_A c i arg5 harg5 arg6 harg6 arg7 harg7 arg8 harg8 arg9 harg9 arg10 harg10 arg11 harg11 T0 T1 x0 x1 x2 x3 x4 x5 hc0 k0_h2).1, y ∈ pc.1.set :=
  View.cover_of_tiledL (kernelRun0_A c i arg5 harg5 arg6 harg6 arg7 harg7 arg8 harg8 arg9 harg9 arg10 harg10 arg11 harg11 T0 T1 x0 x1 x2 x3 x4 x5 hc0 k0_h2).1 S512x256.size (by sl_kernel_rfl) y

/-- What path A leaves in output 6's staging buffer: its pieces read back over junk. -/
def out0_A_6 (c : Dev nD) (i : grid0.Coords) (arg5 : Memref sig .tc .smem S8 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4x128 .f32) (harg9 : arg9.IsWhole) (arg10 : Memref sig .tc .vmem S1x1x256 .f32) (harg10 : arg10.IsWhole) (arg11 : Memref sig .tc .vmem S512x256 .f32) (harg11 : arg11.IsWhole) (T0 : (S36.Idx → Elt Bits .i32)) (T1 : (S36.Idx → Elt Bits .i32))
     (x0 : (S8.Idx → Elt Bits .f32)) (x1 : (S512x256.Idx → Elt Bits .f32)) (x2 : (S512x256.Idx → Elt Bits .f32)) (x3 : (S512x256.Idx → Elt Bits .f32)) (x4 : (S4x128.Idx → Elt Bits .f32)) (x5 : (S1x1x256.Idx → Elt Bits .f32)) (hc0 : (Scalar.cmpi .ne (Scalar.extui (Scalar.cmpi .eq (View.readAt (Elt Bits) (tbM0_1).view (Rect.unit (s := S36) (k0_off1 i) S1.size (k0_off1_inb i)).toLoadRect T1 (Shape.Idx.first (numel1_S1.symm ▸ Nat.one_pos))) 0#32)) 0#32) = 1#1) (k0_h2 : k0_cond2 (View.readAt (Elt Bits) (tbM0_0).view (Rect.unit (s := S36) (k0_off1 i) S1.size (k0_off1_inb i)).toLoadRect T0 (Shape.Idx.first (numel1_S1.symm ▸ Nat.one_pos))) (View.readAt (Elt Bits) (tbM0_1).view (Rect.unit (s := S36) (k0_off1 i) S1.size (k0_off1_inb i)).toLoadRect T1 (Shape.Idx.first (numel1_S1.symm ▸ Nat.one_pos))) = 1#1) : (S512x256.Idx → Elt Bits .f32) :=
  VO0_6.read (Elt Bits) (VO0_6.writes (Elt Bits) VO0_6.junk (kernelRun0_A c i arg5 harg5 arg6 harg6 arg7 harg7 arg8 harg8 arg9 harg9 arg10 harg10 arg11 harg11 T0 T1 x0 x1 x2 x3 x4 x5 hc0 k0_h2).1)

set_option backward.proofsInPublic true in
set_option maxHeartbeats 8000000 in
/-- PATH B (points 1, 3, … 568: 112 of 576): what the body leaves — per stored output its pieces (last first), per scratch its
    contents — WITH the proof that, on whole staging memrefs, from the inputs at their blocks, the tables, the outputs
    (6: idle) and the scratches (0: covered, 1: covered, 2: covered), under the path's decisions as
    hypotheses over the words the body reads (`hc0`; `k0_h2`), the body runs to the continuation holding all of it as stated. The
    skeleton (`Gen.*_eq_skeleton`) run by `sl_exec`, loops of literal trip count unrolled by the run, the others by `sl_unroll`. -/
noncomputable def kernelRun0_B (c : Dev nD) (i : grid0.Coords) (arg5 : Memref sig .tc .smem S8 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4x128 .f32) (harg9 : arg9.IsWhole) (arg10 : Memref sig .tc .vmem S1x1x256 .f32) (harg10 : arg10.IsWhole) (arg11 : Memref sig .tc .vmem S512x256 .f32) (harg11 : arg11.IsWhole) (T0 : (S36.Idx → Elt Bits .i32)) (T1 : (S36.Idx → Elt Bits .i32))
     (x0 : (S8.Idx → Elt Bits .f32)) (x1 : (S512x256.Idx → Elt Bits .f32)) (x2 : (S512x256.Idx → Elt Bits .f32)) (x3 : (S512x256.Idx → Elt Bits .f32)) (x4 : (S4x128.Idx → Elt Bits .f32)) (x5 : (S1x1x256.Idx → Elt Bits .f32)) (hc0 : (Scalar.cmpi .ne (Scalar.extui (Scalar.cmpi .eq (View.readAt (Elt Bits) (tbM0_1).view (Rect.unit (s := S36) (k0_off1 i) S1.size (k0_off1_inb i)).toLoadRect T1 (Shape.Idx.first (numel1_S1.symm ▸ Nat.one_pos))) 0#32)) 0#32) = 1#1) (k0_h2 : ¬(k0_cond2 (View.readAt (Elt Bits) (tbM0_0).view (Rect.unit (s := S36) (k0_off1 i) S1.size (k0_off1_inb i)).toLoadRect T0 (Shape.Idx.first (numel1_S1.symm ▸ Nat.one_pos))) (View.readAt (Elt Bits) (tbM0_1).view (Rect.unit (s := S36) (k0_off1 i) S1.size (k0_off1_inb i)).toLoadRect T1 (Shape.Idx.first (numel1_S1.symm ▸ Nat.one_pos))) = 1#1)) :
    Σ' (out0 : Buf (Elt Bits) ((c : Thread nD τ).loc cc0_scratch0)) (out1 : Buf (Elt Bits) ((c : Thread nD τ).loc cc0_scratch1)), { out2 : Buf (Elt Bits) ((c : Thread nD τ).loc cc0_scratch2) //
      ∀ (y6 : (S512x256.Idx → Elt Bits .f32)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (arg9.view.loc (c : Thread nD τ) ↦[arg9.view.set]{fullShare} arg9.view.rep x4)
          ∗ (arg10.view.loc (c : Thread nD τ) ↦[arg10.view.set]{fullShare} arg10.view.rep x5)
          ∗ (tbM0_0.view.loc (c : Thread nD τ) ↦{fullShare.right} T0)
          ∗ (tbM0_1.view.loc (c : Thread nD τ) ↦{fullShare.right} T1)
          ∗ owns (c : Thread nD τ) arg11 fullShare y6
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (arg8.view.loc (c : Thread nD τ) ↦[arg8.view.set]{fullShare} arg8.view.rep x3)
              ∗ (arg9.view.loc (c : Thread nD τ) ↦[arg9.view.set]{fullShare} arg9.view.rep x4)
              ∗ (arg10.view.loc (c : Thread nD τ) ↦[arg10.view.set]{fullShare} arg10.view.rep x5)
              ∗ (tbM0_0.view.loc (c : Thread nD τ) ↦{fullShare.right} T0)
              ∗ (tbM0_1.view.loc (c : Thread nD τ) ↦{fullShare.right} T1)
              ∗ owns (c : Thread nD τ) arg11 fullShare y6
              ∗ (scM0_0.view.loc (c : Thread nD τ) ↦{fullShare} out0)
              ∗ (scM0_1.view.loc (c : Thread nD τ) ↦{fullShare} out1)
              ∗ (scM0_2.view.loc (c : Thread nD τ) ↦{fullShare} out2)) -∗ K ⟨⟩))
          ⊢ wp frame (wpE (defs₀ (F := Bits)) Variants.none c none) Set.univ (cc0_diff_attn_prompt i tbM0_0 (Memref.isWhole_whole _) tbM0_1 (Memref.isWhole_whole _) arg5 harg5 arg6 harg6 arg7 harg7 arg8 harg8 arg9 harg9 arg10 harg10 (Memref.whole main_v3) (Memref.isWhole_whole _) arg11 harg11 scM0_0 (Memref.isWhole_whole _) scM0_1 (Memref.isWhole_whole _) scM0_2 (Memref.isWhole_whole _)) K } :=
  ⟨_, _, _, fun (y6 : (S512x256.Idx → Elt Bits .f32)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) K => by
    unfold owns
    rw [cc0_diff_attn_prompt_eq_skeleton]; unfold cc0_diff_attn_prompt_skel
    iintro ⟨H0, H1, H2, H3, H4, H5, HT0, HT1, ⟨%f6, %hf6, HO6⟩, HS0, HS1, HS2, Hk⟩
    obtain rfl := harg11.eq_unread hf6
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = ¬(k0_cond2 _ _ = _); exact k0_h2))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO6]
    · iexists _; isplitr; · ipureintro; exact harg11.read_unread _
      iexact HO6
    isplitl [HS0]; · iexact HS0
    isplitl [HS1]; · iexact HS1
    iexact HS2⟩

set_option backward.proofsInPublic true in
set_option maxHeartbeats 8000000 in
/-- PATH C (points 2, 5, … 575: 112 of 576): what the body leaves — per stored output its pieces (last first), per scratch its
    contents — WITH the proof that, on whole staging memrefs, from the inputs at their blocks, the tables, the outputs
    (6: stored) and the scratches (0: carried, 1: carried, 2: carried), under the path's decisions as
    hypotheses over the words the body reads (`hc0`; `k0_h2`), the body runs to the continuation holding all of it as stated. The
    skeleton (`Gen.*_eq_skeleton`) run by `sl_exec`, loops of literal trip count unrolled by the run, the others by `sl_unroll`. -/
noncomputable def kernelRun0_C (c : Dev nD) (i : grid0.Coords) (arg5 : Memref sig .tc .smem S8 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4x128 .f32) (harg9 : arg9.IsWhole) (arg10 : Memref sig .tc .vmem S1x1x256 .f32) (harg10 : arg10.IsWhole) (arg11 : Memref sig .tc .vmem S512x256 .f32) (harg11 : arg11.IsWhole) (T0 : (S36.Idx → Elt Bits .i32)) (T1 : (S36.Idx → Elt Bits .i32))
     (x0 : (S8.Idx → Elt Bits .f32)) (x1 : (S512x256.Idx → Elt Bits .f32)) (x2 : (S512x256.Idx → Elt Bits .f32)) (x3 : (S512x256.Idx → Elt Bits .f32)) (x4 : (S4x128.Idx → Elt Bits .f32)) (x5 : (S1x1x256.Idx → Elt Bits .f32)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬((Scalar.cmpi .ne (Scalar.extui (Scalar.cmpi .eq (View.readAt (Elt Bits) (tbM0_1).view (Rect.unit (s := S36) (k0_off1 i) S1.size (k0_off1_inb i)).toLoadRect T1 (Shape.Idx.first (numel1_S1.symm ▸ Nat.one_pos))) 0#32)) 0#32) = 1#1)) (k0_h2 : k0_cond2 (View.readAt (Elt Bits) (tbM0_0).view (Rect.unit (s := S36) (k0_off1 i) S1.size (k0_off1_inb i)).toLoadRect T0 (Shape.Idx.first (numel1_S1.symm ▸ Nat.one_pos))) (View.readAt (Elt Bits) (tbM0_1).view (Rect.unit (s := S36) (k0_off1 i) S1.size (k0_off1_inb i)).toLoadRect T1 (Shape.Idx.first (numel1_S1.symm ▸ Nat.one_pos))) = 1#1) :
    Σ' (out0 : List (View.Piece (Elt Bits) S512x256 .f32)) (out1 : Buf (Elt Bits) ((c : Thread nD τ).loc cc0_scratch0)) (out2 : Buf (Elt Bits) ((c : Thread nD τ).loc cc0_scratch1)), { out3 : Buf (Elt Bits) ((c : Thread nD τ).loc cc0_scratch2) //
      ∀ (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (arg9.view.loc (c : Thread nD τ) ↦[arg9.view.set]{fullShare} arg9.view.rep x4)
          ∗ (arg10.view.loc (c : Thread nD τ) ↦[arg10.view.set]{fullShare} arg10.view.rep x5)
          ∗ (tbM0_0.view.loc (c : Thread nD τ) ↦{fullShare.right} T0)
          ∗ (tbM0_1.view.loc (c : Thread nD τ) ↦{fullShare.right} T1)
          ∗ (∃ d, owns (c : Thread nD τ) arg11 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (arg8.view.loc (c : Thread nD τ) ↦[arg8.view.set]{fullShare} arg8.view.rep x3)
              ∗ (arg9.view.loc (c : Thread nD τ) ↦[arg9.view.set]{fullShare} arg9.view.rep x4)
              ∗ (arg10.view.loc (c : Thread nD τ) ↦[arg10.view.set]{fullShare} arg10.view.rep x5)
              ∗ (tbM0_0.view.loc (c : Thread nD τ) ↦{fullShare.right} T0)
              ∗ (tbM0_1.view.loc (c : Thread nD τ) ↦{fullShare.right} T1)
              ∗ (∃ f, arg11.view.loc (c : Thread nD τ) ↦[arg11.view.set]{fullShare} arg11.view.writes (Elt Bits) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)) -∗ K ⟨⟩))
          ⊢ wp frame (wpE (defs₀ (F := Bits)) Variants.none c none) Set.univ (cc0_diff_attn_prompt i tbM0_0 (Memref.isWhole_whole _) tbM0_1 (Memref.isWhole_whole _) arg5 harg5 arg6 harg6 arg7 harg7 arg8 harg8 arg9 harg9 arg10 harg10 (Memref.whole main_v3) (Memref.isWhole_whole _) arg11 harg11 scM0_0 (Memref.isWhole_whole _) scM0_1 (Memref.isWhole_whole _) scM0_2 (Memref.isWhole_whole _)) K } :=
  ⟨_, _, _, _, fun K => by
    unfold owns
    rw [cc0_diff_attn_prompt_eq_skeleton]; unfold cc0_diff_attn_prompt_skel
    iintro ⟨H0, H1, H2, H3, H4, H5, HT0, HT1, ⟨%d6, %f6, -, HO6⟩, HS0, HS1, HS2, Hk⟩
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = k0_cond2 _ _ = _; exact k0_h2))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO6]; · iexists _; iexact HO6
    isplitl [HS0]; · iexact HS0
    isplitl [HS1]; · iexact HS1
    iexact HS2⟩

/-- Path C's pieces for output 6 tile its block (1 store of `S512x256`: the kernel evaluates the tiling, Lib/Ring.lean `Piece.tiledL`). -/
theorem cover0_C_6 (c : Dev nD) (i : grid0.Coords) (arg5 : Memref sig .tc .smem S8 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4x128 .f32) (harg9 : arg9.IsWhole) (arg10 : Memref sig .tc .vmem S1x1x256 .f32) (harg10 : arg10.IsWhole) (arg11 : Memref sig .tc .vmem S512x256 .f32) (harg11 : arg11.IsWhole) (T0 : (S36.Idx → Elt Bits .i32)) (T1 : (S36.Idx → Elt Bits .i32))
     (x0 : (S8.Idx → Elt Bits .f32)) (x1 : (S512x256.Idx → Elt Bits .f32)) (x2 : (S512x256.Idx → Elt Bits .f32)) (x3 : (S512x256.Idx → Elt Bits .f32)) (x4 : (S4x128.Idx → Elt Bits .f32)) (x5 : (S1x1x256.Idx → Elt Bits .f32)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬((Scalar.cmpi .ne (Scalar.extui (Scalar.cmpi .eq (View.readAt (Elt Bits) (tbM0_1).view (Rect.unit (s := S36) (k0_off1 i) S1.size (k0_off1_inb i)).toLoadRect T1 (Shape.Idx.first (numel1_S1.symm ▸ Nat.one_pos))) 0#32)) 0#32) = 1#1)) (k0_h2 : k0_cond2 (View.readAt (Elt Bits) (tbM0_0).view (Rect.unit (s := S36) (k0_off1 i) S1.size (k0_off1_inb i)).toLoadRect T0 (Shape.Idx.first (numel1_S1.symm ▸ Nat.one_pos))) (View.readAt (Elt Bits) (tbM0_1).view (Rect.unit (s := S36) (k0_off1 i) S1.size (k0_off1_inb i)).toLoadRect T1 (Shape.Idx.first (numel1_S1.symm ▸ Nat.one_pos))) = 1#1) (y : S512x256.Idx) :
    ∃ pc ∈ (kernelRun0_C c i arg5 harg5 arg6 harg6 arg7 harg7 arg8 harg8 arg9 harg9 arg10 harg10 arg11 harg11 T0 T1 x0 x1 x2 x3 x4 x5 xa0 xa1 xa2 hc0 k0_h2).1, y ∈ pc.1.set :=
  View.cover_of_tiledL (kernelRun0_C c i arg5 harg5 arg6 harg6 arg7 harg7 arg8 harg8 arg9 harg9 arg10 harg10 arg11 harg11 T0 T1 x0 x1 x2 x3 x4 x5 xa0 xa1 xa2 hc0 k0_h2).1 S512x256.size (by sl_kernel_rfl) y

/-- What path C leaves in output 6's staging buffer: its pieces read back over junk. -/
def out0_C_6 (c : Dev nD) (i : grid0.Coords) (arg5 : Memref sig .tc .smem S8 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4x128 .f32) (harg9 : arg9.IsWhole) (arg10 : Memref sig .tc .vmem S1x1x256 .f32) (harg10 : arg10.IsWhole) (arg11 : Memref sig .tc .vmem S512x256 .f32) (harg11 : arg11.IsWhole) (T0 : (S36.Idx → Elt Bits .i32)) (T1 : (S36.Idx → Elt Bits .i32))
     (x0 : (S8.Idx → Elt Bits .f32)) (x1 : (S512x256.Idx → Elt Bits .f32)) (x2 : (S512x256.Idx → Elt Bits .f32)) (x3 : (S512x256.Idx → Elt Bits .f32)) (x4 : (S4x128.Idx → Elt Bits .f32)) (x5 : (S1x1x256.Idx → Elt Bits .f32)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬((Scalar.cmpi .ne (Scalar.extui (Scalar.cmpi .eq (View.readAt (Elt Bits) (tbM0_1).view (Rect.unit (s := S36) (k0_off1 i) S1.size (k0_off1_inb i)).toLoadRect T1 (Shape.Idx.first (numel1_S1.symm ▸ Nat.one_pos))) 0#32)) 0#32) = 1#1)) (k0_h2 : k0_cond2 (View.readAt (Elt Bits) (tbM0_0).view (Rect.unit (s := S36) (k0_off1 i) S1.size (k0_off1_inb i)).toLoadRect T0 (Shape.Idx.first (numel1_S1.symm ▸ Nat.one_pos))) (View.readAt (Elt Bits) (tbM0_1).view (Rect.unit (s := S36) (k0_off1 i) S1.size (k0_off1_inb i)).toLoadRect T1 (Shape.Idx.first (numel1_S1.symm ▸ Nat.one_pos))) = 1#1) : (S512x256.Idx → Elt Bits .f32) :=
  VO0_6.read (Elt Bits) (VO0_6.writes (Elt Bits) VO0_6.junk (kernelRun0_C c i arg5 harg5 arg6 harg6 arg7 harg7 arg8 harg8 arg9 harg9 arg10 harg10 arg11 harg11 T0 T1 x0 x1 x2 x3 x4 x5 xa0 xa1 xa2 hc0 k0_h2).1)

set_option backward.proofsInPublic true in
set_option maxHeartbeats 8000000 in
/-- PATH D (points 4, 7, … 574: 336 of 576): what the body leaves — per stored output its pieces (last first), per scratch its
    contents — WITH the proof that, on whole staging memrefs, from the inputs at their blocks, the tables, the outputs
    (6: idle) and the scratches (0: carried, 1: carried, 2: carried), under the path's decisions as
    hypotheses over the words the body reads (`hc0`; `k0_h2`), the body runs to the continuation holding all of it as stated. The
    skeleton (`Gen.*_eq_skeleton`) run by `sl_exec`, loops of literal trip count unrolled by the run, the others by `sl_unroll`. -/
noncomputable def kernelRun0_D (c : Dev nD) (i : grid0.Coords) (arg5 : Memref sig .tc .smem S8 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4x128 .f32) (harg9 : arg9.IsWhole) (arg10 : Memref sig .tc .vmem S1x1x256 .f32) (harg10 : arg10.IsWhole) (arg11 : Memref sig .tc .vmem S512x256 .f32) (harg11 : arg11.IsWhole) (T0 : (S36.Idx → Elt Bits .i32)) (T1 : (S36.Idx → Elt Bits .i32))
     (x0 : (S8.Idx → Elt Bits .f32)) (x1 : (S512x256.Idx → Elt Bits .f32)) (x2 : (S512x256.Idx → Elt Bits .f32)) (x3 : (S512x256.Idx → Elt Bits .f32)) (x4 : (S4x128.Idx → Elt Bits .f32)) (x5 : (S1x1x256.Idx → Elt Bits .f32)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬((Scalar.cmpi .ne (Scalar.extui (Scalar.cmpi .eq (View.readAt (Elt Bits) (tbM0_1).view (Rect.unit (s := S36) (k0_off1 i) S1.size (k0_off1_inb i)).toLoadRect T1 (Shape.Idx.first (numel1_S1.symm ▸ Nat.one_pos))) 0#32)) 0#32) = 1#1)) (k0_h2 : ¬(k0_cond2 (View.readAt (Elt Bits) (tbM0_0).view (Rect.unit (s := S36) (k0_off1 i) S1.size (k0_off1_inb i)).toLoadRect T0 (Shape.Idx.first (numel1_S1.symm ▸ Nat.one_pos))) (View.readAt (Elt Bits) (tbM0_1).view (Rect.unit (s := S36) (k0_off1 i) S1.size (k0_off1_inb i)).toLoadRect T1 (Shape.Idx.first (numel1_S1.symm ▸ Nat.one_pos))) = 1#1)) :
    Σ' (out0 : Buf (Elt Bits) ((c : Thread nD τ).loc cc0_scratch0)) (out1 : Buf (Elt Bits) ((c : Thread nD τ).loc cc0_scratch1)), { out2 : Buf (Elt Bits) ((c : Thread nD τ).loc cc0_scratch2) //
      ∀ (y6 : (S512x256.Idx → Elt Bits .f32)) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (arg9.view.loc (c : Thread nD τ) ↦[arg9.view.set]{fullShare} arg9.view.rep x4)
          ∗ (arg10.view.loc (c : Thread nD τ) ↦[arg10.view.set]{fullShare} arg10.view.rep x5)
          ∗ (tbM0_0.view.loc (c : Thread nD τ) ↦{fullShare.right} T0)
          ∗ (tbM0_1.view.loc (c : Thread nD τ) ↦{fullShare.right} T1)
          ∗ owns (c : Thread nD τ) arg11 fullShare y6
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (arg8.view.loc (c : Thread nD τ) ↦[arg8.view.set]{fullShare} arg8.view.rep x3)
              ∗ (arg9.view.loc (c : Thread nD τ) ↦[arg9.view.set]{fullShare} arg9.view.rep x4)
              ∗ (arg10.view.loc (c : Thread nD τ) ↦[arg10.view.set]{fullShare} arg10.view.rep x5)
              ∗ (tbM0_0.view.loc (c : Thread nD τ) ↦{fullShare.right} T0)
              ∗ (tbM0_1.view.loc (c : Thread nD τ) ↦{fullShare.right} T1)
              ∗ owns (c : Thread nD τ) arg11 fullShare y6
              ∗ (scM0_0.view.loc (c : Thread nD τ) ↦{fullShare} out0)
              ∗ (scM0_1.view.loc (c : Thread nD τ) ↦{fullShare} out1)
              ∗ (scM0_2.view.loc (c : Thread nD τ) ↦{fullShare} out2)) -∗ K ⟨⟩))
          ⊢ wp frame (wpE (defs₀ (F := Bits)) Variants.none c none) Set.univ (cc0_diff_attn_prompt i tbM0_0 (Memref.isWhole_whole _) tbM0_1 (Memref.isWhole_whole _) arg5 harg5 arg6 harg6 arg7 harg7 arg8 harg8 arg9 harg9 arg10 harg10 (Memref.whole main_v3) (Memref.isWhole_whole _) arg11 harg11 scM0_0 (Memref.isWhole_whole _) scM0_1 (Memref.isWhole_whole _) scM0_2 (Memref.isWhole_whole _)) K } :=
  ⟨_, _, _, fun (y6 : (S512x256.Idx → Elt Bits .f32)) K => by
    unfold owns
    rw [cc0_diff_attn_prompt_eq_skeleton]; unfold cc0_diff_attn_prompt_skel
    iintro ⟨H0, H1, H2, H3, H4, H5, HT0, HT1, ⟨%f6, %hf6, HO6⟩, HS0, HS1, HS2, Hk⟩
    obtain rfl := harg11.eq_unread hf6
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = ¬(k0_cond2 _ _ = _); exact k0_h2))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO6]
    · iexists _; isplitr; · ipureintro; exact harg11.read_unread _
      iexact HO6
    isplitl [HS0]; · iexact HS0
    isplitl [HS1]; · iexact HS1
    iexact HS2⟩

end Cert.Kernel.Attn

end
-- ==== Proof.AttnBits.Ok0.lean ====
/- Every block the index maps name at those table words lies inside its array. -/
module

public import proofs.«01_k».proof.Proof.AttnBits.Pins

@[expose] public section

set_option maxRecDepth 16384
set_option Elab.async false

noncomputable section

namespace Cert.Kernel.Attn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resource algebra of the bit-exact program. -/
local notation "𝕄" => MT nD τ sig Unit (Elt Bits) ℕ (UR sig nD τ) ℕ

theorem ok_pfN_0_0_inb : ∀ i : grid0.Coords, ∀ a, (cc0_transform_1 k0_off1_inb numel1_S1 pfN i a + 1) * S512x256.size a ≤ S8192x6144.size a := by decide +kernel
theorem ok_pfN_0_0 : (∀ i : grid0.Coords, ∃ h : (∀ a, (cc0_transform_1 k0_off1_inb numel1_S1 pfN i a + 1) * S512x256.size a ≤ S8192x6144.size a), EltTy.bits .f32 = 32 ∨ (Rect.block (s := S8192x6144) S512x256.size (cc0_transform_1 k0_off1_inb numel1_S1 pfN i) h).WholeWords (EltTy.packing .f32)) := fun i => ⟨ok_pfN_0_0_inb i, .inl rfl⟩
theorem ok_pfN_0_1_inb : ∀ i : grid0.Coords, ∀ a, (cc0_transform_2 k0_off1_inb numel1_S1 pfN i a + 1) * S512x256.size a ≤ S8192x6144.size a := by decide +kernel
theorem ok_pfN_0_1 : (∀ i : grid0.Coords, ∃ h : (∀ a, (cc0_transform_2 k0_off1_inb numel1_S1 pfN i a + 1) * S512x256.size a ≤ S8192x6144.size a), EltTy.bits .f32 = 32 ∨ (Rect.block (s := S8192x6144) S512x256.size (cc0_transform_2 k0_off1_inb numel1_S1 pfN i) h).WholeWords (EltTy.packing .f32)) := fun i => ⟨ok_pfN_0_1_inb i, .inl rfl⟩
theorem ok_pfN_0_2_inb : ∀ i : grid0.Coords, ∀ a, (cc0_transform_3 k0_off1_inb numel1_S1 pfN i a + 1) * S512x256.size a ≤ S8192x6144.size a := by decide +kernel
theorem ok_pfN_0_2 : (∀ i : grid0.Coords, ∃ h : (∀ a, (cc0_transform_3 k0_off1_inb numel1_S1 pfN i a + 1) * S512x256.size a ≤ S8192x6144.size a), EltTy.bits .f32 = 32 ∨ (Rect.block (s := S8192x6144) S512x256.size (cc0_transform_3 k0_off1_inb numel1_S1 pfN i) h).WholeWords (EltTy.packing .f32)) := fun i => ⟨ok_pfN_0_2_inb i, .inl rfl⟩
theorem ok_pfN_0_3_inb : ∀ i : grid0.Coords, ∀ a, (cc0_transform_7 k0_off1_inb numel1_S1 pfN i a + 1) * S512x256.size a ≤ S8192x2048.size a := by decide +kernel
theorem ok_pfN_0_3 : (∀ i : grid0.Coords, ∃ h : (∀ a, (cc0_transform_7 k0_off1_inb numel1_S1 pfN i a + 1) * S512x256.size a ≤ S8192x2048.size a), EltTy.bits .f32 = 32 ∨ (Rect.block (s := S8192x2048) S512x256.size (cc0_transform_7 k0_off1_inb numel1_S1 pfN i) h).WholeWords (EltTy.packing .f32)) := fun i => ⟨ok_pfN_0_3_inb i, .inl rfl⟩
theorem ok_pfN_0 : ok0 (F := Bits) pfN := ⟨ok_pfN_0_0, ok_pfN_0_1, ok_pfN_0_2, ok_pfN_0_3⟩

end Cert.Kernel.Attn

end
-- ==== Proof.AttnBits.Cfg.lean ====
/- The pipeline at those words: a point's coordinates, its staging buffers, the blocks its windows hold, and the two decisions the body takes there. -/
module

public import proofs.«01_k».proof.Proof.AttnBits.Ok0

@[expose] public section

set_option maxRecDepth 16384
set_option Elab.async false

noncomputable section

namespace Cert.Kernel.Attn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resource algebra of the bit-exact program. -/
local notation "𝕄" => MT nD τ sig Unit (Elt Bits) ℕ (UR sig nD τ) ℕ

/-- The side condition holds of the pinned tables at EVERY member (the grid at them one the machine runs, every block
    inside its array): decided member by member (Flash/OkJ.lean), matched here. -/
theorem ok_pfN : ok0 (F := Bits) pfN := ok_pfN_0

/-- The admissible contents, the pipeline at them (`cfgA`: , 576 points), asmain's one. -/
def adm : (pcfg0 (F := Bits)).Adm := ⟨pfN, ok_pfN⟩
abbrev cfgA : Pipeline.Cfg sig Λ₀ := cfg0 (F := Bits) (adm)
abbrev pcs : Fin 1 → Pipeline.Cfg sig Λ₀ := Pipeline.pin (pcfgs (F := Bits)) fun _ => adm

variable (m : (ℓ : Loc nD τ sig) → Buf (Elt Bits) ℓ)

/-! ## The buffers when the call begins -/

/-- Core `c`'s buffers after the host operations before the call. -/
abbrev V (c : Dev nD) (b : Ref sig .tc) : Buf (Elt Bits) ((c : Thread nD τ).loc b) := StableHlo.after hostOps0 (fun b => m (c, b)) b

/-! ## A point's coordinates, words and staging memrefs -/

/-- Point `t`'s coordinates. -/
abbrev crd (t : Fin (cfgA).N) : (cfgA).grid.Coords := (cfgA).grid.coords t

/-- Each window's current staging memref at point `t`, spelled as the pipeline passes it, and its wholeness. -/
abbrev ms0_0 (t : Fin (cfgA).N) : Memref sig .tc .smem S8 .f32 := spec0_0.stage ((cfgA).slots t (0 : Fin 7))
abbrev hs0_0 (t : Fin (cfgA).N) : (ms0_0 t).IsWhole := hstage0_0 (((cfgA).slots t (0 : Fin 7)).cast nbuf0_0)
abbrev ms0_1 (t : Fin (cfgA).N) : Memref sig .tc .vmem S512x256 .f32 := spec0_1.stage ((cfgA).slots t (1 : Fin 7))
abbrev hs0_1 (t : Fin (cfgA).N) : (ms0_1 t).IsWhole := hstage0_1 (((cfgA).slots t (1 : Fin 7)).cast nbuf0_1)
abbrev ms0_2 (t : Fin (cfgA).N) : Memref sig .tc .vmem S512x256 .f32 := spec0_2.stage ((cfgA).slots t (2 : Fin 7))
abbrev hs0_2 (t : Fin (cfgA).N) : (ms0_2 t).IsWhole := hstage0_2 (((cfgA).slots t (2 : Fin 7)).cast nbuf0_2)
abbrev ms0_3 (t : Fin (cfgA).N) : Memref sig .tc .vmem S512x256 .f32 := spec0_3.stage ((cfgA).slots t (3 : Fin 7))
abbrev hs0_3 (t : Fin (cfgA).N) : (ms0_3 t).IsWhole := hstage0_3 (((cfgA).slots t (3 : Fin 7)).cast nbuf0_3)
abbrev ms0_4 (t : Fin (cfgA).N) : Memref sig .tc .vmem S4x128 .f32 := spec0_4.stage ((cfgA).slots t (4 : Fin 7))
abbrev hs0_4 (t : Fin (cfgA).N) : (ms0_4 t).IsWhole := hstage0_4 (((cfgA).slots t (4 : Fin 7)).cast nbuf0_4)
abbrev ms0_5 (t : Fin (cfgA).N) : Memref sig .tc .vmem S1x1x256 .f32 := spec0_5.stage ((cfgA).slots t (5 : Fin 7))
abbrev hs0_5 (t : Fin (cfgA).N) : (ms0_5 t).IsWhole := hstage0_5 (((cfgA).slots t (5 : Fin 7)).cast nbuf0_5)
abbrev ms0_6 (t : Fin (cfgA).N) : Memref sig .tc .vmem S512x256 .f32 := spec0_6.stage ((cfgA).slots t (6 : Fin 7))
abbrev hs0_6 (t : Fin (cfgA).N) : (ms0_6 t).IsWhole := hstage0_6 (((cfgA).slots t (6 : Fin 7)).cast nbuf0_6)

/-! ## The windows' blocks -/

/-- Window `w`'s block at point `t`, read off its array as the host operations left it. -/
def iblk (c : Dev nD) (w : Fin (cfgA).W) (t : Fin (cfgA).N) : (((cfgA).win w).xblock (crd t)).Idx → Elt Bits ((cfgA).win w).elt :=
  (((cfgA).win w).blk t).view.read (Elt Bits) (V m c (Pipeline.arrRef spec0 w))

/-! ## The control's decisions at a point, at the pinned words (what tells the paths apart) -/

abbrev P0_0 (t : Fin (cfgA).N) : Prop := (Scalar.cmpi .ne (Scalar.extui (Scalar.cmpi .eq (View.readAt (Elt Bits) (tbM0_1).view (Rect.unit (s := S36) (k0_off1 (crd t)) S1.size (k0_off1_inb (crd t))).toLoadRect (pinT_1) (Shape.Idx.first (numel1_S1.symm ▸ Nat.one_pos))) 0#32)) 0#32) = 1#1
abbrev P0_1 (t : Fin (cfgA).N) : Prop := k0_cond2 (View.readAt (Elt Bits) (tbM0_0).view (Rect.unit (s := S36) (k0_off1 (crd t)) S1.size (k0_off1_inb (crd t))).toLoadRect (pinT_0) (Shape.Idx.first (numel1_S1.symm ▸ Nat.one_pos))) (View.readAt (Elt Bits) (tbM0_1).view (Rect.unit (s := S36) (k0_off1 (crd t)) S1.size (k0_off1_inb (crd t))).toLoadRect (pinT_1) (Shape.Idx.first (numel1_S1.symm ▸ Nat.one_pos))) = 1#1

/-- Whether scratch 0 (`cc0_scratch0`) holds nothing a point has determined, before position `n`: until a path that stores it
    whole first (A, B) has run. -/
def sfresh0_0 : ℕ → Bool
  | 0 => true
  | n + 1 => if h : n < (cfgA).N then (if P0_0 ⟨n, h⟩ then (if P0_1 ⟨n, h⟩ then false else false) else (if P0_1 ⟨n, h⟩ then sfresh0_0 n else sfresh0_0 n)) else true

/-- Its CLOSED FORM: fresh before position `n` iff no point below `n` covers it — `n` at most  first covering
    point (read off the walk; the recursion's step is decided against it point by point, the recursion never run). -/
def sfirst0_0 : ℕ := 0
def sfrTab0_0 : ℕ → Bool := fun n => decide (n ≤ sfirst0_0)

/-- Whether scratch 1 (`cc0_scratch1`) holds nothing a point has determined, before position `n`: until a path that stores it
    whole first (A, B) has run. -/
def sfresh0_1 : ℕ → Bool
  | 0 => true
  | n + 1 => if h : n < (cfgA).N then (if P0_0 ⟨n, h⟩ then (if P0_1 ⟨n, h⟩ then false else false) else (if P0_1 ⟨n, h⟩ then sfresh0_1 n else sfresh0_1 n)) else true

/-- Its CLOSED FORM: fresh before position `n` iff no point below `n` covers it — `n` at most  first covering
    point (read off the walk; the recursion's step is decided against it point by point, the recursion never run). -/
def sfirst0_1 : ℕ := 0
def sfrTab0_1 : ℕ → Bool := fun n => decide (n ≤ sfirst0_1)

/-- Whether scratch 2 (`cc0_scratch2`) holds nothing a point has determined, before position `n`: until a path that stores it
    whole first (A, B) has run. -/
def sfresh0_2 : ℕ → Bool
  | 0 => true
  | n + 1 => if h : n < (cfgA).N then (if P0_0 ⟨n, h⟩ then (if P0_1 ⟨n, h⟩ then false else false) else (if P0_1 ⟨n, h⟩ then sfresh0_2 n else sfresh0_2 n)) else true

/-- Its CLOSED FORM: fresh before position `n` iff no point below `n` covers it — `n` at most  first covering
    point (read off the walk; the recursion's step is decided against it point by point, the recursion never run). -/
def sfirst0_2 : ℕ := 0
def sfrTab0_2 : ℕ → Bool := fun n => decide (n ≤ sfirst0_2)

set_option backward.proofsInPublic true in
/-- Whether output 6 holds junk BEFORE each position `1 ‥ N`  — nothing stored into it since
    its last write-back —: the classifier's table (written back at the point before, or idle there and junk
    before it) as a bitmask, bit `n` for position `n + 1`, which `frTab0_6_step` checks against the pipeline's
    own recursion point by point (a bit test is one kernel step; a list walk or the recursion, hundreds). -/
def frMask0_6 : ℕ := 0xffffffffffffffffffffffffffffffffffffffffffffffffffffffffffffffffffffffffffffffffffffffffffffffffffffffffffffffffffffffffffffffffffffffffffffffff
/-- `(cfgA).fresh 6` TABULATED (TableIdle.lean `Cfg.fresh_tab`): true before the first point, then the table. -/
def frTab0_6 : ℕ → Bool
  | 0 => true
  | n + 1 => (frMask0_6).testBit n

end Cert.Kernel.Attn

end
-- ==== Proof.AttnBits.Facts.lean ====
/- What has to be checked at a point of the grid, as one proposition. -/
module

public import proofs.«01_k».proof.Proof.AttnBits.Cfg

@[expose] public section

set_option maxRecDepth 16384
set_option Elab.async false

noncomputable section

namespace Cert.Kernel.Attn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resource algebra of the bit-exact program. -/
local notation "𝕄" => MT nD τ sig Unit (Elt Bits) ℕ (UR sig nD τ) ℕ
variable (m : (ℓ : Loc nD τ sig) → Buf (Elt Bits) ℓ)

/-! ## Every per-point fact as ONE proposition, decided member by member; the named facts its projections -/

/-- EVERY FACT THE CERTIFICATE DECIDES at point `t`  past the checks — the freshness tables' steps, each
    path's hypotheses and schedule at its points —, as one proposition: ONE kernel evaluation per member
    decides it over the member's points, sharing each point's words, table reads and block indices between the
    facts (Lib/Decide.lean halves the range; a declaration per member bounds the kernel's evaluation cache). -/
abbrev FactsAt (t : Fin (cfgA).N) : Prop :=
  -- sfrTab0_0_step, sfrTab0_1_step, sfrTab0_2_step, frTab0_6_step, hyps0_A, sched0_A, hyps0_B, sched0_B, hyps0_C, sched0_C, hyps0_D, sched0_D
  (sfrTab0_0 (t.val + 1) = (if P0_0 t then (if P0_1 t then false else false) else (if P0_1 t then sfrTab0_0 t.val else sfrTab0_0 t.val)))
  ∧ (sfrTab0_1 (t.val + 1) = (if P0_0 t then (if P0_1 t then false else false) else (if P0_1 t then sfrTab0_1 t.val else sfrTab0_1 t.val)))
  ∧ (sfrTab0_2 (t.val + 1) = (if P0_0 t then (if P0_1 t then false else false) else (if P0_1 t then sfrTab0_2 t.val else sfrTab0_2 t.val)))
  ∧ (frTab0_6 (t.val + 1) = (((cfgA).win (6 : Fin 7)).flush t || ((cfgA).idle (6 : Fin 7) ((cfgA).grid.coords t) && frTab0_6 t.val)))
  ∧ (P0_0 t → P0_1 t → ((Scalar.cmpi .ne (Scalar.extui (Scalar.cmpi .eq (View.readAt (Elt Bits) (tbM0_1).view (Rect.unit (s := S36) (k0_off1 (crd t)) S1.size (k0_off1_inb (crd t))).toLoadRect (pinT_1) (Shape.Idx.first (numel1_S1.symm ▸ Nat.one_pos))) 0#32)) 0#32) = 1#1) ∧ ((k0_cond2 (View.readAt (Elt Bits) (tbM0_0).view (Rect.unit (s := S36) (k0_off1 (crd t)) S1.size (k0_off1_inb (crd t))).toLoadRect (pinT_0) (Shape.Idx.first (numel1_S1.symm ▸ Nat.one_pos))) (View.readAt (Elt Bits) (tbM0_1).view (Rect.unit (s := S36) (k0_off1 (crd t)) S1.size (k0_off1_inb (crd t))).toLoadRect (pinT_1) (Shape.Idx.first (numel1_S1.symm ▸ Nat.one_pos))) = 1#1) ∧ (True)))
  ∧ (P0_0 t → P0_1 t → (cfgA).idle (6 : Fin 7) ((cfgA).grid.coords t) = false ∧ ((cfgA).win (6 : Fin 7)).flush t = true ∧ frTab0_6 t.val = true ∧ sfrTab0_0 (t.val + 1) = false ∧ sfrTab0_1 (t.val + 1) = false ∧ sfrTab0_2 (t.val + 1) = false)
  ∧ (P0_0 t → ¬P0_1 t → ((Scalar.cmpi .ne (Scalar.extui (Scalar.cmpi .eq (View.readAt (Elt Bits) (tbM0_1).view (Rect.unit (s := S36) (k0_off1 (crd t)) S1.size (k0_off1_inb (crd t))).toLoadRect (pinT_1) (Shape.Idx.first (numel1_S1.symm ▸ Nat.one_pos))) 0#32)) 0#32) = 1#1) ∧ ((¬(k0_cond2 (View.readAt (Elt Bits) (tbM0_0).view (Rect.unit (s := S36) (k0_off1 (crd t)) S1.size (k0_off1_inb (crd t))).toLoadRect (pinT_0) (Shape.Idx.first (numel1_S1.symm ▸ Nat.one_pos))) (View.readAt (Elt Bits) (tbM0_1).view (Rect.unit (s := S36) (k0_off1 (crd t)) S1.size (k0_off1_inb (crd t))).toLoadRect (pinT_1) (Shape.Idx.first (numel1_S1.symm ▸ Nat.one_pos))) = 1#1)) ∧ (True)))
  ∧ (P0_0 t → ¬P0_1 t → (cfgA).idle (6 : Fin 7) ((cfgA).grid.coords t) = true ∧ ((cfgA).win (6 : Fin 7)).flush t = false ∧ frTab0_6 t.val = true ∧ sfrTab0_0 t.val = false ∧ sfrTab0_0 (t.val + 1) = false ∧ sfrTab0_1 t.val = false ∧ sfrTab0_1 (t.val + 1) = false ∧ sfrTab0_2 t.val = false ∧ sfrTab0_2 (t.val + 1) = false)
  ∧ (¬P0_0 t → P0_1 t → (¬((Scalar.cmpi .ne (Scalar.extui (Scalar.cmpi .eq (View.readAt (Elt Bits) (tbM0_1).view (Rect.unit (s := S36) (k0_off1 (crd t)) S1.size (k0_off1_inb (crd t))).toLoadRect (pinT_1) (Shape.Idx.first (numel1_S1.symm ▸ Nat.one_pos))) 0#32)) 0#32) = 1#1)) ∧ ((k0_cond2 (View.readAt (Elt Bits) (tbM0_0).view (Rect.unit (s := S36) (k0_off1 (crd t)) S1.size (k0_off1_inb (crd t))).toLoadRect (pinT_0) (Shape.Idx.first (numel1_S1.symm ▸ Nat.one_pos))) (View.readAt (Elt Bits) (tbM0_1).view (Rect.unit (s := S36) (k0_off1 (crd t)) S1.size (k0_off1_inb (crd t))).toLoadRect (pinT_1) (Shape.Idx.first (numel1_S1.symm ▸ Nat.one_pos))) = 1#1) ∧ (True)))
  ∧ (¬P0_0 t → P0_1 t → (cfgA).idle (6 : Fin 7) ((cfgA).grid.coords t) = false ∧ ((cfgA).win (6 : Fin 7)).flush t = true ∧ frTab0_6 t.val = true ∧ sfrTab0_0 t.val = false ∧ sfrTab0_0 (t.val + 1) = false ∧ sfrTab0_1 t.val = false ∧ sfrTab0_1 (t.val + 1) = false ∧ sfrTab0_2 t.val = false ∧ sfrTab0_2 (t.val + 1) = false)
  ∧ (¬P0_0 t → ¬P0_1 t → (¬((Scalar.cmpi .ne (Scalar.extui (Scalar.cmpi .eq (View.readAt (Elt Bits) (tbM0_1).view (Rect.unit (s := S36) (k0_off1 (crd t)) S1.size (k0_off1_inb (crd t))).toLoadRect (pinT_1) (Shape.Idx.first (numel1_S1.symm ▸ Nat.one_pos))) 0#32)) 0#32) = 1#1)) ∧ ((¬(k0_cond2 (View.readAt (Elt Bits) (tbM0_0).view (Rect.unit (s := S36) (k0_off1 (crd t)) S1.size (k0_off1_inb (crd t))).toLoadRect (pinT_0) (Shape.Idx.first (numel1_S1.symm ▸ Nat.one_pos))) (View.readAt (Elt Bits) (tbM0_1).view (Rect.unit (s := S36) (k0_off1 (crd t)) S1.size (k0_off1_inb (crd t))).toLoadRect (pinT_1) (Shape.Idx.first (numel1_S1.symm ▸ Nat.one_pos))) = 1#1)) ∧ (True)))
  ∧ (¬P0_0 t → ¬P0_1 t → (cfgA).idle (6 : Fin 7) ((cfgA).grid.coords t) = true ∧ ((cfgA).win (6 : Fin 7)).flush t = false ∧ frTab0_6 t.val = true ∧ sfrTab0_0 t.val = false ∧ sfrTab0_0 (t.val + 1) = false ∧ sfrTab0_1 t.val = false ∧ sfrTab0_1 (t.val + 1) = false ∧ sfrTab0_2 t.val = false ∧ sfrTab0_2 (t.val + 1) = false)

set_option synthInstance.maxSize 65536 in
instance FactsAt.dec (t : Fin (cfgA).N) : Decidable (FactsAt t) :=
  @instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (inferInstance)))))))))))

end Cert.Kernel.Attn

end
-- ==== Proof.AttnBits.Frame.lean ====
/- The body at a point, what the buffers hold after each point, and the launch. -/
module

public import proofs.«01_k».proof.Proof.AttnBits.Runs
public import proofs.«01_k».proof.Proof.AttnBits.Facts0
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.Kernel.Attn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resource algebra of the bit-exact program. -/
local notation "𝕄" => MT nD τ sig Unit (Elt Bits) ℕ (UR sig nD τ) ℕ

/-- The proof's resource algebra: the rounds library's, for the pipeline's staging cells, embedded whole. -/
abbrev EP : Emb (UR sig nD τ) 𝕄 := emb₁

variable (m : (ℓ : Loc nD τ sig) → Buf (Elt Bits) ℓ)

/-- The facts at every point of every member (decided member by member in slices of points, Flash/FactsJ.lean). -/
theorem allFacts : ∀ (t : Fin (cfgA).N), FactsAt t := allFacts_0

/-! ## The named facts — the freshness tables' steps, each path's hypotheses and schedule —: its projections -/

theorem sfrTab0_0_step : ∀ (t : Fin (cfgA).N), sfrTab0_0 (t.val + 1) = (if P0_0 t then (if P0_1 t then false else false) else (if P0_1 t then sfrTab0_0 t.val else sfrTab0_0 t.val)) := fun t => (allFacts t).1
theorem sfresh0_0_eq : ∀ n, n ≤ (cfgA).N → sfresh0_0 n = sfrTab0_0 n
  | 0, _ => by simp only [sfresh0_0, sfrTab0_0, Nat.zero_le, decide_true]
  | n + 1, h => by simp only [sfresh0_0, dif_pos (show n < (cfgA).N from h), sfresh0_0_eq n (Nat.le_of_lt h), sfrTab0_0_step ⟨n, h⟩]
theorem sfreshF0_0 (t : Fin (cfgA).N) : sfresh0_0 t.val = sfrTab0_0 t.val := sfresh0_0_eq t.val (Nat.le_of_lt t.isLt)
theorem sfreshS0_0 (t : Fin (cfgA).N) : sfresh0_0 (t.val + 1) = sfrTab0_0 (t.val + 1) := sfresh0_0_eq (t.val + 1) t.isLt

theorem sfrTab0_1_step : ∀ (t : Fin (cfgA).N), sfrTab0_1 (t.val + 1) = (if P0_0 t then (if P0_1 t then false else false) else (if P0_1 t then sfrTab0_1 t.val else sfrTab0_1 t.val)) := fun t => (allFacts t).2.1
theorem sfresh0_1_eq : ∀ n, n ≤ (cfgA).N → sfresh0_1 n = sfrTab0_1 n
  | 0, _ => by simp only [sfresh0_1, sfrTab0_1, Nat.zero_le, decide_true]
  | n + 1, h => by simp only [sfresh0_1, dif_pos (show n < (cfgA).N from h), sfresh0_1_eq n (Nat.le_of_lt h), sfrTab0_1_step ⟨n, h⟩]
theorem sfreshF0_1 (t : Fin (cfgA).N) : sfresh0_1 t.val = sfrTab0_1 t.val := sfresh0_1_eq t.val (Nat.le_of_lt t.isLt)
theorem sfreshS0_1 (t : Fin (cfgA).N) : sfresh0_1 (t.val + 1) = sfrTab0_1 (t.val + 1) := sfresh0_1_eq (t.val + 1) t.isLt

theorem sfrTab0_2_step : ∀ (t : Fin (cfgA).N), sfrTab0_2 (t.val + 1) = (if P0_0 t then (if P0_1 t then false else false) else (if P0_1 t then sfrTab0_2 t.val else sfrTab0_2 t.val)) := fun t => (allFacts t).2.2.1
theorem sfresh0_2_eq : ∀ n, n ≤ (cfgA).N → sfresh0_2 n = sfrTab0_2 n
  | 0, _ => by simp only [sfresh0_2, sfrTab0_2, Nat.zero_le, decide_true]
  | n + 1, h => by simp only [sfresh0_2, dif_pos (show n < (cfgA).N from h), sfresh0_2_eq n (Nat.le_of_lt h), sfrTab0_2_step ⟨n, h⟩]
theorem sfreshF0_2 (t : Fin (cfgA).N) : sfresh0_2 t.val = sfrTab0_2 t.val := sfresh0_2_eq t.val (Nat.le_of_lt t.isLt)
theorem sfreshS0_2 (t : Fin (cfgA).N) : sfresh0_2 (t.val + 1) = sfrTab0_2 (t.val + 1) := sfresh0_2_eq (t.val + 1) t.isLt

theorem frTab0_6_step : ∀ (t : Fin (cfgA).N),
    frTab0_6 (t.val + 1) = (((cfgA).win (6 : Fin 7)).flush t || ((cfgA).idle (6 : Fin 7) ((cfgA).grid.coords t) && frTab0_6 t.val)) := fun t => (allFacts t).2.2.2.1
theorem freshF0_6 (t : Fin (cfgA).N) : (cfgA).fresh (6 : Fin 7) t.val = frTab0_6 t.val :=
  Pipeline.Cfg.fresh_tab (cfgA) (6 : Fin 7) (frTab0_6) rfl (frTab0_6_step) t.val (Nat.le_of_lt t.isLt)

/-- At a point of path A, the path's hypotheses hold of the words the body reads there (the pinned tables read,
    a pinned window's word AS the word `pinBlk t (r.idx x)`; the checks among them cited from `ChecksAt`). -/
theorem hyps0_A : ∀ (t : Fin (cfgA).N), P0_0 t → P0_1 t →
    ((Scalar.cmpi .ne (Scalar.extui (Scalar.cmpi .eq (View.readAt (Elt Bits) (tbM0_1).view (Rect.unit (s := S36) (k0_off1 (crd t)) S1.size (k0_off1_inb (crd t))).toLoadRect (pinT_1) (Shape.Idx.first (numel1_S1.symm ▸ Nat.one_pos))) 0#32)) 0#32) = 1#1) ∧ ((k0_cond2 (View.readAt (Elt Bits) (tbM0_0).view (Rect.unit (s := S36) (k0_off1 (crd t)) S1.size (k0_off1_inb (crd t))).toLoadRect (pinT_0) (Shape.Idx.first (numel1_S1.symm ▸ Nat.one_pos))) (View.readAt (Elt Bits) (tbM0_1).view (Rect.unit (s := S36) (k0_off1 (crd t)) S1.size (k0_off1_inb (crd t))).toLoadRect (pinT_1) (Shape.Idx.first (numel1_S1.symm ▸ Nat.one_pos))) = 1#1) ∧ (True)) := fun t => (allFacts t).2.2.2.2.1

theorem hypsR0_A : ∀ (t : Fin (cfgA).N), P0_0 t → P0_1 t →
    ((Scalar.cmpi .ne (Scalar.extui (Scalar.cmpi .eq (View.readAt (Elt Bits) (tbM0_1).view (Rect.unit (s := S36) (k0_off1 (crd t)) S1.size (k0_off1_inb (crd t))).toLoadRect (pinT_1) (Shape.Idx.first (numel1_S1.symm ▸ Nat.one_pos))) 0#32)) 0#32) = 1#1) ∧ ((k0_cond2 (View.readAt (Elt Bits) (tbM0_0).view (Rect.unit (s := S36) (k0_off1 (crd t)) S1.size (k0_off1_inb (crd t))).toLoadRect (pinT_0) (Shape.Idx.first (numel1_S1.symm ▸ Nat.one_pos))) (View.readAt (Elt Bits) (tbM0_1).view (Rect.unit (s := S36) (k0_off1 (crd t)) S1.size (k0_off1_inb (crd t))).toLoadRect (pinT_1) (Shape.Idx.first (numel1_S1.symm ▸ Nat.one_pos))) = 1#1) ∧ (True)) := hyps0_A

/-- At a point of path A: the idle table, the write-backs and which buffers hold junk (decided over the
    freshness tables `frTab`/`sfrTab`, restated over `Cfg.fresh`/`sfresh` by their agreement). -/
theorem sched0_A : ∀ (t : Fin (cfgA).N), P0_0 t → P0_1 t →
    (cfgA).idle (6 : Fin 7) ((cfgA).grid.coords t) = false ∧ ((cfgA).win (6 : Fin 7)).flush t = true ∧ (cfgA).fresh (6 : Fin 7) t.val = true ∧ sfresh0_0 (t.val + 1) = false ∧ sfresh0_1 (t.val + 1) = false ∧ sfresh0_2 (t.val + 1) = false := by
  intro t; rw [freshF0_6 t, sfreshS0_0 t, sfreshS0_1 t, sfreshS0_2 t]; exact (fun t => (allFacts t).2.2.2.2.2.1) t

/-- At a point of path B, the path's hypotheses hold of the words the body reads there (the pinned tables read,
    a pinned window's word AS the word `pinBlk t (r.idx x)`; the checks among them cited from `ChecksAt`). -/
theorem hyps0_B : ∀ (t : Fin (cfgA).N), P0_0 t → ¬P0_1 t →
    ((Scalar.cmpi .ne (Scalar.extui (Scalar.cmpi .eq (View.readAt (Elt Bits) (tbM0_1).view (Rect.unit (s := S36) (k0_off1 (crd t)) S1.size (k0_off1_inb (crd t))).toLoadRect (pinT_1) (Shape.Idx.first (numel1_S1.symm ▸ Nat.one_pos))) 0#32)) 0#32) = 1#1) ∧ ((¬(k0_cond2 (View.readAt (Elt Bits) (tbM0_0).view (Rect.unit (s := S36) (k0_off1 (crd t)) S1.size (k0_off1_inb (crd t))).toLoadRect (pinT_0) (Shape.Idx.first (numel1_S1.symm ▸ Nat.one_pos))) (View.readAt (Elt Bits) (tbM0_1).view (Rect.unit (s := S36) (k0_off1 (crd t)) S1.size (k0_off1_inb (crd t))).toLoadRect (pinT_1) (Shape.Idx.first (numel1_S1.symm ▸ Nat.one_pos))) = 1#1)) ∧ (True)) := fun t => (allFacts t).2.2.2.2.2.2.1

theorem hypsR0_B : ∀ (t : Fin (cfgA).N), P0_0 t → ¬P0_1 t →
    ((Scalar.cmpi .ne (Scalar.extui (Scalar.cmpi .eq (View.readAt (Elt Bits) (tbM0_1).view (Rect.unit (s := S36) (k0_off1 (crd t)) S1.size (k0_off1_inb (crd t))).toLoadRect (pinT_1) (Shape.Idx.first (numel1_S1.symm ▸ Nat.one_pos))) 0#32)) 0#32) = 1#1) ∧ ((¬(k0_cond2 (View.readAt (Elt Bits) (tbM0_0).view (Rect.unit (s := S36) (k0_off1 (crd t)) S1.size (k0_off1_inb (crd t))).toLoadRect (pinT_0) (Shape.Idx.first (numel1_S1.symm ▸ Nat.one_pos))) (View.readAt (Elt Bits) (tbM0_1).view (Rect.unit (s := S36) (k0_off1 (crd t)) S1.size (k0_off1_inb (crd t))).toLoadRect (pinT_1) (Shape.Idx.first (numel1_S1.symm ▸ Nat.one_pos))) = 1#1)) ∧ (True)) := hyps0_B

/-- At a point of path B: the idle table, the write-backs and which buffers hold junk (decided over the
    freshness tables `frTab`/`sfrTab`, restated over `Cfg.fresh`/`sfresh` by their agreement). -/
theorem sched0_B : ∀ (t : Fin (cfgA).N), P0_0 t → ¬P0_1 t →
    (cfgA).idle (6 : Fin 7) ((cfgA).grid.coords t) = true ∧ ((cfgA).win (6 : Fin 7)).flush t = false ∧ (cfgA).fresh (6 : Fin 7) t.val = true ∧ sfresh0_0 t.val = false ∧ sfresh0_0 (t.val + 1) = false ∧ sfresh0_1 t.val = false ∧ sfresh0_1 (t.val + 1) = false ∧ sfresh0_2 t.val = false ∧ sfresh0_2 (t.val + 1) = false := by
  intro t; rw [freshF0_6 t, sfreshF0_0 t, sfreshS0_0 t, sfreshF0_1 t, sfreshS0_1 t, sfreshF0_2 t, sfreshS0_2 t]; exact (fun t => (allFacts t).2.2.2.2.2.2.2.1) t

/-- At a point of path C, the path's hypotheses hold of the words the body reads there (the pinned tables read,
    a pinned window's word AS the word `pinBlk t (r.idx x)`; the checks among them cited from `ChecksAt`). -/
theorem hyps0_C : ∀ (t : Fin (cfgA).N), ¬P0_0 t → P0_1 t →
    (¬((Scalar.cmpi .ne (Scalar.extui (Scalar.cmpi .eq (View.readAt (Elt Bits) (tbM0_1).view (Rect.unit (s := S36) (k0_off1 (crd t)) S1.size (k0_off1_inb (crd t))).toLoadRect (pinT_1) (Shape.Idx.first (numel1_S1.symm ▸ Nat.one_pos))) 0#32)) 0#32) = 1#1)) ∧ ((k0_cond2 (View.readAt (Elt Bits) (tbM0_0).view (Rect.unit (s := S36) (k0_off1 (crd t)) S1.size (k0_off1_inb (crd t))).toLoadRect (pinT_0) (Shape.Idx.first (numel1_S1.symm ▸ Nat.one_pos))) (View.readAt (Elt Bits) (tbM0_1).view (Rect.unit (s := S36) (k0_off1 (crd t)) S1.size (k0_off1_inb (crd t))).toLoadRect (pinT_1) (Shape.Idx.first (numel1_S1.symm ▸ Nat.one_pos))) = 1#1) ∧ (True)) := fun t => (allFacts t).2.2.2.2.2.2.2.2.1

theorem hypsR0_C : ∀ (t : Fin (cfgA).N), ¬P0_0 t → P0_1 t →
    (¬((Scalar.cmpi .ne (Scalar.extui (Scalar.cmpi .eq (View.readAt (Elt Bits) (tbM0_1).view (Rect.unit (s := S36) (k0_off1 (crd t)) S1.size (k0_off1_inb (crd t))).toLoadRect (pinT_1) (Shape.Idx.first (numel1_S1.symm ▸ Nat.one_pos))) 0#32)) 0#32) = 1#1)) ∧ ((k0_cond2 (View.readAt (Elt Bits) (tbM0_0).view (Rect.unit (s := S36) (k0_off1 (crd t)) S1.size (k0_off1_inb (crd t))).toLoadRect (pinT_0) (Shape.Idx.first (numel1_S1.symm ▸ Nat.one_pos))) (View.readAt (Elt Bits) (tbM0_1).view (Rect.unit (s := S36) (k0_off1 (crd t)) S1.size (k0_off1_inb (crd t))).toLoadRect (pinT_1) (Shape.Idx.first (numel1_S1.symm ▸ Nat.one_pos))) = 1#1) ∧ (True)) := hyps0_C

/-- At a point of path C: the idle table, the write-backs and which buffers hold junk (decided over the
    freshness tables `frTab`/`sfrTab`, restated over `Cfg.fresh`/`sfresh` by their agreement). -/
theorem sched0_C : ∀ (t : Fin (cfgA).N), ¬P0_0 t → P0_1 t →
    (cfgA).idle (6 : Fin 7) ((cfgA).grid.coords t) = false ∧ ((cfgA).win (6 : Fin 7)).flush t = true ∧ (cfgA).fresh (6 : Fin 7) t.val = true ∧ sfresh0_0 t.val = false ∧ sfresh0_0 (t.val + 1) = false ∧ sfresh0_1 t.val = false ∧ sfresh0_1 (t.val + 1) = false ∧ sfresh0_2 t.val = false ∧ sfresh0_2 (t.val + 1) = false := by
  intro t; rw [freshF0_6 t, sfreshF0_0 t, sfreshS0_0 t, sfreshF0_1 t, sfreshS0_1 t, sfreshF0_2 t, sfreshS0_2 t]; exact (fun t => (allFacts t).2.2.2.2.2.2.2.2.2.1) t

/-- At a point of path D, the path's hypotheses hold of the words the body reads there (the pinned tables read,
    a pinned window's word AS the word `pinBlk t (r.idx x)`; the checks among them cited from `ChecksAt`). -/
theorem hyps0_D : ∀ (t : Fin (cfgA).N), ¬P0_0 t → ¬P0_1 t →
    (¬((Scalar.cmpi .ne (Scalar.extui (Scalar.cmpi .eq (View.readAt (Elt Bits) (tbM0_1).view (Rect.unit (s := S36) (k0_off1 (crd t)) S1.size (k0_off1_inb (crd t))).toLoadRect (pinT_1) (Shape.Idx.first (numel1_S1.symm ▸ Nat.one_pos))) 0#32)) 0#32) = 1#1)) ∧ ((¬(k0_cond2 (View.readAt (Elt Bits) (tbM0_0).view (Rect.unit (s := S36) (k0_off1 (crd t)) S1.size (k0_off1_inb (crd t))).toLoadRect (pinT_0) (Shape.Idx.first (numel1_S1.symm ▸ Nat.one_pos))) (View.readAt (Elt Bits) (tbM0_1).view (Rect.unit (s := S36) (k0_off1 (crd t)) S1.size (k0_off1_inb (crd t))).toLoadRect (pinT_1) (Shape.Idx.first (numel1_S1.symm ▸ Nat.one_pos))) = 1#1)) ∧ (True)) := fun t => (allFacts t).2.2.2.2.2.2.2.2.2.2.1

theorem hypsR0_D : ∀ (t : Fin (cfgA).N), ¬P0_0 t → ¬P0_1 t →
    (¬((Scalar.cmpi .ne (Scalar.extui (Scalar.cmpi .eq (View.readAt (Elt Bits) (tbM0_1).view (Rect.unit (s := S36) (k0_off1 (crd t)) S1.size (k0_off1_inb (crd t))).toLoadRect (pinT_1) (Shape.Idx.first (numel1_S1.symm ▸ Nat.one_pos))) 0#32)) 0#32) = 1#1)) ∧ ((¬(k0_cond2 (View.readAt (Elt Bits) (tbM0_0).view (Rect.unit (s := S36) (k0_off1 (crd t)) S1.size (k0_off1_inb (crd t))).toLoadRect (pinT_0) (Shape.Idx.first (numel1_S1.symm ▸ Nat.one_pos))) (View.readAt (Elt Bits) (tbM0_1).view (Rect.unit (s := S36) (k0_off1 (crd t)) S1.size (k0_off1_inb (crd t))).toLoadRect (pinT_1) (Shape.Idx.first (numel1_S1.symm ▸ Nat.one_pos))) = 1#1)) ∧ (True)) := hyps0_D

/-- At a point of path D: the idle table, the write-backs and which buffers hold junk (decided over the
    freshness tables `frTab`/`sfrTab`, restated over `Cfg.fresh`/`sfresh` by their agreement). -/
theorem sched0_D : ∀ (t : Fin (cfgA).N), ¬P0_0 t → ¬P0_1 t →
    (cfgA).idle (6 : Fin 7) ((cfgA).grid.coords t) = true ∧ ((cfgA).win (6 : Fin 7)).flush t = false ∧ (cfgA).fresh (6 : Fin 7) t.val = true ∧ sfresh0_0 t.val = false ∧ sfresh0_0 (t.val + 1) = false ∧ sfresh0_1 t.val = false ∧ sfresh0_1 (t.val + 1) = false ∧ sfresh0_2 t.val = false ∧ sfresh0_2 (t.val + 1) = false := by
  intro t; rw [freshF0_6 t, sfreshF0_0 t, sfreshS0_0 t, sfreshF0_1 t, sfreshS0_1 t, sfreshF0_2 t, sfreshS0_2 t]; exact (fun t => (allFacts t).2.2.2.2.2.2.2.2.2.2.2) t

/-! ## What the outputs and scratches hold after each point -/

/-- ONE STEP of the trajectory: what the outputs' current buffers and the scratches hold after the body at point `t`
    (output 6, scratch 0, scratch 1, scratch 2), from what they held before (`prev`): the path the decisions select at `t`, its
    run's contents; an output the path leaves idle keeps what it held (junk — `default`, named by nothing — where fresh). -/
def step0 (c : Dev nD) (t : Fin (cfgA).N) (prev : (S512x256.Idx → Elt Bits .f32) × Buf (Elt Bits) ((c : Thread nD τ).loc cc0_scratch0) × Buf (Elt Bits) ((c : Thread nD τ).loc cc0_scratch1) × Buf (Elt Bits) ((c : Thread nD τ).loc cc0_scratch2)) : (S512x256.Idx → Elt Bits .f32) × Buf (Elt Bits) ((c : Thread nD τ).loc cc0_scratch0) × Buf (Elt Bits) ((c : Thread nD τ).loc cc0_scratch1) × Buf (Elt Bits) ((c : Thread nD τ).loc cc0_scratch2) :=
  if q0 : P0_0 t then
    if q1 : P0_1 t then
      (out0_A_6 c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) (hypsR0_A t q0 q1).1 (hypsR0_A t q0 q1).2.1, (kernelRun0_A c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) (hypsR0_A t q0 q1).1 (hypsR0_A t q0 q1).2.1).2.1, (kernelRun0_A c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) (hypsR0_A t q0 q1).1 (hypsR0_A t q0 q1).2.1).2.2.1, (kernelRun0_A c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) (hypsR0_A t q0 q1).1 (hypsR0_A t q0 q1).2.1).2.2.2.1)
    else
      ((if (cfgA).fresh (6 : Fin 7) t.val then default else prev.1), (kernelRun0_B c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) (hypsR0_B t q0 q1).1 (hypsR0_B t q0 q1).2.1).1, (kernelRun0_B c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) (hypsR0_B t q0 q1).1 (hypsR0_B t q0 q1).2.1).2.1, (kernelRun0_B c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) (hypsR0_B t q0 q1).1 (hypsR0_B t q0 q1).2.1).2.2.1)
  else
    if q1 : P0_1 t then
      (out0_C_6 c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) prev.2.1 prev.2.2.1 prev.2.2.2 (hypsR0_C t q0 q1).1 (hypsR0_C t q0 q1).2.1, (kernelRun0_C c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) prev.2.1 prev.2.2.1 prev.2.2.2 (hypsR0_C t q0 q1).1 (hypsR0_C t q0 q1).2.1).2.1, (kernelRun0_C c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) prev.2.1 prev.2.2.1 prev.2.2.2 (hypsR0_C t q0 q1).1 (hypsR0_C t q0 q1).2.1).2.2.1, (kernelRun0_C c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) prev.2.1 prev.2.2.1 prev.2.2.2 (hypsR0_C t q0 q1).1 (hypsR0_C t q0 q1).2.1).2.2.2.1)
    else
      ((if (cfgA).fresh (6 : Fin 7) t.val then default else prev.1), (kernelRun0_D c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) prev.2.1 prev.2.2.1 prev.2.2.2 (hypsR0_D t q0 q1).1 (hypsR0_D t q0 q1).2.1).1, (kernelRun0_D c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) prev.2.1 prev.2.2.1 prev.2.2.2 (hypsR0_D t q0 q1).1 (hypsR0_D t q0 q1).2.1).2.1, (kernelRun0_D c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) prev.2.1 prev.2.2.1 prev.2.2.2 (hypsR0_D t q0 q1).1 (hypsR0_D t q0 q1).2.1).2.2.1)

/-- THE TRAJECTORY: after position `n`. -/
def traj0 (c : Dev nD) : (n : ℕ) → n < (cfgA).N → (S512x256.Idx → Elt Bits .f32) × Buf (Elt Bits) ((c : Thread nD τ).loc cc0_scratch0) × Buf (Elt Bits) ((c : Thread nD τ).loc cc0_scratch1) × Buf (Elt Bits) ((c : Thread nD τ).loc cc0_scratch2)
  | 0, h => step0 m c ⟨0, h⟩ (default, default, default, default)
  | n + 1, h => step0 m c ⟨n + 1, h⟩ (traj0 c n (Nat.lt_of_succ_lt h))

/-- What they held BEFORE point `t` (junk before the first). -/
def prev0 (c : Dev nD) (t : Fin (cfgA).N) : (S512x256.Idx → Elt Bits .f32) × Buf (Elt Bits) ((c : Thread nD τ).loc cc0_scratch0) × Buf (Elt Bits) ((c : Thread nD τ).loc cc0_scratch1) × Buf (Elt Bits) ((c : Thread nD τ).loc cc0_scratch2) :=
  if h : t.val = 0 then (default, default, default, default) else traj0 m c (t.val - 1) (by omega)

theorem traj0_eq (c : Dev nD) (t : Fin (cfgA).N) : traj0 m c t.val t.isLt = step0 m c t (prev0 m c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA).N) (prev : (S512x256.Idx → Elt Bits .f32) × Buf (Elt Bits) ((c : Thread nD τ).loc cc0_scratch0) × Buf (Elt Bits) ((c : Thread nD τ).loc cc0_scratch1) × Buf (Elt Bits) ((c : Thread nD τ).loc cc0_scratch2)) (q0 : P0_0 t) (q1 : P0_1 t) :
    step0 m c t prev = (out0_A_6 c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) (hypsR0_A t q0 q1).1 (hypsR0_A t q0 q1).2.1, (kernelRun0_A c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) (hypsR0_A t q0 q1).1 (hypsR0_A t q0 q1).2.1).2.1, (kernelRun0_A c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) (hypsR0_A t q0 q1).1 (hypsR0_A t q0 q1).2.1).2.2.1, (kernelRun0_A c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) (hypsR0_A t q0 q1).1 (hypsR0_A t q0 q1).2.1).2.2.2.1) := by
  unfold step0; simp only [dif_pos q0, dif_pos q1]

/-- `step0` at a point of path B. -/
theorem step0_B (c : Dev nD) (t : Fin (cfgA).N) (prev : (S512x256.Idx → Elt Bits .f32) × Buf (Elt Bits) ((c : Thread nD τ).loc cc0_scratch0) × Buf (Elt Bits) ((c : Thread nD τ).loc cc0_scratch1) × Buf (Elt Bits) ((c : Thread nD τ).loc cc0_scratch2)) (q0 : P0_0 t) (q1 : ¬P0_1 t) :
    step0 m c t prev = ((if (cfgA).fresh (6 : Fin 7) t.val then default else prev.1), (kernelRun0_B c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) (hypsR0_B t q0 q1).1 (hypsR0_B t q0 q1).2.1).1, (kernelRun0_B c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) (hypsR0_B t q0 q1).1 (hypsR0_B t q0 q1).2.1).2.1, (kernelRun0_B c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) (hypsR0_B t q0 q1).1 (hypsR0_B t q0 q1).2.1).2.2.1) := by
  unfold step0; simp only [dif_pos q0, dif_neg q1]

/-- `step0` at a point of path C. -/
theorem step0_C (c : Dev nD) (t : Fin (cfgA).N) (prev : (S512x256.Idx → Elt Bits .f32) × Buf (Elt Bits) ((c : Thread nD τ).loc cc0_scratch0) × Buf (Elt Bits) ((c : Thread nD τ).loc cc0_scratch1) × Buf (Elt Bits) ((c : Thread nD τ).loc cc0_scratch2)) (q0 : ¬P0_0 t) (q1 : P0_1 t) :
    step0 m c t prev = (out0_C_6 c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) prev.2.1 prev.2.2.1 prev.2.2.2 (hypsR0_C t q0 q1).1 (hypsR0_C t q0 q1).2.1, (kernelRun0_C c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) prev.2.1 prev.2.2.1 prev.2.2.2 (hypsR0_C t q0 q1).1 (hypsR0_C t q0 q1).2.1).2.1, (kernelRun0_C c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) prev.2.1 prev.2.2.1 prev.2.2.2 (hypsR0_C t q0 q1).1 (hypsR0_C t q0 q1).2.1).2.2.1, (kernelRun0_C c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) prev.2.1 prev.2.2.1 prev.2.2.2 (hypsR0_C t q0 q1).1 (hypsR0_C t q0 q1).2.1).2.2.2.1) := by
  unfold step0; simp only [dif_neg q0, dif_pos q1]

/-- `step0` at a point of path D. -/
theorem step0_D (c : Dev nD) (t : Fin (cfgA).N) (prev : (S512x256.Idx → Elt Bits .f32) × Buf (Elt Bits) ((c : Thread nD τ).loc cc0_scratch0) × Buf (Elt Bits) ((c : Thread nD τ).loc cc0_scratch1) × Buf (Elt Bits) ((c : Thread nD τ).loc cc0_scratch2)) (q0 : ¬P0_0 t) (q1 : ¬P0_1 t) :
    step0 m c t prev = ((if (cfgA).fresh (6 : Fin 7) t.val then default else prev.1), (kernelRun0_D c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) prev.2.1 prev.2.2.1 prev.2.2.2 (hypsR0_D t q0 q1).1 (hypsR0_D t q0 q1).2.1).1, (kernelRun0_D c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) prev.2.1 prev.2.2.1 prev.2.2.2 (hypsR0_D t q0 q1).1 (hypsR0_D t q0 q1).2.1).2.1, (kernelRun0_D c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) prev.2.1 prev.2.2.1 prev.2.2.2 (hypsR0_D t q0 q1).1 (hypsR0_D t q0 q1).2.1).2.2.1) := by
  unfold step0; simp only [dif_neg q0, dif_neg q1]

/-! ## The pipeline's proof data -/

/-- What the tracked buffers held before position `t` of `Fin (N+1)` (the invariant's index). -/
def prev0T (c : Dev nD) (t : Fin ((cfgA).N + 1)) : (S512x256.Idx → Elt Bits .f32) × Buf (Elt Bits) ((c : Thread nD τ).loc cc0_scratch0) × Buf (Elt Bits) ((c : Thread nD τ).loc cc0_scratch1) × Buf (Elt Bits) ((c : Thread nD τ).loc cc0_scratch2) :=
  if h : t.val = 0 then (default, default, default, default) else traj0 m c (t.val - 1) (by omega)

theorem prev0T_castSucc (c : Dev nD) (t : Fin (cfgA).N) : prev0T m c t.castSucc = prev0 m c t := by
  unfold prev0T prev0; simp only [Fin.val_castSucc]
theorem prev0T_succ (c : Dev nD) (t : Fin (cfgA).N) : prev0T m c t.succ = traj0 m c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Bits) ℓ) (c : Dev nD) (t : Fin ((cfgA).N + 1)) : sProp 𝕄 :=
  iprop((∃ a, ⌜sfresh0_0 t.val = false → a = (prev0T m c t).2.1⌝ ∗ (scM0_0.view.loc (c : Thread nD τ) ↦{fullShare} a)) ∗ (∃ a, ⌜sfresh0_1 t.val = false → a = (prev0T m c t).2.2.1⌝ ∗ (scM0_1.view.loc (c : Thread nD τ) ↦{fullShare} a)) ∗ (∃ a, ⌜sfresh0_2 t.val = false → a = (prev0T m c t).2.2.2⌝ ∗ (scM0_2.view.loc (c : Thread nD τ) ↦{fullShare} a)) ∗ (tbM0_0.view.loc (c : Thread nD τ) ↦{fullShare.right} pinT_0) ∗ (tbM0_1.view.loc (c : Thread nD τ) ↦{fullShare.right} pinT_1))

/-- The proof data of the one pipeline on core `c`. -/
def dats (_ : Fin 1) (c : Dev nD) : Dat τ (Elt Bits) Unit ℕ (UR sig nD τ) ℕ (cfgA) c where
  A w := V m c (Pipeline.arrRef spec0 w)
  after w t := match w with
    | ⟨0, _⟩ => iblk m c (0 : Fin 7) t
    | ⟨1, _⟩ => iblk m c (1 : Fin 7) t
    | ⟨2, _⟩ => iblk m c (2 : Fin 7) t
    | ⟨3, _⟩ => iblk m c (3 : Fin 7) t
    | ⟨4, _⟩ => iblk m c (4 : Fin 7) t
    | ⟨5, _⟩ => iblk m c (5 : Fin 7) t
    | ⟨6, _⟩ => (traj0 m c t.val t.isLt).1
  Φ t := Phi m c t
  q _ := fullShare
  owed _ := 0

theorem after0_0 (c : Dev nD) (t : Fin (cfgA).N) : (dats m 0 c).after (0 : Fin 7) t = iblk m c (0 : Fin 7) t := rfl
theorem after0_1 (c : Dev nD) (t : Fin (cfgA).N) : (dats m 0 c).after (1 : Fin 7) t = iblk m c (1 : Fin 7) t := rfl
theorem after0_2 (c : Dev nD) (t : Fin (cfgA).N) : (dats m 0 c).after (2 : Fin 7) t = iblk m c (2 : Fin 7) t := rfl
theorem after0_3 (c : Dev nD) (t : Fin (cfgA).N) : (dats m 0 c).after (3 : Fin 7) t = iblk m c (3 : Fin 7) t := rfl
theorem after0_4 (c : Dev nD) (t : Fin (cfgA).N) : (dats m 0 c).after (4 : Fin 7) t = iblk m c (4 : Fin 7) t := rfl
theorem after0_5 (c : Dev nD) (t : Fin (cfgA).N) : (dats m 0 c).after (5 : Fin 7) t = iblk m c (5 : Fin 7) t := rfl
theorem after0_6 (c : Dev nD) (t : Fin (cfgA).N) : (dats m 0 c).after (6 : Fin 7) t = (traj0 m c t.val t.isLt).1 := rfl

/-! ## What each window's staging buffer holds when the body runs -/

/-- Input window 0 holds its block, fetched there or not (Lib/Pipeline/FrameBody.lean `Dat.before_in_eq_fetched`). -/
theorem before0_0 (c : Dev nD) (t : Fin (cfgA).N) (d) : (dats m 0 c).before (0 : Fin 7) t d = iblk m c (0 : Fin 7) t :=
  ((dats m 0 c).before_in_eq_fetched (0 : Fin 7) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA).N) (d) : (dats m 0 c).before (1 : Fin 7) t d = iblk m c (1 : Fin 7) t :=
  ((dats m 0 c).before_in_eq_fetched (1 : Fin 7) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA).N) (d) : (dats m 0 c).before (2 : Fin 7) t d = iblk m c (2 : Fin 7) t :=
  ((dats m 0 c).before_in_eq_fetched (2 : Fin 7) rfl (fun _ => rfl) (fun _ _ _ => rfl) (fun t => by rw [after0_2]; unfold Dat.blockOf iblk; rfl) t d).trans
    (by unfold Dat.fetched Dat.blockOf iblk; rfl)

/-- Input window 3 holds its block, fetched there or not (Lib/Pipeline/FrameBody.lean `Dat.before_in_eq_fetched`). -/
theorem before0_3 (c : Dev nD) (t : Fin (cfgA).N) (d) : (dats m 0 c).before (3 : Fin 7) t d = iblk m c (3 : Fin 7) t :=
  ((dats m 0 c).before_in_eq_fetched (3 : Fin 7) rfl (fun _ => rfl) (fun _ _ _ => rfl) (fun t => by rw [after0_3]; unfold Dat.blockOf iblk; rfl) t d).trans
    (by unfold Dat.fetched Dat.blockOf iblk; rfl)

/-- Input window 4 holds its block, fetched there or not (Lib/Pipeline/FrameBody.lean `Dat.before_in_eq_fetched`). -/
theorem before0_4 (c : Dev nD) (t : Fin (cfgA).N) (d) : (dats m 0 c).before (4 : Fin 7) t d = iblk m c (4 : Fin 7) t :=
  ((dats m 0 c).before_in_eq_fetched (4 : Fin 7) rfl (fun _ => rfl) (fun _ _ _ => rfl) (fun t => by rw [after0_4]; unfold Dat.blockOf iblk; rfl) t d).trans
    (by unfold Dat.fetched Dat.blockOf iblk; rfl)

/-- Input window 5 holds its block, fetched there or not (Lib/Pipeline/FrameBody.lean `Dat.before_in_eq_fetched`). -/
theorem before0_5 (c : Dev nD) (t : Fin (cfgA).N) (d) : (dats m 0 c).before (5 : Fin 7) t d = iblk m c (5 : Fin 7) t :=
  ((dats m 0 c).before_in_eq_fetched (5 : Fin 7) rfl (fun _ => rfl) (fun _ _ _ => rfl) (fun t => by rw [after0_5]; unfold Dat.blockOf iblk; rfl) t d).trans
    (by unfold Dat.fetched Dat.blockOf iblk; rfl)

/-- Output 6's `after` carries through the points that leave it idle. -/
theorem hcarry0_6 (c : Dev nD) : ∀ (t : Fin (cfgA).N) (ht : t.val ≠ 0), (cfgA).idle (6 : Fin 7) ((cfgA).grid.coords t) = true → (cfgA).fresh (6 : Fin 7) t.val = false →
    (dats m 0 c).after (6 : Fin 7) t = (dats m 0 c).after (6 : Fin 7) ⟨t.val - 1, by omega⟩ := by
  intro t ht hi hf
  rw [after0_6, after0_6, traj0_eq]
  by_cases q0 : P0_0 t
  · by_cases q1 : P0_1 t
    · obtain ⟨i6, -, -, -, -, -⟩ := sched0_A t q0 q1
      rw [i6] at hi; exact absurd hi (by decide)
    · rw [step0_B m c t _ q0 q1]
      simp only [hf, Bool.false_eq_true, ↓reduceIte]
      unfold prev0; rw [dif_neg ht]
  · by_cases q1 : P0_1 t
    · obtain ⟨i6, -, -, -, -, -, -, -, -⟩ := sched0_C t q0 q1
      rw [i6] at hi; exact absurd hi (by decide)
    · rw [step0_D m c t _ q0 q1]
      simp only [hf, Bool.false_eq_true, ↓reduceIte]
      unfold prev0; rw [dif_neg ht]

/-- Output window 6 holds, when the body runs at `t`: junk if nothing was stored since its last write-back (`Cfg.fresh`),
    else what the point before left (TableIdle.lean `Dat.before_out_traj`). -/
theorem before0_6 (c : Dev nD) (t : Fin (cfgA).N) (d) :
    (dats m 0 c).before (6 : Fin 7) t d = if (cfgA).fresh (6 : Fin 7) t.val then d else (prev0 m c t).1 := by
  rw [(dats m 0 c).before_out_traj (6 : Fin 7) rfl (fun _ _ => rfl) (hcarry0_6 m c) t.val t rfl d]
  by_cases hf : (cfgA).fresh (6 : Fin 7) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_6]; unfold prev0; rw [dif_neg h0]

/-! ## The body obligation, at a generic point, by path -/

/-- The body at point `t` on its staging memrefs, as the pipeline calls it. -/
abbrev bodyAt0 (t : Fin (cfgA).N) : Prog (TpuEff nD τ sig (Elt Bits) Λ₀ .tc) PUnit :=
  cc0_diff_attn_prompt (crd t) (Memref.whole main_c) (Memref.isWhole_whole _) (Memref.whole main_c_0) (Memref.isWhole_whole _) (ms0_0 t) (hs0_0 t) (ms0_1 t) (hs0_1 t) (ms0_2 t) (hs0_2 t) (ms0_3 t) (hs0_3 t) (ms0_4 t) (hs0_4 t) (ms0_5 t) (hs0_5 t) (Memref.whole main_v3) (Memref.isWhole_whole _) (ms0_6 t) (hs0_6 t) (Memref.whole cc0_scratch0) (Memref.isWhole_whole _) (Memref.whole cc0_scratch1) (Memref.isWhole_whole _) (Memref.whole cc0_scratch2) (Memref.isWhole_whole _)

set_option maxHeartbeats 4000000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (c : Dev nD) (t : Fin (cfgA).N) :
    iprop((dats m 0 c).Φ t.castSucc ∗ (dats m 0 c).owesAt () t.castSucc
        ∗ (∃ d, owns (c : Thread nD τ) (ms0_0 t) fullShare ((dats m 0 c).before (0 : Fin 7) t d))
        ∗ (∃ d, owns (c : Thread nD τ) (ms0_1 t) fullShare ((dats m 0 c).before (1 : Fin 7) t d))
        ∗ (∃ d, owns (c : Thread nD τ) (ms0_2 t) fullShare ((dats m 0 c).before (2 : Fin 7) t d))
        ∗ (∃ d, owns (c : Thread nD τ) (ms0_3 t) fullShare ((dats m 0 c).before (3 : Fin 7) t d))
        ∗ (∃ d, owns (c : Thread nD τ) (ms0_4 t) fullShare ((dats m 0 c).before (4 : Fin 7) t d))
        ∗ (∃ d, owns (c : Thread nD τ) (ms0_5 t) fullShare ((dats m 0 c).before (5 : Fin 7) t d))
        ∗ (∃ d, owns (c : Thread nD τ) (ms0_6 t) fullShare ((dats m 0 c).before (6 : Fin 7) t d)))
      ⊢ wp frame (wpE (defs₀ (F := Bits)) Variants.none c none) Set.univ (bodyAt0 t) fun _ =>
          iprop((dats m 0 c).Φ t.succ ∗ (dats m 0 c).owesAt () t.succ
            ∗ bigSep Finset.univ fun w : Fin (cfgA).W =>
                match (cfgA).idle w ((cfgA).grid.coords t) with
                | true =>
                  match ((cfgA).win w).flush t with
                  | false => iprop(∃ d, owns (c : Thread nD τ) (((cfgA).win w).stage ((cfgA).slots t w)) fullShare ((dats m 0 c).before w t d))
                  | true => owns (c : Thread nD τ) (((cfgA).win w).stage ((cfgA).slots t w)) fullShare ((dats m 0 c).after w t)
                | false => owns (c : Thread nD τ) (((cfgA).win w).stage ((cfgA).slots t w)) fullShare ((dats m 0 c).after w t)) := by
  rw [bigSep_W0]
  by_cases q0 : P0_0 t
  · by_cases q1 : P0_1 t
    · obtain ⟨i6, f6, fr6, sfn0, sfn1, sfn2⟩ := sched0_A t q0 q1
      have F0 := hypsR0_A t q0 q1
      have hc0 := F0.1; have F1 := F0.2
      have k0_h2 := F1.1; have F2 := F1.2
      clear F0 F1 F2
      rewrite [i6]
      simp only [before0_0, before0_1, before0_2, before0_3, before0_4, before0_5, before0_6, after0_0, after0_1, after0_2, after0_3, after0_4, after0_5, after0_6, f6]
      simp only [fr6, Bool.false_eq_true, ↓reduceIte]
      rewrite [show (dats m 0 c).Φ t.succ = Phi m c t.succ from rfl, show (dats m 0 c).Φ t.castSucc = Phi m c t.castSucc from rfl,
        show (dats m 0 c).owesAt () t.succ = (dats m 0 c).owesAt () t.castSucc from rfl]
      try rewrite [traj0_eq, step0_A m c t _ q0 q1]
      unfold Phi; simp only [prev0T_castSucc, prev0T_succ, traj0_eq, step0_A m c t _ q0 q1, Fin.val_castSucc, Fin.val_succ]
      iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) hc0 k0_h2).2.2.2.2 a0 a1 a2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [HT1]; · iexact HT1
      isplitl [H6]; · iexists _; iexact H6
      isplitl [HS0]; · iexact HS0
      isplitl [HS1]; · iexact HS1
      isplitl [HS2]; · iexact HS2
      iintro ⟨H0, H1, H2, H3, H4, H5, HT0, HT1, ⟨%e6, H6⟩, HS0, HS1, HS2⟩
      isplitl [HS0 HS1 HS2 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      isplitl [H5]
      · iapply owns_of_rep; iexact H5
      unfold owns; iexists _; isplitr; swap
      · iexact H6
      · ipureintro; exact View.read_writes_of_cover _ _ _ _ _ (cover0_A_6 c _ _ _ _ _ _ _ _ _ _ _ _ _ _ _ _ _ _ _ _ _ _ _ _ _)
    · obtain ⟨i6, f6, fr6, sf0, sfn0, sf1, sfn1, sf2, sfn2⟩ := sched0_B t q0 q1
      have F0 := hypsR0_B t q0 q1
      have hc0 := F0.1; have F1 := F0.2
      have k0_h2 := F1.1; have F2 := F1.2
      clear F0 F1 F2
      rewrite [i6]
      simp only [before0_0, before0_1, before0_2, before0_3, before0_4, before0_5, before0_6, after0_0, after0_1, after0_2, after0_3, after0_4, after0_5, after0_6, f6]
      simp only [fr6, Bool.false_eq_true, ↓reduceIte]
      rewrite [show (dats m 0 c).Φ t.succ = Phi m c t.succ from rfl, show (dats m 0 c).Φ t.castSucc = Phi m c t.castSucc from rfl,
        show (dats m 0 c).owesAt () t.succ = (dats m 0 c).owesAt () t.castSucc from rfl]
      try rewrite [traj0_eq, step0_B m c t _ q0 q1]
      unfold Phi; simp only [prev0T_castSucc, prev0T_succ, traj0_eq, step0_B m c t _ q0 q1, Fin.val_castSucc, Fin.val_succ]
      iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) hc0 k0_h2).2.2.2 _ a0 a1 a2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [HT1]; · iexact HT1
      isplitl [H6]; · iexact H6
      isplitl [HS0]; · iexact HS0
      isplitl [HS1]; · iexact HS1
      isplitl [HS2]; · iexact HS2
      iintro ⟨H0, H1, H2, H3, H4, H5, HT0, HT1, H6, HS0, HS1, HS2⟩
      isplitl [HS0 HS1 HS2 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      isplitl [H5]
      · iapply owns_of_rep; iexact H5
      first | (iexists d6; iexact H6) | iexact H6
  · by_cases q1 : P0_1 t
    · obtain ⟨i6, f6, fr6, sf0, sfn0, sf1, sfn1, sf2, sfn2⟩ := sched0_C t q0 q1
      have F0 := hypsR0_C t q0 q1
      have hc0 := F0.1; have F1 := F0.2
      have k0_h2 := F1.1; have F2 := F1.2
      clear F0 F1 F2
      rewrite [i6]
      simp only [before0_0, before0_1, before0_2, before0_3, before0_4, before0_5, before0_6, after0_0, after0_1, after0_2, after0_3, after0_4, after0_5, after0_6, f6]
      simp only [fr6, Bool.false_eq_true, ↓reduceIte]
      rewrite [show (dats m 0 c).Φ t.succ = Phi m c t.succ from rfl, show (dats m 0 c).Φ t.castSucc = Phi m c t.castSucc from rfl,
        show (dats m 0 c).owesAt () t.succ = (dats m 0 c).owesAt () t.castSucc from rfl]
      try rewrite [traj0_eq, step0_C m c t _ q0 q1]
      unfold Phi; simp only [prev0T_castSucc, prev0T_succ, traj0_eq, step0_C m c t _ q0 q1, Fin.val_castSucc, Fin.val_succ]
      simp only [exists_held sf0, exists_held sf1, exists_held sf2]
      iintro ⟨⟨HS0, HS1, HS2, HT0, HT1⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) _ _ _ hc0 k0_h2).2.2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [HT1]; · iexact HT1
      isplitl [H6]; · iexists _; iexact H6
      isplitl [HS0]; · iexact HS0
      isplitl [HS1]; · iexact HS1
      isplitl [HS2]; · iexact HS2
      iintro ⟨H0, H1, H2, H3, H4, H5, HT0, HT1, ⟨%e6, H6⟩, HS0, HS1, HS2⟩
      isplitl [HS0 HS1 HS2 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      isplitl [H5]
      · iapply owns_of_rep; iexact H5
      unfold owns; iexists _; isplitr; swap
      · iexact H6
      · ipureintro; exact View.read_writes_of_cover _ _ _ _ _ (cover0_C_6 c _ _ _ _ _ _ _ _ _ _ _ _ _ _ _ _ _ _ _ _ _ _ _ _ _ _ _ _)
    · obtain ⟨i6, f6, fr6, sf0, sfn0, sf1, sfn1, sf2, sfn2⟩ := sched0_D t q0 q1
      have F0 := hypsR0_D t q0 q1
      have hc0 := F0.1; have F1 := F0.2
      have k0_h2 := F1.1; have F2 := F1.2
      clear F0 F1 F2
      rewrite [i6]
      simp only [before0_0, before0_1, before0_2, before0_3, before0_4, before0_5, before0_6, after0_0, after0_1, after0_2, after0_3, after0_4, after0_5, after0_6, f6]
      simp only [fr6, Bool.false_eq_true, ↓reduceIte]
      rewrite [show (dats m 0 c).Φ t.succ = Phi m c t.succ from rfl, show (dats m 0 c).Φ t.castSucc = Phi m c t.castSucc from rfl,
        show (dats m 0 c).owesAt () t.succ = (dats m 0 c).owesAt () t.castSucc from rfl]
      try rewrite [traj0_eq, step0_D m c t _ q0 q1]
      unfold Phi; simp only [prev0T_castSucc, prev0T_succ, traj0_eq, step0_D m c t _ q0 q1, Fin.val_castSucc, Fin.val_succ]
      simp only [exists_held sf0, exists_held sf1, exists_held sf2]
      iintro ⟨⟨HS0, HS1, HS2, HT0, HT1⟩, Ho, ⟨%d0, H0⟩, ⟨%d1, H1⟩, ⟨%d2, H2⟩, ⟨%d3, H3⟩, ⟨%d4, H4⟩, ⟨%d5, H5⟩, ⟨%d6, H6⟩⟩
      iapply ((kernelRun0_D c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) _ _ _ hc0 k0_h2).2.2.2 _ _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [HT1]; · iexact HT1
      isplitl [H6]; · iexact H6
      isplitl [HS0]; · iexact HS0
      isplitl [HS1]; · iexact HS1
      isplitl [HS2]; · iexact HS2
      iintro ⟨H0, H1, H2, H3, H4, H5, HT0, HT1, H6, HS0, HS1, HS2⟩
      isplitl [HS0 HS1 HS2 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      isplitl [H5]
      · iapply owns_of_rep; iexact H5
      first | (iexists d6; iexact H6) | iexact H6

/-- The library's body obligation, at every point. -/
theorem body_obligation (c : Dev nD) : BodyObligation (dats m 0 c) (defs₀ (F := Bits)) Variants.none () Set.univ := fun t => by
  rw [bigSep_W0]
  exact sound_body m c t

/-! ## The launch -/

/-- The rounds library's launch element. -/
def u₀ : UR sig nD τ :=
  initOf (Pipeline.cells (pcs) ((launch0 (F := Bits)).cellOf_inj fun _ => adm))
    (Pipeline.launchToks (pcs) ((launch0 (F := Bits)).cellOf_inj fun _ => adm))

theorem share_eq (c : Dev nD) (w : Fin (cfgA).W) : (dats m 0 c).share w = fullShare := by unfold Dat.share; split <;> rfl

/-- The tables as the launch hands them to the region, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm).1 ∗ Pipeline.scopedRest spec0 c) ⊢ (dats m 0 c).Φ 0 := by
  rw [prefHeld_eq, scopedRest0_eq, show (dats m 0 c).Φ 0 = Phi m c 0 from rfl]
  unfold Phi
  iintro ⟨-, ⟨HT0, HT1⟩, ⟨%a0, HS0⟩, ⟨%a1, HS1⟩, ⟨%a2, HS2⟩⟩
  isplitl [HS0]
  · iexists a0; isplitr; swap
    · iexact HS0
    · ipureintro; intro h; exact absurd (h.symm.trans (show sfresh0_0 0 = true from rfl)) Bool.false_ne_true
  isplitl [HS1]
  · iexists a1; isplitr; swap
    · iexact HS1
    · ipureintro; intro h; exact absurd (h.symm.trans (show sfresh0_1 0 = true from rfl)) Bool.false_ne_true
  isplitl [HS2]
  · iexists a2; isplitr; swap
    · iexact HS2
    · ipureintro; intro h; exact absurd (h.symm.trans (show sfresh0_2 0 = true from rfl)) Bool.false_ne_true
  isplitl [HT0]
  · iexact HT0
  iexact HT1

/-- at the last point it gives the scratch buffers back (`hout`), the tables let go. -/
theorem phiN_exit (c : Dev nD) : (dats m 0 c).Φ (Fin.last (cfgA).N) ⊢ iprop(BI.emp ∗ Pipeline.scopedRest spec0 c) := by
  rw [scopedRest0_eq, show (dats m 0 c).Φ (Fin.last (cfgA).N) = Phi m c (Fin.last _) from rfl]
  unfold Phi
  iintro ⟨⟨%a0, -, HS0⟩, ⟨%a1, -, HS1⟩, ⟨%a2, -, HS2⟩, -, -⟩
  isplitr; · iempintro
  isplitl [HS0]
  · iexists a0; iexact HS0
  isplitl [HS1]
  · iexists a1; iexact HS1
  iexists a2; iexact HS2

/-- The host operations write only their results. -/
theorem hostOps0_fresh : (hostOps0 : List (HloOp τ sig (Elt Bits))).Forall fun op => op.fresh = ∅ := by
  simp only [List.Forall]; repeat' constructor

set_option maxHeartbeats 800000 in
/-- The program up to the call: its host operations, leaving the buffers at `V`. -/
theorem hmain (𝒱₀ : Variants) : Pipeline.HMainP (Ix := Unit) (Name := ℕ) (U := UR sig nD τ) (Lvl := ℕ) (pcfgs (F := Bits)) 0 defs₀ 𝒱₀ m (main (F := Bits)) (V m) :=
  Pipeline.hmainP_prefix (pcfgs (F := Bits)) 0 defs₀ 𝒱₀ m main hostOps0 hostOps0_sub hostOps0_fresh main_chain

/-- No host operation writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
/-- No host operation writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
/-- No host operation writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
/-- No host operation writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- The table constants, as the host writes them, are the words written out in `pinT_0` and `pinT_1`. -/
theorem lit0_eq : (fun i : S36.Idx => lit0 (S36.rowMajor i)) = pinT_0 := by
  funext i
  have h : ∀ i : S36.Idx, lit0 (S36.rowMajor i) = pinT_0 i := by decide +kernel
  exact h i
theorem lit1_eq : (fun i : S36.Idx => lit1 (S36.rowMajor i)) = pinT_1 := by
  funext i
  have h : ∀ i : S36.Idx, lit1 (S36.rowMajor i) = pinT_1 i := by decide +kernel
  exact h i

/-- The tables at the call hold those words. -/
theorem V_main_c (c : Dev nD) : V m c main_c = pinT_0 := by
  rw [← lit0_eq]; entry_read; rfl
theorem V_main_c_0 (c : Dev nD) : V m c main_c_0 = pinT_1 := by
  rw [← lit1_eq]; entry_read; rfl

theorem V_pre (c : Dev nD) (j : Fin 2) : V m c (pre0.ref j) = (adm).1 j := by
  fin_cases j
  · exact V_main_c m c
  · exact V_main_c_0 m c

/-- The end: every array at what the pipeline computes, every buffer the call does not touch as the host left it. -/
def QC : PUnit × MemSt nD τ sig (Elt Bits) → Prop := fun r =>
  ∀ c : Dev nD, (∀ w : Fin (cfgA).W, r.2.mem (((cfgA).win w).arr.view.loc (c : Thread nD τ)) = (dats m 0 c).arrAt w (cfgA).N)
    ∧ ∀ b ∈ Pipeline.restRefsP sig pre0 spec0, r.2.mem ((c : Thread nD τ).loc b) = V m c b

set_option backward.isDefEq.respectTransparency.types false in
set_option maxHeartbeats 4000000 in
/-- From any memory with zero counters, every weakly fair execution terminates in such a state, with every semaphore
    counter at zero. -/
theorem run_main_quiescent (ρ : Dev nD → PrngReg) : θ_run (defs (F := Bits)) (onTc (τ := τ) (main (F := Bits))) (s₀ m ρ) (fun r => QC m r ∧ r.2.sem = fun _ => 0) :=
  Pipeline.θ_run_region_noSem_pf_quiescent pcfgs (fun _ => adm) (dats m) () ((launch0 (F := Bits)).cellOf_inj fun _ => adm) (0 : Fin 1)
    (launch0 (F := Bits)).win.to₀ (launch0 (F := Bits)).pre EP defs₀ Variants.none m ρ main
    (hbody := fun c => (body_obligation m c).loose) (hne := (launch0 (F := Bits)).block_pos)
    (harr := (launch0 (F := Bits)).arr_whole) (hstage := (launch0 (F := Bits)).stage_whole) (howed := fun _ _ => rfl)
    (u₀ := u₀) (hu₀ := .rfl)
    (V := V m)
    (hmain := hmain m Variants.none)
    (hsplit := fun c => Pipeline.arrays_split (pcs) (dats m) 0 (launch0 (F := Bits)).win.arr_inj c (launch0 (F := Bits)).arr_whole
      (share_eq m c) _ _ fun _ => rfl)
    (hpf := V_pre m)
    (X := fun _ => iprop(emp)) (Y := fun _ => iprop(emp))
    (Z := fun c => Pipeline.unscopedRestP (Ix := Unit) (Name := ℕ) (U := UR sig nD τ) (Lvl := ℕ) pre0 spec0 c (V m c))
    (hX := fun c => by iintro H; isplitr; · iempintro
                       iexact H)
    (hin := phi0_intro m)
    (hout := phiN_exit m)
    (QY := fun c s => ∀ b ∈ Pipeline.restRefsP sig pre0 spec0, s.mem ((c : Thread nD τ).loc b) = V m c b)
    (hY := fun c s' => by
      iintro ⟨-, HU, HSI⟩
      unfold Pipeline.unscopedRestP
      imodintro
      iapply (pointsTo_read_all (Pipeline.restRefsP sig pre0 spec0) (fun b => (c.tc : Thread nD τ).loc b) (V m c) s')
      isplitl [HU] <;> iassumption)
    (hQ := fun _ h hz => ⟨fun c => ⟨(h c).1, (h c).2.2⟩, hz⟩)

/-- At the end the arguments hold what they held at the start. -/
theorem args_kept (r : PUnit × MemSt nD τ sig (Elt Bits)) (h : QC m r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (by decide)).trans (V_main_arg0 m c), ((h c).2 main_arg1 (by decide)).trans (V_main_arg1 m c),
   ((h c).1 (4 : Fin 7)).trans (((dats m 0 c).arrAt_in (4 : Fin 7) rfl _).trans (V_main_arg2 m c)),
   ((h c).2 main_arg3 (by decide)).trans (V_main_arg3 m c)⟩

/-- The program ends, with its arguments unchanged and every semaphore counter at zero. -/
theorem frame (ρ : Dev nD → PrngReg) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨args_kept m r h.1, h.2⟩) (run_main_quiescent m ρ)

end Cert.Kernel.Attn

end
-- ==== Proof.AttnIdeal.Pins.lean ====
/- The words of the two prefetched index tables: the host writes them before the call, and here they are written out. -/
module

public import proofs.«01_k».proof.Defs
public import proofs.«01_k».proof.Proof.Gen.KernelIdeal
public import proofs.«01_k».proof.Proof.Gen.KernelIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resource algebra of the program over the extended reals. -/
local notation "𝕄" => MT nD τ sig Unit (Elt Ideal) ℕ (UR sig nD τ) ℕ

/-- The tables and scratches the kernel is handed, whole, at their literal types. -/
abbrev tbM0_0 : Memref sig .tc .smem S36 .i32 := Memref.whole main_c
abbrev tbM0_1 : Memref sig .tc .smem S36 .i32 := Memref.whole main_c_0
abbrev scM0_0 : Memref sig .tc .vmem S2x512x128 .f32 := Memref.whole cc0_scratch0
abbrev scM0_1 : Memref sig .tc .vmem S2x512x128 .f32 := Memref.whole cc0_scratch1
abbrev scM0_2 : Memref sig .tc .vmem S2x512x256 .f32 := Memref.whole cc0_scratch2

/-! ## The pinned words: the tables -/

/-- Prefetched table 0 (`main_arg0`, [36]) : the family TRACED (pins.py). -/
def pinT_0 : S36.Idx → BitVec 32 := fun x => (([0#32, 1#32, 1#32, 2#32, 2#32, 2#32, 3#32, 3#32, 3#32, 3#32, 4#32, 4#32, 4#32, 4#32, 4#32, 5#32, 5#32, 5#32, 5#32, 5#32, 5#32, 6#32, 6#32, 6#32, 6#32, 6#32, 6#32, 6#32, 7#32, 7#32, 7#32, 7#32, 7#32, 7#32, 7#32, 7#32] : List (BitVec 32)).getD ((x 0).val) 0#32)

/-- Prefetched table 1 (`main_arg1`, [36]) : the family TRACED (pins.py). -/
def pinT_1 : S36.Idx → BitVec 32 := fun x => (([0#32, 0#32, 1#32, 0#32, 1#32, 2#32, 0#32, 1#32, 2#32, 3#32, 0#32, 1#32, 2#32, 3#32, 4#32, 0#32, 1#32, 2#32, 3#32, 4#32, 5#32, 0#32, 1#32, 2#32, 3#32, 4#32, 5#32, 6#32, 0#32, 1#32, 2#32, 3#32, 4#32, 5#32, 6#32, 7#32] : List (BitVec 32)).getD ((x 0).val) 0#32)

set_option backward.proofsInPublic true in
/-- The tables' contents the certificate is written at, . -/
def pfN : pre0.Contents (Elt Ideal) := fun | ⟨0, _⟩ => pinT_0 | ⟨1, _⟩ => pinT_1 | ⟨_ + 2, h⟩ => absurd h (by simp)
/-- A window's blocks inside its array, entry by entry (the side condition's per-member proofs below assemble each
    entry's bound: a coordinate's, a constant's, or a table word's decided over the coordinates it is read at). -/
theorem okcons {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a := by
  refine Fin.cases ?_ ?_
  · simpa only [Matrix.cons_val_zero] using h0
  · intro a; simpa only [Matrix.cons_val_succ] using hr a

end Cert.KernelIdeal.Attn

end
-- ==== Proof.AttnIdeal.Runs.lean ====
/- The four ways through the body (first tile or not, last tile or not), run once each. -/
module

public import proofs.«01_k».proof.Proof.Gen.KernelIdeal.Skeleton
public import proofs.«01_k».proof.Proof.AttnIdeal.Pins

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resource algebra of the program over the extended reals. -/
local notation "𝕄" => MT nD τ sig Unit (Elt Ideal) ℕ (UR sig nD τ) ℕ

/-! ## The kernel body per control path, on symbolic staging memrefs: a subtype the run finds -/

/-- One staging buffer of output window 6, through which its contents are stated (`View.read_writes_of_cover`). -/
abbrev VO0_6 : View sig .tc .vmem S512x256 .f32 := (Memref.whole cc0_stg6_0 : Memref sig .tc .vmem S512x256 .f32).view

set_option backward.proofsInPublic true in
set_option maxHeartbeats 8000000 in
/-- PATH A (points 0, 36, … 540: 16 of 576): what the body leaves — per stored output its pieces (last first), per scratch its
    contents — WITH the proof that, on whole staging memrefs, from the inputs at their blocks, the tables, the outputs
    (6: stored) and the scratches (0: covered, 1: covered, 2: covered), under the path's decisions as
    hypotheses over the words the body reads (`hc0`; `k0_h2`), the body runs to the continuation holding all of it as stated. The
    skeleton (`Gen.*_eq_skeleton`) run by `sl_exec`, loops of literal trip count unrolled by the run, the others by `sl_unroll`. -/
noncomputable def kernelRun0_A (c : Dev nD) (i : grid0.Coords) (arg5 : Memref sig .tc .smem S8 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4x128 .f32) (harg9 : arg9.IsWhole) (arg10 : Memref sig .tc .vmem S1x1x256 .f32) (harg10 : arg10.IsWhole) (arg11 : Memref sig .tc .vmem S512x256 .f32) (harg11 : arg11.IsWhole) (T0 : (S36.Idx → Elt Ideal .i32)) (T1 : (S36.Idx → Elt Ideal .i32))
     (x0 : (S8.Idx → Elt Ideal .f32)) (x1 : (S512x256.Idx → Elt Ideal .f32)) (x2 : (S512x256.Idx → Elt Ideal .f32)) (x3 : (S512x256.Idx → Elt Ideal .f32)) (x4 : (S4x128.Idx → Elt Ideal .f32)) (x5 : (S1x1x256.Idx → Elt Ideal .f32)) (hc0 : (Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) 0#32)) 0#32) = 1#1) (k0_h2 : k0_cond2 (View.readAt (Elt Ideal) (tbM0_0).view (Rect.unit (s := S36) (k0_off1 i) S1.size (k0_off1_inb i)).toLoadRect T0 (Shape.Idx.first (numel1_S1.symm ▸ Nat.one_pos))) (View.readAt (Elt Ideal) (tbM0_1).view (Rect.unit (s := S36) (k0_off1 i) S1.size (k0_off1_inb i)).toLoadRect T1 (Shape.Idx.first (numel1_S1.symm ▸ Nat.one_pos))) = 1#1) :
    Σ' (out0 : List (View.Piece (Elt Ideal) S512x256 .f32)) (out1 : Buf (Elt Ideal) ((c : Thread nD τ).loc cc0_scratch0)) (out2 : Buf (Elt Ideal) ((c : Thread nD τ).loc cc0_scratch1)), { out3 : Buf (Elt Ideal) ((c : Thread nD τ).loc cc0_scratch2) //
      ∀ (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (arg9.view.loc (c : Thread nD τ) ↦[arg9.view.set]{fullShare} arg9.view.rep x4)
          ∗ (arg10.view.loc (c : Thread nD τ) ↦[arg10.view.set]{fullShare} arg10.view.rep x5)
          ∗ (tbM0_0.view.loc (c : Thread nD τ) ↦{fullShare.right} T0)
          ∗ (tbM0_1.view.loc (c : Thread nD τ) ↦{fullShare.right} T1)
          ∗ (∃ d, owns (c : Thread nD τ) arg11 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (arg8.view.loc (c : Thread nD τ) ↦[arg8.view.set]{fullShare} arg8.view.rep x3)
              ∗ (arg9.view.loc (c : Thread nD τ) ↦[arg9.view.set]{fullShare} arg9.view.rep x4)
              ∗ (arg10.view.loc (c : Thread nD τ) ↦[arg10.view.set]{fullShare} arg10.view.rep x5)
              ∗ (tbM0_0.view.loc (c : Thread nD τ) ↦{fullShare.right} T0)
              ∗ (tbM0_1.view.loc (c : Thread nD τ) ↦{fullShare.right} T1)
              ∗ (∃ f, arg11.view.loc (c : Thread nD τ) ↦[arg11.view.set]{fullShare} arg11.view.writes (Elt Ideal) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)) -∗ K ⟨⟩))
          ⊢ wp frame (wpE (defs₀ (F := Ideal)) Variants.none c none) Set.univ (cc0_diff_attn_prompt i tbM0_0 (Memref.isWhole_whole _) tbM0_1 (Memref.isWhole_whole _) arg5 harg5 arg6 harg6 arg7 harg7 arg8 harg8 arg9 harg9 arg10 harg10 (Memref.whole main_v3) (Memref.isWhole_whole _) arg11 harg11 scM0_0 (Memref.isWhole_whole _) scM0_1 (Memref.isWhole_whole _) scM0_2 (Memref.isWhole_whole _)) K } :=
  ⟨_, _, _, _, fun (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) K => by
    unfold owns
    rw [cc0_diff_attn_prompt_eq_skeleton]; unfold cc0_diff_attn_prompt_skel
    iintro ⟨H0, H1, H2, H3, H4, H5, HT0, HT1, ⟨%d6, %f6, -, HO6⟩, HS0, HS1, HS2, Hk⟩
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = k0_cond2 _ _ = _; exact k0_h2))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO6]; · iexists _; iexact HO6
    isplitl [HS0]; · iexact HS0
    isplitl [HS1]; · iexact HS1
    iexact HS2⟩

/-- Path A's pieces for output 6 tile its block (1 store of `S512x256`: the kernel evaluates the tiling, Lib/Ring.lean `Piece.tiledL`). -/
theorem cover0_A_6 (c : Dev nD) (i : grid0.Coords) (arg5 : Memref sig .tc .smem S8 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4x128 .f32) (harg9 : arg9.IsWhole) (arg10 : Memref sig .tc .vmem S1x1x256 .f32) (harg10 : arg10.IsWhole) (arg11 : Memref sig .tc .vmem S512x256 .f32) (harg11 : arg11.IsWhole) (T0 : (S36.Idx → Elt Ideal .i32)) (T1 : (S36.Idx → Elt Ideal .i32))
     (x0 : (S8.Idx → Elt Ideal .f32)) (x1 : (S512x256.Idx → Elt Ideal .f32)) (x2 : (S512x256.Idx → Elt Ideal .f32)) (x3 : (S512x256.Idx → Elt Ideal .f32)) (x4 : (S4x128.Idx → Elt Ideal .f32)) (x5 : (S1x1x256.Idx → Elt Ideal .f32)) (hc0 : (Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) 0#32)) 0#32) = 1#1) (k0_h2 : k0_cond2 (View.readAt (Elt Ideal) (tbM0_0).view (Rect.unit (s := S36) (k0_off1 i) S1.size (k0_off1_inb i)).toLoadRect T0 (Shape.Idx.first (numel1_S1.symm ▸ Nat.one_pos))) (View.readAt (Elt Ideal) (tbM0_1).view (Rect.unit (s := S36) (k0_off1 i) S1.size (k0_off1_inb i)).toLoadRect T1 (Shape.Idx.first (numel1_S1.symm ▸ Nat.one_pos))) = 1#1) (y : S512x256.Idx) :
    ∃ pc ∈ (kernelRun0_A c i arg5 harg5 arg6 harg6 arg7 harg7 arg8 harg8 arg9 harg9 arg10 harg10 arg11 harg11 T0 T1 x0 x1 x2 x3 x4 x5 hc0 k0_h2).1, y ∈ pc.1.set :=
  View.cover_of_tiledL (kernelRun0_A c i arg5 harg5 arg6 harg6 arg7 harg7 arg8 harg8 arg9 harg9 arg10 harg10 arg11 harg11 T0 T1 x0 x1 x2 x3 x4 x5 hc0 k0_h2).1 S512x256.size (by sl_kernel_rfl) y

/-- What path A leaves in output 6's staging buffer: its pieces read back over junk. -/
def out0_A_6 (c : Dev nD) (i : grid0.Coords) (arg5 : Memref sig .tc .smem S8 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4x128 .f32) (harg9 : arg9.IsWhole) (arg10 : Memref sig .tc .vmem S1x1x256 .f32) (harg10 : arg10.IsWhole) (arg11 : Memref sig .tc .vmem S512x256 .f32) (harg11 : arg11.IsWhole) (T0 : (S36.Idx → Elt Ideal .i32)) (T1 : (S36.Idx → Elt Ideal .i32))
     (x0 : (S8.Idx → Elt Ideal .f32)) (x1 : (S512x256.Idx → Elt Ideal .f32)) (x2 : (S512x256.Idx → Elt Ideal .f32)) (x3 : (S512x256.Idx → Elt Ideal .f32)) (x4 : (S4x128.Idx → Elt Ideal .f32)) (x5 : (S1x1x256.Idx → Elt Ideal .f32)) (hc0 : (Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) 0#32)) 0#32) = 1#1) (k0_h2 : k0_cond2 (View.readAt (Elt Ideal) (tbM0_0).view (Rect.unit (s := S36) (k0_off1 i) S1.size (k0_off1_inb i)).toLoadRect T0 (Shape.Idx.first (numel1_S1.symm ▸ Nat.one_pos))) (View.readAt (Elt Ideal) (tbM0_1).view (Rect.unit (s := S36) (k0_off1 i) S1.size (k0_off1_inb i)).toLoadRect T1 (Shape.Idx.first (numel1_S1.symm ▸ Nat.one_pos))) = 1#1) : (S512x256.Idx → Elt Ideal .f32) :=
  VO0_6.read (Elt Ideal) (VO0_6.writes (Elt Ideal) VO0_6.junk (kernelRun0_A c i arg5 harg5 arg6 harg6 arg7 harg7 arg8 harg8 arg9 harg9 arg10 harg10 arg11 harg11 T0 T1 x0 x1 x2 x3 x4 x5 hc0 k0_h2).1)

set_option backward.proofsInPublic true in
set_option maxHeartbeats 8000000 in
/-- PATH B (points 1, 3, … 568: 112 of 576): what the body leaves — per stored output its pieces (last first), per scratch its
    contents — WITH the proof that, on whole staging memrefs, from the inputs at their blocks, the tables, the outputs
    (6: idle) and the scratches (0: covered, 1: covered, 2: covered), under the path's decisions as
    hypotheses over the words the body reads (`hc0`; `k0_h2`), the body runs to the continuation holding all of it as stated. The
    skeleton (`Gen.*_eq_skeleton`) run by `sl_exec`, loops of literal trip count unrolled by the run, the others by `sl_unroll`. -/
noncomputable def kernelRun0_B (c : Dev nD) (i : grid0.Coords) (arg5 : Memref sig .tc .smem S8 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4x128 .f32) (harg9 : arg9.IsWhole) (arg10 : Memref sig .tc .vmem S1x1x256 .f32) (harg10 : arg10.IsWhole) (arg11 : Memref sig .tc .vmem S512x256 .f32) (harg11 : arg11.IsWhole) (T0 : (S36.Idx → Elt Ideal .i32)) (T1 : (S36.Idx → Elt Ideal .i32))
     (x0 : (S8.Idx → Elt Ideal .f32)) (x1 : (S512x256.Idx → Elt Ideal .f32)) (x2 : (S512x256.Idx → Elt Ideal .f32)) (x3 : (S512x256.Idx → Elt Ideal .f32)) (x4 : (S4x128.Idx → Elt Ideal .f32)) (x5 : (S1x1x256.Idx → Elt Ideal .f32)) (hc0 : (Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) 0#32)) 0#32) = 1#1) (k0_h2 : ¬(k0_cond2 (View.readAt (Elt Ideal) (tbM0_0).view (Rect.unit (s := S36) (k0_off1 i) S1.size (k0_off1_inb i)).toLoadRect T0 (Shape.Idx.first (numel1_S1.symm ▸ Nat.one_pos))) (View.readAt (Elt Ideal) (tbM0_1).view (Rect.unit (s := S36) (k0_off1 i) S1.size (k0_off1_inb i)).toLoadRect T1 (Shape.Idx.first (numel1_S1.symm ▸ Nat.one_pos))) = 1#1)) :
    Σ' (out0 : Buf (Elt Ideal) ((c : Thread nD τ).loc cc0_scratch0)) (out1 : Buf (Elt Ideal) ((c : Thread nD τ).loc cc0_scratch1)), { out2 : Buf (Elt Ideal) ((c : Thread nD τ).loc cc0_scratch2) //
      ∀ (y6 : (S512x256.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (arg9.view.loc (c : Thread nD τ) ↦[arg9.view.set]{fullShare} arg9.view.rep x4)
          ∗ (arg10.view.loc (c : Thread nD τ) ↦[arg10.view.set]{fullShare} arg10.view.rep x5)
          ∗ (tbM0_0.view.loc (c : Thread nD τ) ↦{fullShare.right} T0)
          ∗ (tbM0_1.view.loc (c : Thread nD τ) ↦{fullShare.right} T1)
          ∗ owns (c : Thread nD τ) arg11 fullShare y6
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (arg8.view.loc (c : Thread nD τ) ↦[arg8.view.set]{fullShare} arg8.view.rep x3)
              ∗ (arg9.view.loc (c : Thread nD τ) ↦[arg9.view.set]{fullShare} arg9.view.rep x4)
              ∗ (arg10.view.loc (c : Thread nD τ) ↦[arg10.view.set]{fullShare} arg10.view.rep x5)
              ∗ (tbM0_0.view.loc (c : Thread nD τ) ↦{fullShare.right} T0)
              ∗ (tbM0_1.view.loc (c : Thread nD τ) ↦{fullShare.right} T1)
              ∗ owns (c : Thread nD τ) arg11 fullShare y6
              ∗ (scM0_0.view.loc (c : Thread nD τ) ↦{fullShare} out0)
              ∗ (scM0_1.view.loc (c : Thread nD τ) ↦{fullShare} out1)
              ∗ (scM0_2.view.loc (c : Thread nD τ) ↦{fullShare} out2)) -∗ K ⟨⟩))
          ⊢ wp frame (wpE (defs₀ (F := Ideal)) Variants.none c none) Set.univ (cc0_diff_attn_prompt i tbM0_0 (Memref.isWhole_whole _) tbM0_1 (Memref.isWhole_whole _) arg5 harg5 arg6 harg6 arg7 harg7 arg8 harg8 arg9 harg9 arg10 harg10 (Memref.whole main_v3) (Memref.isWhole_whole _) arg11 harg11 scM0_0 (Memref.isWhole_whole _) scM0_1 (Memref.isWhole_whole _) scM0_2 (Memref.isWhole_whole _)) K } :=
  ⟨_, _, _, fun (y6 : (S512x256.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) K => by
    unfold owns
    rw [cc0_diff_attn_prompt_eq_skeleton]; unfold cc0_diff_attn_prompt_skel
    iintro ⟨H0, H1, H2, H3, H4, H5, HT0, HT1, ⟨%f6, %hf6, HO6⟩, HS0, HS1, HS2, Hk⟩
    obtain rfl := harg11.eq_unread hf6
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = ¬(k0_cond2 _ _ = _); exact k0_h2))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO6]
    · iexists _; isplitr; · ipureintro; exact harg11.read_unread _
      iexact HO6
    isplitl [HS0]; · iexact HS0
    isplitl [HS1]; · iexact HS1
    iexact HS2⟩

set_option backward.proofsInPublic true in
set_option maxHeartbeats 8000000 in
/-- PATH C (points 2, 5, … 575: 112 of 576): what the body leaves — per stored output its pieces (last first), per scratch its
    contents — WITH the proof that, on whole staging memrefs, from the inputs at their blocks, the tables, the outputs
    (6: stored) and the scratches (0: carried, 1: carried, 2: carried), under the path's decisions as
    hypotheses over the words the body reads (`hc0`; `k0_h2`), the body runs to the continuation holding all of it as stated. The
    skeleton (`Gen.*_eq_skeleton`) run by `sl_exec`, loops of literal trip count unrolled by the run, the others by `sl_unroll`. -/
noncomputable def kernelRun0_C (c : Dev nD) (i : grid0.Coords) (arg5 : Memref sig .tc .smem S8 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4x128 .f32) (harg9 : arg9.IsWhole) (arg10 : Memref sig .tc .vmem S1x1x256 .f32) (harg10 : arg10.IsWhole) (arg11 : Memref sig .tc .vmem S512x256 .f32) (harg11 : arg11.IsWhole) (T0 : (S36.Idx → Elt Ideal .i32)) (T1 : (S36.Idx → Elt Ideal .i32))
     (x0 : (S8.Idx → Elt Ideal .f32)) (x1 : (S512x256.Idx → Elt Ideal .f32)) (x2 : (S512x256.Idx → Elt Ideal .f32)) (x3 : (S512x256.Idx → Elt Ideal .f32)) (x4 : (S4x128.Idx → Elt Ideal .f32)) (x5 : (S1x1x256.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) 0#32)) 0#32) = 1#1)) (k0_h2 : k0_cond2 (View.readAt (Elt Ideal) (tbM0_0).view (Rect.unit (s := S36) (k0_off1 i) S1.size (k0_off1_inb i)).toLoadRect T0 (Shape.Idx.first (numel1_S1.symm ▸ Nat.one_pos))) (View.readAt (Elt Ideal) (tbM0_1).view (Rect.unit (s := S36) (k0_off1 i) S1.size (k0_off1_inb i)).toLoadRect T1 (Shape.Idx.first (numel1_S1.symm ▸ Nat.one_pos))) = 1#1) :
    Σ' (out0 : List (View.Piece (Elt Ideal) S512x256 .f32)) (out1 : Buf (Elt Ideal) ((c : Thread nD τ).loc cc0_scratch0)) (out2 : Buf (Elt Ideal) ((c : Thread nD τ).loc cc0_scratch1)), { out3 : Buf (Elt Ideal) ((c : Thread nD τ).loc cc0_scratch2) //
      ∀ (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (arg9.view.loc (c : Thread nD τ) ↦[arg9.view.set]{fullShare} arg9.view.rep x4)
          ∗ (arg10.view.loc (c : Thread nD τ) ↦[arg10.view.set]{fullShare} arg10.view.rep x5)
          ∗ (tbM0_0.view.loc (c : Thread nD τ) ↦{fullShare.right} T0)
          ∗ (tbM0_1.view.loc (c : Thread nD τ) ↦{fullShare.right} T1)
          ∗ (∃ d, owns (c : Thread nD τ) arg11 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (arg8.view.loc (c : Thread nD τ) ↦[arg8.view.set]{fullShare} arg8.view.rep x3)
              ∗ (arg9.view.loc (c : Thread nD τ) ↦[arg9.view.set]{fullShare} arg9.view.rep x4)
              ∗ (arg10.view.loc (c : Thread nD τ) ↦[arg10.view.set]{fullShare} arg10.view.rep x5)
              ∗ (tbM0_0.view.loc (c : Thread nD τ) ↦{fullShare.right} T0)
              ∗ (tbM0_1.view.loc (c : Thread nD τ) ↦{fullShare.right} T1)
              ∗ (∃ f, arg11.view.loc (c : Thread nD τ) ↦[arg11.view.set]{fullShare} arg11.view.writes (Elt Ideal) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)) -∗ K ⟨⟩))
          ⊢ wp frame (wpE (defs₀ (F := Ideal)) Variants.none c none) Set.univ (cc0_diff_attn_prompt i tbM0_0 (Memref.isWhole_whole _) tbM0_1 (Memref.isWhole_whole _) arg5 harg5 arg6 harg6 arg7 harg7 arg8 harg8 arg9 harg9 arg10 harg10 (Memref.whole main_v3) (Memref.isWhole_whole _) arg11 harg11 scM0_0 (Memref.isWhole_whole _) scM0_1 (Memref.isWhole_whole _) scM0_2 (Memref.isWhole_whole _)) K } :=
  ⟨_, _, _, _, fun K => by
    unfold owns
    rw [cc0_diff_attn_prompt_eq_skeleton]; unfold cc0_diff_attn_prompt_skel
    iintro ⟨H0, H1, H2, H3, H4, H5, HT0, HT1, ⟨%d6, %f6, -, HO6⟩, HS0, HS1, HS2, Hk⟩
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = k0_cond2 _ _ = _; exact k0_h2))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO6]; · iexists _; iexact HO6
    isplitl [HS0]; · iexact HS0
    isplitl [HS1]; · iexact HS1
    iexact HS2⟩

/-- Path C's pieces for output 6 tile its block (1 store of `S512x256`: the kernel evaluates the tiling, Lib/Ring.lean `Piece.tiledL`). -/
theorem cover0_C_6 (c : Dev nD) (i : grid0.Coords) (arg5 : Memref sig .tc .smem S8 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4x128 .f32) (harg9 : arg9.IsWhole) (arg10 : Memref sig .tc .vmem S1x1x256 .f32) (harg10 : arg10.IsWhole) (arg11 : Memref sig .tc .vmem S512x256 .f32) (harg11 : arg11.IsWhole) (T0 : (S36.Idx → Elt Ideal .i32)) (T1 : (S36.Idx → Elt Ideal .i32))
     (x0 : (S8.Idx → Elt Ideal .f32)) (x1 : (S512x256.Idx → Elt Ideal .f32)) (x2 : (S512x256.Idx → Elt Ideal .f32)) (x3 : (S512x256.Idx → Elt Ideal .f32)) (x4 : (S4x128.Idx → Elt Ideal .f32)) (x5 : (S1x1x256.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) 0#32)) 0#32) = 1#1)) (k0_h2 : k0_cond2 (View.readAt (Elt Ideal) (tbM0_0).view (Rect.unit (s := S36) (k0_off1 i) S1.size (k0_off1_inb i)).toLoadRect T0 (Shape.Idx.first (numel1_S1.symm ▸ Nat.one_pos))) (View.readAt (Elt Ideal) (tbM0_1).view (Rect.unit (s := S36) (k0_off1 i) S1.size (k0_off1_inb i)).toLoadRect T1 (Shape.Idx.first (numel1_S1.symm ▸ Nat.one_pos))) = 1#1) (y : S512x256.Idx) :
    ∃ pc ∈ (kernelRun0_C c i arg5 harg5 arg6 harg6 arg7 harg7 arg8 harg8 arg9 harg9 arg10 harg10 arg11 harg11 T0 T1 x0 x1 x2 x3 x4 x5 xa0 xa1 xa2 hc0 k0_h2).1, y ∈ pc.1.set :=
  View.cover_of_tiledL (kernelRun0_C c i arg5 harg5 arg6 harg6 arg7 harg7 arg8 harg8 arg9 harg9 arg10 harg10 arg11 harg11 T0 T1 x0 x1 x2 x3 x4 x5 xa0 xa1 xa2 hc0 k0_h2).1 S512x256.size (by sl_kernel_rfl) y

/-- What path C leaves in output 6's staging buffer: its pieces read back over junk. -/
def out0_C_6 (c : Dev nD) (i : grid0.Coords) (arg5 : Memref sig .tc .smem S8 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4x128 .f32) (harg9 : arg9.IsWhole) (arg10 : Memref sig .tc .vmem S1x1x256 .f32) (harg10 : arg10.IsWhole) (arg11 : Memref sig .tc .vmem S512x256 .f32) (harg11 : arg11.IsWhole) (T0 : (S36.Idx → Elt Ideal .i32)) (T1 : (S36.Idx → Elt Ideal .i32))
     (x0 : (S8.Idx → Elt Ideal .f32)) (x1 : (S512x256.Idx → Elt Ideal .f32)) (x2 : (S512x256.Idx → Elt Ideal .f32)) (x3 : (S512x256.Idx → Elt Ideal .f32)) (x4 : (S4x128.Idx → Elt Ideal .f32)) (x5 : (S1x1x256.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) 0#32)) 0#32) = 1#1)) (k0_h2 : k0_cond2 (View.readAt (Elt Ideal) (tbM0_0).view (Rect.unit (s := S36) (k0_off1 i) S1.size (k0_off1_inb i)).toLoadRect T0 (Shape.Idx.first (numel1_S1.symm ▸ Nat.one_pos))) (View.readAt (Elt Ideal) (tbM0_1).view (Rect.unit (s := S36) (k0_off1 i) S1.size (k0_off1_inb i)).toLoadRect T1 (Shape.Idx.first (numel1_S1.symm ▸ Nat.one_pos))) = 1#1) : (S512x256.Idx → Elt Ideal .f32) :=
  VO0_6.read (Elt Ideal) (VO0_6.writes (Elt Ideal) VO0_6.junk (kernelRun0_C c i arg5 harg5 arg6 harg6 arg7 harg7 arg8 harg8 arg9 harg9 arg10 harg10 arg11 harg11 T0 T1 x0 x1 x2 x3 x4 x5 xa0 xa1 xa2 hc0 k0_h2).1)

set_option backward.proofsInPublic true in
set_option maxHeartbeats 8000000 in
/-- PATH D (points 4, 7, … 574: 336 of 576): what the body leaves — per stored output its pieces (last first), per scratch its
    contents — WITH the proof that, on whole staging memrefs, from the inputs at their blocks, the tables, the outputs
    (6: idle) and the scratches (0: carried, 1: carried, 2: carried), under the path's decisions as
    hypotheses over the words the body reads (`hc0`; `k0_h2`), the body runs to the continuation holding all of it as stated. The
    skeleton (`Gen.*_eq_skeleton`) run by `sl_exec`, loops of literal trip count unrolled by the run, the others by `sl_unroll`. -/
noncomputable def kernelRun0_D (c : Dev nD) (i : grid0.Coords) (arg5 : Memref sig .tc .smem S8 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4x128 .f32) (harg9 : arg9.IsWhole) (arg10 : Memref sig .tc .vmem S1x1x256 .f32) (harg10 : arg10.IsWhole) (arg11 : Memref sig .tc .vmem S512x256 .f32) (harg11 : arg11.IsWhole) (T0 : (S36.Idx → Elt Ideal .i32)) (T1 : (S36.Idx → Elt Ideal .i32))
     (x0 : (S8.Idx → Elt Ideal .f32)) (x1 : (S512x256.Idx → Elt Ideal .f32)) (x2 : (S512x256.Idx → Elt Ideal .f32)) (x3 : (S512x256.Idx → Elt Ideal .f32)) (x4 : (S4x128.Idx → Elt Ideal .f32)) (x5 : (S1x1x256.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) 0#32)) 0#32) = 1#1)) (k0_h2 : ¬(k0_cond2 (View.readAt (Elt Ideal) (tbM0_0).view (Rect.unit (s := S36) (k0_off1 i) S1.size (k0_off1_inb i)).toLoadRect T0 (Shape.Idx.first (numel1_S1.symm ▸ Nat.one_pos))) (View.readAt (Elt Ideal) (tbM0_1).view (Rect.unit (s := S36) (k0_off1 i) S1.size (k0_off1_inb i)).toLoadRect T1 (Shape.Idx.first (numel1_S1.symm ▸ Nat.one_pos))) = 1#1)) :
    Σ' (out0 : Buf (Elt Ideal) ((c : Thread nD τ).loc cc0_scratch0)) (out1 : Buf (Elt Ideal) ((c : Thread nD τ).loc cc0_scratch1)), { out2 : Buf (Elt Ideal) ((c : Thread nD τ).loc cc0_scratch2) //
      ∀ (y6 : (S512x256.Idx → Elt Ideal .f32)) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (arg9.view.loc (c : Thread nD τ) ↦[arg9.view.set]{fullShare} arg9.view.rep x4)
          ∗ (arg10.view.loc (c : Thread nD τ) ↦[arg10.view.set]{fullShare} arg10.view.rep x5)
          ∗ (tbM0_0.view.loc (c : Thread nD τ) ↦{fullShare.right} T0)
          ∗ (tbM0_1.view.loc (c : Thread nD τ) ↦{fullShare.right} T1)
          ∗ owns (c : Thread nD τ) arg11 fullShare y6
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (arg8.view.loc (c : Thread nD τ) ↦[arg8.view.set]{fullShare} arg8.view.rep x3)
              ∗ (arg9.view.loc (c : Thread nD τ) ↦[arg9.view.set]{fullShare} arg9.view.rep x4)
              ∗ (arg10.view.loc (c : Thread nD τ) ↦[arg10.view.set]{fullShare} arg10.view.rep x5)
              ∗ (tbM0_0.view.loc (c : Thread nD τ) ↦{fullShare.right} T0)
              ∗ (tbM0_1.view.loc (c : Thread nD τ) ↦{fullShare.right} T1)
              ∗ owns (c : Thread nD τ) arg11 fullShare y6
              ∗ (scM0_0.view.loc (c : Thread nD τ) ↦{fullShare} out0)
              ∗ (scM0_1.view.loc (c : Thread nD τ) ↦{fullShare} out1)
              ∗ (scM0_2.view.loc (c : Thread nD τ) ↦{fullShare} out2)) -∗ K ⟨⟩))
          ⊢ wp frame (wpE (defs₀ (F := Ideal)) Variants.none c none) Set.univ (cc0_diff_attn_prompt i tbM0_0 (Memref.isWhole_whole _) tbM0_1 (Memref.isWhole_whole _) arg5 harg5 arg6 harg6 arg7 harg7 arg8 harg8 arg9 harg9 arg10 harg10 (Memref.whole main_v3) (Memref.isWhole_whole _) arg11 harg11 scM0_0 (Memref.isWhole_whole _) scM0_1 (Memref.isWhole_whole _) scM0_2 (Memref.isWhole_whole _)) K } :=
  ⟨_, _, _, fun (y6 : (S512x256.Idx → Elt Ideal .f32)) K => by
    unfold owns
    rw [cc0_diff_attn_prompt_eq_skeleton]; unfold cc0_diff_attn_prompt_skel
    iintro ⟨H0, H1, H2, H3, H4, H5, HT0, HT1, ⟨%f6, %hf6, HO6⟩, HS0, HS1, HS2, Hk⟩
    obtain rfl := harg11.eq_unread hf6
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = ¬(k0_cond2 _ _ = _); exact k0_h2))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO6]
    · iexists _; isplitr; · ipureintro; exact harg11.read_unread _
      iexact HO6
    isplitl [HS0]; · iexact HS0
    isplitl [HS1]; · iexact HS1
    iexact HS2⟩

end Cert.KernelIdeal.Attn

end
-- ==== Proof.AttnIdeal.Ok0.lean ====
/- Every block the index maps name at those table words lies inside its array. -/
module

public import proofs.«01_k».proof.Proof.AttnIdeal.Pins

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resource algebra of the program over the extended reals. -/
local notation "𝕄" => MT nD τ sig Unit (Elt Ideal) ℕ (UR sig nD τ) ℕ

theorem ok_pfN_0_0_inb : ∀ i : grid0.Coords, ∀ a, (cc0_transform_1 k0_off1_inb numel1_S1 pfN i a + 1) * S512x256.size a ≤ S8192x6144.size a := by decide +kernel
theorem ok_pfN_0_0 : (∀ i : grid0.Coords, ∃ h : (∀ a, (cc0_transform_1 k0_off1_inb numel1_S1 pfN i a + 1) * S512x256.size a ≤ S8192x6144.size a), EltTy.bits .f32 = 32 ∨ (Rect.block (s := S8192x6144) S512x256.size (cc0_transform_1 k0_off1_inb numel1_S1 pfN i) h).WholeWords (EltTy.packing .f32)) := fun i => ⟨ok_pfN_0_0_inb i, .inl rfl⟩
theorem ok_pfN_0_1_inb : ∀ i : grid0.Coords, ∀ a, (cc0_transform_2 k0_off1_inb numel1_S1 pfN i a + 1) * S512x256.size a ≤ S8192x6144.size a := by decide +kernel
theorem ok_pfN_0_1 : (∀ i : grid0.Coords, ∃ h : (∀ a, (cc0_transform_2 k0_off1_inb numel1_S1 pfN i a + 1) * S512x256.size a ≤ S8192x6144.size a), EltTy.bits .f32 = 32 ∨ (Rect.block (s := S8192x6144) S512x256.size (cc0_transform_2 k0_off1_inb numel1_S1 pfN i) h).WholeWords (EltTy.packing .f32)) := fun i => ⟨ok_pfN_0_1_inb i, .inl rfl⟩
theorem ok_pfN_0_2_inb : ∀ i : grid0.Coords, ∀ a, (cc0_transform_3 k0_off1_inb numel1_S1 pfN i a + 1) * S512x256.size a ≤ S8192x6144.size a := by decide +kernel
theorem ok_pfN_0_2 : (∀ i : grid0.Coords, ∃ h : (∀ a, (cc0_transform_3 k0_off1_inb numel1_S1 pfN i a + 1) * S512x256.size a ≤ S8192x6144.size a), EltTy.bits .f32 = 32 ∨ (Rect.block (s := S8192x6144) S512x256.size (cc0_transform_3 k0_off1_inb numel1_S1 pfN i) h).WholeWords (EltTy.packing .f32)) := fun i => ⟨ok_pfN_0_2_inb i, .inl rfl⟩
theorem ok_pfN_0_3_inb : ∀ i : grid0.Coords, ∀ a, (cc0_transform_7 k0_off1_inb numel1_S1 pfN i a + 1) * S512x256.size a ≤ S8192x2048.size a := by decide +kernel
theorem ok_pfN_0_3 : (∀ i : grid0.Coords, ∃ h : (∀ a, (cc0_transform_7 k0_off1_inb numel1_S1 pfN i a + 1) * S512x256.size a ≤ S8192x2048.size a), EltTy.bits .f32 = 32 ∨ (Rect.block (s := S8192x2048) S512x256.size (cc0_transform_7 k0_off1_inb numel1_S1 pfN i) h).WholeWords (EltTy.packing .f32)) := fun i => ⟨ok_pfN_0_3_inb i, .inl rfl⟩
theorem ok_pfN_0 : ok0 (F := Ideal) pfN := ⟨ok_pfN_0_0, ok_pfN_0_1, ok_pfN_0_2, ok_pfN_0_3⟩

end Cert.KernelIdeal.Attn

end
-- ==== Proof.AttnIdeal.Cfg.lean ====
/- The pipeline at those words: a point's coordinates, its staging buffers, the blocks its windows hold, and the two decisions the body takes there. -/
module

public import proofs.«01_k».proof.Proof.AttnIdeal.Ok0

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resource algebra of the program over the extended reals. -/
local notation "𝕄" => MT nD τ sig Unit (Elt Ideal) ℕ (UR sig nD τ) ℕ

/-- The side condition holds of the pinned tables at EVERY member (the grid at them one the machine runs, every block
    inside its array): decided member by member (Flash/OkJ.lean), matched here. -/
theorem ok_pfN : ok0 (F := Ideal) pfN := ok_pfN_0

/-- The admissible contents, the pipeline at them (`cfgA`: , 576 points), asmain's one. -/
def adm : (pcfg0 (F := Ideal)).Adm := ⟨pfN, ok_pfN⟩
abbrev cfgA : Pipeline.Cfg sig Λ₀ := cfg0 (F := Ideal) (adm)
abbrev pcs : Fin 1 → Pipeline.Cfg sig Λ₀ := Pipeline.pin (pcfgs (F := Ideal)) fun _ => adm

variable (m : (ℓ : Loc nD τ sig) → Buf (Elt Ideal) ℓ)

/-! ## The buffers when the call begins -/

/-- Core `c`'s buffers after the host operations before the call. -/
abbrev V (c : Dev nD) (b : Ref sig .tc) : Buf (Elt Ideal) ((c : Thread nD τ).loc b) := StableHlo.after hostOps0 (fun b => m (c, b)) b

/-! ## A point's coordinates, words and staging memrefs -/

/-- Point `t`'s coordinates. -/
abbrev crd (t : Fin (cfgA).N) : (cfgA).grid.Coords := (cfgA).grid.coords t

/-- Each window's current staging memref at point `t`, spelled as the pipeline passes it, and its wholeness. -/
abbrev ms0_0 (t : Fin (cfgA).N) : Memref sig .tc .smem S8 .f32 := spec0_0.stage ((cfgA).slots t (0 : Fin 7))
abbrev hs0_0 (t : Fin (cfgA).N) : (ms0_0 t).IsWhole := hstage0_0 (((cfgA).slots t (0 : Fin 7)).cast nbuf0_0)
abbrev ms0_1 (t : Fin (cfgA).N) : Memref sig .tc .vmem S512x256 .f32 := spec0_1.stage ((cfgA).slots t (1 : Fin 7))
abbrev hs0_1 (t : Fin (cfgA).N) : (ms0_1 t).IsWhole := hstage0_1 (((cfgA).slots t (1 : Fin 7)).cast nbuf0_1)
abbrev ms0_2 (t : Fin (cfgA).N) : Memref sig .tc .vmem S512x256 .f32 := spec0_2.stage ((cfgA).slots t (2 : Fin 7))
abbrev hs0_2 (t : Fin (cfgA).N) : (ms0_2 t).IsWhole := hstage0_2 (((cfgA).slots t (2 : Fin 7)).cast nbuf0_2)
abbrev ms0_3 (t : Fin (cfgA).N) : Memref sig .tc .vmem S512x256 .f32 := spec0_3.stage ((cfgA).slots t (3 : Fin 7))
abbrev hs0_3 (t : Fin (cfgA).N) : (ms0_3 t).IsWhole := hstage0_3 (((cfgA).slots t (3 : Fin 7)).cast nbuf0_3)
abbrev ms0_4 (t : Fin (cfgA).N) : Memref sig .tc .vmem S4x128 .f32 := spec0_4.stage ((cfgA).slots t (4 : Fin 7))
abbrev hs0_4 (t : Fin (cfgA).N) : (ms0_4 t).IsWhole := hstage0_4 (((cfgA).slots t (4 : Fin 7)).cast nbuf0_4)
abbrev ms0_5 (t : Fin (cfgA).N) : Memref sig .tc .vmem S1x1x256 .f32 := spec0_5.stage ((cfgA).slots t (5 : Fin 7))
abbrev hs0_5 (t : Fin (cfgA).N) : (ms0_5 t).IsWhole := hstage0_5 (((cfgA).slots t (5 : Fin 7)).cast nbuf0_5)
abbrev ms0_6 (t : Fin (cfgA).N) : Memref sig .tc .vmem S512x256 .f32 := spec0_6.stage ((cfgA).slots t (6 : Fin 7))
abbrev hs0_6 (t : Fin (cfgA).N) : (ms0_6 t).IsWhole := hstage0_6 (((cfgA).slots t (6 : Fin 7)).cast nbuf0_6)

/-! ## The windows' blocks -/

/-- Window `w`'s block at point `t`, read off its array as the host operations left it. -/
def iblk (c : Dev nD) (w : Fin (cfgA).W) (t : Fin (cfgA).N) : (((cfgA).win w).xblock (crd t)).Idx → Elt Ideal ((cfgA).win w).elt :=
  (((cfgA).win w).blk t).view.read (Elt Ideal) (V m c (Pipeline.arrRef spec0 w))

/-! ## The control's decisions at a point, at the pinned words (what tells the paths apart) -/

abbrev P0_0 (t : Fin (cfgA).N) : Prop := (Scalar.cmpi .ne (Scalar.extui (Scalar.cmpi .eq (View.readAt (Elt Ideal) (tbM0_1).view (Rect.unit (s := S36) (k0_off1 (crd t)) S1.size (k0_off1_inb (crd t))).toLoadRect (pinT_1) (Shape.Idx.first (numel1_S1.symm ▸ Nat.one_pos))) 0#32)) 0#32) = 1#1
abbrev P0_1 (t : Fin (cfgA).N) : Prop := k0_cond2 (View.readAt (Elt Ideal) (tbM0_0).view (Rect.unit (s := S36) (k0_off1 (crd t)) S1.size (k0_off1_inb (crd t))).toLoadRect (pinT_0) (Shape.Idx.first (numel1_S1.symm ▸ Nat.one_pos))) (View.readAt (Elt Ideal) (tbM0_1).view (Rect.unit (s := S36) (k0_off1 (crd t)) S1.size (k0_off1_inb (crd t))).toLoadRect (pinT_1) (Shape.Idx.first (numel1_S1.symm ▸ Nat.one_pos))) = 1#1

/-- Whether scratch 0 (`cc0_scratch0`) holds nothing a point has determined, before position `n`: until a path that stores it
    whole first (A, B) has run. -/
def sfresh0_0 : ℕ → Bool
  | 0 => true
  | n + 1 => if h : n < (cfgA).N then (if P0_0 ⟨n, h⟩ then (if P0_1 ⟨n, h⟩ then false else false) else (if P0_1 ⟨n, h⟩ then sfresh0_0 n else sfresh0_0 n)) else true

/-- Its CLOSED FORM: fresh before position `n` iff no point below `n` covers it — `n` at most  first covering
    point (read off the walk; the recursion's step is decided against it point by point, the recursion never run). -/
def sfirst0_0 : ℕ := 0
def sfrTab0_0 : ℕ → Bool := fun n => decide (n ≤ sfirst0_0)

/-- Whether scratch 1 (`cc0_scratch1`) holds nothing a point has determined, before position `n`: until a path that stores it
    whole first (A, B) has run. -/
def sfresh0_1 : ℕ → Bool
  | 0 => true
  | n + 1 => if h : n < (cfgA).N then (if P0_0 ⟨n, h⟩ then (if P0_1 ⟨n, h⟩ then false else false) else (if P0_1 ⟨n, h⟩ then sfresh0_1 n else sfresh0_1 n)) else true

/-- Its CLOSED FORM: fresh before position `n` iff no point below `n` covers it — `n` at most  first covering
    point (read off the walk; the recursion's step is decided against it point by point, the recursion never run). -/
def sfirst0_1 : ℕ := 0
def sfrTab0_1 : ℕ → Bool := fun n => decide (n ≤ sfirst0_1)

/-- Whether scratch 2 (`cc0_scratch2`) holds nothing a point has determined, before position `n`: until a path that stores it
    whole first (A, B) has run. -/
def sfresh0_2 : ℕ → Bool
  | 0 => true
  | n + 1 => if h : n < (cfgA).N then (if P0_0 ⟨n, h⟩ then (if P0_1 ⟨n, h⟩ then false else false) else (if P0_1 ⟨n, h⟩ then sfresh0_2 n else sfresh0_2 n)) else true

/-- Its CLOSED FORM: fresh before position `n` iff no point below `n` covers it — `n` at most  first covering
    point (read off the walk; the recursion's step is decided against it point by point, the recursion never run). -/
def sfirst0_2 : ℕ := 0
def sfrTab0_2 : ℕ → Bool := fun n => decide (n ≤ sfirst0_2)

set_option backward.proofsInPublic true in
/-- Whether output 6 holds junk BEFORE each position `1 ‥ N`  — nothing stored into it since
    its last write-back —: the classifier's table (written back at the point before, or idle there and junk
    before it) as a bitmask, bit `n` for position `n + 1`, which `frTab0_6_step` checks against the pipeline's
    own recursion point by point (a bit test is one kernel step; a list walk or the recursion, hundreds). -/
def frMask0_6 : ℕ := 0xffffffffffffffffffffffffffffffffffffffffffffffffffffffffffffffffffffffffffffffffffffffffffffffffffffffffffffffffffffffffffffffffffffffffffffffff
/-- `(cfgA).fresh 6` TABULATED (TableIdle.lean `Cfg.fresh_tab`): true before the first point, then the table. -/
def frTab0_6 : ℕ → Bool
  | 0 => true
  | n + 1 => (frMask0_6).testBit n

end Cert.KernelIdeal.Attn

end
-- ==== Proof.AttnIdeal.Facts.lean ====
/- What has to be checked at a point of the grid, as one proposition. -/
module

public import proofs.«01_k».proof.Proof.AttnIdeal.Cfg

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resource algebra of the program over the extended reals. -/
local notation "𝕄" => MT nD τ sig Unit (Elt Ideal) ℕ (UR sig nD τ) ℕ
variable (m : (ℓ : Loc nD τ sig) → Buf (Elt Ideal) ℓ)

/-! ## Every per-point fact as ONE proposition, decided member by member; the named facts its projections -/

/-- EVERY FACT THE CERTIFICATE DECIDES at point `t`  past the checks — the freshness tables' steps, each
    path's hypotheses and schedule at its points —, as one proposition: ONE kernel evaluation per member
    decides it over the member's points, sharing each point's words, table reads and block indices between the
    facts (Lib/Decide.lean halves the range; a declaration per member bounds the kernel's evaluation cache). -/
abbrev FactsAt (t : Fin (cfgA).N) : Prop :=
  -- sfrTab0_0_step, sfrTab0_1_step, sfrTab0_2_step, frTab0_6_step, hyps0_A, sched0_A, hyps0_B, sched0_B, hyps0_C, sched0_C, hyps0_D, sched0_D
  (sfrTab0_0 (t.val + 1) = (if P0_0 t then (if P0_1 t then false else false) else (if P0_1 t then sfrTab0_0 t.val else sfrTab0_0 t.val)))
  ∧ (sfrTab0_1 (t.val + 1) = (if P0_0 t then (if P0_1 t then false else false) else (if P0_1 t then sfrTab0_1 t.val else sfrTab0_1 t.val)))
  ∧ (sfrTab0_2 (t.val + 1) = (if P0_0 t then (if P0_1 t then false else false) else (if P0_1 t then sfrTab0_2 t.val else sfrTab0_2 t.val)))
  ∧ (frTab0_6 (t.val + 1) = (((cfgA).win (6 : Fin 7)).flush t || ((cfgA).idle (6 : Fin 7) ((cfgA).grid.coords t) && frTab0_6 t.val)))
  ∧ (P0_0 t → P0_1 t → ((Scalar.cmpi .ne (Scalar.extui (Scalar.cmpi .eq (View.readAt (Elt Ideal) (tbM0_1).view (Rect.unit (s := S36) (k0_off1 (crd t)) S1.size (k0_off1_inb (crd t))).toLoadRect (pinT_1) (Shape.Idx.first (numel1_S1.symm ▸ Nat.one_pos))) 0#32)) 0#32) = 1#1) ∧ ((k0_cond2 (View.readAt (Elt Ideal) (tbM0_0).view (Rect.unit (s := S36) (k0_off1 (crd t)) S1.size (k0_off1_inb (crd t))).toLoadRect (pinT_0) (Shape.Idx.first (numel1_S1.symm ▸ Nat.one_pos))) (View.readAt (Elt Ideal) (tbM0_1).view (Rect.unit (s := S36) (k0_off1 (crd t)) S1.size (k0_off1_inb (crd t))).toLoadRect (pinT_1) (Shape.Idx.first (numel1_S1.symm ▸ Nat.one_pos))) = 1#1) ∧ (True)))
  ∧ (P0_0 t → P0_1 t → (cfgA).idle (6 : Fin 7) ((cfgA).grid.coords t) = false ∧ ((cfgA).win (6 : Fin 7)).flush t = true ∧ frTab0_6 t.val = true ∧ sfrTab0_0 (t.val + 1) = false ∧ sfrTab0_1 (t.val + 1) = false ∧ sfrTab0_2 (t.val + 1) = false)
  ∧ (P0_0 t → ¬P0_1 t → ((Scalar.cmpi .ne (Scalar.extui (Scalar.cmpi .eq (View.readAt (Elt Ideal) (tbM0_1).view (Rect.unit (s := S36) (k0_off1 (crd t)) S1.size (k0_off1_inb (crd t))).toLoadRect (pinT_1) (Shape.Idx.first (numel1_S1.symm ▸ Nat.one_pos))) 0#32)) 0#32) = 1#1) ∧ ((¬(k0_cond2 (View.readAt (Elt Ideal) (tbM0_0).view (Rect.unit (s := S36) (k0_off1 (crd t)) S1.size (k0_off1_inb (crd t))).toLoadRect (pinT_0) (Shape.Idx.first (numel1_S1.symm ▸ Nat.one_pos))) (View.readAt (Elt Ideal) (tbM0_1).view (Rect.unit (s := S36) (k0_off1 (crd t)) S1.size (k0_off1_inb (crd t))).toLoadRect (pinT_1) (Shape.Idx.first (numel1_S1.symm ▸ Nat.one_pos))) = 1#1)) ∧ (True)))
  ∧ (P0_0 t → ¬P0_1 t → (cfgA).idle (6 : Fin 7) ((cfgA).grid.coords t) = true ∧ ((cfgA).win (6 : Fin 7)).flush t = false ∧ frTab0_6 t.val = true ∧ sfrTab0_0 t.val = false ∧ sfrTab0_0 (t.val + 1) = false ∧ sfrTab0_1 t.val = false ∧ sfrTab0_1 (t.val + 1) = false ∧ sfrTab0_2 t.val = false ∧ sfrTab0_2 (t.val + 1) = false)
  ∧ (¬P0_0 t → P0_1 t → (¬((Scalar.cmpi .ne (Scalar.extui (Scalar.cmpi .eq (View.readAt (Elt Ideal) (tbM0_1).view (Rect.unit (s := S36) (k0_off1 (crd t)) S1.size (k0_off1_inb (crd t))).toLoadRect (pinT_1) (Shape.Idx.first (numel1_S1.symm ▸ Nat.one_pos))) 0#32)) 0#32) = 1#1)) ∧ ((k0_cond2 (View.readAt (Elt Ideal) (tbM0_0).view (Rect.unit (s := S36) (k0_off1 (crd t)) S1.size (k0_off1_inb (crd t))).toLoadRect (pinT_0) (Shape.Idx.first (numel1_S1.symm ▸ Nat.one_pos))) (View.readAt (Elt Ideal) (tbM0_1).view (Rect.unit (s := S36) (k0_off1 (crd t)) S1.size (k0_off1_inb (crd t))).toLoadRect (pinT_1) (Shape.Idx.first (numel1_S1.symm ▸ Nat.one_pos))) = 1#1) ∧ (True)))
  ∧ (¬P0_0 t → P0_1 t → (cfgA).idle (6 : Fin 7) ((cfgA).grid.coords t) = false ∧ ((cfgA).win (6 : Fin 7)).flush t = true ∧ frTab0_6 t.val = true ∧ sfrTab0_0 t.val = false ∧ sfrTab0_0 (t.val + 1) = false ∧ sfrTab0_1 t.val = false ∧ sfrTab0_1 (t.val + 1) = false ∧ sfrTab0_2 t.val = false ∧ sfrTab0_2 (t.val + 1) = false)
  ∧ (¬P0_0 t → ¬P0_1 t → (¬((Scalar.cmpi .ne (Scalar.extui (Scalar.cmpi .eq (View.readAt (Elt Ideal) (tbM0_1).view (Rect.unit (s := S36) (k0_off1 (crd t)) S1.size (k0_off1_inb (crd t))).toLoadRect (pinT_1) (Shape.Idx.first (numel1_S1.symm ▸ Nat.one_pos))) 0#32)) 0#32) = 1#1)) ∧ ((¬(k0_cond2 (View.readAt (Elt Ideal) (tbM0_0).view (Rect.unit (s := S36) (k0_off1 (crd t)) S1.size (k0_off1_inb (crd t))).toLoadRect (pinT_0) (Shape.Idx.first (numel1_S1.symm ▸ Nat.one_pos))) (View.readAt (Elt Ideal) (tbM0_1).view (Rect.unit (s := S36) (k0_off1 (crd t)) S1.size (k0_off1_inb (crd t))).toLoadRect (pinT_1) (Shape.Idx.first (numel1_S1.symm ▸ Nat.one_pos))) = 1#1)) ∧ (True)))
  ∧ (¬P0_0 t → ¬P0_1 t → (cfgA).idle (6 : Fin 7) ((cfgA).grid.coords t) = true ∧ ((cfgA).win (6 : Fin 7)).flush t = false ∧ frTab0_6 t.val = true ∧ sfrTab0_0 t.val = false ∧ sfrTab0_0 (t.val + 1) = false ∧ sfrTab0_1 t.val = false ∧ sfrTab0_1 (t.val + 1) = false ∧ sfrTab0_2 t.val = false ∧ sfrTab0_2 (t.val + 1) = false)

set_option synthInstance.maxSize 65536 in
instance FactsAt.dec (t : Fin (cfgA).N) : Decidable (FactsAt t) :=
  @instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (inferInstance)))))))))))

end Cert.KernelIdeal.Attn

end
-- ==== Proof.AttnIdeal.Facts0.lean ====
/- The check of every point, in slices. -/
module

public import proofs.«01_k».proof.Proof.AttnIdeal.Facts

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resource algebra of the program over the extended reals. -/
local notation "𝕄" => MT nD τ sig Unit (Elt Ideal) ℕ (UR sig nD τ) ℕ

theorem allFacts_0_0 : ∀ t : Fin (cfgA).N, 0 ≤ t.val → t.val < 72 → FactsAt t := by decide +kernel
theorem allFacts_0_1 : ∀ t : Fin (cfgA).N, 72 ≤ t.val → t.val < 144 → FactsAt t := by decide +kernel
theorem allFacts_0_2 : ∀ t : Fin (cfgA).N, 144 ≤ t.val → t.val < 216 → FactsAt t := by decide +kernel
theorem allFacts_0_3 : ∀ t : Fin (cfgA).N, 216 ≤ t.val → t.val < 288 → FactsAt t := by decide +kernel
theorem allFacts_0_4 : ∀ t : Fin (cfgA).N, 288 ≤ t.val → t.val < 360 → FactsAt t := by decide +kernel
theorem allFacts_0_5 : ∀ t : Fin (cfgA).N, 360 ≤ t.val → t.val < 432 → FactsAt t := by decide +kernel
theorem allFacts_0_6 : ∀ t : Fin (cfgA).N, 432 ≤ t.val → t.val < 504 → FactsAt t := by decide +kernel
theorem allFacts_0_7 : ∀ t : Fin (cfgA).N, 504 ≤ t.val → t.val < 576 → FactsAt t := by decide +kernel
theorem allFacts_0 : ∀ t : Fin (cfgA).N, FactsAt t := fun t => by
  have h0 : 0 ≤ t.val := Nat.zero_le _
  rcases Nat.lt_or_ge t.val 72 with h1 | h1; · exact allFacts_0_0 t h0 h1
  rcases Nat.lt_or_ge t.val 144 with h2 | h2; · exact allFacts_0_1 t h1 h2
  rcases Nat.lt_or_ge t.val 216 with h3 | h3; · exact allFacts_0_2 t h2 h3
  rcases Nat.lt_or_ge t.val 288 with h4 | h4; · exact allFacts_0_3 t h3 h4
  rcases Nat.lt_or_ge t.val 360 with h5 | h5; · exact allFacts_0_4 t h4 h5
  rcases Nat.lt_or_ge t.val 432 with h6 | h6; · exact allFacts_0_5 t h5 h6
  rcases Nat.lt_or_ge t.val 504 with h7 | h7; · exact allFacts_0_6 t h6 h7
  exact allFacts_0_7 t h7 t.isLt

end Cert.KernelIdeal.Attn

end
-- ==== Proof.AttnIdeal.Frame.lean ====
/- The body at a point, what the buffers hold after each point, and the launch. -/
module

public import proofs.«01_k».proof.Proof.AttnIdeal.Runs
public import proofs.«01_k».proof.Proof.AttnIdeal.Facts0
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resource algebra of the program over the extended reals. -/
local notation "𝕄" => MT nD τ sig Unit (Elt Ideal) ℕ (UR sig nD τ) ℕ

/-- The proof's resource algebra: the rounds library's, for the pipeline's staging cells, embedded whole. -/
abbrev EP : Emb (UR sig nD τ) 𝕄 := emb₁

variable (m : (ℓ : Loc nD τ sig) → Buf (Elt Ideal) ℓ)

/-- The facts at every point of every member (decided member by member in slices of points, Flash/FactsJ.lean). -/
theorem allFacts : ∀ (t : Fin (cfgA).N), FactsAt t := allFacts_0

/-! ## The named facts — the freshness tables' steps, each path's hypotheses and schedule —: its projections -/

theorem sfrTab0_0_step : ∀ (t : Fin (cfgA).N), sfrTab0_0 (t.val + 1) = (if P0_0 t then (if P0_1 t then false else false) else (if P0_1 t then sfrTab0_0 t.val else sfrTab0_0 t.val)) := fun t => (allFacts t).1
theorem sfresh0_0_eq : ∀ n, n ≤ (cfgA).N → sfresh0_0 n = sfrTab0_0 n
  | 0, _ => by simp only [sfresh0_0, sfrTab0_0, Nat.zero_le, decide_true]
  | n + 1, h => by simp only [sfresh0_0, dif_pos (show n < (cfgA).N from h), sfresh0_0_eq n (Nat.le_of_lt h), sfrTab0_0_step ⟨n, h⟩]
theorem sfreshF0_0 (t : Fin (cfgA).N) : sfresh0_0 t.val = sfrTab0_0 t.val := sfresh0_0_eq t.val (Nat.le_of_lt t.isLt)
theorem sfreshS0_0 (t : Fin (cfgA).N) : sfresh0_0 (t.val + 1) = sfrTab0_0 (t.val + 1) := sfresh0_0_eq (t.val + 1) t.isLt

theorem sfrTab0_1_step : ∀ (t : Fin (cfgA).N), sfrTab0_1 (t.val + 1) = (if P0_0 t then (if P0_1 t then false else false) else (if P0_1 t then sfrTab0_1 t.val else sfrTab0_1 t.val)) := fun t => (allFacts t).2.1
theorem sfresh0_1_eq : ∀ n, n ≤ (cfgA).N → sfresh0_1 n = sfrTab0_1 n
  | 0, _ => by simp only [sfresh0_1, sfrTab0_1, Nat.zero_le, decide_true]
  | n + 1, h => by simp only [sfresh0_1, dif_pos (show n < (cfgA).N from h), sfresh0_1_eq n (Nat.le_of_lt h), sfrTab0_1_step ⟨n, h⟩]
theorem sfreshF0_1 (t : Fin (cfgA).N) : sfresh0_1 t.val = sfrTab0_1 t.val := sfresh0_1_eq t.val (Nat.le_of_lt t.isLt)
theorem sfreshS0_1 (t : Fin (cfgA).N) : sfresh0_1 (t.val + 1) = sfrTab0_1 (t.val + 1) := sfresh0_1_eq (t.val + 1) t.isLt

theorem sfrTab0_2_step : ∀ (t : Fin (cfgA).N), sfrTab0_2 (t.val + 1) = (if P0_0 t then (if P0_1 t then false else false) else (if P0_1 t then sfrTab0_2 t.val else sfrTab0_2 t.val)) := fun t => (allFacts t).2.2.1
theorem sfresh0_2_eq : ∀ n, n ≤ (cfgA).N → sfresh0_2 n = sfrTab0_2 n
  | 0, _ => by simp only [sfresh0_2, sfrTab0_2, Nat.zero_le, decide_true]
  | n + 1, h => by simp only [sfresh0_2, dif_pos (show n < (cfgA).N from h), sfresh0_2_eq n (Nat.le_of_lt h), sfrTab0_2_step ⟨n, h⟩]
theorem sfreshF0_2 (t : Fin (cfgA).N) : sfresh0_2 t.val = sfrTab0_2 t.val := sfresh0_2_eq t.val (Nat.le_of_lt t.isLt)
theorem sfreshS0_2 (t : Fin (cfgA).N) : sfresh0_2 (t.val + 1) = sfrTab0_2 (t.val + 1) := sfresh0_2_eq (t.val + 1) t.isLt

theorem frTab0_6_step : ∀ (t : Fin (cfgA).N),
    frTab0_6 (t.val + 1) = (((cfgA).win (6 : Fin 7)).flush t || ((cfgA).idle (6 : Fin 7) ((cfgA).grid.coords t) && frTab0_6 t.val)) := fun t => (allFacts t).2.2.2.1
theorem freshF0_6 (t : Fin (cfgA).N) : (cfgA).fresh (6 : Fin 7) t.val = frTab0_6 t.val :=
  Pipeline.Cfg.fresh_tab (cfgA) (6 : Fin 7) (frTab0_6) rfl (frTab0_6_step) t.val (Nat.le_of_lt t.isLt)

/-- At a point of path A, the path's hypotheses hold of the words the body reads there (the pinned tables read,
    a pinned window's word AS the word `pinBlk t (r.idx x)`; the checks among them cited from `ChecksAt`). -/
theorem hyps0_A : ∀ (t : Fin (cfgA).N), P0_0 t → P0_1 t →
    ((Scalar.cmpi .ne (Scalar.extui (Scalar.cmpi .eq (View.readAt (Elt Ideal) (tbM0_1).view (Rect.unit (s := S36) (k0_off1 (crd t)) S1.size (k0_off1_inb (crd t))).toLoadRect (pinT_1) (Shape.Idx.first (numel1_S1.symm ▸ Nat.one_pos))) 0#32)) 0#32) = 1#1) ∧ ((k0_cond2 (View.readAt (Elt Ideal) (tbM0_0).view (Rect.unit (s := S36) (k0_off1 (crd t)) S1.size (k0_off1_inb (crd t))).toLoadRect (pinT_0) (Shape.Idx.first (numel1_S1.symm ▸ Nat.one_pos))) (View.readAt (Elt Ideal) (tbM0_1).view (Rect.unit (s := S36) (k0_off1 (crd t)) S1.size (k0_off1_inb (crd t))).toLoadRect (pinT_1) (Shape.Idx.first (numel1_S1.symm ▸ Nat.one_pos))) = 1#1) ∧ (True)) := fun t => (allFacts t).2.2.2.2.1

theorem hypsR0_A : ∀ (t : Fin (cfgA).N), P0_0 t → P0_1 t →
    ((Scalar.cmpi .ne (Scalar.extui (Scalar.cmpi .eq (View.readAt (Elt Ideal) (tbM0_1).view (Rect.unit (s := S36) (k0_off1 (crd t)) S1.size (k0_off1_inb (crd t))).toLoadRect (pinT_1) (Shape.Idx.first (numel1_S1.symm ▸ Nat.one_pos))) 0#32)) 0#32) = 1#1) ∧ ((k0_cond2 (View.readAt (Elt Ideal) (tbM0_0).view (Rect.unit (s := S36) (k0_off1 (crd t)) S1.size (k0_off1_inb (crd t))).toLoadRect (pinT_0) (Shape.Idx.first (numel1_S1.symm ▸ Nat.one_pos))) (View.readAt (Elt Ideal) (tbM0_1).view (Rect.unit (s := S36) (k0_off1 (crd t)) S1.size (k0_off1_inb (crd t))).toLoadRect (pinT_1) (Shape.Idx.first (numel1_S1.symm ▸ Nat.one_pos))) = 1#1) ∧ (True)) := hyps0_A

/-- At a point of path A: the idle table, the write-backs and which buffers hold junk (decided over the
    freshness tables `frTab`/`sfrTab`, restated over `Cfg.fresh`/`sfresh` by their agreement). -/
theorem sched0_A : ∀ (t : Fin (cfgA).N), P0_0 t → P0_1 t →
    (cfgA).idle (6 : Fin 7) ((cfgA).grid.coords t) = false ∧ ((cfgA).win (6 : Fin 7)).flush t = true ∧ (cfgA).fresh (6 : Fin 7) t.val = true ∧ sfresh0_0 (t.val + 1) = false ∧ sfresh0_1 (t.val + 1) = false ∧ sfresh0_2 (t.val + 1) = false := by
  intro t; rw [freshF0_6 t, sfreshS0_0 t, sfreshS0_1 t, sfreshS0_2 t]; exact (fun t => (allFacts t).2.2.2.2.2.1) t

/-- At a point of path B, the path's hypotheses hold of the words the body reads there (the pinned tables read,
    a pinned window's word AS the word `pinBlk t (r.idx x)`; the checks among them cited from `ChecksAt`). -/
theorem hyps0_B : ∀ (t : Fin (cfgA).N), P0_0 t → ¬P0_1 t →
    ((Scalar.cmpi .ne (Scalar.extui (Scalar.cmpi .eq (View.readAt (Elt Ideal) (tbM0_1).view (Rect.unit (s := S36) (k0_off1 (crd t)) S1.size (k0_off1_inb (crd t))).toLoadRect (pinT_1) (Shape.Idx.first (numel1_S1.symm ▸ Nat.one_pos))) 0#32)) 0#32) = 1#1) ∧ ((¬(k0_cond2 (View.readAt (Elt Ideal) (tbM0_0).view (Rect.unit (s := S36) (k0_off1 (crd t)) S1.size (k0_off1_inb (crd t))).toLoadRect (pinT_0) (Shape.Idx.first (numel1_S1.symm ▸ Nat.one_pos))) (View.readAt (Elt Ideal) (tbM0_1).view (Rect.unit (s := S36) (k0_off1 (crd t)) S1.size (k0_off1_inb (crd t))).toLoadRect (pinT_1) (Shape.Idx.first (numel1_S1.symm ▸ Nat.one_pos))) = 1#1)) ∧ (True)) := fun t => (allFacts t).2.2.2.2.2.2.1

theorem hypsR0_B : ∀ (t : Fin (cfgA).N), P0_0 t → ¬P0_1 t →
    ((Scalar.cmpi .ne (Scalar.extui (Scalar.cmpi .eq (View.readAt (Elt Ideal) (tbM0_1).view (Rect.unit (s := S36) (k0_off1 (crd t)) S1.size (k0_off1_inb (crd t))).toLoadRect (pinT_1) (Shape.Idx.first (numel1_S1.symm ▸ Nat.one_pos))) 0#32)) 0#32) = 1#1) ∧ ((¬(k0_cond2 (View.readAt (Elt Ideal) (tbM0_0).view (Rect.unit (s := S36) (k0_off1 (crd t)) S1.size (k0_off1_inb (crd t))).toLoadRect (pinT_0) (Shape.Idx.first (numel1_S1.symm ▸ Nat.one_pos))) (View.readAt (Elt Ideal) (tbM0_1).view (Rect.unit (s := S36) (k0_off1 (crd t)) S1.size (k0_off1_inb (crd t))).toLoadRect (pinT_1) (Shape.Idx.first (numel1_S1.symm ▸ Nat.one_pos))) = 1#1)) ∧ (True)) := hyps0_B

/-- At a point of path B: the idle table, the write-backs and which buffers hold junk (decided over the
    freshness tables `frTab`/`sfrTab`, restated over `Cfg.fresh`/`sfresh` by their agreement). -/
theorem sched0_B : ∀ (t : Fin (cfgA).N), P0_0 t → ¬P0_1 t →
    (cfgA).idle (6 : Fin 7) ((cfgA).grid.coords t) = true ∧ ((cfgA).win (6 : Fin 7)).flush t = false ∧ (cfgA).fresh (6 : Fin 7) t.val = true ∧ sfresh0_0 t.val = false ∧ sfresh0_0 (t.val + 1) = false ∧ sfresh0_1 t.val = false ∧ sfresh0_1 (t.val + 1) = false ∧ sfresh0_2 t.val = false ∧ sfresh0_2 (t.val + 1) = false := by
  intro t; rw [freshF0_6 t, sfreshF0_0 t, sfreshS0_0 t, sfreshF0_1 t, sfreshS0_1 t, sfreshF0_2 t, sfreshS0_2 t]; exact (fun t => (allFacts t).2.2.2.2.2.2.2.1) t

/-- At a point of path C, the path's hypotheses hold of the words the body reads there (the pinned tables read,
    a pinned window's word AS the word `pinBlk t (r.idx x)`; the checks among them cited from `ChecksAt`). -/
theorem hyps0_C : ∀ (t : Fin (cfgA).N), ¬P0_0 t → P0_1 t →
    (¬((Scalar.cmpi .ne (Scalar.extui (Scalar.cmpi .eq (View.readAt (Elt Ideal) (tbM0_1).view (Rect.unit (s := S36) (k0_off1 (crd t)) S1.size (k0_off1_inb (crd t))).toLoadRect (pinT_1) (Shape.Idx.first (numel1_S1.symm ▸ Nat.one_pos))) 0#32)) 0#32) = 1#1)) ∧ ((k0_cond2 (View.readAt (Elt Ideal) (tbM0_0).view (Rect.unit (s := S36) (k0_off1 (crd t)) S1.size (k0_off1_inb (crd t))).toLoadRect (pinT_0) (Shape.Idx.first (numel1_S1.symm ▸ Nat.one_pos))) (View.readAt (Elt Ideal) (tbM0_1).view (Rect.unit (s := S36) (k0_off1 (crd t)) S1.size (k0_off1_inb (crd t))).toLoadRect (pinT_1) (Shape.Idx.first (numel1_S1.symm ▸ Nat.one_pos))) = 1#1) ∧ (True)) := fun t => (allFacts t).2.2.2.2.2.2.2.2.1

theorem hypsR0_C : ∀ (t : Fin (cfgA).N), ¬P0_0 t → P0_1 t →
    (¬((Scalar.cmpi .ne (Scalar.extui (Scalar.cmpi .eq (View.readAt (Elt Ideal) (tbM0_1).view (Rect.unit (s := S36) (k0_off1 (crd t)) S1.size (k0_off1_inb (crd t))).toLoadRect (pinT_1) (Shape.Idx.first (numel1_S1.symm ▸ Nat.one_pos))) 0#32)) 0#32) = 1#1)) ∧ ((k0_cond2 (View.readAt (Elt Ideal) (tbM0_0).view (Rect.unit (s := S36) (k0_off1 (crd t)) S1.size (k0_off1_inb (crd t))).toLoadRect (pinT_0) (Shape.Idx.first (numel1_S1.symm ▸ Nat.one_pos))) (View.readAt (Elt Ideal) (tbM0_1).view (Rect.unit (s := S36) (k0_off1 (crd t)) S1.size (k0_off1_inb (crd t))).toLoadRect (pinT_1) (Shape.Idx.first (numel1_S1.symm ▸ Nat.one_pos))) = 1#1) ∧ (True)) := hyps0_C

/-- At a point of path C: the idle table, the write-backs and which buffers hold junk (decided over the
    freshness tables `frTab`/`sfrTab`, restated over `Cfg.fresh`/`sfresh` by their agreement). -/
theorem sched0_C : ∀ (t : Fin (cfgA).N), ¬P0_0 t → P0_1 t →
    (cfgA).idle (6 : Fin 7) ((cfgA).grid.coords t) = false ∧ ((cfgA).win (6 : Fin 7)).flush t = true ∧ (cfgA).fresh (6 : Fin 7) t.val = true ∧ sfresh0_0 t.val = false ∧ sfresh0_0 (t.val + 1) = false ∧ sfresh0_1 t.val = false ∧ sfresh0_1 (t.val + 1) = false ∧ sfresh0_2 t.val = false ∧ sfresh0_2 (t.val + 1) = false := by
  intro t; rw [freshF0_6 t, sfreshF0_0 t, sfreshS0_0 t, sfreshF0_1 t, sfreshS0_1 t, sfreshF0_2 t, sfreshS0_2 t]; exact (fun t => (allFacts t).2.2.2.2.2.2.2.2.2.1) t

/-- At a point of path D, the path's hypotheses hold of the words the body reads there (the pinned tables read,
    a pinned window's word AS the word `pinBlk t (r.idx x)`; the checks among them cited from `ChecksAt`). -/
theorem hyps0_D : ∀ (t : Fin (cfgA).N), ¬P0_0 t → ¬P0_1 t →
    (¬((Scalar.cmpi .ne (Scalar.extui (Scalar.cmpi .eq (View.readAt (Elt Ideal) (tbM0_1).view (Rect.unit (s := S36) (k0_off1 (crd t)) S1.size (k0_off1_inb (crd t))).toLoadRect (pinT_1) (Shape.Idx.first (numel1_S1.symm ▸ Nat.one_pos))) 0#32)) 0#32) = 1#1)) ∧ ((¬(k0_cond2 (View.readAt (Elt Ideal) (tbM0_0).view (Rect.unit (s := S36) (k0_off1 (crd t)) S1.size (k0_off1_inb (crd t))).toLoadRect (pinT_0) (Shape.Idx.first (numel1_S1.symm ▸ Nat.one_pos))) (View.readAt (Elt Ideal) (tbM0_1).view (Rect.unit (s := S36) (k0_off1 (crd t)) S1.size (k0_off1_inb (crd t))).toLoadRect (pinT_1) (Shape.Idx.first (numel1_S1.symm ▸ Nat.one_pos))) = 1#1)) ∧ (True)) := fun t => (allFacts t).2.2.2.2.2.2.2.2.2.2.1

theorem hypsR0_D : ∀ (t : Fin (cfgA).N), ¬P0_0 t → ¬P0_1 t →
    (¬((Scalar.cmpi .ne (Scalar.extui (Scalar.cmpi .eq (View.readAt (Elt Ideal) (tbM0_1).view (Rect.unit (s := S36) (k0_off1 (crd t)) S1.size (k0_off1_inb (crd t))).toLoadRect (pinT_1) (Shape.Idx.first (numel1_S1.symm ▸ Nat.one_pos))) 0#32)) 0#32) = 1#1)) ∧ ((¬(k0_cond2 (View.readAt (Elt Ideal) (tbM0_0).view (Rect.unit (s := S36) (k0_off1 (crd t)) S1.size (k0_off1_inb (crd t))).toLoadRect (pinT_0) (Shape.Idx.first (numel1_S1.symm ▸ Nat.one_pos))) (View.readAt (Elt Ideal) (tbM0_1).view (Rect.unit (s := S36) (k0_off1 (crd t)) S1.size (k0_off1_inb (crd t))).toLoadRect (pinT_1) (Shape.Idx.first (numel1_S1.symm ▸ Nat.one_pos))) = 1#1)) ∧ (True)) := hyps0_D

/-- At a point of path D: the idle table, the write-backs and which buffers hold junk (decided over the
    freshness tables `frTab`/`sfrTab`, restated over `Cfg.fresh`/`sfresh` by their agreement). -/
theorem sched0_D : ∀ (t : Fin (cfgA).N), ¬P0_0 t → ¬P0_1 t →
    (cfgA).idle (6 : Fin 7) ((cfgA).grid.coords t) = true ∧ ((cfgA).win (6 : Fin 7)).flush t = false ∧ (cfgA).fresh (6 : Fin 7) t.val = true ∧ sfresh0_0 t.val = false ∧ sfresh0_0 (t.val + 1) = false ∧ sfresh0_1 t.val = false ∧ sfresh0_1 (t.val + 1) = false ∧ sfresh0_2 t.val = false ∧ sfresh0_2 (t.val + 1) = false := by
  intro t; rw [freshF0_6 t, sfreshF0_0 t, sfreshS0_0 t, sfreshF0_1 t, sfreshS0_1 t, sfreshF0_2 t, sfreshS0_2 t]; exact (fun t => (allFacts t).2.2.2.2.2.2.2.2.2.2.2) t

/-! ## What the outputs and scratches hold after each point -/

/-- ONE STEP of the trajectory: what the outputs' current buffers and the scratches hold after the body at point `t`
    (output 6, scratch 0, scratch 1, scratch 2), from what they held before (`prev`): the path the decisions select at `t`, its
    run's contents; an output the path leaves idle keeps what it held (junk — `default`, named by nothing — where fresh). -/
def step0 (c : Dev nD) (t : Fin (cfgA).N) (prev : (S512x256.Idx → Elt Ideal .f32) × Buf (Elt Ideal) ((c : Thread nD τ).loc cc0_scratch0) × Buf (Elt Ideal) ((c : Thread nD τ).loc cc0_scratch1) × Buf (Elt Ideal) ((c : Thread nD τ).loc cc0_scratch2)) : (S512x256.Idx → Elt Ideal .f32) × Buf (Elt Ideal) ((c : Thread nD τ).loc cc0_scratch0) × Buf (Elt Ideal) ((c : Thread nD τ).loc cc0_scratch1) × Buf (Elt Ideal) ((c : Thread nD τ).loc cc0_scratch2) :=
  if q0 : P0_0 t then
    if q1 : P0_1 t then
      (out0_A_6 c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) (hypsR0_A t q0 q1).1 (hypsR0_A t q0 q1).2.1, (kernelRun0_A c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) (hypsR0_A t q0 q1).1 (hypsR0_A t q0 q1).2.1).2.1, (kernelRun0_A c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) (hypsR0_A t q0 q1).1 (hypsR0_A t q0 q1).2.1).2.2.1, (kernelRun0_A c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) (hypsR0_A t q0 q1).1 (hypsR0_A t q0 q1).2.1).2.2.2.1)
    else
      ((if (cfgA).fresh (6 : Fin 7) t.val then default else prev.1), (kernelRun0_B c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) (hypsR0_B t q0 q1).1 (hypsR0_B t q0 q1).2.1).1, (kernelRun0_B c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) (hypsR0_B t q0 q1).1 (hypsR0_B t q0 q1).2.1).2.1, (kernelRun0_B c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) (hypsR0_B t q0 q1).1 (hypsR0_B t q0 q1).2.1).2.2.1)
  else
    if q1 : P0_1 t then
      (out0_C_6 c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) prev.2.1 prev.2.2.1 prev.2.2.2 (hypsR0_C t q0 q1).1 (hypsR0_C t q0 q1).2.1, (kernelRun0_C c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) prev.2.1 prev.2.2.1 prev.2.2.2 (hypsR0_C t q0 q1).1 (hypsR0_C t q0 q1).2.1).2.1, (kernelRun0_C c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) prev.2.1 prev.2.2.1 prev.2.2.2 (hypsR0_C t q0 q1).1 (hypsR0_C t q0 q1).2.1).2.2.1, (kernelRun0_C c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) prev.2.1 prev.2.2.1 prev.2.2.2 (hypsR0_C t q0 q1).1 (hypsR0_C t q0 q1).2.1).2.2.2.1)
    else
      ((if (cfgA).fresh (6 : Fin 7) t.val then default else prev.1), (kernelRun0_D c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) prev.2.1 prev.2.2.1 prev.2.2.2 (hypsR0_D t q0 q1).1 (hypsR0_D t q0 q1).2.1).1, (kernelRun0_D c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) prev.2.1 prev.2.2.1 prev.2.2.2 (hypsR0_D t q0 q1).1 (hypsR0_D t q0 q1).2.1).2.1, (kernelRun0_D c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) prev.2.1 prev.2.2.1 prev.2.2.2 (hypsR0_D t q0 q1).1 (hypsR0_D t q0 q1).2.1).2.2.1)

/-- THE TRAJECTORY: after position `n`. -/
def traj0 (c : Dev nD) : (n : ℕ) → n < (cfgA).N → (S512x256.Idx → Elt Ideal .f32) × Buf (Elt Ideal) ((c : Thread nD τ).loc cc0_scratch0) × Buf (Elt Ideal) ((c : Thread nD τ).loc cc0_scratch1) × Buf (Elt Ideal) ((c : Thread nD τ).loc cc0_scratch2)
  | 0, h => step0 m c ⟨0, h⟩ (default, default, default, default)
  | n + 1, h => step0 m c ⟨n + 1, h⟩ (traj0 c n (Nat.lt_of_succ_lt h))

/-- What they held BEFORE point `t` (junk before the first). -/
def prev0 (c : Dev nD) (t : Fin (cfgA).N) : (S512x256.Idx → Elt Ideal .f32) × Buf (Elt Ideal) ((c : Thread nD τ).loc cc0_scratch0) × Buf (Elt Ideal) ((c : Thread nD τ).loc cc0_scratch1) × Buf (Elt Ideal) ((c : Thread nD τ).loc cc0_scratch2) :=
  if h : t.val = 0 then (default, default, default, default) else traj0 m c (t.val - 1) (by omega)

theorem traj0_eq (c : Dev nD) (t : Fin (cfgA).N) : traj0 m c t.val t.isLt = step0 m c t (prev0 m c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA).N) (prev : (S512x256.Idx → Elt Ideal .f32) × Buf (Elt Ideal) ((c : Thread nD τ).loc cc0_scratch0) × Buf (Elt Ideal) ((c : Thread nD τ).loc cc0_scratch1) × Buf (Elt Ideal) ((c : Thread nD τ).loc cc0_scratch2)) (q0 : P0_0 t) (q1 : P0_1 t) :
    step0 m c t prev = (out0_A_6 c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) (hypsR0_A t q0 q1).1 (hypsR0_A t q0 q1).2.1, (kernelRun0_A c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) (hypsR0_A t q0 q1).1 (hypsR0_A t q0 q1).2.1).2.1, (kernelRun0_A c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) (hypsR0_A t q0 q1).1 (hypsR0_A t q0 q1).2.1).2.2.1, (kernelRun0_A c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) (hypsR0_A t q0 q1).1 (hypsR0_A t q0 q1).2.1).2.2.2.1) := by
  unfold step0; simp only [dif_pos q0, dif_pos q1]

/-- `step0` at a point of path B. -/
theorem step0_B (c : Dev nD) (t : Fin (cfgA).N) (prev : (S512x256.Idx → Elt Ideal .f32) × Buf (Elt Ideal) ((c : Thread nD τ).loc cc0_scratch0) × Buf (Elt Ideal) ((c : Thread nD τ).loc cc0_scratch1) × Buf (Elt Ideal) ((c : Thread nD τ).loc cc0_scratch2)) (q0 : P0_0 t) (q1 : ¬P0_1 t) :
    step0 m c t prev = ((if (cfgA).fresh (6 : Fin 7) t.val then default else prev.1), (kernelRun0_B c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) (hypsR0_B t q0 q1).1 (hypsR0_B t q0 q1).2.1).1, (kernelRun0_B c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) (hypsR0_B t q0 q1).1 (hypsR0_B t q0 q1).2.1).2.1, (kernelRun0_B c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) (hypsR0_B t q0 q1).1 (hypsR0_B t q0 q1).2.1).2.2.1) := by
  unfold step0; simp only [dif_pos q0, dif_neg q1]

/-- `step0` at a point of path C. -/
theorem step0_C (c : Dev nD) (t : Fin (cfgA).N) (prev : (S512x256.Idx → Elt Ideal .f32) × Buf (Elt Ideal) ((c : Thread nD τ).loc cc0_scratch0) × Buf (Elt Ideal) ((c : Thread nD τ).loc cc0_scratch1) × Buf (Elt Ideal) ((c : Thread nD τ).loc cc0_scratch2)) (q0 : ¬P0_0 t) (q1 : P0_1 t) :
    step0 m c t prev = (out0_C_6 c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) prev.2.1 prev.2.2.1 prev.2.2.2 (hypsR0_C t q0 q1).1 (hypsR0_C t q0 q1).2.1, (kernelRun0_C c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) prev.2.1 prev.2.2.1 prev.2.2.2 (hypsR0_C t q0 q1).1 (hypsR0_C t q0 q1).2.1).2.1, (kernelRun0_C c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) prev.2.1 prev.2.2.1 prev.2.2.2 (hypsR0_C t q0 q1).1 (hypsR0_C t q0 q1).2.1).2.2.1, (kernelRun0_C c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) prev.2.1 prev.2.2.1 prev.2.2.2 (hypsR0_C t q0 q1).1 (hypsR0_C t q0 q1).2.1).2.2.2.1) := by
  unfold step0; simp only [dif_neg q0, dif_pos q1]

/-- `step0` at a point of path D. -/
theorem step0_D (c : Dev nD) (t : Fin (cfgA).N) (prev : (S512x256.Idx → Elt Ideal .f32) × Buf (Elt Ideal) ((c : Thread nD τ).loc cc0_scratch0) × Buf (Elt Ideal) ((c : Thread nD τ).loc cc0_scratch1) × Buf (Elt Ideal) ((c : Thread nD τ).loc cc0_scratch2)) (q0 : ¬P0_0 t) (q1 : ¬P0_1 t) :
    step0 m c t prev = ((if (cfgA).fresh (6 : Fin 7) t.val then default else prev.1), (kernelRun0_D c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) prev.2.1 prev.2.2.1 prev.2.2.2 (hypsR0_D t q0 q1).1 (hypsR0_D t q0 q1).2.1).1, (kernelRun0_D c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) prev.2.1 prev.2.2.1 prev.2.2.2 (hypsR0_D t q0 q1).1 (hypsR0_D t q0 q1).2.1).2.1, (kernelRun0_D c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) prev.2.1 prev.2.2.1 prev.2.2.2 (hypsR0_D t q0 q1).1 (hypsR0_D t q0 q1).2.1).2.2.1) := by
  unfold step0; simp only [dif_neg q0, dif_neg q1]

/-! ## The pipeline's proof data -/

/-- What the tracked buffers held before position `t` of `Fin (N+1)` (the invariant's index). -/
def prev0T (c : Dev nD) (t : Fin ((cfgA).N + 1)) : (S512x256.Idx → Elt Ideal .f32) × Buf (Elt Ideal) ((c : Thread nD τ).loc cc0_scratch0) × Buf (Elt Ideal) ((c : Thread nD τ).loc cc0_scratch1) × Buf (Elt Ideal) ((c : Thread nD τ).loc cc0_scratch2) :=
  if h : t.val = 0 then (default, default, default, default) else traj0 m c (t.val - 1) (by omega)

theorem prev0T_castSucc (c : Dev nD) (t : Fin (cfgA).N) : prev0T m c t.castSucc = prev0 m c t := by
  unfold prev0T prev0; simp only [Fin.val_castSucc]
theorem prev0T_succ (c : Dev nD) (t : Fin (cfgA).N) : prev0T m c t.succ = traj0 m c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Ideal) ℓ) (c : Dev nD) (t : Fin ((cfgA).N + 1)) : sProp 𝕄 :=
  iprop((∃ a, ⌜sfresh0_0 t.val = false → a = (prev0T m c t).2.1⌝ ∗ (scM0_0.view.loc (c : Thread nD τ) ↦{fullShare} a)) ∗ (∃ a, ⌜sfresh0_1 t.val = false → a = (prev0T m c t).2.2.1⌝ ∗ (scM0_1.view.loc (c : Thread nD τ) ↦{fullShare} a)) ∗ (∃ a, ⌜sfresh0_2 t.val = false → a = (prev0T m c t).2.2.2⌝ ∗ (scM0_2.view.loc (c : Thread nD τ) ↦{fullShare} a)) ∗ (tbM0_0.view.loc (c : Thread nD τ) ↦{fullShare.right} pinT_0) ∗ (tbM0_1.view.loc (c : Thread nD τ) ↦{fullShare.right} pinT_1))

/-- The proof data of the one pipeline on core `c`. -/
def dats (_ : Fin 1) (c : Dev nD) : Dat τ (Elt Ideal) Unit ℕ (UR sig nD τ) ℕ (cfgA) c where
  A w := V m c (Pipeline.arrRef spec0 w)
  after w t := match w with
    | ⟨0, _⟩ => iblk m c (0 : Fin 7) t
    | ⟨1, _⟩ => iblk m c (1 : Fin 7) t
    | ⟨2, _⟩ => iblk m c (2 : Fin 7) t
    | ⟨3, _⟩ => iblk m c (3 : Fin 7) t
    | ⟨4, _⟩ => iblk m c (4 : Fin 7) t
    | ⟨5, _⟩ => iblk m c (5 : Fin 7) t
    | ⟨6, _⟩ => (traj0 m c t.val t.isLt).1
  Φ t := Phi m c t
  q _ := fullShare
  owed _ := 0

theorem after0_0 (c : Dev nD) (t : Fin (cfgA).N) : (dats m 0 c).after (0 : Fin 7) t = iblk m c (0 : Fin 7) t := rfl
theorem after0_1 (c : Dev nD) (t : Fin (cfgA).N) : (dats m 0 c).after (1 : Fin 7) t = iblk m c (1 : Fin 7) t := rfl
theorem after0_2 (c : Dev nD) (t : Fin (cfgA).N) : (dats m 0 c).after (2 : Fin 7) t = iblk m c (2 : Fin 7) t := rfl
theorem after0_3 (c : Dev nD) (t : Fin (cfgA).N) : (dats m 0 c).after (3 : Fin 7) t = iblk m c (3 : Fin 7) t := rfl
theorem after0_4 (c : Dev nD) (t : Fin (cfgA).N) : (dats m 0 c).after (4 : Fin 7) t = iblk m c (4 : Fin 7) t := rfl
theorem after0_5 (c : Dev nD) (t : Fin (cfgA).N) : (dats m 0 c).after (5 : Fin 7) t = iblk m c (5 : Fin 7) t := rfl
theorem after0_6 (c : Dev nD) (t : Fin (cfgA).N) : (dats m 0 c).after (6 : Fin 7) t = (traj0 m c t.val t.isLt).1 := rfl

/-! ## What each window's staging buffer holds when the body runs -/

/-- Input window 0 holds its block, fetched there or not (Lib/Pipeline/FrameBody.lean `Dat.before_in_eq_fetched`). -/
theorem before0_0 (c : Dev nD) (t : Fin (cfgA).N) (d) : (dats m 0 c).before (0 : Fin 7) t d = iblk m c (0 : Fin 7) t :=
  ((dats m 0 c).before_in_eq_fetched (0 : Fin 7) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA).N) (d) : (dats m 0 c).before (1 : Fin 7) t d = iblk m c (1 : Fin 7) t :=
  ((dats m 0 c).before_in_eq_fetched (1 : Fin 7) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA).N) (d) : (dats m 0 c).before (2 : Fin 7) t d = iblk m c (2 : Fin 7) t :=
  ((dats m 0 c).before_in_eq_fetched (2 : Fin 7) rfl (fun _ => rfl) (fun _ _ _ => rfl) (fun t => by rw [after0_2]; unfold Dat.blockOf iblk; rfl) t d).trans
    (by unfold Dat.fetched Dat.blockOf iblk; rfl)

/-- Input window 3 holds its block, fetched there or not (Lib/Pipeline/FrameBody.lean `Dat.before_in_eq_fetched`). -/
theorem before0_3 (c : Dev nD) (t : Fin (cfgA).N) (d) : (dats m 0 c).before (3 : Fin 7) t d = iblk m c (3 : Fin 7) t :=
  ((dats m 0 c).before_in_eq_fetched (3 : Fin 7) rfl (fun _ => rfl) (fun _ _ _ => rfl) (fun t => by rw [after0_3]; unfold Dat.blockOf iblk; rfl) t d).trans
    (by unfold Dat.fetched Dat.blockOf iblk; rfl)

/-- Input window 4 holds its block, fetched there or not (Lib/Pipeline/FrameBody.lean `Dat.before_in_eq_fetched`). -/
theorem before0_4 (c : Dev nD) (t : Fin (cfgA).N) (d) : (dats m 0 c).before (4 : Fin 7) t d = iblk m c (4 : Fin 7) t :=
  ((dats m 0 c).before_in_eq_fetched (4 : Fin 7) rfl (fun _ => rfl) (fun _ _ _ => rfl) (fun t => by rw [after0_4]; unfold Dat.blockOf iblk; rfl) t d).trans
    (by unfold Dat.fetched Dat.blockOf iblk; rfl)

/-- Input window 5 holds its block, fetched there or not (Lib/Pipeline/FrameBody.lean `Dat.before_in_eq_fetched`). -/
theorem before0_5 (c : Dev nD) (t : Fin (cfgA).N) (d) : (dats m 0 c).before (5 : Fin 7) t d = iblk m c (5 : Fin 7) t :=
  ((dats m 0 c).before_in_eq_fetched (5 : Fin 7) rfl (fun _ => rfl) (fun _ _ _ => rfl) (fun t => by rw [after0_5]; unfold Dat.blockOf iblk; rfl) t d).trans
    (by unfold Dat.fetched Dat.blockOf iblk; rfl)

/-- Output 6's `after` carries through the points that leave it idle. -/
theorem hcarry0_6 (c : Dev nD) : ∀ (t : Fin (cfgA).N) (ht : t.val ≠ 0), (cfgA).idle (6 : Fin 7) ((cfgA).grid.coords t) = true → (cfgA).fresh (6 : Fin 7) t.val = false →
    (dats m 0 c).after (6 : Fin 7) t = (dats m 0 c).after (6 : Fin 7) ⟨t.val - 1, by omega⟩ := by
  intro t ht hi hf
  rw [after0_6, after0_6, traj0_eq]
  by_cases q0 : P0_0 t
  · by_cases q1 : P0_1 t
    · obtain ⟨i6, -, -, -, -, -⟩ := sched0_A t q0 q1
      rw [i6] at hi; exact absurd hi (by decide)
    · rw [step0_B m c t _ q0 q1]
      simp only [hf, Bool.false_eq_true, ↓reduceIte]
      unfold prev0; rw [dif_neg ht]
  · by_cases q1 : P0_1 t
    · obtain ⟨i6, -, -, -, -, -, -, -, -⟩ := sched0_C t q0 q1
      rw [i6] at hi; exact absurd hi (by decide)
    · rw [step0_D m c t _ q0 q1]
      simp only [hf, Bool.false_eq_true, ↓reduceIte]
      unfold prev0; rw [dif_neg ht]

/-- Output window 6 holds, when the body runs at `t`: junk if nothing was stored since its last write-back (`Cfg.fresh`),
    else what the point before left (TableIdle.lean `Dat.before_out_traj`). -/
theorem before0_6 (c : Dev nD) (t : Fin (cfgA).N) (d) :
    (dats m 0 c).before (6 : Fin 7) t d = if (cfgA).fresh (6 : Fin 7) t.val then d else (prev0 m c t).1 := by
  rw [(dats m 0 c).before_out_traj (6 : Fin 7) rfl (fun _ _ => rfl) (hcarry0_6 m c) t.val t rfl d]
  by_cases hf : (cfgA).fresh (6 : Fin 7) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_6]; unfold prev0; rw [dif_neg h0]

/-! ## The body obligation, at a generic point, by path -/

/-- The body at point `t` on its staging memrefs, as the pipeline calls it. -/
abbrev bodyAt0 (t : Fin (cfgA).N) : Prog (TpuEff nD τ sig (Elt Ideal) Λ₀ .tc) PUnit :=
  cc0_diff_attn_prompt (crd t) (Memref.whole main_c) (Memref.isWhole_whole _) (Memref.whole main_c_0) (Memref.isWhole_whole _) (ms0_0 t) (hs0_0 t) (ms0_1 t) (hs0_1 t) (ms0_2 t) (hs0_2 t) (ms0_3 t) (hs0_3 t) (ms0_4 t) (hs0_4 t) (ms0_5 t) (hs0_5 t) (Memref.whole main_v3) (Memref.isWhole_whole _) (ms0_6 t) (hs0_6 t) (Memref.whole cc0_scratch0) (Memref.isWhole_whole _) (Memref.whole cc0_scratch1) (Memref.isWhole_whole _) (Memref.whole cc0_scratch2) (Memref.isWhole_whole _)

set_option maxHeartbeats 4000000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (c : Dev nD) (t : Fin (cfgA).N) :
    iprop((dats m 0 c).Φ t.castSucc ∗ (dats m 0 c).owesAt () t.castSucc
        ∗ (∃ d, owns (c : Thread nD τ) (ms0_0 t) fullShare ((dats m 0 c).before (0 : Fin 7) t d))
        ∗ (∃ d, owns (c : Thread nD τ) (ms0_1 t) fullShare ((dats m 0 c).before (1 : Fin 7) t d))
        ∗ (∃ d, owns (c : Thread nD τ) (ms0_2 t) fullShare ((dats m 0 c).before (2 : Fin 7) t d))
        ∗ (∃ d, owns (c : Thread nD τ) (ms0_3 t) fullShare ((dats m 0 c).before (3 : Fin 7) t d))
        ∗ (∃ d, owns (c : Thread nD τ) (ms0_4 t) fullShare ((dats m 0 c).before (4 : Fin 7) t d))
        ∗ (∃ d, owns (c : Thread nD τ) (ms0_5 t) fullShare ((dats m 0 c).before (5 : Fin 7) t d))
        ∗ (∃ d, owns (c : Thread nD τ) (ms0_6 t) fullShare ((dats m 0 c).before (6 : Fin 7) t d)))
      ⊢ wp frame (wpE (defs₀ (F := Ideal)) Variants.none c none) Set.univ (bodyAt0 t) fun _ =>
          iprop((dats m 0 c).Φ t.succ ∗ (dats m 0 c).owesAt () t.succ
            ∗ bigSep Finset.univ fun w : Fin (cfgA).W =>
                match (cfgA).idle w ((cfgA).grid.coords t) with
                | true =>
                  match ((cfgA).win w).flush t with
                  | false => iprop(∃ d, owns (c : Thread nD τ) (((cfgA).win w).stage ((cfgA).slots t w)) fullShare ((dats m 0 c).before w t d))
                  | true => owns (c : Thread nD τ) (((cfgA).win w).stage ((cfgA).slots t w)) fullShare ((dats m 0 c).after w t)
                | false => owns (c : Thread nD τ) (((cfgA).win w).stage ((cfgA).slots t w)) fullShare ((dats m 0 c).after w t)) := by
  rw [bigSep_W0]
  by_cases q0 : P0_0 t
  · by_cases q1 : P0_1 t
    · obtain ⟨i6, f6, fr6, sfn0, sfn1, sfn2⟩ := sched0_A t q0 q1
      have F0 := hypsR0_A t q0 q1
      have hc0 := F0.1; have F1 := F0.2
      have k0_h2 := F1.1; have F2 := F1.2
      clear F0 F1 F2
      rewrite [i6]
      simp only [before0_0, before0_1, before0_2, before0_3, before0_4, before0_5, before0_6, after0_0, after0_1, after0_2, after0_3, after0_4, after0_5, after0_6, f6]
      simp only [fr6, Bool.false_eq_true, ↓reduceIte]
      rewrite [show (dats m 0 c).Φ t.succ = Phi m c t.succ from rfl, show (dats m 0 c).Φ t.castSucc = Phi m c t.castSucc from rfl,
        show (dats m 0 c).owesAt () t.succ = (dats m 0 c).owesAt () t.castSucc from rfl]
      try rewrite [traj0_eq, step0_A m c t _ q0 q1]
      unfold Phi; simp only [prev0T_castSucc, prev0T_succ, traj0_eq, step0_A m c t _ q0 q1, Fin.val_castSucc, Fin.val_succ]
      iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) hc0 k0_h2).2.2.2.2 a0 a1 a2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [HT1]; · iexact HT1
      isplitl [H6]; · iexists _; iexact H6
      isplitl [HS0]; · iexact HS0
      isplitl [HS1]; · iexact HS1
      isplitl [HS2]; · iexact HS2
      iintro ⟨H0, H1, H2, H3, H4, H5, HT0, HT1, ⟨%e6, H6⟩, HS0, HS1, HS2⟩
      isplitl [HS0 HS1 HS2 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      isplitl [H5]
      · iapply owns_of_rep; iexact H5
      unfold owns; iexists _; isplitr; swap
      · iexact H6
      · ipureintro; exact View.read_writes_of_cover _ _ _ _ _ (cover0_A_6 c _ _ _ _ _ _ _ _ _ _ _ _ _ _ _ _ _ _ _ _ _ _ _ _ _)
    · obtain ⟨i6, f6, fr6, sf0, sfn0, sf1, sfn1, sf2, sfn2⟩ := sched0_B t q0 q1
      have F0 := hypsR0_B t q0 q1
      have hc0 := F0.1; have F1 := F0.2
      have k0_h2 := F1.1; have F2 := F1.2
      clear F0 F1 F2
      rewrite [i6]
      simp only [before0_0, before0_1, before0_2, before0_3, before0_4, before0_5, before0_6, after0_0, after0_1, after0_2, after0_3, after0_4, after0_5, after0_6, f6]
      simp only [fr6, Bool.false_eq_true, ↓reduceIte]
      rewrite [show (dats m 0 c).Φ t.succ = Phi m c t.succ from rfl, show (dats m 0 c).Φ t.castSucc = Phi m c t.castSucc from rfl,
        show (dats m 0 c).owesAt () t.succ = (dats m 0 c).owesAt () t.castSucc from rfl]
      try rewrite [traj0_eq, step0_B m c t _ q0 q1]
      unfold Phi; simp only [prev0T_castSucc, prev0T_succ, traj0_eq, step0_B m c t _ q0 q1, Fin.val_castSucc, Fin.val_succ]
      iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) hc0 k0_h2).2.2.2 _ a0 a1 a2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [HT1]; · iexact HT1
      isplitl [H6]; · iexact H6
      isplitl [HS0]; · iexact HS0
      isplitl [HS1]; · iexact HS1
      isplitl [HS2]; · iexact HS2
      iintro ⟨H0, H1, H2, H3, H4, H5, HT0, HT1, H6, HS0, HS1, HS2⟩
      isplitl [HS0 HS1 HS2 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      isplitl [H5]
      · iapply owns_of_rep; iexact H5
      first | (iexists d6; iexact H6) | iexact H6
  · by_cases q1 : P0_1 t
    · obtain ⟨i6, f6, fr6, sf0, sfn0, sf1, sfn1, sf2, sfn2⟩ := sched0_C t q0 q1
      have F0 := hypsR0_C t q0 q1
      have hc0 := F0.1; have F1 := F0.2
      have k0_h2 := F1.1; have F2 := F1.2
      clear F0 F1 F2
      rewrite [i6]
      simp only [before0_0, before0_1, before0_2, before0_3, before0_4, before0_5, before0_6, after0_0, after0_1, after0_2, after0_3, after0_4, after0_5, after0_6, f6]
      simp only [fr6, Bool.false_eq_true, ↓reduceIte]
      rewrite [show (dats m 0 c).Φ t.succ = Phi m c t.succ from rfl, show (dats m 0 c).Φ t.castSucc = Phi m c t.castSucc from rfl,
        show (dats m 0 c).owesAt () t.succ = (dats m 0 c).owesAt () t.castSucc from rfl]
      try rewrite [traj0_eq, step0_C m c t _ q0 q1]
      unfold Phi; simp only [prev0T_castSucc, prev0T_succ, traj0_eq, step0_C m c t _ q0 q1, Fin.val_castSucc, Fin.val_succ]
      simp only [exists_held sf0, exists_held sf1, exists_held sf2]
      iintro ⟨⟨HS0, HS1, HS2, HT0, HT1⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) _ _ _ hc0 k0_h2).2.2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [HT1]; · iexact HT1
      isplitl [H6]; · iexists _; iexact H6
      isplitl [HS0]; · iexact HS0
      isplitl [HS1]; · iexact HS1
      isplitl [HS2]; · iexact HS2
      iintro ⟨H0, H1, H2, H3, H4, H5, HT0, HT1, ⟨%e6, H6⟩, HS0, HS1, HS2⟩
      isplitl [HS0 HS1 HS2 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      isplitl [H5]
      · iapply owns_of_rep; iexact H5
      unfold owns; iexists _; isplitr; swap
      · iexact H6
      · ipureintro; exact View.read_writes_of_cover _ _ _ _ _ (cover0_C_6 c _ _ _ _ _ _ _ _ _ _ _ _ _ _ _ _ _ _ _ _ _ _ _ _ _ _ _ _)
    · obtain ⟨i6, f6, fr6, sf0, sfn0, sf1, sfn1, sf2, sfn2⟩ := sched0_D t q0 q1
      have F0 := hypsR0_D t q0 q1
      have hc0 := F0.1; have F1 := F0.2
      have k0_h2 := F1.1; have F2 := F1.2
      clear F0 F1 F2
      rewrite [i6]
      simp only [before0_0, before0_1, before0_2, before0_3, before0_4, before0_5, before0_6, after0_0, after0_1, after0_2, after0_3, after0_4, after0_5, after0_6, f6]
      simp only [fr6, Bool.false_eq_true, ↓reduceIte]
      rewrite [show (dats m 0 c).Φ t.succ = Phi m c t.succ from rfl, show (dats m 0 c).Φ t.castSucc = Phi m c t.castSucc from rfl,
        show (dats m 0 c).owesAt () t.succ = (dats m 0 c).owesAt () t.castSucc from rfl]
      try rewrite [traj0_eq, step0_D m c t _ q0 q1]
      unfold Phi; simp only [prev0T_castSucc, prev0T_succ, traj0_eq, step0_D m c t _ q0 q1, Fin.val_castSucc, Fin.val_succ]
      simp only [exists_held sf0, exists_held sf1, exists_held sf2]
      iintro ⟨⟨HS0, HS1, HS2, HT0, HT1⟩, Ho, ⟨%d0, H0⟩, ⟨%d1, H1⟩, ⟨%d2, H2⟩, ⟨%d3, H3⟩, ⟨%d4, H4⟩, ⟨%d5, H5⟩, ⟨%d6, H6⟩⟩
      iapply ((kernelRun0_D c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (pinT_0) (pinT_1) (iblk m c (0 : Fin 7) t) (iblk m c (1 : Fin 7) t) (iblk m c (2 : Fin 7) t) (iblk m c (3 : Fin 7) t) (iblk m c (4 : Fin 7) t) (iblk m c (5 : Fin 7) t) _ _ _ hc0 k0_h2).2.2.2 _ _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [HT1]; · iexact HT1
      isplitl [H6]; · iexact H6
      isplitl [HS0]; · iexact HS0
      isplitl [HS1]; · iexact HS1
      isplitl [HS2]; · iexact HS2
      iintro ⟨H0, H1, H2, H3, H4, H5, HT0, HT1, H6, HS0, HS1, HS2⟩
      isplitl [HS0 HS1 HS2 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      isplitl [H5]
      · iapply owns_of_rep; iexact H5
      first | (iexists d6; iexact H6) | iexact H6

/-- The library's body obligation, at every point. -/
theorem body_obligation (c : Dev nD) : BodyObligation (dats m 0 c) (defs₀ (F := Ideal)) Variants.none () Set.univ := fun t => by
  rw [bigSep_W0]
  exact sound_body m c t

/-! ## The launch -/

/-- The rounds library's launch element. -/
def u₀ : UR sig nD τ :=
  initOf (Pipeline.cells (pcs) ((launch0 (F := Ideal)).cellOf_inj fun _ => adm))
    (Pipeline.launchToks (pcs) ((launch0 (F := Ideal)).cellOf_inj fun _ => adm))

theorem share_eq (c : Dev nD) (w : Fin (cfgA).W) : (dats m 0 c).share w = fullShare := by unfold Dat.share; split <;> rfl

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm).1 ∗ Pipeline.scopedRest spec0 c) ⊢ (dats m 0 c).Φ 0 := by
  rw [prefHeld_eq, scopedRest0_eq, show (dats m 0 c).Φ 0 = Phi m c 0 from rfl]
  unfold Phi
  iintro ⟨-, ⟨HT0, HT1⟩, ⟨%a0, HS0⟩, ⟨%a1, HS1⟩, ⟨%a2, HS2⟩⟩
  isplitl [HS0]
  · iexists a0; isplitr; swap
    · iexact HS0
    · ipureintro; intro h; exact absurd (h.symm.trans (show sfresh0_0 0 = true from rfl)) Bool.false_ne_true
  isplitl [HS1]
  · iexists a1; isplitr; swap
    · iexact HS1
    · ipureintro; intro h; exact absurd (h.symm.trans (show sfresh0_1 0 = true from rfl)) Bool.false_ne_true
  isplitl [HS2]
  · iexists a2; isplitr; swap
    · iexact HS2
    · ipureintro; intro h; exact absurd (h.symm.trans (show sfresh0_2 0 = true from rfl)) Bool.false_ne_true
  isplitl [HT0]
  · iexact HT0
  iexact HT1

/-- at the last point it gives the scratch buffers back (`hout`), the tables let go. -/
theorem phiN_exit (c : Dev nD) : (dats m 0 c).Φ (Fin.last (cfgA).N) ⊢ iprop(BI.emp ∗ Pipeline.scopedRest spec0 c) := by
  rw [scopedRest0_eq, show (dats m 0 c).Φ (Fin.last (cfgA).N) = Phi m c (Fin.last _) from rfl]
  unfold Phi
  iintro ⟨⟨%a0, -, HS0⟩, ⟨%a1, -, HS1⟩, ⟨%a2, -, HS2⟩, -, -⟩
  isplitr; · iempintro
  isplitl [HS0]
  · iexists a0; iexact HS0
  isplitl [HS1]
  · iexists a1; iexact HS1
  iexists a2; iexact HS2

/-- The host operations write only their results. -/
theorem hostOps0_fresh : (hostOps0 : List (HloOp τ sig (Elt Ideal))).Forall fun op => op.fresh = ∅ := by
  simp only [List.Forall]; repeat' constructor

set_option maxHeartbeats 800000 in
/-- The program up to the call: its host operations, leaving the buffers at `V`. -/
theorem hmain (𝒱₀ : Variants) : Pipeline.HMainP (Ix := Unit) (Name := ℕ) (U := UR sig nD τ) (Lvl := ℕ) (pcfgs (F := Ideal)) 0 defs₀ 𝒱₀ m (main (F := Ideal)) (V m) :=
  Pipeline.hmainP_prefix (pcfgs (F := Ideal)) 0 defs₀ 𝒱₀ m main hostOps0 hostOps0_sub hostOps0_fresh main_chain

/-- No host operation writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
/-- No host operation writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
/-- No host operation writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
/-- No host operation writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- The table constants, as the host writes them, are the words written out in `pinT_0` and `pinT_1`. -/
theorem lit0_eq : (fun i : S36.Idx => lit0 (S36.rowMajor i)) = pinT_0 := by
  funext i
  have h : ∀ i : S36.Idx, lit0 (S36.rowMajor i) = pinT_0 i := by decide +kernel
  exact h i
theorem lit1_eq : (fun i : S36.Idx => lit1 (S36.rowMajor i)) = pinT_1 := by
  funext i
  have h : ∀ i : S36.Idx, lit1 (S36.rowMajor i) = pinT_1 i := by decide +kernel
  exact h i

/-- The tables at the call hold those words. -/
theorem V_main_c (c : Dev nD) : V m c main_c = pinT_0 := by
  rw [← lit0_eq]; entry_read; rfl
theorem V_main_c_0 (c : Dev nD) : V m c main_c_0 = pinT_1 := by
  rw [← lit1_eq]; entry_read; rfl

theorem V_pre (c : Dev nD) (j : Fin 2) : V m c (pre0.ref j) = (adm).1 j := by
  fin_cases j
  · exact V_main_c m c
  · exact V_main_c_0 m c

/-- The end: every array at what the pipeline computes, every buffer the call does not touch as the host left it. -/
def QC : PUnit × MemSt nD τ sig (Elt Ideal) → Prop := fun r =>
  ∀ c : Dev nD, (∀ w : Fin (cfgA).W, r.2.mem (((cfgA).win w).arr.view.loc (c : Thread nD τ)) = (dats m 0 c).arrAt w (cfgA).N)
    ∧ ∀ b ∈ Pipeline.restRefsP sig pre0 spec0, r.2.mem ((c : Thread nD τ).loc b) = V m c b

set_option backward.isDefEq.respectTransparency.types false in
set_option maxHeartbeats 4000000 in
/-- From any memory with zero counters, every weakly fair execution terminates in such a state, with every semaphore
    counter at zero. -/
theorem run_main_quiescent (ρ : Dev nD → PrngReg) : θ_run (defs (F := Ideal)) (onTc (τ := τ) (main (F := Ideal))) (s₀ m ρ) (fun r => QC m r ∧ r.2.sem = fun _ => 0) :=
  Pipeline.θ_run_region_noSem_pf_quiescent pcfgs (fun _ => adm) (dats m) () ((launch0 (F := Ideal)).cellOf_inj fun _ => adm) (0 : Fin 1)
    (launch0 (F := Ideal)).win.to₀ (launch0 (F := Ideal)).pre EP defs₀ Variants.none m ρ main
    (hbody := fun c => (body_obligation m c).loose) (hne := (launch0 (F := Ideal)).block_pos)
    (harr := (launch0 (F := Ideal)).arr_whole) (hstage := (launch0 (F := Ideal)).stage_whole) (howed := fun _ _ => rfl)
    (u₀ := u₀) (hu₀ := .rfl)
    (V := V m)
    (hmain := hmain m Variants.none)
    (hsplit := fun c => Pipeline.arrays_split (pcs) (dats m) 0 (launch0 (F := Ideal)).win.arr_inj c (launch0 (F := Ideal)).arr_whole
      (share_eq m c) _ _ fun _ => rfl)
    (hpf := V_pre m)
    (X := fun _ => iprop(emp)) (Y := fun _ => iprop(emp))
    (Z := fun c => Pipeline.unscopedRestP (Ix := Unit) (Name := ℕ) (U := UR sig nD τ) (Lvl := ℕ) pre0 spec0 c (V m c))
    (hX := fun c => by iintro H; isplitr; · iempintro
                       iexact H)
    (hin := phi0_intro m)
    (hout := phiN_exit m)
    (QY := fun c s => ∀ b ∈ Pipeline.restRefsP sig pre0 spec0, s.mem ((c : Thread nD τ).loc b) = V m c b)
    (hY := fun c s' => by
      iintro ⟨-, HU, HSI⟩
      unfold Pipeline.unscopedRestP
      imodintro
      iapply (pointsTo_read_all (Pipeline.restRefsP sig pre0 spec0) (fun b => (c.tc : Thread nD τ).loc b) (V m c) s')
      isplitl [HU] <;> iassumption)
    (hQ := fun _ h hz => ⟨fun c => ⟨(h c).1, (h c).2.2⟩, hz⟩)

/-- At the end the arguments hold what they held at the start. -/
theorem args_kept (r : PUnit × MemSt nD τ sig (Elt Ideal)) (h : QC m r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (by decide)).trans (V_main_arg0 m c), ((h c).2 main_arg1 (by decide)).trans (V_main_arg1 m c),
   ((h c).1 (4 : Fin 7)).trans (((dats m 0 c).arrAt_in (4 : Fin 7) rfl _).trans (V_main_arg2 m c)),
   ((h c).2 main_arg3 (by decide)).trans (V_main_arg3 m c)⟩

/-- The program ends, with its arguments unchanged and every semaphore counter at zero. -/
theorem frame (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨args_kept m r h.1, h.2⟩) (run_main_quiescent m ρ)

end Cert.KernelIdeal.Attn

end
-- ==== Proof.Attn.Online.lean ====
module

public import Idealize.ShloMosaic.Lib.Pointwise

@[expose] public section
noncomputable section

/-!
# The softmax of a row, one tile of keys at a time

A row's scores are real numbers or `⊥` (a key the mask hides), and its first score is a real number. The kernel keeps
the largest score seen, the sum of the exponentials, and the weighted sum of the values, and rescales the two sums when
a tile raises the largest score. After every tile they are the three quantities of the keys seen so far.
-/

namespace Cert.Attention
open Idealize.ShloMosaic

/-- The running maximum after a tile of scores `s`. -/
def newM (s : Fin 512 → EReal) (m : EReal) : EReal := max m (Finset.univ.sup s)
/-- The running sum of exponentials after a tile of scores `s`. -/
def newL (s : Fin 512 → EReal) (m l : EReal) : EReal :=
  Ideal.exp (m - newM s m) * l + ∑ c, Ideal.exp (s c - newM s m)
/-- The running weighted sum of values after a tile of scores `s` and values `v`. -/
def newA (s : Fin 512 → EReal) (m a : EReal) (v : Fin 512 → EReal) : EReal :=
  a * Ideal.exp (m - newM s m) + ∑ c, Ideal.exp (s c - newM s m) * v c

/-- The largest of the first `n` scores. -/
def preM (S : ℕ → EReal) (n : ℕ) : EReal := (Finset.range n).sup S
/-- The sum of the first `n` exponentials. -/
def preL (S : ℕ → EReal) (n : ℕ) : EReal := ∑ k ∈ Finset.range n, Ideal.exp (S k - preM S n)
/-- The weighted sum of the first `n` values. -/
def preA (S V : ℕ → EReal) (n : ℕ) : EReal := ∑ k ∈ Finset.range n, Ideal.exp (S k - preM S n) * V k

/-- A score: a real number, or `⊥` where the key is hidden. -/
def IsScore (s : EReal) : Prop := s = ⊥ ∨ ∃ x : ℝ, s = (x : EReal)

/-- The exponential of a score less a real number, as a real number. -/
def er (s : EReal) (m : ℝ) : ℝ := (Ideal.exp (s - (m : EReal))).toReal

theorem er_coe {s : EReal} (hs : IsScore s) (m : ℝ) : Ideal.exp (s - (m : EReal)) = ((er s m : ℝ) : EReal) := by
  rcases hs with rfl | ⟨x, rfl⟩
  · simp [er]
  · rw [er, ← EReal.coe_sub, Ideal.exp_coe, EReal.toReal_coe]

theorem er_bot (m : ℝ) : er ⊥ m = 0 := by simp [er]

theorem er_real (x m : ℝ) : er (x : EReal) m = Real.exp (x - m) := by
  rw [er, ← EReal.coe_sub, Ideal.exp_coe, EReal.toReal_coe]

theorem er_nonneg {s : EReal} (hs : IsScore s) (m : ℝ) : 0 ≤ er s m := by
  rcases hs with rfl | ⟨x, rfl⟩
  · rw [er_bot]
  · rw [er_real]; exact (Real.exp_pos _).le

/-- Moving the number the scores are taken less than multiplies every exponential by the same factor. -/
theorem er_move {s : EReal} (hs : IsScore s) (m m' : ℝ) : Real.exp (m - m') * er s m = er s m' := by
  rcases hs with rfl | ⟨x, rfl⟩
  · rw [er_bot, er_bot, mul_zero]
  · rw [er_real, er_real, ← Real.exp_add]; congr 1; ring

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The largest of `n > 0` scores, the first of them real, is a real number. -/
theorem preM_real {S : ℕ → EReal} (hS : ∀ k, IsScore (S k)) (h0 : S 0 ≠ ⊥) {n : ℕ} (hn : 0 < n) :
    ∃ m : ℝ, preM S n = (m : EReal) := by
  have hb : preM S n ≠ ⊥ := fun h => h0 (le_bot_iff.mp (h ▸ Finset.le_sup (f := S) (Finset.mem_range.mpr hn)))
  have ht : preM S n ≠ ⊤ := by
    refine ((Finset.sup_lt_iff (by exact bot_lt_top)).mpr fun k _ => ?_).ne
    rcases hS k with h | ⟨x, h⟩ <;> rw [h]
    · exact bot_lt_top
    · exact EReal.coe_lt_top x
  exact ⟨_, (EReal.coe_toReal ht hb).symm⟩

/-- One tile's step of the running maximum. -/
theorem newM_pre (S : ℕ → EReal) (n : ℕ) : newM (fun c => S (n + c.val)) (preM S n) = preM S (n + 512) := by
  unfold newM preM
  refine le_antisymm (max_le ?_ ?_) ?_
  · exact Finset.sup_mono fun k hk => Finset.mem_range.mpr (by have := Finset.mem_range.mp hk; omega)
  · exact Finset.sup_le fun c _ => Finset.le_sup (f := S) (Finset.mem_range.mpr (by omega))
  · refine Finset.sup_le fun k hk => ?_
    have hk := Finset.mem_range.mp hk
    by_cases h : k < n
    · exact le_max_of_le_left (Finset.le_sup (f := S) (Finset.mem_range.mpr h))
    · refine le_max_of_le_right ?_
      have := Finset.le_sup (f := fun c : Fin 512 => S (n + c.val)) (Finset.mem_univ ⟨k - n, by omega⟩)
      have e : n + (k - n) = k := by omega
      simpa only [e] using this

/-- One tile's step of the running sum of exponentials. -/
theorem newL_pre {S : ℕ → EReal} (hS : ∀ k, IsScore (S k)) (h0 : S 0 ≠ ⊥) (n : ℕ) :
    newL (fun c => S (n + c.val)) (preM S n) (preL S n) = preL S (n + 512) := by
  unfold newL
  rw [newM_pre]
  obtain ⟨m', e'⟩ := preM_real hS h0 (n := n + 512) (by omega)
  unfold preL
  rw [e', Finset.sum_range_add, Finset.sum_range (n := 512)]
  congr 1
  rcases Nat.eq_zero_or_pos n with rfl | hn
  · simp
  obtain ⟨m, e⟩ := preM_real hS h0 hn
  rw [e]
  simp only [er_coe (hS _), ← coe_sum]
  rw [← EReal.coe_sub, Ideal.exp_coe, ← EReal.coe_mul, Finset.mul_sum]
  simp only [er_move (hS _)]

/-- One tile's step of the running weighted sum. -/
theorem newA_pre {S V : ℕ → EReal} (hS : ∀ k, IsScore (S k)) (h0 : S 0 ≠ ⊥) (hV : ∀ k, ∃ x : ℝ, V k = (x : EReal)) (n : ℕ) :
    newA (fun c => S (n + c.val)) (preM S n) (preA S V n) (fun c => V (n + c.val)) = preA S V (n + 512) := by
  choose v hv using hV
  unfold newA
  rw [newM_pre]
  obtain ⟨m', e'⟩ := preM_real hS h0 (n := n + 512) (by omega)
  unfold preA
  rw [e', Finset.sum_range_add, Finset.sum_range (n := 512)]
  congr 1
  rcases Nat.eq_zero_or_pos n with rfl | hn
  · simp
  obtain ⟨m, e⟩ := preM_real hS h0 hn
  rw [e]
  simp only [er_coe (hS _), hv, ← EReal.coe_mul, ← coe_sum]
  rw [← EReal.coe_sub, Ideal.exp_coe, ← EReal.coe_mul, Finset.sum_mul]
  refine congrArg _ (Finset.sum_congr rfl fun k _ => ?_)
  rw [← er_move (hS k) m m']; ring

/-- Hidden keys at the end change nothing: the maximum. -/
theorem preM_tail {S : ℕ → EReal} {n N : ℕ} (h : n ≤ N) (hb : ∀ k, n ≤ k → S k = ⊥) : preM S N = preM S n := by
  refine le_antisymm (Finset.sup_le fun k _ => ?_) (Finset.sup_mono (Finset.range_subset_range.mpr h))
  by_cases hk : k < n
  · exact Finset.le_sup (f := S) (Finset.mem_range.mpr hk)
  · rw [hb k (by omega)]; exact bot_le

/-- Hidden keys at the end change nothing: the sum of exponentials. -/
theorem preL_tail {S : ℕ → EReal} (hS : ∀ k, IsScore (S k)) (h0 : S 0 ≠ ⊥) {n N : ℕ} (hn : 0 < n) (h : n ≤ N)
    (hb : ∀ k, n ≤ k → S k = ⊥) : preL S N = preL S n := by
  obtain ⟨m, e⟩ := preM_real hS h0 hn
  unfold preL
  rw [preM_tail h hb, e]
  refine (Finset.sum_subset (Finset.range_subset_range.mpr h) fun k _ hk => ?_).symm
  rw [hb k (by simpa using hk)]; simp

/-- Hidden keys at the end change nothing: the weighted sum. -/
theorem preA_tail {S V : ℕ → EReal} (hS : ∀ k, IsScore (S k)) (h0 : S 0 ≠ ⊥) {n N : ℕ} (hn : 0 < n) (h : n ≤ N)
    (hb : ∀ k, n ≤ k → S k = ⊥) : preA S V N = preA S V n := by
  obtain ⟨m, e⟩ := preM_real hS h0 hn
  unfold preA
  rw [preM_tail h hb, e]
  refine (Finset.sum_subset (Finset.range_subset_range.mpr h) fun k _ hk => ?_).symm
  rw [hb k (by simpa using hk)]; simp

/-- The sum of exponentials is a positive real number. -/
theorem preL_real {S : ℕ → EReal} (hS : ∀ k, IsScore (S k)) (h0 : S 0 ≠ ⊥) {n : ℕ} (hn : 0 < n) :
    ∃ l : ℝ, 0 < l ∧ preL S n = (l : EReal) := by
  obtain ⟨m, e⟩ := preM_real hS h0 hn
  refine ⟨∑ k ∈ Finset.range n, er (S k) m, ?_, ?_⟩
  · refine Finset.sum_pos' (fun k _ => er_nonneg (hS k) m) ⟨0, Finset.mem_range.mpr hn, ?_⟩
    rcases hS 0 with h | ⟨x, h⟩
    · exact absurd h h0
    · rw [h, er_real]; exact Real.exp_pos _
  · unfold preL; rw [e]; simp only [er_coe (hS _), coe_sum]

theorem div_coe (a l : ℝ) (hl : 0 < l) : Ideal.div (a : EReal) (l : EReal) = ((a / l : ℝ) : EReal) := by
  unfold Ideal.div
  rw [if_neg (by exact_mod_cast hl.ne'), ← EReal.coe_inv, ← EReal.coe_mul, div_eq_mul_inv]

/-- The difference of the two softmaxes applied to the values, as the reference writes it, is the difference of the two
    weighted sums over their sums of exponentials. -/
theorem diff_attention {S T V : ℕ → EReal} (hS : ∀ k, IsScore (S k)) (hT : ∀ k, IsScore (T k)) (hS0 : S 0 ≠ ⊥) (hT0 : T 0 ≠ ⊥)
    (hV : ∀ k, ∃ x : ℝ, V k = (x : EReal)) (lam : ℝ) {n : ℕ} (hn : 0 < n) :
    (∑ k ∈ Finset.range n, V k * (Ideal.div (Ideal.exp (S k - preM S n)) (preL S n)
        - (lam : EReal) * Ideal.div (Ideal.exp (T k - preM T n)) (preL T n)))
      = Ideal.div (preA S V n) (preL S n) - (lam : EReal) * Ideal.div (preA T V n) (preL T n) := by
  choose v hv using hV
  obtain ⟨l, hl, el⟩ := preL_real hS hS0 hn
  obtain ⟨l', hl', el'⟩ := preL_real hT hT0 hn
  obtain ⟨m, e⟩ := preM_real hS hS0 hn
  obtain ⟨m', e'⟩ := preM_real hT hT0 hn
  unfold preA
  rw [el, el', e, e']
  simp only [er_coe (hS _), er_coe (hT _), hv, ← EReal.coe_mul, ← coe_sum, div_coe _ _ hl, div_coe _ _ hl', ← EReal.coe_sub]
  refine congrArg _ ?_
  rw [Finset.sum_div, Finset.sum_div, Finset.mul_sum, ← Finset.sum_sub_distrib]
  exact Finset.sum_congr rfl fun k _ => by ring

end Cert.Attention
end
-- ==== Proof.Attn.Pay.lean ====
module

public import proofs.«01_k».proof.Proof.Gen.KernelIdeal.Skeleton
public import proofs.«01_k».proof.Proof.Attn.Online
public import Idealize.ShloMosaic.Lib.Pointwise
public import Idealize.ShloMosaic.Lib.Pipeline.ValueKit
public import Idealize.ShloMosaic.Lib.Pipeline.ReadBack

@[expose] public section
set_option maxRecDepth 16384
noncomputable section

/-!
# What one tile of the attention stores, entry by entry

Each stored value of the kernel's body as the online softmax's step of one row.
-/

namespace Cert.KernelIdeal.Attn
open Cert.KernelIdeal Cert.KernelIdeal.Gen Cert.Attention
open Idealize.ShloMosaic Idealize.ShloMosaic.TcCoe Idealize.SL.Sem

/-- A buffer of two planes, its second plane stored last: read in the second plane. -/
theorem canon_snd {n : ℕ} (inb) (w : (⟨3, ![1, 512, n]⟩ : Shape).Idx → Elt Ideal .f32)
    (L : List (View.Piece (Elt Ideal) ⟨3, ![2, 512, n]⟩ .f32)) (r : Fin 512) (k : Fin n) :
    View.canon ((⟨Rect.unit (s := ⟨3, ![2, 512, n]⟩) ![1, 0, 0] ![1, 512, n] inb, w⟩ : View.Piece (Elt Ideal) _ .f32) :: L)
      (ix3 1 r k) = w (ix3 0 r k) := by
  have e : (Rect.unit (s := ⟨3, ![2, 512, n]⟩) ![1, 0, 0] ![1, 512, n] inb).emb (ix3 0 r k) = ix3 1 r k :=
    Rect.emb_eq_of_coords _ _ _ fun a => by fin_cases a <;> simp
  rw [← e]
  exact View.canon_cons_emb (Rect.unit (s := ⟨3, ![2, 512, n]⟩) ![1, 0, 0] ![1, 512, n] inb) w L _

/-- A buffer of two planes, its second plane stored last and its first before it: read in the first plane. -/
theorem canon_fst {n : ℕ} (inb inb') (w w' : (⟨3, ![1, 512, n]⟩ : Shape).Idx → Elt Ideal .f32)
    (L : List (View.Piece (Elt Ideal) ⟨3, ![2, 512, n]⟩ .f32)) (r : Fin 512) (k : Fin n) :
    View.canon ((⟨Rect.unit (s := ⟨3, ![2, 512, n]⟩) ![1, 0, 0] ![1, 512, n] inb, w⟩ : View.Piece (Elt Ideal) _ .f32)
      :: (⟨Rect.unit (s := ⟨3, ![2, 512, n]⟩) ![0, 0, 0] ![1, 512, n] inb', w'⟩ : View.Piece (Elt Ideal) _ .f32) :: L)
      (ix3 0 r k) = w' (ix3 0 r k) := by
  have e : (Rect.unit (s := ⟨3, ![2, 512, n]⟩) ![0, 0, 0] ![1, 512, n] inb').emb (ix3 0 r k) = ix3 0 r k :=
    Rect.emb_eq_of_coords _ _ _ fun a => by fin_cases a <;> simp
  rw [View.canon_cons_of_not_mem _ _ (Rect.not_mem_set_of_axis _ _ 0 1 1 rfl rfl rfl (Or.inl (by simp)))]
  conv_lhs => rw [← e]
  exact View.canon_cons_emb (Rect.unit (s := ⟨3, ![2, 512, n]⟩) ![0, 0, 0] ![1, 512, n] inb') w' L _

theorem pay25_at (s : FVec Ideal S512x512 .f32) (mp : Vec Ideal S1x512x128 .f32) (r : Fin 512) (k : Fin 128) :
    k0_pay25 s mp (ix3 0 r k) = newM (fun c => s (ix2 r c)) (mp (ix3 0 r k)) := by
  pointwise [k0_pay25, k0_pay20, k0_pay19]
  rfl

theorem pay23_at (s : FVec Ideal S512x512 .f32) (mp lp : Vec Ideal S1x512x128 .f32) (r : Fin 512) (k : Fin 128)
    (hk : ∀ k, mp (ix3 0 r k) = mp (ix3 0 r 0)) :
    k0_pay23 s mp lp (ix3 0 r k) = newL (fun c => s (ix2 r c)) (mp (ix3 0 r 0)) (lp (ix3 0 r k)) := by
  pointwise [k0_pay23, k0_pay20, k0_pay19, k0_pay21, k0_pay22]
  rw [hk k]
  rfl

theorem pay24_at (vv : FVec Ideal S512x256 .f32) (s : FVec Ideal S512x512 .f32) (mp : Vec Ideal S1x512x128 .f32) (ap : Vec Ideal S1x512x256 .f32) (r : Fin 512) (d : Fin 256) :
    k0_pay24 vv s mp ap (ix3 0 r d) = newA (fun c => s (ix2 r c)) (mp (ix3 0 r 0)) (ap (ix3 0 r d)) (fun c => vv (ix2 c d)) := by
  pointwise [k0_pay24, k0_pay20, k0_pay19, k0_pay21, k0_pay22]
  rfl

/-- The masked scores of a tile, first map. -/
theorem pay18_at (q k : FVec Ideal S512x256 .f32) (b : FVec Ideal S512x512 .f32) (a1 a2 : IVec S512x512 32) (c1 : BitVec 32) (a3 a4 : IVec S512x512 32) (c2 c3 : BitVec 32) (r c : Fin 512) :
    k0_pay18 q k a1 a2 b c1 a3 a4 c2 c3 (ix2 r c) = Scalar.select (k0_pay17 a1 a2 c1 a3 a4 c2 c3 (ix2 r c)) ((∑ e : Fin 128, q (ix2 r ⟨e.val, by omega⟩) * k (ix2 c ⟨e.val, by omega⟩)) * (Scalar.ofBits (F := Ideal) .f32 0x3DB504F3#32) + b (ix2 r c)) (⊥ : EReal) := by
  pointwise [k0_pay18]
  rfl

/-- The masked scores of a tile, second map. -/
theorem pay28_at (q k : FVec Ideal S512x256 .f32) (b : FVec Ideal S512x512 .f32) (vis : IVec S512x512 1) (r c : Fin 512) :
    k0_pay28 b vis (k0_pay26 q) (k0_pay27 k) (constant S512x512 .f32 0#32) (ix2 r c) = Scalar.select (vis (ix2 r c)) ((∑ e : Fin 128, q (ix2 r ⟨128 + e.val, by omega⟩) * k (ix2 c ⟨128 + e.val, by omega⟩)) * (Scalar.ofBits (F := Ideal) .f32 0x3DB504F3#32) + b (ix2 r c)) (⊥ : EReal) := by
  pointwise [k0_pay28, k0_pay26, k0_pay27]
  rfl

theorem pay1_at (b : FVec Ideal S512x512 .f32) (vis : IVec S512x512 1) (q k : FVec Ideal S512x128 .f32) (z : FVec Ideal S512x512 .f32) (mp : Vec Ideal S1x512x128 .f32) (r : Fin 512) (e : Fin 128) :
    k0_pay1 (k0_pay30 b vis q k z mp) (ix3 0 r e) = newM (fun c => k0_pay28 b vis q k z (ix2 r c)) (mp (ix3 0 r e)) := by
  pointwise [k0_pay1, k0_pay30, k0_pay29]
  rfl

theorem pay33_at (b : FVec Ideal S512x512 .f32) (vis : IVec S512x512 1) (q k : FVec Ideal S512x128 .f32) (z : FVec Ideal S512x512 .f32) (mp lp : Vec Ideal S1x512x128 .f32) (r : Fin 512) (e : Fin 128)
    (hk : ∀ k, mp (ix3 0 r k) = mp (ix3 0 r 0)) :
    k0_pay33 b vis q k z mp lp (ix3 0 r e) = newL (fun c => k0_pay28 b vis q k z (ix2 r c)) (mp (ix3 0 r 0)) (lp (ix3 0 r e)) := by
  pointwise [k0_pay33, k0_pay30, k0_pay29, k0_pay31, k0_pay32]
  rw [hk e]
  rfl

theorem pay34_at (vv : FVec Ideal S512x256 .f32) (b : FVec Ideal S512x512 .f32) (vis : IVec S512x512 1) (q k : FVec Ideal S512x128 .f32) (z : FVec Ideal S512x512 .f32) (mp : Vec Ideal S1x512x128 .f32) (ap : Vec Ideal S1x512x256 .f32) (r : Fin 512) (d : Fin 256) :
    k0_pay34 vv b vis q k z mp ap (ix3 0 r d) = newA (fun c => k0_pay28 b vis q k z (ix2 r c)) (mp (ix3 0 r 0)) (ap (ix3 0 r d)) (fun c => vv (ix2 c d)) := by
  pointwise [k0_pay34, k0_pay30, k0_pay29, k0_pay31, k0_pay32]
  rfl

/-- The chunk of a position: its quotient by 64, rounded down as the kernel rounds it. -/
def chunkW (w : BitVec 32) : BitVec 32 :=
  Scalar.select
    (IntOp.andi
      (IntOp.cmpi .ne (IntOp.subi (BitVec.setWidth 32 (IntOp.cmpi .sgt w 0#32)) (BitVec.setWidth 32 (IntOp.cmpi .slt w 0#32))) 1#32)
      (IntOp.cmpi .ne (IntOp.remsi .vector w 64#32) 0#32))
    (IntOp.subi (IntOp.divsi .vector w 64#32) 1#32) (IntOp.divsi .vector w 64#32)

set_option maxHeartbeats 4000000 in
theorem chunkW_eq : ∀ n : Fin 4096, chunkW (BitVec.ofNat 32 n.val) = BitVec.ofNat 32 (n.val / 64) := by decide +kernel

/-- The word of a position of a tile. -/
theorem posW (a r : ℕ) : IntOp.addi (Scalar.muli (BitVec.ofNat 32 a) 512#32) (BitVec.ofNat 32 r) = BitVec.ofNat 32 (512 * a + r) := by
  show BitVec.ofNat 32 a * 512#32 + BitVec.ofNat 32 r = _
  rw [mul_comm 512 a, BitVec.ofNat_add, BitVec.ofNat_mul]

theorem pay17_at (a b : ℕ) (r c : Fin 512) :
    k0_pay17 (k0_pay12 (F := Ideal) (BitVec.ofNat 32 a)) (k0_pay13 (F := Ideal) (BitVec.ofNat 32 b)) 64#32 (k0_pay15 (F := Ideal) (BitVec.ofNat 32 b)) (k0_pay16 (F := Ideal) (BitVec.ofNat 32 b)) 1#32 0#32 (ix2 r c)
      = IntOp.cmpi .sle (chunkW (BitVec.ofNat 32 (512 * b + c.val))) (chunkW (BitVec.ofNat 32 (512 * a + r.val))) := by
  pointwise [k0_pay17, k0_pay12, k0_pay13, k0_pay15, k0_pay16]
  simp only [posW]
  rfl

/-- The distance of two positions, as a float. -/
def distW (a b : ℕ) : EReal := FloatOps.sitofp (F := Ideal) .f32 (IntOp.absi (IntOp.subi (BitVec.ofNat 32 a) (BitVec.ofNat 32 b)))

theorem pay14_at (a b : ℕ) (sl : Elt Ideal .f32) (r c : Fin 512) :
    k0_pay14 (F := Ideal) (BitVec.ofNat 32 a) (BitVec.ofNat 32 b) sl (ix2 r c) = distW (512 * a + r.val) (512 * b + c.val) * (0 - sl) := by
  pointwise [k0_pay14, k0_pay12, k0_pay13]
  simp only [posW]
  rfl

/-- The weight of the second map, from the four rows of the lambda parameters. -/
def lamOf (lam : Fin 4 → Fin 128 → EReal) : EReal :=
  Ideal.exp (∑ e, lam 0 e * lam 1 e) - Ideal.exp (∑ e, lam 2 e * lam 3 e) + Ideal.ofBits .f32 0x3EB60549#32

/-- The difference of the two maps' weighted sums, from the sums and the sums of exponentials. -/
theorem pay3_at (lam : Vec Ideal S4x128 .f32) (a0 a1 : Vec Ideal S1x512x256 .f32) (l0 l1 : Vec Ideal S1x512x128 .f32) (r : Fin 512) (d : Fin 256) :
    k0_pay3 (F := Ideal) lam a0 l0 a1 l1 (ix2 r d)
      = Ideal.div (a0 (ix3 0 r d)) (l0 (ix3 0 r 0)) - lamOf (fun i e => lam (ix2 i e)) * Ideal.div (a1 (ix3 0 r d)) (l1 (ix3 0 r 0)) := by
  pointwise [k0_pay3]
  rfl

/-- A head's row divided by its root mean square, times the head's gains and the fixed factor. -/
def normHead (x g : Fin 256 → EReal) (d : Fin 256) : EReal :=
  x d * Ideal.rsqrt (Ideal.div (∑ e, x e * x e) (Ideal.ofBits .f32 0x43800000#32) + Ideal.ofBits .f32 0x358637BD#32) * g d
    * Ideal.ofBits .f32 0x3F24FD5C#32

theorem pay5_at (lam : Vec Ideal S4x128 .f32) (a0 a1 : Vec Ideal S1x512x256 .f32) (l0 l1 : Vec Ideal S1x512x128 .f32) (r : Fin 512) (d : Fin 1) :
    k0_pay5 (F := Ideal) lam a0 l0 a1 l1 (ix2 r d) = ∑ d : Fin 256, k0_pay3 (F := Ideal) lam a0 l0 a1 l1 (ix2 r d) * k0_pay3 (F := Ideal) lam a0 l0 a1 l1 (ix2 r d) := by
  pointwise [k0_pay5]

/-- The stored row. -/
theorem pay2_at (lam : Vec Ideal S4x128 .f32) (a0 a1 : Vec Ideal S1x512x256 .f32) (l0 l1 : Vec Ideal S1x512x128 .f32)
    (g : Vec Ideal S1x1x256 .f32) (r : Fin 512) (d : Fin 256) :
    k0_pay2 (F := Ideal) (k0_pay3 lam a0 l0 a1 l1) (k0_pay4 g) (k0_pay5 lam a0 l0 a1 l1) (Scalar.ofBits .f32 0x43800000#32) (ix2 r d)
      = normHead (fun d => Ideal.div (a0 (ix3 0 r d)) (l0 (ix3 0 r 0)) - lamOf (fun i e => lam (ix2 i e)) * Ideal.div (a1 (ix3 0 r d)) (l1 (ix3 0 r 0)))
          (fun d => g (ix3 0 0 d)) d := by
  pointwise [k0_pay2, k0_pay4]
  rw [pay5_at]
  simp only [pay3_at]
  rfl

end Cert.KernelIdeal.Attn
end
-- ==== Proof.Attn.Stages.lean ====
module

public import proofs.«01_k».proof.Proof.Gen.ReferenceIdeal.Run
public import proofs.«01_k».proof.Proof.Attn.Pay
public import Idealize.ShloMosaic.Lib.Pointwise

@[expose] public section
set_option maxRecDepth 16384
noncomputable section

/-!
# The attention as the reference writes it, stage by stage
-/

namespace Cert.ReferenceIdeal.Attn
open Cert.ReferenceIdeal Cert.ReferenceIdeal.Gen Cert.Attention
open Idealize.ShloMosaic Idealize.ShloMosaic.TcCoe

/-- The queries, head by head, as the reference cuts them out. -/
def queryT (a : FVec Ideal S8448x6144 .f32) : FVec Ideal S2x4096x8x256 .f32 :=
  (shapeCast S2x4096x8x256 (extractStridedSlice S8192x2048 ![0, 0] (extractStridedSlice S8192x6144 ![0, 0] a slices_S8448x6144_S8192x6144_0_0) slices_S8192x6144_S8192x2048_0_0) shapeCasts_S8192x2048_S2x4096x8x256)

/-- The keys, head by head, as the reference cuts them out. -/
def keyT (a : FVec Ideal S8448x6144 .f32) : FVec Ideal S2x4096x8x256 .f32 :=
  (shapeCast S2x4096x8x256 (extractStridedSlice S8192x2048 ![0, 2048] (extractStridedSlice S8192x6144 ![0, 0] a slices_S8448x6144_S8192x6144_0_0) slices_S8192x6144_S8192x2048_0_2048) shapeCasts_S8192x2048_S2x4096x8x256)

/-- The values, head by head, as the reference cuts them out. -/
def valueT (a : FVec Ideal S8448x6144 .f32) : FVec Ideal S2x4096x8x256 .f32 :=
  (shapeCast S2x4096x8x256 (extractStridedSlice S8192x2048 ![0, 4096] (extractStridedSlice S8192x6144 ![0, 0] a slices_S8448x6144_S8192x6144_0_0) slices_S8192x6144_S8192x2048_0_4096) shapeCasts_S8192x2048_S2x4096x8x256)

/-- The weight of the second map, as the reference writes it. -/
def lamT (a : FVec Ideal S4x128 .f32) : FVec Ideal S_ .f32 :=
  (addf (subf (Host.exp (Host.reduceAdd (mulf (shapeCast S128 (extractStridedSlice S1x128 ![0, 0] a slices_S4x128_S1x128_0_0) shapeCasts_S1x128_S128) (shapeCast S128 (extractStridedSlice S1x128 ![1, 0] a slices_S4x128_S1x128_1_0) shapeCasts_S1x128_S128)) (constant S_ .f32 0x00000000#32) reducesTo_S128_S_d0 h_S_)) (Host.exp (Host.reduceAdd (mulf (shapeCast S128 (extractStridedSlice S1x128 ![2, 0] a slices_S4x128_S1x128_2_0) shapeCasts_S1x128_S128) (shapeCast S128 (extractStridedSlice S1x128 ![3, 0] a slices_S4x128_S1x128_3_0) shapeCasts_S1x128_S128)) (constant S_ .f32 0x00000000#32) reducesTo_S128_S_d0 h_S_))) (constant S_ .f32 0x3EB60549#32))

/-- The heads' slopes, as the reference writes them. -/
def slopeT : FVec Ideal S8 .f32 :=
  (Host.exp (mulf (broadcastInDim S8 ![] bcast_S_S8 (constant S_ .f32 0x3F317218#32)) (Host.divf (mulf (broadcastInDim S8 ![] bcast_S_S8 (constant S_ .f32 0xC1000000#32)) (addf (broadcastInDim S8 ![] bcast_S_S8 (constant S_ .f32 0x3F800000#32)) (sitofp .f32 (iotaInDim S8 32 0)))) (broadcastInDim S8 ![] bcast_S_S8 (constant S_ .f32 0x41000000#32)))))

/-- The distances of the positions, as the reference writes them. -/
def distT : FVec Ideal S4096x4096 .f32 :=
  (sitofp .f32 (absi (subi (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0))))))

/-- The bias of the scores, as the reference writes it. -/
def biasT (s : FVec Ideal S8 .f32) (d : FVec Ideal S4096x4096 .f32) : FVec Ideal S8x4096x4096 .f32 :=
  (mulf (broadcastInDim S8x4096x4096 ![0, 1, 2] bcast_S8x1x1_S8x4096x4096_0_1_2 (Host.negf (broadcastInDim S8x1x1 ![0] bcast_S8_S8x1x1_0 s))) (broadcastInDim S8x4096x4096 ![0, 1, 2] bcast_S1x4096x4096_S8x4096x4096_0_1_2 (broadcastInDim S1x4096x4096 ![1, 2] bcast_S4096x4096_S1x4096x4096_1_2 d)))

/-- The chunks of the positions, as the reference writes them. -/
def chunkT : IVec S4096 32 :=
  (select (andi (cmpi .ne (signi (iotaInDim S4096 32 0)) (broadcastInDim S4096 ![] bcast_S_S4096 (signi (constantI S_ 32 64#32)))) (cmpi .ne (Host.remsi (iotaInDim S4096 32 0) (broadcastInDim S4096 ![] bcast_S_S4096 (constantI S_ 32 64#32))) (broadcastInDim S4096 ![] bcast_S_S4096 (constantI S_ 32 0#32)))) (subi (Host.divsi (iotaInDim S4096 32 0) (broadcastInDim S4096 ![] bcast_S_S4096 (constantI S_ 32 64#32))) (broadcastInDim S4096 ![] bcast_S_S4096 (constantI S_ 32 1#32))) (Host.divsi (iotaInDim S4096 32 0) (broadcastInDim S4096 ![] bcast_S_S4096 (constantI S_ 32 64#32))))

/-- Which keys a query sees, as the reference writes it. -/
def visT (k q : IVec S4096 32) : IVec S4096x4096 1 :=
  (cmpi .sle (broadcastInDim S4096x4096 ![0, 1] bcast_S1x4096_S4096x4096_0_1 (broadcastInDim S1x4096 ![1] bcast_S4096_S1x4096_1 k)) (broadcastInDim S4096x4096 ![0, 1] bcast_S4096x1_S4096x4096_0_1 (broadcastInDim S4096x1 ![0] bcast_S4096_S4096x1_0 q)))

/-- The masked scores of the first map, as the reference writes them. -/
def scoreT0 (q k : FVec Ideal S2x4096x8x256 .f32) (b : FVec Ideal S8x4096x4096 .f32) (s : IVec S4096x4096 1) : FVec Ideal S2x8x4096x4096 .f32 :=
  (select (broadcastInDim S2x8x4096x4096 ![2, 3] bcast_S4096x4096_S2x8x4096x4096_2_3 s) (addf (mulf (Host.dotGeneral dot_S2x4096x8x128_S2x4096x8x128_S2x8x4096x4096_3_3_1_1_02_02 none (extractStridedSlice S2x4096x8x128 ![0, 0, 0, 0] q slices_S2x4096x8x256_S2x4096x8x128_0_0_0_0) (extractStridedSlice S2x4096x8x128 ![0, 0, 0, 0] k slices_S2x4096x8x256_S2x4096x8x128_0_0_0_0)) (broadcastInDim S2x8x4096x4096 ![] bcast_S_S2x8x4096x4096 (constant S_ .f32 0x3DB504F3#32))) (broadcastInDim S2x8x4096x4096 ![0, 1, 2, 3] bcast_S1x8x4096x4096_S2x8x4096x4096_0_1_2_3 (broadcastInDim S1x8x4096x4096 ![1, 2, 3] bcast_S8x4096x4096_S1x8x4096x4096_1_2_3 b))) (broadcastInDim S2x8x4096x4096 ![] bcast_S_S2x8x4096x4096 (constant S_ .f32 0xFF800000#32)))

/-- The masked scores of the second map, as the reference writes them. -/
def scoreT1 (q k : FVec Ideal S2x4096x8x256 .f32) (b : FVec Ideal S8x4096x4096 .f32) (s : IVec S4096x4096 1) : FVec Ideal S2x8x4096x4096 .f32 :=
  (select (broadcastInDim S2x8x4096x4096 ![2, 3] bcast_S4096x4096_S2x8x4096x4096_2_3 s) (addf (mulf (Host.dotGeneral dot_S2x4096x8x128_S2x4096x8x128_S2x8x4096x4096_3_3_1_1_02_02 none (extractStridedSlice S2x4096x8x128 ![0, 0, 0, 128] q slices_S2x4096x8x256_S2x4096x8x128_0_0_0_128) (extractStridedSlice S2x4096x8x128 ![0, 0, 0, 128] k slices_S2x4096x8x256_S2x4096x8x128_0_0_0_128)) (broadcastInDim S2x8x4096x4096 ![] bcast_S_S2x8x4096x4096 (constant S_ .f32 0x3DB504F3#32))) (broadcastInDim S2x8x4096x4096 ![0, 1, 2, 3] bcast_S1x8x4096x4096_S2x8x4096x4096_0_1_2_3 (broadcastInDim S1x8x4096x4096 ![1, 2, 3] bcast_S8x4096x4096_S1x8x4096x4096_1_2_3 b))) (broadcastInDim S2x8x4096x4096 ![] bcast_S_S2x8x4096x4096 (constant S_ .f32 0xFF800000#32)))

/-- The rows' greatest scores, as the reference writes them. -/
def maxT (s : FVec Ideal S2x8x4096x4096 .f32) : FVec Ideal S2x8x4096 .f32 :=
  (maximumf (broadcastInDim S2x8x4096 ![] bcast_S_S2x8x4096 (constant S_ .f32 0xFF800000#32)) (Host.reduce FloatOps.maximumf s (constant S_ .f32 0xFF800000#32) reducesTo_S2x8x4096x4096_S2x8x4096_d3 h_S_))

/-- The exponentials, as the reference writes them. -/
def expT (s : FVec Ideal S2x8x4096x4096 .f32) (x : FVec Ideal S2x8x4096 .f32) : FVec Ideal S2x8x4096x4096 .f32 :=
  (Host.exp (subf s (broadcastInDim S2x8x4096x4096 ![0, 1, 2, 3] bcast_S2x8x4096x1_S2x8x4096x4096_0_1_2_3 (broadcastInDim S2x8x4096x1 ![0, 1, 2] bcast_S2x8x4096_S2x8x4096x1_0_1_2 x))))

/-- The rows' sums, as the reference writes them. -/
def sumT (e : FVec Ideal S2x8x4096x4096 .f32) : FVec Ideal S2x8x4096 .f32 :=
  (Host.reduceAdd e (constant S_ .f32 0x00000000#32) reducesTo_S2x8x4096x4096_S2x8x4096_d3 h_S_)

/-- The quotients, as the reference writes them. -/
def quotT (e : FVec Ideal S2x8x4096x4096 .f32) (x : FVec Ideal S2x8x4096 .f32) : FVec Ideal S2x8x4096x4096 .f32 :=
  (Host.divf e (broadcastInDim S2x8x4096x4096 ![0, 1, 2, 3] bcast_S2x8x4096x1_S2x8x4096x4096_0_1_2_3 (broadcastInDim S2x8x4096x1 ![0, 1, 2] bcast_S2x8x4096_S2x8x4096x1_0_1_2 x)))

/-- The softmax over the keys, as the reference writes it. -/
def softT (s : FVec Ideal S2x8x4096x4096 .f32) : FVec Ideal S2x8x4096x4096 .f32 :=
  quotT (expT s (maxT s)) (sumT (expT s (maxT s)))

/-- The difference of the two maps. -/
def diffT (l : FVec Ideal S_ .f32) (p q : FVec Ideal S2x8x4096x4096 .f32) : FVec Ideal S2x8x4096x4096 .f32 :=
  (subf p (mulf (broadcastInDim S2x8x4096x4096 ![] bcast_S_S2x8x4096x4096 l) q))

/-- The values weighted by the map. -/
def mixT (v : FVec Ideal S2x4096x8x256 .f32) (w : FVec Ideal S2x8x4096x4096 .f32) : FVec Ideal S2x4096x8x256 .f32 :=
  (transpose S2x4096x8x256 [0, 3, 1, 2] (Host.dotGeneral dot_S2x4096x8x256_S2x8x4096x4096_S2x8x256x4096_1_3_3_2_02_01 none v w) transposes_S2x8x256x4096_S2x4096x8x256_0_3_1_2)

/-- The heads' norm, as the reference writes it, the heads side by side. -/
def headT (x : FVec Ideal S2x4096x8x256 .f32) (g : FVec Ideal S8x256 .f32) : FVec Ideal S8192x2048 .f32 :=
  (shapeCast S8192x2048 (mulf (mulf (mulf x (broadcastInDim S2x4096x8x256 ![0, 1, 2, 3] bcast_S2x4096x8x1_S2x4096x8x256_0_1_2_3 (Host.rsqrt (addf (Host.divf (broadcastInDim S2x4096x8x1 ![0, 1, 2] bcast_S2x4096x8_S2x4096x8x1_0_1_2 (Host.reduceAdd (mulf x x) (constant S_ .f32 0x00000000#32) reducesTo_S2x4096x8x256_S2x4096x8_d3 h_S_)) (broadcastInDim S2x4096x8x1 ![] bcast_S_S2x4096x8x1 (constant S_ .f32 0x43800000#32))) (broadcastInDim S2x4096x8x1 ![] bcast_S_S2x4096x8x1 (constant S_ .f32 0x358637BD#32)))))) (broadcastInDim S2x4096x8x256 ![0, 1, 2, 3] bcast_S1x1x8x256_S2x4096x8x256_0_1_2_3 (broadcastInDim S1x1x8x256 ![2, 3] bcast_S8x256_S1x1x8x256_2_3 g))) (broadcastInDim S2x4096x8x256 ![] bcast_S_S2x4096x8x256 (constant S_ .f32 0x3F24FD5C#32))) shapeCasts_S2x4096x8x256_S8192x2048)

/-- The whole of it. -/
def attnT (a : FVec Ideal S8448x6144 .f32) (l : FVec Ideal S4x128 .f32) (g : FVec Ideal S8x256 .f32) : FVec Ideal S8192x2048 .f32 :=
  headT (mixT (valueT a) (diffT (lamT l) (softT (scoreT0 (queryT a) (keyT a) (biasT slopeT distT) (visT chunkT chunkT)))
    (softT (scoreT1 (queryT a) (keyT a) (biasT slopeT distT) (visT chunkT chunkT))))) g

set_option maxHeartbeats 4000000 in
/-- The reference's run leaves this array. -/
theorem res_eq (m : (ℓ : Loc nD τ sig) → Buf (Elt Ideal) ℓ) (c : Dev nD) :
    Cert.ReferenceIdeal.Value.res_main_v114 m c = attnT (m ((c.tc : Thread nD τ).loc main_arg0)) (m ((c.tc : Thread nD τ).loc main_arg2)) (m ((c.tc : Thread nD τ).loc main_arg3)) := by
  unfold Cert.ReferenceIdeal.Value.res_main_v114
  rfl

end Cert.ReferenceIdeal.Attn
end
-- ==== Proof.Attn.RefAt.lean ====
module

public import proofs.«01_k».proof.Proof.Attn.Stages

@[expose] public section
set_option maxRecDepth 16384
noncomputable section

/-!
# The reference's stages, entry by entry
-/

namespace Cert.ReferenceIdeal.Attn
open Cert.ReferenceIdeal Cert.ReferenceIdeal.Gen Cert.Attention
open Cert.KernelIdeal.Attn (distW lamOf normHead)
open Idealize.ShloMosaic Idealize.ShloMosaic.TcCoe

/-- The slope of a head, as a function of the head's number. -/
def slopeOf (h : ℕ) : EReal :=
  Ideal.exp (Ideal.ofBits .f32 0x3F317218#32 * Ideal.div (Ideal.ofBits .f32 0xC1000000#32 * (1 + FloatOps.sitofp (F := Ideal) .f32 (BitVec.ofNat 32 h))) (Ideal.ofBits .f32 0x41000000#32))

theorem queryT_at (a : FVec Ideal S8448x6144 .f32) (b : Fin 2) (q : Fin 4096) (h : Fin 8) (e : Fin 256) :
    queryT a (ix4 b q h e) = a (ix2 ⟨b.val * 4096 + q.val, by omega⟩ ⟨h.val * 256 + e.val, by omega⟩) := by
  pointwise [queryT]

theorem keyT_at (a : FVec Ideal S8448x6144 .f32) (b : Fin 2) (q : Fin 4096) (h : Fin 8) (e : Fin 256) :
    keyT a (ix4 b q h e) = a (ix2 ⟨b.val * 4096 + q.val, by omega⟩ ⟨2048 + (h.val * 256 + e.val), by omega⟩) := by
  pointwise [keyT]

theorem valueT_at (a : FVec Ideal S8448x6144 .f32) (b : Fin 2) (q : Fin 4096) (h : Fin 8) (e : Fin 256) :
    valueT a (ix4 b q h e) = a (ix2 ⟨b.val * 4096 + q.val, by omega⟩ ⟨4096 + (h.val * 256 + e.val), by omega⟩) := by
  pointwise [valueT]

theorem lamT_at (a : FVec Ideal S4x128 .f32) : lamT a ix0 = lamOf (fun i e => a (ix2 i e)) := by
  pointwise [lamT]
  rfl

theorem slopeT_at (h : Fin 8) : slopeT (ix1 h) = slopeOf h.val := by
  pointwise [slopeT]
  rfl

theorem distT_at (q k : Fin 4096) : distT (ix2 q k) = distW q.val k.val := by
  pointwise [distT]
  rfl

theorem biasT_at (s : FVec Ideal S8 .f32) (d : FVec Ideal S4096x4096 .f32) (h : Fin 8) (q k : Fin 4096) :
    biasT s d (ix3 h q k) = -s (ix1 h) * d (ix2 q k) := by
  pointwise [biasT]

set_option maxHeartbeats 4000000 in
theorem chunkT_at : ∀ k : Fin 4096, chunkT (ix1 k) = BitVec.ofNat 32 (k.val / 64) := by
  intro k
  pointwise [chunkT]
  revert k
  decide +kernel

theorem visT_at (k q : IVec S4096 32) (i j : Fin 4096) :
    visT k q (ix2 i j) = IntOp.cmpi .sle (k (ix1 j)) (q (ix1 i)) := by
  pointwise [visT]

theorem scoreT0_at (q k : FVec Ideal S2x4096x8x256 .f32) (bi : FVec Ideal S8x4096x4096 .f32) (s : IVec S4096x4096 1)
    (b : Fin 2) (h : Fin 8) (i j : Fin 4096) :
    scoreT0 q k bi s (ix4 b h i j) = Scalar.select (s (ix2 i j))
      ((∑ x : Fin 128, q (ix4 b i h ⟨x.val, by omega⟩) * k (ix4 b j h ⟨x.val, by omega⟩)) * Ideal.ofBits .f32 0x3DB504F3#32 + bi (ix3 h i j)) (⊥ : EReal) := by
  pointwise [scoreT0]
  rfl

theorem scoreT1_at (q k : FVec Ideal S2x4096x8x256 .f32) (bi : FVec Ideal S8x4096x4096 .f32) (s : IVec S4096x4096 1)
    (b : Fin 2) (h : Fin 8) (i j : Fin 4096) :
    scoreT1 q k bi s (ix4 b h i j) = Scalar.select (s (ix2 i j))
      ((∑ x : Fin 128, q (ix4 b i h ⟨128 + x.val, by omega⟩) * k (ix4 b j h ⟨128 + x.val, by omega⟩)) * Ideal.ofBits .f32 0x3DB504F3#32 + bi (ix3 h i j)) (⊥ : EReal) := by
  pointwise [scoreT1]
  rfl

theorem expT_at (s : FVec Ideal S2x8x4096x4096 .f32) (x : FVec Ideal S2x8x4096 .f32) (b : Fin 2) (h : Fin 8) (i j : Fin 4096) :
    expT s x (ix4 b h i j) = Ideal.exp (s (ix4 b h i j) - x (ix3 b h i)) := by
  pointwise [expT]

theorem sumT_at (s : FVec Ideal S2x8x4096x4096 .f32) (b : Fin 2) (h : Fin 8) (i : Fin 4096) :
    sumT s (ix3 b h i) = ∑ x : Fin 4096, s (ix4 b h i x) := by
  pointwise [sumT]

theorem quotT_at (s : FVec Ideal S2x8x4096x4096 .f32) (x : FVec Ideal S2x8x4096 .f32) (b : Fin 2) (h : Fin 8) (i j : Fin 4096) :
    quotT s x (ix4 b h i j) = Ideal.div (s (ix4 b h i j)) (x (ix3 b h i)) := by
  pointwise [quotT]

theorem diffT_at (l : FVec Ideal S_ .f32) (p q : FVec Ideal S2x8x4096x4096 .f32)
    (b : Fin 2) (h : Fin 8) (i j : Fin 4096) :
    diffT l p q (ix4 b h i j) = p (ix4 b h i j) - l ix0 * q (ix4 b h i j) := by
  pointwise [diffT]

theorem mixT_at (v : FVec Ideal S2x4096x8x256 .f32) (w : FVec Ideal S2x8x4096x4096 .f32)
    (b : Fin 2) (q : Fin 4096) (h : Fin 8) (e : Fin 256) :
    mixT v w (ix4 b q h e) = ∑ x : Fin 4096, v (ix4 b x h e) * w (ix4 b h q x) := by
  pointwise [mixT]

theorem headT_at (v : FVec Ideal S2x4096x8x256 .f32) (g : FVec Ideal S8x256 .f32)
    (r : Fin 8192) (e : Fin 2048) :
    headT v g (ix2 r e) = normHead (fun x => v (ix4 ⟨r.val / 4096, by omega⟩ ⟨r.val % 4096, by omega⟩ ⟨e.val / 256, by omega⟩ x))
      (fun x => g (ix2 ⟨e.val / 256, by omega⟩ x)) ⟨e.val % 256, by omega⟩ := by
  pointwise [headT]
  rfl

/-- A largest entry along the last of four axes is a maximum over that axis. -/
theorem reduce_last {A B C D : ℕ} (x : FVec Ideal ⟨4, ![A, B, C, D]⟩ .f32) (u : BitVec 32)
    (h' : (⟨4, ![A, B, C, D]⟩ : Shape).ReducesTo [3] (⟨3, ![A, B, C]⟩ : Shape))
    (h : (⟨4, ![A, B, C, D]⟩ : Shape).Reduces [3] (⟨3, ![A, B, C]⟩ : Shape)) (hu : 0 < (⟨0, ![]⟩ : Shape).numel)
    (a : Fin A) (b : Fin B) (c : Fin C) :
    Host.reduce FloatOps.maximumf x (constant (⟨0, ![]⟩ : Shape) .f32 u) h' hu (ix3 a b c)
      = Finset.univ.fold (max : EReal → EReal → EReal) (Ideal.ofBits .f32 u) (fun k : Fin D => x (ix4 a b c k)) := by
  rw [Host.reduce_eq_fold_single FloatOps.maximumf x _ h' h hu]
  have hf : (x ∘ h.lift (ix3 a b c)) = fun k : Fin D => x (ix4 a b c k) := funext fun k => congrArg x (by
    funext z; apply Fin.ext; fin_cases z <;> rfl)
  exact congrArg (fun f => Finset.fold (max : EReal → EReal → EReal) (Ideal.ofBits .f32 u) f (Finset.univ : Finset (Fin D))) hf

/-- The larger of two arrays' entries. -/
theorem max_at {s : Shape} (x y : FVec Ideal s .f32) (i : s.Idx) : maximumf x y i = (max (x i) (y i) : EReal) := rfl

theorem maxT_at (s : FVec Ideal S2x8x4096x4096 .f32) (b : Fin 2) (h : Fin 8) (i : Fin 4096) :
    maxT s (ix3 b h i) = max (Ideal.ofBits .f32 0xFF800000#32)
      (Finset.univ.fold (max : EReal → EReal → EReal) (Ideal.ofBits .f32 0xFF800000#32) (fun x : Fin 4096 => s (ix4 b h i x))) := by
  unfold maxT
  rw [max_at, reduce_last s 0xFF800000#32 reducesTo_S2x8x4096x4096_S2x8x4096_d3 (by decide) h_S_ b h i]
  rfl

end Cert.ReferenceIdeal.Attn
end
-- ==== Proof.Attn.Scores.lean ====
module

public import proofs.«01_k».proof.Proof.Attn.RefAt
public import proofs.«01_k».proof.Proof.Attn.Online

@[expose] public section
set_option maxRecDepth 16384
noncomputable section

/-!
# The scores of a query, and what is true of them

A query at position `q` of prompt `b` scores every key of its prompt: real numbers up to the end of its own chunk of 64
positions, `⊥` after it. The first key is always seen. This needs the queries and the keys to be real numbers.
-/

namespace Cert.Attention
open Idealize.ShloMosaic
open Cert.KernelIdeal.Attn (distW lamOf normHead chunkW chunkW_eq)
open Cert.ReferenceIdeal.Attn (slopeOf)

/-- The projections' array: queries, keys and values side by side. -/
abbrev Arr : Type := FVec Ideal ⟨2, ![8448, 6144]⟩ .f32

/-- The row of position `q` of prompt `b`. -/
def row (b : Fin 2) (q : Fin 4096) : Fin 8448 := ⟨4096 * b.val + q.val, by omega⟩

/-- The score, for map `j` of head `h`, of the key at `k` for the query at `q` of prompt `b`. -/
def scoreAt (a : Arr) (j b : Fin 2) (h : Fin 8) (q k : Fin 4096) : EReal :=
  Scalar.select (IntOp.cmpi .sle (chunkW (BitVec.ofNat 32 k.val)) (chunkW (BitVec.ofNat 32 q.val)))
    ((∑ e : Fin 128, a (ix2 (row b q) ⟨256 * h.val + (128 * j.val + e.val), by omega⟩)
        * a (ix2 (row b k) ⟨2048 + (256 * h.val + (128 * j.val + e.val)), by omega⟩)) * Ideal.ofBits .f32 0x3DB504F3#32
      + distW q.val k.val * (0 - slopeOf h.val)) (⊥ : EReal)

/-- The scores of a query as a sequence: `⊥` after the last key. -/
def scores (a : Arr) (j b : Fin 2) (h : Fin 8) (q : Fin 4096) (k : ℕ) : EReal :=
  if hk : k < 4096 then scoreAt a j b h q ⟨k, hk⟩ else ⊥

/-- Column `e` of the values of head `h` of prompt `b`, as a sequence. -/
def vals (a : Arr) (b : Fin 2) (h : Fin 8) (e : Fin 256) (k : ℕ) : EReal :=
  if hk : k < 4096 then a (ix2 (row b ⟨k, hk⟩) ⟨4096 + (256 * h.val + e.val), by omega⟩) else 0

/-! ## Real numbers among the extended ones -/

/-- A real number. -/
def IsReal (x : EReal) : Prop := ∃ r : ℝ, x = (r : EReal)

theorem IsReal.mul {x y : EReal} (hx : IsReal x) (hy : IsReal y) : IsReal (x * y) := by
  obtain ⟨r, rfl⟩ := hx; obtain ⟨s, rfl⟩ := hy; exact ⟨r * s, (EReal.coe_mul r s).symm⟩
theorem IsReal.add {x y : EReal} (hx : IsReal x) (hy : IsReal y) : IsReal (x + y) := by
  obtain ⟨r, rfl⟩ := hx; obtain ⟨s, rfl⟩ := hy; exact ⟨r + s, (EReal.coe_add r s).symm⟩
theorem IsReal.sub {x y : EReal} (hx : IsReal x) (hy : IsReal y) : IsReal (x - y) := by
  obtain ⟨r, rfl⟩ := hx; obtain ⟨s, rfl⟩ := hy; exact ⟨r - s, (EReal.coe_sub r s).symm⟩
theorem IsReal.exp {x : EReal} (hx : IsReal x) : IsReal (Ideal.exp x) := by
  obtain ⟨r, rfl⟩ := hx; exact ⟨Real.exp r, Ideal.exp_coe r⟩
theorem IsReal.sum {ι : Type} (s : Finset ι) (f : ι → EReal) (hf : ∀ i, IsReal (f i)) : IsReal (∑ i ∈ s, f i) := by
  choose g hg using hf
  exact ⟨∑ i ∈ s, g i, by rw [coe_sum]; exact Finset.sum_congr rfl fun i _ => hg i⟩
theorem isReal_zero : IsReal 0 := ⟨0, rfl⟩
theorem isReal_one : IsReal 1 := ⟨1, rfl⟩

theorem scale_real : IsReal (Ideal.ofBits .f32 0x3DB504F3#32) := by
  refine ⟨(Ideal.ofBits .f32 0x3DB504F3#32).toReal, ?_⟩
  simp [Ideal.ofBits, Ideal.ieee, -EReal.coe_mul]
theorem ln2_real : IsReal (Ideal.ofBits .f32 0x3F317218#32) := by
  refine ⟨(Ideal.ofBits .f32 0x3F317218#32).toReal, ?_⟩
  simp [Ideal.ofBits, Ideal.ieee, -EReal.coe_mul]
theorem start_real : IsReal (Ideal.ofBits .f32 0x3EB60549#32) := by
  refine ⟨(Ideal.ofBits .f32 0x3EB60549#32).toReal, ?_⟩
  simp [Ideal.ofBits, Ideal.ieee, -EReal.coe_mul]
theorem eight : Ideal.ofBits .f32 0x41000000#32 = ((8 : ℝ) : EReal) := by
  simp [Ideal.ofBits, Ideal.ieee, -EReal.coe_mul]; norm_num
theorem neg_eight : IsReal (Ideal.ofBits .f32 0xC1000000#32) := by
  refine ⟨-8, ?_⟩
  simp [Ideal.ofBits, Ideal.ieee, -EReal.coe_mul, -EReal.coe_neg]; norm_num

theorem dist_real (x y : ℕ) : IsReal (distW x y) := ⟨_, rfl⟩

theorem slope_real (h : ℕ) : IsReal (slopeOf h) := by
  unfold slopeOf
  refine (ln2_real.mul ?_).exp
  obtain ⟨r, hr⟩ := neg_eight.mul (isReal_one.add (⟨_, rfl⟩ : IsReal (FloatOps.sitofp (F := Ideal) .f32 (BitVec.ofNat 32 h))))
  rw [hr, eight]
  exact ⟨r / 8, div_coe r 8 (by norm_num)⟩

theorem lam_real {l : Fin 4 → Fin 128 → EReal} (hl : ∀ i e, IsReal (l i e)) : IsReal (lamOf l) :=
  (((IsReal.sum _ _ fun e => (hl 0 e).mul (hl 1 e)).exp).sub ((IsReal.sum _ _ fun e => (hl 2 e).mul (hl 3 e)).exp)).add start_real

/-! ## The mask -/

theorem sees_first : ∀ q : Fin 4096, IntOp.cmpi .sle (chunkW (BitVec.ofNat 32 0)) (chunkW (BitVec.ofNat 32 q.val)) = 1#1 := by
  decide +kernel

theorem later_chunk : ∀ x y : Fin 64, y < x → IntOp.cmpi .sle (BitVec.ofNat 32 x.val) (BitVec.ofNat 32 y.val) = 0#1 := by
  decide +kernel

/-- A key of a later chunk is hidden. -/
theorem hidden (q k : Fin 4096) (h : q.val / 64 < k.val / 64) :
    IntOp.cmpi .sle (chunkW (BitVec.ofNat 32 k.val)) (chunkW (BitVec.ofNat 32 q.val)) = 0#1 := by
  rw [chunkW_eq, chunkW_eq]
  exact later_chunk ⟨k.val / 64, by omega⟩ ⟨q.val / 64, by omega⟩ (by simpa [Fin.lt_def] using h)

/-! ## What is true of the scores -/

/-- The rows the attention of the prompts reads hold real numbers. -/
def Finite (a : Arr) : Prop := ∀ (b : Fin 2) (q : Fin 4096) (e : Fin 6144), IsReal (a (ix2 (row b q) e))

theorem dot_real {a : Arr} (ha : Finite a) (j b : Fin 2) (h : Fin 8) (q k : Fin 4096) :
    IsReal ((∑ e : Fin 128, a (ix2 (row b q) ⟨256 * h.val + (128 * j.val + e.val), by omega⟩)
        * a (ix2 (row b k) ⟨2048 + (256 * h.val + (128 * j.val + e.val)), by omega⟩)) * Ideal.ofBits .f32 0x3DB504F3#32
      + distW q.val k.val * (0 - slopeOf h.val)) :=
  ((IsReal.sum _ _ fun e => (ha b q _).mul (ha b k _)).mul scale_real).add ((dist_real _ _).mul (isReal_zero.sub (slope_real _)))

theorem scores_isScore {a : Arr} (ha : Finite a) (j b : Fin 2) (h : Fin 8) (q : Fin 4096) (k : ℕ) : IsScore (scores a j b h q k) := by
  unfold scores
  split
  · unfold scoreAt Scalar.select
    split
    · exact .inr (dot_real ha j b h q _)
    · exact .inl rfl
  · exact .inl rfl

theorem scores_first {a : Arr} (ha : Finite a) (j b : Fin 2) (h : Fin 8) (q : Fin 4096) : scores a j b h q 0 ≠ ⊥ := by
  unfold scores
  rw [dif_pos (by norm_num)]
  unfold scoreAt
  rw [sees_first q]
  obtain ⟨r, hr⟩ := dot_real ha j b h q ⟨0, by norm_num⟩
  show (_ : EReal) ≠ ⊥
  refine ne_of_eq_of_ne (ValueIdx.select_one _ _) ?_
  rw [hr]
  exact EReal.coe_ne_bot r

theorem scores_tail (a : Arr) (j b : Fin 2) (h : Fin 8) (q : Fin 4096) (n k : ℕ) (hq : q.val < 64 * n) (hk : 64 * n ≤ k) :
    scores a j b h q k = ⊥ := by
  unfold scores
  split
  · unfold scoreAt
    rw [hidden q _ (show q.val / 64 < k / 64 by omega)]
    rfl
  · rfl

theorem vals_real {a : Arr} (ha : Finite a) (b : Fin 2) (h : Fin 8) (e : Fin 256) (k : ℕ) : ∃ x : ℝ, vals a b h e k = (x : EReal) := by
  unfold vals
  split
  · exact ha b _ _
  · exact ⟨0, rfl⟩

end Cert.Attention
end
-- ==== Proof.Attn.RefRow.lean ====
module

public import proofs.«01_k».proof.Proof.Attn.Scores

@[expose] public section
set_option maxRecDepth 16384
noncomputable section

/-!
# A row of the reference's result

Its softmaxes are those of the sequences of scores, and its result is the difference of the two, applied to the values
and normed.
-/

namespace Cert.ReferenceIdeal.Attn
open Cert.ReferenceIdeal Cert.ReferenceIdeal.Gen Cert.Attention
open Cert.KernelIdeal.Attn (distW lamOf normHead chunkW chunkW_eq)
open Idealize.ShloMosaic Idealize.ShloMosaic.TcCoe

theorem bias_eq (h : Fin 8) (q k : Fin 4096) :
    biasT slopeT distT (ix3 h q k) = distW q.val k.val * (0 - slopeOf h.val) := by
  rw [biasT_at, slopeT_at, distT_at, zero_sub, mul_comm]

theorem vis_eq (q k : Fin 4096) :
    visT chunkT chunkT (ix2 q k) = IntOp.cmpi .sle (chunkW (BitVec.ofNat 32 k.val)) (chunkW (BitVec.ofNat 32 q.val)) := by
  rw [visT_at, chunkT_at, chunkT_at, chunkW_eq, chunkW_eq]

theorem q_col (a : Arr) (b : Fin 2) (q : Fin 4096) (h : Fin 8) (e : Fin 256) :
    queryT a (ix4 b q h e) = a (ix2 (row b q) ⟨256 * h.val + e.val, by omega⟩) := by
  rw [queryT_at]
  exact congrArg₂ (fun x y => a (ix2 x y)) (Fin.ext (by simp only [row]; omega)) (Fin.ext (by simp only; omega))
theorem k_col (a : Arr) (b : Fin 2) (q : Fin 4096) (h : Fin 8) (e : Fin 256) :
    keyT a (ix4 b q h e) = a (ix2 (row b q) ⟨2048 + (256 * h.val + e.val), by omega⟩) := by
  rw [keyT_at]
  exact congrArg₂ (fun x y => a (ix2 x y)) (Fin.ext (by simp only [row]; omega)) (Fin.ext (by simp only; omega))
theorem v_col (a : Arr) (b : Fin 2) (q : Fin 4096) (h : Fin 8) (e : Fin 256) :
    valueT a (ix4 b q h e) = vals a b h e q.val := by
  rw [valueT_at]
  unfold vals
  rw [dif_pos q.isLt]
  exact congrArg₂ (fun x y => a (ix2 x y)) (Fin.ext (by simp only [row]; omega)) (Fin.ext (by simp only; omega))

/-- The scores of map `j`, as the reference writes them. -/
def scoreR (a : Arr) (j : Fin 2) : FVec Ideal S2x8x4096x4096 .f32 :=
  if j = 0 then scoreT0 (queryT a) (keyT a) (biasT slopeT distT) (visT chunkT chunkT)
  else scoreT1 (queryT a) (keyT a) (biasT slopeT distT) (visT chunkT chunkT)

theorem score_eq (a : Arr) (j b : Fin 2) (h : Fin 8) (q k : Fin 4096) :
    scoreR a j (ix4 b h q k) = scores a j b h q k.val := by
  unfold scores
  rw [dif_pos k.isLt]
  unfold scoreAt
  revert j
  refine Fin.forall_fin_two.mpr ⟨?_, ?_⟩
  · unfold scoreR
    rw [if_pos rfl, scoreT0_at, bias_eq, vis_eq]
    refine congrArg (fun z : EReal => Scalar.select _ (z * _ + _) (⊥ : EReal)) (Finset.sum_congr rfl fun e _ => ?_)
    rw [q_col, k_col]
    refine congrArg₂ (fun x y : EReal => x * y) (congrArg (fun z => a (ix2 _ z)) (Fin.ext ?_)) (congrArg (fun z => a (ix2 _ z)) (Fin.ext ?_)) <;> simp
  · unfold scoreR
    rw [if_neg (by decide), scoreT1_at, bias_eq, vis_eq]
    refine congrArg (fun z : EReal => Scalar.select _ (z * _ + _) (⊥ : EReal)) (Finset.sum_congr rfl fun e _ => ?_)
    rw [q_col, k_col]
    refine congrArg₂ (fun x y : EReal => x * y) (congrArg (fun z => a (ix2 _ z)) (Fin.ext ?_)) (congrArg (fun z => a (ix2 _ z)) (Fin.ext ?_)) <;> simp

/-- The largest of the numbers below `n`, folded in any order. -/
theorem fold_max (n : ℕ) (S : ℕ → EReal) :
    max (⊥ : EReal) (Finset.univ.fold (max : EReal → EReal → EReal) ⊥ (fun x : Fin n => S x.val)) = preM S n := by
  rw [max_eq_right bot_le]
  show Finset.univ.sup (fun x : Fin n => S x.val) = (Finset.range n).sup S
  refine le_antisymm (Finset.sup_le fun x _ => Finset.le_sup (f := S) (Finset.mem_range.mpr x.isLt)) (Finset.sup_le fun k hk => ?_)
  exact Finset.le_sup (f := fun x : Fin n => S x.val) (Finset.mem_univ (⟨k, Finset.mem_range.mp hk⟩ : Fin n))

theorem neg_inf : Ideal.ofBits .f32 0xFF800000#32 = (⊥ : EReal) := rfl

theorem max_eq (a : Arr) (j b : Fin 2) (h : Fin 8) (q : Fin 4096) :
    maxT (scoreR a j) (ix3 b h q) = preM (scores a j b h q) 4096 := by
  rw [maxT_at, neg_inf, ← fold_max 4096 (scores a j b h q)]
  simp only [score_eq]

theorem exp_eq (a : Arr) (j b : Fin 2) (h : Fin 8) (q k : Fin 4096) :
    expT (scoreR a j) (maxT (scoreR a j)) (ix4 b h q k) = Ideal.exp (scores a j b h q k.val - preM (scores a j b h q) 4096) := by
  rw [expT_at, score_eq, max_eq]

theorem sum_eq (a : Arr) (j b : Fin 2) (h : Fin 8) (q : Fin 4096) :
    sumT (expT (scoreR a j) (maxT (scoreR a j))) (ix3 b h q) = preL (scores a j b h q) 4096 := by
  rw [sumT_at]
  unfold preL
  rw [Finset.sum_range]
  exact Finset.sum_congr rfl fun k _ => exp_eq a j b h q k

theorem soft_eq (a : Arr) (j b : Fin 2) (h : Fin 8) (q k : Fin 4096) :
    softT (scoreR a j) (ix4 b h q k)
      = Ideal.div (Ideal.exp (scores a j b h q k.val - preM (scores a j b h q) 4096)) (preL (scores a j b h q) 4096) := by
  unfold softT
  rw [quotT_at, exp_eq, sum_eq]

/-- The attention, in the scores' own words. -/
theorem attn_eq (a : Arr) (l : FVec Ideal S4x128 .f32) (g : FVec Ideal S8x256 .f32) :
    attnT a l g = headT (mixT (valueT a) (diffT (lamT l) (softT (scoreR a 0)) (softT (scoreR a 1)))) g := by
  unfold attnT scoreR
  rw [if_pos rfl, if_neg (by decide)]

/-- The reference's result at a query and a column of a head. -/
theorem attn_at (a : Arr) (ha : Finite a) (l : FVec Ideal S4x128 .f32) (hl : ∀ i e, IsReal (l (ix2 i e))) (g : FVec Ideal S8x256 .f32)
    (b : Fin 2) (q : Fin 4096) (h : Fin 8) (d : Fin 256) :
    attnT a l g (ix2 ⟨4096 * b.val + q.val, by omega⟩ ⟨256 * h.val + d.val, by omega⟩)
      = normHead (fun e => Ideal.div (preA (scores a 0 b h q) (vals a b h e) 4096) (preL (scores a 0 b h q) 4096)
          - lamOf (fun i e => l (ix2 i e)) * Ideal.div (preA (scores a 1 b h q) (vals a b h e) 4096) (preL (scores a 1 b h q) 4096))
        (fun e => g (ix2 h e)) d := by
  have eb : ∀ hh, (⟨(4096 * b.val + q.val) / 4096, hh⟩ : Fin 2) = b := fun _ => Fin.ext (by show (4096 * b.val + q.val) / 4096 = b.val; omega)
  have eq : ∀ hh, (⟨(4096 * b.val + q.val) % 4096, hh⟩ : Fin 4096) = q := fun _ => Fin.ext (by show (4096 * b.val + q.val) % 4096 = q.val; omega)
  have eh : ∀ hh, (⟨(256 * h.val + d.val) / 256, hh⟩ : Fin 8) = h := fun _ => Fin.ext (by show (256 * h.val + d.val) / 256 = h.val; omega)
  have ed : ∀ hh, (⟨(256 * h.val + d.val) % 256, hh⟩ : Fin 256) = d := fun _ => Fin.ext (by show (256 * h.val + d.val) % 256 = d.val; omega)
  rw [attn_eq, headT_at]
  simp only [eb, eq, eh, ed]
  refine congrArg (fun f => normHead f _ d) (funext fun e => ?_)
  obtain ⟨lam, hlam⟩ := lam_real (l := fun i e => l (ix2 i e)) hl
  rw [mixT_at, hlam, ← diff_attention (scores_isScore ha 0 b h q) (scores_isScore ha 1 b h q) (scores_first ha 0 b h q) (scores_first ha 1 b h q)
    (vals_real ha b h e) lam (n := 4096) (by norm_num), Finset.sum_range]
  refine Finset.sum_congr rfl fun k _ => ?_
  rw [v_col, diffT_at, soft_eq, soft_eq, lamT_at, hlam]

end Cert.ReferenceIdeal.Attn
end
-- ==== Proof.Attn.Tile.lean ====
module

public import proofs.«01_k».proof.Proof.AttnIdeal.Runs
public import proofs.«01_k».proof.Proof.Attn.Pay
public import Idealize.ShloMosaic.Lib.Pointwise
public import Idealize.ShloMosaic.Lib.Pipeline.ValueKit
public import Idealize.ShloMosaic.Lib.Pipeline.ReadBack

@[expose] public section
set_option maxRecDepth 16384
noncomputable section
namespace Cert.KernelIdeal.Attn
open Cert.KernelIdeal Cert.KernelIdeal.Gen Cert.Attention
open Idealize.ShloMosaic Idealize.ShloMosaic.TcCoe Idealize.SL.Sem

/-! # One grid point's tile: what the scratch buffers and the output block hold after it -/

/-- The query tile's number, read from the first table. -/
abbrev iqW (i : grid0.Coords) (T0 : S36.Idx → Elt Ideal .i32) : Elt Ideal .i32 :=
  View.readAt (Elt Ideal) (tbM0_0).view (Rect.unit (s := S36) (k0_off1 i) S1.size (k0_off1_inb i)).toLoadRect T0 (Shape.Idx.first (numel1_S1.symm ▸ Nat.one_pos))
/-- The key tile's number, read from the second table. -/
abbrev ikW (i : grid0.Coords) (T1 : S36.Idx → Elt Ideal .i32) : Elt Ideal .i32 :=
  View.readAt (Elt Ideal) (tbM0_1).view (Rect.unit (s := S36) (k0_off1 i) S1.size (k0_off1_inb i)).toLoadRect T1 (Shape.Idx.first (numel1_S1.symm ▸ Nat.one_pos))
/-- The head's slope. -/
abbrev slW (i : grid0.Coords) (x0 : S8.Idx → Elt Ideal .f32) : Elt Ideal .f32 :=
  View.ld x0 (Rect.unit (s := S8) (k0_off2 i) S1.size (k0_off2_inb i)) (Shape.Idx.first (numel1_S1.symm ▸ Nat.one_pos))

/-- The masked scores of the tile, first map. -/
def tile0 (IQ IK : Elt Ideal .i32) (SL : Elt Ideal .f32) (q k : S512x256.Idx → Elt Ideal .f32) : FVec Ideal S512x512 .f32 :=
  k0_pay18 (k0_pay9 q) (k0_pay10 k) (k0_pay12 (F := Ideal) IQ) (k0_pay13 (F := Ideal) IK) (k0_pay14 IQ IK SL) 64#32 (k0_pay15 (F := Ideal) IK) (k0_pay16 (F := Ideal) IK) 1#32 0#32
/-- The masked scores of the tile, second map. -/
def tile1 (IQ IK : Elt Ideal .i32) (SL : Elt Ideal .f32) (q k : S512x256.Idx → Elt Ideal .f32) : FVec Ideal S512x512 .f32 :=
  k0_pay28 (k0_pay14 IQ IK SL) (k0_pay17 (k0_pay12 (F := Ideal) IQ) (k0_pay13 (F := Ideal) IK) 64#32 (k0_pay15 (F := Ideal) IK) (k0_pay16 (F := Ideal) IK) 1#32 0#32)
    (k0_pay26 (k0_pay9 q)) (k0_pay27 (k0_pay10 k)) (constant S512x512 .f32 0#32)
/-- The masked scores of the tile, either map. -/
def tile (j : Fin 2) (IQ IK : Elt Ideal .i32) (SL : Elt Ideal .f32) (q k : S512x256.Idx → Elt Ideal .f32) : FVec Ideal S512x512 .f32 :=
  if j = 0 then tile0 IQ IK SL q k else tile1 IQ IK SL q k

/-- A scratch buffer after its stores is the stores' values, the last of each entry. -/
theorem scr0_canon (L : List (View.Piece (Elt Ideal) S2x512x128 .f32)) (y : S2x512x128.Idx) :
    (View.whole cc0_scratch0).writes (Elt Ideal) (View.whole cc0_scratch0).junk L y = View.canon L y :=
  View.read_writes_junk_apply_eq_canon (Val := Elt Ideal) (View.whole cc0_scratch0) y L
theorem scr1_canon (L : List (View.Piece (Elt Ideal) S2x512x128 .f32)) (y : S2x512x128.Idx) :
    (View.whole cc0_scratch1).writes (Elt Ideal) (View.whole cc0_scratch1).junk L y = View.canon L y :=
  View.read_writes_junk_apply_eq_canon (Val := Elt Ideal) (View.whole cc0_scratch1) y L
theorem scr2_canon (L : List (View.Piece (Elt Ideal) S2x512x256 .f32)) (y : S2x512x256.Idx) :
    (View.whole cc0_scratch2).writes (Elt Ideal) (View.whole cc0_scratch2).junk L y = View.canon L y :=
  View.read_writes_junk_apply_eq_canon (Val := Elt Ideal) (View.whole cc0_scratch2) y L

/-- One plane loaded of a buffer. -/
theorem ld_plane0 {n : ℕ} (X : (⟨3, ![2, 512, n]⟩ : Shape).Idx → Elt Ideal .f32) (inb) (r : Fin 512) (k : Fin n) :
    View.ld X (Rect.unit (s := ⟨3, ![2, 512, n]⟩) ![0, 0, 0] ![1, 512, n] inb) (ix3 0 r k) = X (ix3 0 r k) :=
  View.ld_unit_apply_of _ _ _ _ _ _ (by intro a; fin_cases a <;> simp)
theorem ld_plane1 {n : ℕ} (X : (⟨3, ![2, 512, n]⟩ : Shape).Idx → Elt Ideal .f32) (inb) (r : Fin 512) (k : Fin n) :
    View.ld X (Rect.unit (s := ⟨3, ![2, 512, n]⟩) ![1, 0, 0] ![1, 512, n] inb) (ix3 0 r k) = X (ix3 1 r k) :=
  View.ld_unit_apply_of _ _ _ _ _ _ (by intro a; fin_cases a <;> simp)

/-- One plane loaded of a buffer the body has stored. -/
theorem cov_plane0 {n : ℕ} (v : View sig .tc .vmem ⟨3, ![2, 512, n]⟩ .f32) (L : List (View.Piece (Elt Ideal) ⟨3, ![2, 512, n]⟩ .f32)) (inb) (r : Fin 512) (k : Fin n) :
    v.readCov L (Rect.unit (s := ⟨3, ![2, 512, n]⟩) ![0, 0, 0] ![1, 512, n] inb).toLoadRect (ix3 0 r k) = View.canon L (ix3 0 r k) := by
  rw [View.readCov_eq_canon']
  exact ld_plane0 (View.canon L) inb r k
theorem cov_plane1 {n : ℕ} (v : View sig .tc .vmem ⟨3, ![2, 512, n]⟩ .f32) (L : List (View.Piece (Elt Ideal) ⟨3, ![2, 512, n]⟩ .f32)) (inb) (r : Fin 512) (k : Fin n) :
    v.readCov L (Rect.unit (s := ⟨3, ![2, 512, n]⟩) ![1, 0, 0] ![1, 512, n] inb).toLoadRect (ix3 0 r k) = View.canon L (ix3 1 r k) := by
  rw [View.readCov_eq_canon']
  exact ld_plane1 (View.canon L) inb r k

/-- A buffer filled whole. -/
theorem canon_fill {n : ℕ} (inb) (w : (⟨3, ![2, 512, n]⟩ : Shape).Idx → Elt Ideal .f32) (y : (⟨3, ![2, 512, n]⟩ : Shape).Idx) :
    View.canon [(⟨Rect.unit (s := ⟨3, ![2, 512, n]⟩) ![0, 0, 0] ![2, 512, n] inb, w⟩ : View.Piece (Elt Ideal) _ .f32)] y = w y := by
  have e : (Rect.unit (s := ⟨3, ![2, 512, n]⟩) ![0, 0, 0] ![2, 512, n] inb).emb y = y :=
    Rect.emb_eq_of_coords _ _ _ fun a => by fin_cases a <;> simp
  conv_lhs => rw [← e]
  exact View.canon_cons_emb (Rect.unit (s := ⟨3, ![2, 512, n]⟩) ![0, 0, 0] ![2, 512, n] inb) w [] _

/-- A store of the first plane does not change the second. -/
theorem canon_skip {n : ℕ} (inb) (w : (⟨3, ![1, 512, n]⟩ : Shape).Idx → Elt Ideal .f32)
    (L : List (View.Piece (Elt Ideal) ⟨3, ![2, 512, n]⟩ .f32)) (r : Fin 512) (k : Fin n) :
    View.canon ((⟨Rect.unit (s := ⟨3, ![2, 512, n]⟩) ![0, 0, 0] ![1, 512, n] inb, w⟩ : View.Piece (Elt Ideal) _ .f32) :: L)
      (ix3 1 r k) = View.canon L (ix3 1 r k) :=
  View.canon_cons_of_not_mem _ _ (Rect.not_mem_set_of_axis _ _ 0 0 1 rfl rfl rfl (Or.inr (by simp)))

theorem pay6_at (y : S2x512x128.Idx) : k0_pay6 (F := Ideal) y = (⊥ : EReal) := by
  obtain ⟨a, b, c, rfl⟩ : ∃ a b c, y = ix3 a b c := ⟨y 0, y 1, y 2, (ix3_eta y).symm⟩
  pointwise [k0_pay6]
  rfl
theorem pay7_at (y : S2x512x128.Idx) : k0_pay7 (F := Ideal) y = (0 : EReal) := by
  obtain ⟨a, b, c, rfl⟩ : ∃ a b c, y = ix3 a b c := ⟨y 0, y 1, y 2, (ix3_eta y).symm⟩
  pointwise [k0_pay7]
theorem pay8_at (y : S2x512x256.Idx) : k0_pay8 (F := Ideal) y = (0 : EReal) := by
  obtain ⟨a, b, c, rfl⟩ : ∃ a b c, y = ix3 a b c := ⟨y 0, y 1, y 2, (ix3_eta y).symm⟩
  pointwise [k0_pay8]

theorem pay11_at (v : Vec Ideal S512x256 .f32) (r : Fin 512) (d : Fin 256) : k0_pay11 (F := Ideal) v (ix2 r d) = v (ix2 r d) := by
  pointwise [k0_pay11]

/-- Path A, plane 0: the running maximum after the tile. -/
theorem m0_A (c : Dev nD) (i : grid0.Coords) (arg5 : Memref sig .tc .smem S8 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4x128 .f32) (harg9 : arg9.IsWhole) (arg10 : Memref sig .tc .vmem S1x1x256 .f32) (harg10 : arg10.IsWhole) (arg11 : Memref sig .tc .vmem S512x256 .f32) (harg11 : arg11.IsWhole) (T0 T1 : S36.Idx → Elt Ideal .i32)
     (x0 : (S8.Idx → Elt Ideal .f32)) (x1 x2 x3 : S512x256.Idx → Elt Ideal .f32) (x4 : (S4x128.Idx → Elt Ideal .f32)) (x5 : (S1x1x256.Idx → Elt Ideal .f32)) (hc0 : (Scalar.cmpi .ne (Scalar.extui (Scalar.cmpi .eq (ikW i T1) 0#32)) 0#32) = 1#1) (k0_h2 : k0_cond2 (iqW i T0) (ikW i T1) = 1#1) (r : Fin 512) (k : Fin 128) :
    (kernelRun0_A c i arg5 harg5 arg6 harg6 arg7 harg7 arg8 harg8 arg9 harg9 arg10 harg10 arg11 harg11 T0 T1 x0 x1 x2 x3 x4 x5 hc0 k0_h2).2.1 (ix3 0 r k) = newM (fun c => tile 0 (iqW i T0) (ikW i T1) (slW i x0) x1 x2 (ix2 r c)) (⊥) := by
  unfold kernelRun0_A
  frame_out
  refine (scr0_canon _ _).trans ?_
  rw [View.read_rep, View.read_rep, View.read_rep]
  refine (canon_fst _ _ _ _ _ _ _).trans ?_
  refine (pay25_at _ _ _ _).trans ?_
  exact congrArg (newM _) ((cov_plane0 _ _ _ _ _).trans ((canon_fill _ _ _).trans (pay6_at _)))

/-- Path A, plane 1: the running maximum after the tile. -/
theorem m1_A (c : Dev nD) (i : grid0.Coords) (arg5 : Memref sig .tc .smem S8 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4x128 .f32) (harg9 : arg9.IsWhole) (arg10 : Memref sig .tc .vmem S1x1x256 .f32) (harg10 : arg10.IsWhole) (arg11 : Memref sig .tc .vmem S512x256 .f32) (harg11 : arg11.IsWhole) (T0 T1 : S36.Idx → Elt Ideal .i32)
     (x0 : (S8.Idx → Elt Ideal .f32)) (x1 x2 x3 : S512x256.Idx → Elt Ideal .f32) (x4 : (S4x128.Idx → Elt Ideal .f32)) (x5 : (S1x1x256.Idx → Elt Ideal .f32)) (hc0 : (Scalar.cmpi .ne (Scalar.extui (Scalar.cmpi .eq (ikW i T1) 0#32)) 0#32) = 1#1) (k0_h2 : k0_cond2 (iqW i T0) (ikW i T1) = 1#1) (r : Fin 512) (k : Fin 128) :
    (kernelRun0_A c i arg5 harg5 arg6 harg6 arg7 harg7 arg8 harg8 arg9 harg9 arg10 harg10 arg11 harg11 T0 T1 x0 x1 x2 x3 x4 x5 hc0 k0_h2).2.1 (ix3 1 r k) = newM (fun c => tile 1 (iqW i T0) (ikW i T1) (slW i x0) x1 x2 (ix2 r c)) (⊥) := by
  unfold kernelRun0_A
  frame_out
  refine (scr0_canon _ _).trans ?_
  rw [View.read_rep, View.read_rep, View.read_rep]
  refine (canon_snd _ _ _ _ _).trans ?_
  refine (pay1_at _ _ _ _ _ _ _ _).trans ?_
  exact congrArg (newM _) ((cov_plane1 _ _ _ _ _).trans ((canon_skip _ _ _ _ _).trans ((canon_fill _ _ _).trans (pay6_at _))))

/-- Path A, plane 0: the running sum of exponentials after the tile. -/
theorem l0_A (c : Dev nD) (i : grid0.Coords) (arg5 : Memref sig .tc .smem S8 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4x128 .f32) (harg9 : arg9.IsWhole) (arg10 : Memref sig .tc .vmem S1x1x256 .f32) (harg10 : arg10.IsWhole) (arg11 : Memref sig .tc .vmem S512x256 .f32) (harg11 : arg11.IsWhole) (T0 T1 : S36.Idx → Elt Ideal .i32)
     (x0 : (S8.Idx → Elt Ideal .f32)) (x1 x2 x3 : S512x256.Idx → Elt Ideal .f32) (x4 : (S4x128.Idx → Elt Ideal .f32)) (x5 : (S1x1x256.Idx → Elt Ideal .f32)) (hc0 : (Scalar.cmpi .ne (Scalar.extui (Scalar.cmpi .eq (ikW i T1) 0#32)) 0#32) = 1#1) (k0_h2 : k0_cond2 (iqW i T0) (ikW i T1) = 1#1) (r : Fin 512) (k : Fin 128) :
    (kernelRun0_A c i arg5 harg5 arg6 harg6 arg7 harg7 arg8 harg8 arg9 harg9 arg10 harg10 arg11 harg11 T0 T1 x0 x1 x2 x3 x4 x5 hc0 k0_h2).2.2.1 (ix3 0 r k) = newL (fun c => tile 0 (iqW i T0) (ikW i T1) (slW i x0) x1 x2 (ix2 r c)) (⊥) (0) := by
  unfold kernelRun0_A
  frame_out
  refine (scr1_canon _ _).trans ?_
  rw [View.read_rep, View.read_rep, View.read_rep]
  refine (canon_fst _ _ _ _ _ _ _).trans ?_
  refine (pay23_at _ _ _ _ _ (fun _ => ((cov_plane0 _ _ _ _ _).trans ((canon_fill _ _ _).trans (pay6_at _))).trans ((cov_plane0 _ _ _ _ _).trans ((canon_fill _ _ _).trans (pay6_at _))).symm)).trans ?_
  exact congrArg₂ (newL _) ((cov_plane0 _ _ _ _ _).trans ((canon_fill _ _ _).trans (pay6_at _))) ((cov_plane0 _ _ _ _ _).trans ((canon_fill _ _ _).trans (pay7_at _)))

/-- Path A, plane 1: the running sum of exponentials after the tile. -/
theorem l1_A (c : Dev nD) (i : grid0.Coords) (arg5 : Memref sig .tc .smem S8 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4x128 .f32) (harg9 : arg9.IsWhole) (arg10 : Memref sig .tc .vmem S1x1x256 .f32) (harg10 : arg10.IsWhole) (arg11 : Memref sig .tc .vmem S512x256 .f32) (harg11 : arg11.IsWhole) (T0 T1 : S36.Idx → Elt Ideal .i32)
     (x0 : (S8.Idx → Elt Ideal .f32)) (x1 x2 x3 : S512x256.Idx → Elt Ideal .f32) (x4 : (S4x128.Idx → Elt Ideal .f32)) (x5 : (S1x1x256.Idx → Elt Ideal .f32)) (hc0 : (Scalar.cmpi .ne (Scalar.extui (Scalar.cmpi .eq (ikW i T1) 0#32)) 0#32) = 1#1) (k0_h2 : k0_cond2 (iqW i T0) (ikW i T1) = 1#1) (r : Fin 512) (k : Fin 128) :
    (kernelRun0_A c i arg5 harg5 arg6 harg6 arg7 harg7 arg8 harg8 arg9 harg9 arg10 harg10 arg11 harg11 T0 T1 x0 x1 x2 x3 x4 x5 hc0 k0_h2).2.2.1 (ix3 1 r k) = newL (fun c => tile 1 (iqW i T0) (ikW i T1) (slW i x0) x1 x2 (ix2 r c)) (⊥) (0) := by
  unfold kernelRun0_A
  frame_out
  refine (scr1_canon _ _).trans ?_
  rw [View.read_rep, View.read_rep, View.read_rep]
  refine (canon_snd _ _ _ _ _).trans ?_
  refine (pay33_at _ _ _ _ _ _ _ _ _ (fun _ => ((cov_plane1 _ _ _ _ _).trans ((canon_skip _ _ _ _ _).trans ((canon_fill _ _ _).trans (pay6_at _)))).trans ((cov_plane1 _ _ _ _ _).trans ((canon_skip _ _ _ _ _).trans ((canon_fill _ _ _).trans (pay6_at _)))).symm)).trans ?_
  exact congrArg₂ (newL _) ((cov_plane1 _ _ _ _ _).trans ((canon_skip _ _ _ _ _).trans ((canon_fill _ _ _).trans (pay6_at _)))) ((cov_plane1 _ _ _ _ _).trans ((canon_skip _ _ _ _ _).trans ((canon_fill _ _ _).trans (pay7_at _))))

/-- Path A, plane 0: the running weighted sum after the tile. -/
theorem a0_A (c : Dev nD) (i : grid0.Coords) (arg5 : Memref sig .tc .smem S8 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4x128 .f32) (harg9 : arg9.IsWhole) (arg10 : Memref sig .tc .vmem S1x1x256 .f32) (harg10 : arg10.IsWhole) (arg11 : Memref sig .tc .vmem S512x256 .f32) (harg11 : arg11.IsWhole) (T0 T1 : S36.Idx → Elt Ideal .i32)
     (x0 : (S8.Idx → Elt Ideal .f32)) (x1 x2 x3 : S512x256.Idx → Elt Ideal .f32) (x4 : (S4x128.Idx → Elt Ideal .f32)) (x5 : (S1x1x256.Idx → Elt Ideal .f32)) (hc0 : (Scalar.cmpi .ne (Scalar.extui (Scalar.cmpi .eq (ikW i T1) 0#32)) 0#32) = 1#1) (k0_h2 : k0_cond2 (iqW i T0) (ikW i T1) = 1#1) (r : Fin 512) (k : Fin 256) :
    (kernelRun0_A c i arg5 harg5 arg6 harg6 arg7 harg7 arg8 harg8 arg9 harg9 arg10 harg10 arg11 harg11 T0 T1 x0 x1 x2 x3 x4 x5 hc0 k0_h2).2.2.2.1 (ix3 0 r k) = newA (fun c => tile 0 (iqW i T0) (ikW i T1) (slW i x0) x1 x2 (ix2 r c)) (⊥) (0) (fun e => x3 (ix2 e k)) := by
  unfold kernelRun0_A
  frame_out
  refine (scr2_canon _ _).trans ?_
  rw [View.read_rep, View.read_rep, View.read_rep, View.read_rep]
  refine (canon_fst _ _ _ _ _ _ _).trans ?_
  refine (pay24_at _ _ _ _ _ _).trans ?_
  refine (congrArg₂ (fun a b => newA _ a b _) ((cov_plane0 _ _ _ _ _).trans ((canon_fill _ _ _).trans (pay6_at _))) ((cov_plane0 _ _ _ _ _).trans ((canon_fill _ _ _).trans (pay8_at _)))).trans ?_
  exact congrArg (newA _ _ _) (funext fun e => pay11_at _ _ _)

/-- Path A, plane 1: the running weighted sum after the tile. -/
theorem a1_A (c : Dev nD) (i : grid0.Coords) (arg5 : Memref sig .tc .smem S8 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4x128 .f32) (harg9 : arg9.IsWhole) (arg10 : Memref sig .tc .vmem S1x1x256 .f32) (harg10 : arg10.IsWhole) (arg11 : Memref sig .tc .vmem S512x256 .f32) (harg11 : arg11.IsWhole) (T0 T1 : S36.Idx → Elt Ideal .i32)
     (x0 : (S8.Idx → Elt Ideal .f32)) (x1 x2 x3 : S512x256.Idx → Elt Ideal .f32) (x4 : (S4x128.Idx → Elt Ideal .f32)) (x5 : (S1x1x256.Idx → Elt Ideal .f32)) (hc0 : (Scalar.cmpi .ne (Scalar.extui (Scalar.cmpi .eq (ikW i T1) 0#32)) 0#32) = 1#1) (k0_h2 : k0_cond2 (iqW i T0) (ikW i T1) = 1#1) (r : Fin 512) (k : Fin 256) :
    (kernelRun0_A c i arg5 harg5 arg6 harg6 arg7 harg7 arg8 harg8 arg9 harg9 arg10 harg10 arg11 harg11 T0 T1 x0 x1 x2 x3 x4 x5 hc0 k0_h2).2.2.2.1 (ix3 1 r k) = newA (fun c => tile 1 (iqW i T0) (ikW i T1) (slW i x0) x1 x2 (ix2 r c)) (⊥) (0) (fun e => x3 (ix2 e k)) := by
  unfold kernelRun0_A
  frame_out
  refine (scr2_canon _ _).trans ?_
  rw [View.read_rep, View.read_rep, View.read_rep, View.read_rep]
  refine (canon_snd _ _ _ _ _).trans ?_
  refine (pay34_at _ _ _ _ _ _ _ _ _ _).trans ?_
  refine (congrArg₂ (fun a b => newA _ a b _) ((cov_plane1 _ _ _ _ _).trans ((canon_skip _ _ _ _ _).trans ((canon_fill _ _ _).trans (pay6_at _)))) ((cov_plane1 _ _ _ _ _).trans ((canon_skip _ _ _ _ _).trans ((canon_fill _ _ _).trans (pay8_at _))))).trans ?_
  exact congrArg (newA _ _ _) (funext fun e => pay11_at _ _ _)

/-- Path B, plane 0: the running maximum after the tile. -/
theorem m0_B (c : Dev nD) (i : grid0.Coords) (arg5 : Memref sig .tc .smem S8 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4x128 .f32) (harg9 : arg9.IsWhole) (arg10 : Memref sig .tc .vmem S1x1x256 .f32) (harg10 : arg10.IsWhole) (arg11 : Memref sig .tc .vmem S512x256 .f32) (harg11 : arg11.IsWhole) (T0 T1 : S36.Idx → Elt Ideal .i32)
     (x0 : (S8.Idx → Elt Ideal .f32)) (x1 x2 x3 : S512x256.Idx → Elt Ideal .f32) (x4 : (S4x128.Idx → Elt Ideal .f32)) (x5 : (S1x1x256.Idx → Elt Ideal .f32)) (hc0 : (Scalar.cmpi .ne (Scalar.extui (Scalar.cmpi .eq (ikW i T1) 0#32)) 0#32) = 1#1) (k0_h2 : ¬(k0_cond2 (iqW i T0) (ikW i T1) = 1#1)) (r : Fin 512) (k : Fin 128) :
    (kernelRun0_B c i arg5 harg5 arg6 harg6 arg7 harg7 arg8 harg8 arg9 harg9 arg10 harg10 arg11 harg11 T0 T1 x0 x1 x2 x3 x4 x5 hc0 k0_h2).1 (ix3 0 r k) = newM (fun c => tile 0 (iqW i T0) (ikW i T1) (slW i x0) x1 x2 (ix2 r c)) (⊥) := by
  unfold kernelRun0_B
  frame_out
  refine (scr0_canon _ _).trans ?_
  rw [View.read_rep, View.read_rep, View.read_rep]
  refine (canon_fst _ _ _ _ _ _ _).trans ?_
  refine (pay25_at _ _ _ _).trans ?_
  exact congrArg (newM _) ((cov_plane0 _ _ _ _ _).trans ((canon_fill _ _ _).trans (pay6_at _)))

/-- Path B, plane 1: the running maximum after the tile. -/
theorem m1_B (c : Dev nD) (i : grid0.Coords) (arg5 : Memref sig .tc .smem S8 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4x128 .f32) (harg9 : arg9.IsWhole) (arg10 : Memref sig .tc .vmem S1x1x256 .f32) (harg10 : arg10.IsWhole) (arg11 : Memref sig .tc .vmem S512x256 .f32) (harg11 : arg11.IsWhole) (T0 T1 : S36.Idx → Elt Ideal .i32)
     (x0 : (S8.Idx → Elt Ideal .f32)) (x1 x2 x3 : S512x256.Idx → Elt Ideal .f32) (x4 : (S4x128.Idx → Elt Ideal .f32)) (x5 : (S1x1x256.Idx → Elt Ideal .f32)) (hc0 : (Scalar.cmpi .ne (Scalar.extui (Scalar.cmpi .eq (ikW i T1) 0#32)) 0#32) = 1#1) (k0_h2 : ¬(k0_cond2 (iqW i T0) (ikW i T1) = 1#1)) (r : Fin 512) (k : Fin 128) :
    (kernelRun0_B c i arg5 harg5 arg6 harg6 arg7 harg7 arg8 harg8 arg9 harg9 arg10 harg10 arg11 harg11 T0 T1 x0 x1 x2 x3 x4 x5 hc0 k0_h2).1 (ix3 1 r k) = newM (fun c => tile 1 (iqW i T0) (ikW i T1) (slW i x0) x1 x2 (ix2 r c)) (⊥) := by
  unfold kernelRun0_B
  frame_out
  refine (scr0_canon _ _).trans ?_
  rw [View.read_rep, View.read_rep, View.read_rep]
  refine (canon_snd _ _ _ _ _).trans ?_
  refine (pay1_at _ _ _ _ _ _ _ _).trans ?_
  exact congrArg (newM _) ((cov_plane1 _ _ _ _ _).trans ((canon_skip _ _ _ _ _).trans ((canon_fill _ _ _).trans (pay6_at _))))

/-- Path B, plane 0: the running sum of exponentials after the tile. -/
theorem l0_B (c : Dev nD) (i : grid0.Coords) (arg5 : Memref sig .tc .smem S8 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4x128 .f32) (harg9 : arg9.IsWhole) (arg10 : Memref sig .tc .vmem S1x1x256 .f32) (harg10 : arg10.IsWhole) (arg11 : Memref sig .tc .vmem S512x256 .f32) (harg11 : arg11.IsWhole) (T0 T1 : S36.Idx → Elt Ideal .i32)
     (x0 : (S8.Idx → Elt Ideal .f32)) (x1 x2 x3 : S512x256.Idx → Elt Ideal .f32) (x4 : (S4x128.Idx → Elt Ideal .f32)) (x5 : (S1x1x256.Idx → Elt Ideal .f32)) (hc0 : (Scalar.cmpi .ne (Scalar.extui (Scalar.cmpi .eq (ikW i T1) 0#32)) 0#32) = 1#1) (k0_h2 : ¬(k0_cond2 (iqW i T0) (ikW i T1) = 1#1)) (r : Fin 512) (k : Fin 128) :
    (kernelRun0_B c i arg5 harg5 arg6 harg6 arg7 harg7 arg8 harg8 arg9 harg9 arg10 harg10 arg11 harg11 T0 T1 x0 x1 x2 x3 x4 x5 hc0 k0_h2).2.1 (ix3 0 r k) = newL (fun c => tile 0 (iqW i T0) (ikW i T1) (slW i x0) x1 x2 (ix2 r c)) (⊥) (0) := by
  unfold kernelRun0_B
  frame_out
  refine (scr1_canon _ _).trans ?_
  rw [View.read_rep, View.read_rep, View.read_rep]
  refine (canon_fst _ _ _ _ _ _ _).trans ?_
  refine (pay23_at _ _ _ _ _ (fun _ => ((cov_plane0 _ _ _ _ _).trans ((canon_fill _ _ _).trans (pay6_at _))).trans ((cov_plane0 _ _ _ _ _).trans ((canon_fill _ _ _).trans (pay6_at _))).symm)).trans ?_
  exact congrArg₂ (newL _) ((cov_plane0 _ _ _ _ _).trans ((canon_fill _ _ _).trans (pay6_at _))) ((cov_plane0 _ _ _ _ _).trans ((canon_fill _ _ _).trans (pay7_at _)))

/-- Path B, plane 1: the running sum of exponentials after the tile. -/
theorem l1_B (c : Dev nD) (i : grid0.Coords) (arg5 : Memref sig .tc .smem S8 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4x128 .f32) (harg9 : arg9.IsWhole) (arg10 : Memref sig .tc .vmem S1x1x256 .f32) (harg10 : arg10.IsWhole) (arg11 : Memref sig .tc .vmem S512x256 .f32) (harg11 : arg11.IsWhole) (T0 T1 : S36.Idx → Elt Ideal .i32)
     (x0 : (S8.Idx → Elt Ideal .f32)) (x1 x2 x3 : S512x256.Idx → Elt Ideal .f32) (x4 : (S4x128.Idx → Elt Ideal .f32)) (x5 : (S1x1x256.Idx → Elt Ideal .f32)) (hc0 : (Scalar.cmpi .ne (Scalar.extui (Scalar.cmpi .eq (ikW i T1) 0#32)) 0#32) = 1#1) (k0_h2 : ¬(k0_cond2 (iqW i T0) (ikW i T1) = 1#1)) (r : Fin 512) (k : Fin 128) :
    (kernelRun0_B c i arg5 harg5 arg6 harg6 arg7 harg7 arg8 harg8 arg9 harg9 arg10 harg10 arg11 harg11 T0 T1 x0 x1 x2 x3 x4 x5 hc0 k0_h2).2.1 (ix3 1 r k) = newL (fun c => tile 1 (iqW i T0) (ikW i T1) (slW i x0) x1 x2 (ix2 r c)) (⊥) (0) := by
  unfold kernelRun0_B
  frame_out
  refine (scr1_canon _ _).trans ?_
  rw [View.read_rep, View.read_rep, View.read_rep]
  refine (canon_snd _ _ _ _ _).trans ?_
  refine (pay33_at _ _ _ _ _ _ _ _ _ (fun _ => ((cov_plane1 _ _ _ _ _).trans ((canon_skip _ _ _ _ _).trans ((canon_fill _ _ _).trans (pay6_at _)))).trans ((cov_plane1 _ _ _ _ _).trans ((canon_skip _ _ _ _ _).trans ((canon_fill _ _ _).trans (pay6_at _)))).symm)).trans ?_
  exact congrArg₂ (newL _) ((cov_plane1 _ _ _ _ _).trans ((canon_skip _ _ _ _ _).trans ((canon_fill _ _ _).trans (pay6_at _)))) ((cov_plane1 _ _ _ _ _).trans ((canon_skip _ _ _ _ _).trans ((canon_fill _ _ _).trans (pay7_at _))))

/-- Path B, plane 0: the running weighted sum after the tile. -/
theorem a0_B (c : Dev nD) (i : grid0.Coords) (arg5 : Memref sig .tc .smem S8 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4x128 .f32) (harg9 : arg9.IsWhole) (arg10 : Memref sig .tc .vmem S1x1x256 .f32) (harg10 : arg10.IsWhole) (arg11 : Memref sig .tc .vmem S512x256 .f32) (harg11 : arg11.IsWhole) (T0 T1 : S36.Idx → Elt Ideal .i32)
     (x0 : (S8.Idx → Elt Ideal .f32)) (x1 x2 x3 : S512x256.Idx → Elt Ideal .f32) (x4 : (S4x128.Idx → Elt Ideal .f32)) (x5 : (S1x1x256.Idx → Elt Ideal .f32)) (hc0 : (Scalar.cmpi .ne (Scalar.extui (Scalar.cmpi .eq (ikW i T1) 0#32)) 0#32) = 1#1) (k0_h2 : ¬(k0_cond2 (iqW i T0) (ikW i T1) = 1#1)) (r : Fin 512) (k : Fin 256) :
    (kernelRun0_B c i arg5 harg5 arg6 harg6 arg7 harg7 arg8 harg8 arg9 harg9 arg10 harg10 arg11 harg11 T0 T1 x0 x1 x2 x3 x4 x5 hc0 k0_h2).2.2.1 (ix3 0 r k) = newA (fun c => tile 0 (iqW i T0) (ikW i T1) (slW i x0) x1 x2 (ix2 r c)) (⊥) (0) (fun e => x3 (ix2 e k)) := by
  unfold kernelRun0_B
  frame_out
  refine (scr2_canon _ _).trans ?_
  rw [View.read_rep, View.read_rep, View.read_rep, View.read_rep]
  refine (canon_fst _ _ _ _ _ _ _).trans ?_
  refine (pay24_at _ _ _ _ _ _).trans ?_
  refine (congrArg₂ (fun a b => newA _ a b _) ((cov_plane0 _ _ _ _ _).trans ((canon_fill _ _ _).trans (pay6_at _))) ((cov_plane0 _ _ _ _ _).trans ((canon_fill _ _ _).trans (pay8_at _)))).trans ?_
  exact congrArg (newA _ _ _) (funext fun e => pay11_at _ _ _)

/-- Path B, plane 1: the running weighted sum after the tile. -/
theorem a1_B (c : Dev nD) (i : grid0.Coords) (arg5 : Memref sig .tc .smem S8 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4x128 .f32) (harg9 : arg9.IsWhole) (arg10 : Memref sig .tc .vmem S1x1x256 .f32) (harg10 : arg10.IsWhole) (arg11 : Memref sig .tc .vmem S512x256 .f32) (harg11 : arg11.IsWhole) (T0 T1 : S36.Idx → Elt Ideal .i32)
     (x0 : (S8.Idx → Elt Ideal .f32)) (x1 x2 x3 : S512x256.Idx → Elt Ideal .f32) (x4 : (S4x128.Idx → Elt Ideal .f32)) (x5 : (S1x1x256.Idx → Elt Ideal .f32)) (hc0 : (Scalar.cmpi .ne (Scalar.extui (Scalar.cmpi .eq (ikW i T1) 0#32)) 0#32) = 1#1) (k0_h2 : ¬(k0_cond2 (iqW i T0) (ikW i T1) = 1#1)) (r : Fin 512) (k : Fin 256) :
    (kernelRun0_B c i arg5 harg5 arg6 harg6 arg7 harg7 arg8 harg8 arg9 harg9 arg10 harg10 arg11 harg11 T0 T1 x0 x1 x2 x3 x4 x5 hc0 k0_h2).2.2.1 (ix3 1 r k) = newA (fun c => tile 1 (iqW i T0) (ikW i T1) (slW i x0) x1 x2 (ix2 r c)) (⊥) (0) (fun e => x3 (ix2 e k)) := by
  unfold kernelRun0_B
  frame_out
  refine (scr2_canon _ _).trans ?_
  rw [View.read_rep, View.read_rep, View.read_rep, View.read_rep]
  refine (canon_snd _ _ _ _ _).trans ?_
  refine (pay34_at _ _ _ _ _ _ _ _ _ _).trans ?_
  refine (congrArg₂ (fun a b => newA _ a b _) ((cov_plane1 _ _ _ _ _).trans ((canon_skip _ _ _ _ _).trans ((canon_fill _ _ _).trans (pay6_at _)))) ((cov_plane1 _ _ _ _ _).trans ((canon_skip _ _ _ _ _).trans ((canon_fill _ _ _).trans (pay8_at _))))).trans ?_
  exact congrArg (newA _ _ _) (funext fun e => pay11_at _ _ _)

/-- Path C, plane 0: the running maximum after the tile. -/
theorem m0_C (c : Dev nD) (i : grid0.Coords) (arg5 : Memref sig .tc .smem S8 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4x128 .f32) (harg9 : arg9.IsWhole) (arg10 : Memref sig .tc .vmem S1x1x256 .f32) (harg10 : arg10.IsWhole) (arg11 : Memref sig .tc .vmem S512x256 .f32) (harg11 : arg11.IsWhole) (T0 T1 : S36.Idx → Elt Ideal .i32)
     (x0 : (S8.Idx → Elt Ideal .f32)) (x1 x2 x3 : S512x256.Idx → Elt Ideal .f32) (x4 : (S4x128.Idx → Elt Ideal .f32)) (x5 : (S1x1x256.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (ikW i T1) 0#32)) 0#32) = 1#1)) (k0_h2 : k0_cond2 (iqW i T0) (ikW i T1) = 1#1) (r : Fin 512) (k : Fin 128) :
    (kernelRun0_C c i arg5 harg5 arg6 harg6 arg7 harg7 arg8 harg8 arg9 harg9 arg10 harg10 arg11 harg11 T0 T1 x0 x1 x2 x3 x4 x5 xa0 xa1 xa2 hc0 k0_h2).2.1 (ix3 0 r k) = newM (fun c => tile 0 (iqW i T0) (ikW i T1) (slW i x0) x1 x2 (ix2 r c)) (xa0 (ix3 0 r k)) := by
  unfold kernelRun0_C
  frame_out
  refine (scr0_canon _ _).trans ?_
  rw [View.read_rep, View.read_rep, View.read_rep]
  refine (canon_fst _ _ _ _ _ _ _).trans ?_
  refine (pay25_at _ _ _ _).trans ?_
  exact congrArg (newM _) (ld_plane0 _ _ _ _)

/-- Path C, plane 1: the running maximum after the tile. -/
theorem m1_C (c : Dev nD) (i : grid0.Coords) (arg5 : Memref sig .tc .smem S8 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4x128 .f32) (harg9 : arg9.IsWhole) (arg10 : Memref sig .tc .vmem S1x1x256 .f32) (harg10 : arg10.IsWhole) (arg11 : Memref sig .tc .vmem S512x256 .f32) (harg11 : arg11.IsWhole) (T0 T1 : S36.Idx → Elt Ideal .i32)
     (x0 : (S8.Idx → Elt Ideal .f32)) (x1 x2 x3 : S512x256.Idx → Elt Ideal .f32) (x4 : (S4x128.Idx → Elt Ideal .f32)) (x5 : (S1x1x256.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (ikW i T1) 0#32)) 0#32) = 1#1)) (k0_h2 : k0_cond2 (iqW i T0) (ikW i T1) = 1#1) (r : Fin 512) (k : Fin 128) :
    (kernelRun0_C c i arg5 harg5 arg6 harg6 arg7 harg7 arg8 harg8 arg9 harg9 arg10 harg10 arg11 harg11 T0 T1 x0 x1 x2 x3 x4 x5 xa0 xa1 xa2 hc0 k0_h2).2.1 (ix3 1 r k) = newM (fun c => tile 1 (iqW i T0) (ikW i T1) (slW i x0) x1 x2 (ix2 r c)) (xa0 (ix3 1 r k)) := by
  unfold kernelRun0_C
  frame_out
  refine (scr0_canon _ _).trans ?_
  rw [View.read_rep, View.read_rep, View.read_rep]
  refine (canon_snd _ _ _ _ _).trans ?_
  refine (pay1_at _ _ _ _ _ _ _ _).trans ?_
  exact congrArg (newM _) (ld_plane1 _ _ _ _)

/-- Path C, plane 0: the running sum of exponentials after the tile. -/
theorem l0_C (c : Dev nD) (i : grid0.Coords) (arg5 : Memref sig .tc .smem S8 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4x128 .f32) (harg9 : arg9.IsWhole) (arg10 : Memref sig .tc .vmem S1x1x256 .f32) (harg10 : arg10.IsWhole) (arg11 : Memref sig .tc .vmem S512x256 .f32) (harg11 : arg11.IsWhole) (T0 T1 : S36.Idx → Elt Ideal .i32)
     (x0 : (S8.Idx → Elt Ideal .f32)) (x1 x2 x3 : S512x256.Idx → Elt Ideal .f32) (x4 : (S4x128.Idx → Elt Ideal .f32)) (x5 : (S1x1x256.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (ikW i T1) 0#32)) 0#32) = 1#1)) (k0_h2 : k0_cond2 (iqW i T0) (ikW i T1) = 1#1) (hlane : ∀ (j : Fin 2) (r : Fin 512) (k : Fin 128), xa0 (ix3 j r k) = xa0 (ix3 j r 0)) (r : Fin 512) (k : Fin 128) :
    (kernelRun0_C c i arg5 harg5 arg6 harg6 arg7 harg7 arg8 harg8 arg9 harg9 arg10 harg10 arg11 harg11 T0 T1 x0 x1 x2 x3 x4 x5 xa0 xa1 xa2 hc0 k0_h2).2.2.1 (ix3 0 r k) = newL (fun c => tile 0 (iqW i T0) (ikW i T1) (slW i x0) x1 x2 (ix2 r c)) (xa0 (ix3 0 r 0)) (xa1 (ix3 0 r k)) := by
  unfold kernelRun0_C
  frame_out
  refine (scr1_canon _ _).trans ?_
  rw [View.read_rep, View.read_rep, View.read_rep]
  refine (canon_fst _ _ _ _ _ _ _).trans ?_
  refine (pay23_at _ _ _ _ _ (fun _ => (ld_plane0 _ _ _ _).trans ((hlane 0 r _).trans (ld_plane0 _ _ _ _).symm))).trans ?_
  exact congrArg₂ (newL _) (ld_plane0 _ _ _ _) (ld_plane0 _ _ _ _)

/-- Path C, plane 1: the running sum of exponentials after the tile. -/
theorem l1_C (c : Dev nD) (i : grid0.Coords) (arg5 : Memref sig .tc .smem S8 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4x128 .f32) (harg9 : arg9.IsWhole) (arg10 : Memref sig .tc .vmem S1x1x256 .f32) (harg10 : arg10.IsWhole) (arg11 : Memref sig .tc .vmem S512x256 .f32) (harg11 : arg11.IsWhole) (T0 T1 : S36.Idx → Elt Ideal .i32)
     (x0 : (S8.Idx → Elt Ideal .f32)) (x1 x2 x3 : S512x256.Idx → Elt Ideal .f32) (x4 : (S4x128.Idx → Elt Ideal .f32)) (x5 : (S1x1x256.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (ikW i T1) 0#32)) 0#32) = 1#1)) (k0_h2 : k0_cond2 (iqW i T0) (ikW i T1) = 1#1) (hlane : ∀ (j : Fin 2) (r : Fin 512) (k : Fin 128), xa0 (ix3 j r k) = xa0 (ix3 j r 0)) (r : Fin 512) (k : Fin 128) :
    (kernelRun0_C c i arg5 harg5 arg6 harg6 arg7 harg7 arg8 harg8 arg9 harg9 arg10 harg10 arg11 harg11 T0 T1 x0 x1 x2 x3 x4 x5 xa0 xa1 xa2 hc0 k0_h2).2.2.1 (ix3 1 r k) = newL (fun c => tile 1 (iqW i T0) (ikW i T1) (slW i x0) x1 x2 (ix2 r c)) (xa0 (ix3 1 r 0)) (xa1 (ix3 1 r k)) := by
  unfold kernelRun0_C
  frame_out
  refine (scr1_canon _ _).trans ?_
  rw [View.read_rep, View.read_rep, View.read_rep]
  refine (canon_snd _ _ _ _ _).trans ?_
  refine (pay33_at _ _ _ _ _ _ _ _ _ (fun _ => (ld_plane1 _ _ _ _).trans ((hlane 1 r _).trans (ld_plane1 _ _ _ _).symm))).trans ?_
  exact congrArg₂ (newL _) (ld_plane1 _ _ _ _) (ld_plane1 _ _ _ _)

/-- Path C, plane 0: the running weighted sum after the tile. -/
theorem a0_C (c : Dev nD) (i : grid0.Coords) (arg5 : Memref sig .tc .smem S8 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4x128 .f32) (harg9 : arg9.IsWhole) (arg10 : Memref sig .tc .vmem S1x1x256 .f32) (harg10 : arg10.IsWhole) (arg11 : Memref sig .tc .vmem S512x256 .f32) (harg11 : arg11.IsWhole) (T0 T1 : S36.Idx → Elt Ideal .i32)
     (x0 : (S8.Idx → Elt Ideal .f32)) (x1 x2 x3 : S512x256.Idx → Elt Ideal .f32) (x4 : (S4x128.Idx → Elt Ideal .f32)) (x5 : (S1x1x256.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (ikW i T1) 0#32)) 0#32) = 1#1)) (k0_h2 : k0_cond2 (iqW i T0) (ikW i T1) = 1#1) (r : Fin 512) (k : Fin 256) :
    (kernelRun0_C c i arg5 harg5 arg6 harg6 arg7 harg7 arg8 harg8 arg9 harg9 arg10 harg10 arg11 harg11 T0 T1 x0 x1 x2 x3 x4 x5 xa0 xa1 xa2 hc0 k0_h2).2.2.2.1 (ix3 0 r k) = newA (fun c => tile 0 (iqW i T0) (ikW i T1) (slW i x0) x1 x2 (ix2 r c)) (xa0 (ix3 0 r 0)) (xa2 (ix3 0 r k)) (fun e => x3 (ix2 e k)) := by
  unfold kernelRun0_C
  frame_out
  refine (scr2_canon _ _).trans ?_
  rw [View.read_rep, View.read_rep, View.read_rep, View.read_rep]
  refine (canon_fst _ _ _ _ _ _ _).trans ?_
  refine (pay24_at _ _ _ _ _ _).trans ?_
  refine (congrArg₂ (fun a b => newA _ a b _) (ld_plane0 _ _ _ _) (ld_plane0 _ _ _ _)).trans ?_
  exact congrArg (newA _ _ _) (funext fun e => pay11_at _ _ _)

/-- Path C, plane 1: the running weighted sum after the tile. -/
theorem a1_C (c : Dev nD) (i : grid0.Coords) (arg5 : Memref sig .tc .smem S8 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4x128 .f32) (harg9 : arg9.IsWhole) (arg10 : Memref sig .tc .vmem S1x1x256 .f32) (harg10 : arg10.IsWhole) (arg11 : Memref sig .tc .vmem S512x256 .f32) (harg11 : arg11.IsWhole) (T0 T1 : S36.Idx → Elt Ideal .i32)
     (x0 : (S8.Idx → Elt Ideal .f32)) (x1 x2 x3 : S512x256.Idx → Elt Ideal .f32) (x4 : (S4x128.Idx → Elt Ideal .f32)) (x5 : (S1x1x256.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (ikW i T1) 0#32)) 0#32) = 1#1)) (k0_h2 : k0_cond2 (iqW i T0) (ikW i T1) = 1#1) (r : Fin 512) (k : Fin 256) :
    (kernelRun0_C c i arg5 harg5 arg6 harg6 arg7 harg7 arg8 harg8 arg9 harg9 arg10 harg10 arg11 harg11 T0 T1 x0 x1 x2 x3 x4 x5 xa0 xa1 xa2 hc0 k0_h2).2.2.2.1 (ix3 1 r k) = newA (fun c => tile 1 (iqW i T0) (ikW i T1) (slW i x0) x1 x2 (ix2 r c)) (xa0 (ix3 1 r 0)) (xa2 (ix3 1 r k)) (fun e => x3 (ix2 e k)) := by
  unfold kernelRun0_C
  frame_out
  refine (scr2_canon _ _).trans ?_
  rw [View.read_rep, View.read_rep, View.read_rep, View.read_rep]
  refine (canon_snd _ _ _ _ _).trans ?_
  refine (pay34_at _ _ _ _ _ _ _ _ _ _).trans ?_
  refine (congrArg₂ (fun a b => newA _ a b _) (ld_plane1 _ _ _ _) (ld_plane1 _ _ _ _)).trans ?_
  exact congrArg (newA _ _ _) (funext fun e => pay11_at _ _ _)

/-- Path D, plane 0: the running maximum after the tile. -/
theorem m0_D (c : Dev nD) (i : grid0.Coords) (arg5 : Memref sig .tc .smem S8 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4x128 .f32) (harg9 : arg9.IsWhole) (arg10 : Memref sig .tc .vmem S1x1x256 .f32) (harg10 : arg10.IsWhole) (arg11 : Memref sig .tc .vmem S512x256 .f32) (harg11 : arg11.IsWhole) (T0 T1 : S36.Idx → Elt Ideal .i32)
     (x0 : (S8.Idx → Elt Ideal .f32)) (x1 x2 x3 : S512x256.Idx → Elt Ideal .f32) (x4 : (S4x128.Idx → Elt Ideal .f32)) (x5 : (S1x1x256.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (ikW i T1) 0#32)) 0#32) = 1#1)) (k0_h2 : ¬(k0_cond2 (iqW i T0) (ikW i T1) = 1#1)) (r : Fin 512) (k : Fin 128) :
    (kernelRun0_D c i arg5 harg5 arg6 harg6 arg7 harg7 arg8 harg8 arg9 harg9 arg10 harg10 arg11 harg11 T0 T1 x0 x1 x2 x3 x4 x5 xa0 xa1 xa2 hc0 k0_h2).1 (ix3 0 r k) = newM (fun c => tile 0 (iqW i T0) (ikW i T1) (slW i x0) x1 x2 (ix2 r c)) (xa0 (ix3 0 r k)) := by
  unfold kernelRun0_D
  frame_out
  refine (scr0_canon _ _).trans ?_
  rw [View.read_rep, View.read_rep, View.read_rep]
  refine (canon_fst _ _ _ _ _ _ _).trans ?_
  refine (pay25_at _ _ _ _).trans ?_
  exact congrArg (newM _) (ld_plane0 _ _ _ _)

/-- Path D, plane 1: the running maximum after the tile. -/
theorem m1_D (c : Dev nD) (i : grid0.Coords) (arg5 : Memref sig .tc .smem S8 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4x128 .f32) (harg9 : arg9.IsWhole) (arg10 : Memref sig .tc .vmem S1x1x256 .f32) (harg10 : arg10.IsWhole) (arg11 : Memref sig .tc .vmem S512x256 .f32) (harg11 : arg11.IsWhole) (T0 T1 : S36.Idx → Elt Ideal .i32)
     (x0 : (S8.Idx → Elt Ideal .f32)) (x1 x2 x3 : S512x256.Idx → Elt Ideal .f32) (x4 : (S4x128.Idx → Elt Ideal .f32)) (x5 : (S1x1x256.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (ikW i T1) 0#32)) 0#32) = 1#1)) (k0_h2 : ¬(k0_cond2 (iqW i T0) (ikW i T1) = 1#1)) (r : Fin 512) (k : Fin 128) :
    (kernelRun0_D c i arg5 harg5 arg6 harg6 arg7 harg7 arg8 harg8 arg9 harg9 arg10 harg10 arg11 harg11 T0 T1 x0 x1 x2 x3 x4 x5 xa0 xa1 xa2 hc0 k0_h2).1 (ix3 1 r k) = newM (fun c => tile 1 (iqW i T0) (ikW i T1) (slW i x0) x1 x2 (ix2 r c)) (xa0 (ix3 1 r k)) := by
  unfold kernelRun0_D
  frame_out
  refine (scr0_canon _ _).trans ?_
  rw [View.read_rep, View.read_rep, View.read_rep]
  refine (canon_snd _ _ _ _ _).trans ?_
  refine (pay1_at _ _ _ _ _ _ _ _).trans ?_
  exact congrArg (newM _) (ld_plane1 _ _ _ _)

/-- Path D, plane 0: the running sum of exponentials after the tile. -/
theorem l0_D (c : Dev nD) (i : grid0.Coords) (arg5 : Memref sig .tc .smem S8 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4x128 .f32) (harg9 : arg9.IsWhole) (arg10 : Memref sig .tc .vmem S1x1x256 .f32) (harg10 : arg10.IsWhole) (arg11 : Memref sig .tc .vmem S512x256 .f32) (harg11 : arg11.IsWhole) (T0 T1 : S36.Idx → Elt Ideal .i32)
     (x0 : (S8.Idx → Elt Ideal .f32)) (x1 x2 x3 : S512x256.Idx → Elt Ideal .f32) (x4 : (S4x128.Idx → Elt Ideal .f32)) (x5 : (S1x1x256.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (ikW i T1) 0#32)) 0#32) = 1#1)) (k0_h2 : ¬(k0_cond2 (iqW i T0) (ikW i T1) = 1#1)) (hlane : ∀ (j : Fin 2) (r : Fin 512) (k : Fin 128), xa0 (ix3 j r k) = xa0 (ix3 j r 0)) (r : Fin 512) (k : Fin 128) :
    (kernelRun0_D c i arg5 harg5 arg6 harg6 arg7 harg7 arg8 harg8 arg9 harg9 arg10 harg10 arg11 harg11 T0 T1 x0 x1 x2 x3 x4 x5 xa0 xa1 xa2 hc0 k0_h2).2.1 (ix3 0 r k) = newL (fun c => tile 0 (iqW i T0) (ikW i T1) (slW i x0) x1 x2 (ix2 r c)) (xa0 (ix3 0 r 0)) (xa1 (ix3 0 r k)) := by
  unfold kernelRun0_D
  frame_out
  refine (scr1_canon _ _).trans ?_
  rw [View.read_rep, View.read_rep, View.read_rep]
  refine (canon_fst _ _ _ _ _ _ _).trans ?_
  refine (pay23_at _ _ _ _ _ (fun _ => (ld_plane0 _ _ _ _).trans ((hlane 0 r _).trans (ld_plane0 _ _ _ _).symm))).trans ?_
  exact congrArg₂ (newL _) (ld_plane0 _ _ _ _) (ld_plane0 _ _ _ _)

/-- Path D, plane 1: the running sum of exponentials after the tile. -/
theorem l1_D (c : Dev nD) (i : grid0.Coords) (arg5 : Memref sig .tc .smem S8 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4x128 .f32) (harg9 : arg9.IsWhole) (arg10 : Memref sig .tc .vmem S1x1x256 .f32) (harg10 : arg10.IsWhole) (arg11 : Memref sig .tc .vmem S512x256 .f32) (harg11 : arg11.IsWhole) (T0 T1 : S36.Idx → Elt Ideal .i32)
     (x0 : (S8.Idx → Elt Ideal .f32)) (x1 x2 x3 : S512x256.Idx → Elt Ideal .f32) (x4 : (S4x128.Idx → Elt Ideal .f32)) (x5 : (S1x1x256.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (ikW i T1) 0#32)) 0#32) = 1#1)) (k0_h2 : ¬(k0_cond2 (iqW i T0) (ikW i T1) = 1#1)) (hlane : ∀ (j : Fin 2) (r : Fin 512) (k : Fin 128), xa0 (ix3 j r k) = xa0 (ix3 j r 0)) (r : Fin 512) (k : Fin 128) :
    (kernelRun0_D c i arg5 harg5 arg6 harg6 arg7 harg7 arg8 harg8 arg9 harg9 arg10 harg10 arg11 harg11 T0 T1 x0 x1 x2 x3 x4 x5 xa0 xa1 xa2 hc0 k0_h2).2.1 (ix3 1 r k) = newL (fun c => tile 1 (iqW i T0) (ikW i T1) (slW i x0) x1 x2 (ix2 r c)) (xa0 (ix3 1 r 0)) (xa1 (ix3 1 r k)) := by
  unfold kernelRun0_D
  frame_out
  refine (scr1_canon _ _).trans ?_
  rw [View.read_rep, View.read_rep, View.read_rep]
  refine (canon_snd _ _ _ _ _).trans ?_
  refine (pay33_at _ _ _ _ _ _ _ _ _ (fun _ => (ld_plane1 _ _ _ _).trans ((hlane 1 r _).trans (ld_plane1 _ _ _ _).symm))).trans ?_
  exact congrArg₂ (newL _) (ld_plane1 _ _ _ _) (ld_plane1 _ _ _ _)

/-- Path D, plane 0: the running weighted sum after the tile. -/
theorem a0_D (c : Dev nD) (i : grid0.Coords) (arg5 : Memref sig .tc .smem S8 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4x128 .f32) (harg9 : arg9.IsWhole) (arg10 : Memref sig .tc .vmem S1x1x256 .f32) (harg10 : arg10.IsWhole) (arg11 : Memref sig .tc .vmem S512x256 .f32) (harg11 : arg11.IsWhole) (T0 T1 : S36.Idx → Elt Ideal .i32)
     (x0 : (S8.Idx → Elt Ideal .f32)) (x1 x2 x3 : S512x256.Idx → Elt Ideal .f32) (x4 : (S4x128.Idx → Elt Ideal .f32)) (x5 : (S1x1x256.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (ikW i T1) 0#32)) 0#32) = 1#1)) (k0_h2 : ¬(k0_cond2 (iqW i T0) (ikW i T1) = 1#1)) (r : Fin 512) (k : Fin 256) :
    (kernelRun0_D c i arg5 harg5 arg6 harg6 arg7 harg7 arg8 harg8 arg9 harg9 arg10 harg10 arg11 harg11 T0 T1 x0 x1 x2 x3 x4 x5 xa0 xa1 xa2 hc0 k0_h2).2.2.1 (ix3 0 r k) = newA (fun c => tile 0 (iqW i T0) (ikW i T1) (slW i x0) x1 x2 (ix2 r c)) (xa0 (ix3 0 r 0)) (xa2 (ix3 0 r k)) (fun e => x3 (ix2 e k)) := by
  unfold kernelRun0_D
  frame_out
  refine (scr2_canon _ _).trans ?_
  rw [View.read_rep, View.read_rep, View.read_rep, View.read_rep]
  refine (canon_fst _ _ _ _ _ _ _).trans ?_
  refine (pay24_at _ _ _ _ _ _).trans ?_
  refine (congrArg₂ (fun a b => newA _ a b _) (ld_plane0 _ _ _ _) (ld_plane0 _ _ _ _)).trans ?_
  exact congrArg (newA _ _ _) (funext fun e => pay11_at _ _ _)

/-- Path D, plane 1: the running weighted sum after the tile. -/
theorem a1_D (c : Dev nD) (i : grid0.Coords) (arg5 : Memref sig .tc .smem S8 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4x128 .f32) (harg9 : arg9.IsWhole) (arg10 : Memref sig .tc .vmem S1x1x256 .f32) (harg10 : arg10.IsWhole) (arg11 : Memref sig .tc .vmem S512x256 .f32) (harg11 : arg11.IsWhole) (T0 T1 : S36.Idx → Elt Ideal .i32)
     (x0 : (S8.Idx → Elt Ideal .f32)) (x1 x2 x3 : S512x256.Idx → Elt Ideal .f32) (x4 : (S4x128.Idx → Elt Ideal .f32)) (x5 : (S1x1x256.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (ikW i T1) 0#32)) 0#32) = 1#1)) (k0_h2 : ¬(k0_cond2 (iqW i T0) (ikW i T1) = 1#1)) (r : Fin 512) (k : Fin 256) :
    (kernelRun0_D c i arg5 harg5 arg6 harg6 arg7 harg7 arg8 harg8 arg9 harg9 arg10 harg10 arg11 harg11 T0 T1 x0 x1 x2 x3 x4 x5 xa0 xa1 xa2 hc0 k0_h2).2.2.1 (ix3 1 r k) = newA (fun c => tile 1 (iqW i T0) (ikW i T1) (slW i x0) x1 x2 (ix2 r c)) (xa0 (ix3 1 r 0)) (xa2 (ix3 1 r k)) (fun e => x3 (ix2 e k)) := by
  unfold kernelRun0_D
  frame_out
  refine (scr2_canon _ _).trans ?_
  rw [View.read_rep, View.read_rep, View.read_rep, View.read_rep]
  refine (canon_snd _ _ _ _ _).trans ?_
  refine (pay34_at _ _ _ _ _ _ _ _ _ _).trans ?_
  refine (congrArg₂ (fun a b => newA _ a b _) (ld_plane1 _ _ _ _) (ld_plane1 _ _ _ _)).trans ?_
  exact congrArg (newA _ _ _) (funext fun e => pay11_at _ _ _)

/-- Path A: the output block, from what the scratch buffers hold after the tile. -/
theorem out_A (c : Dev nD) (i : grid0.Coords) (arg5 : Memref sig .tc .smem S8 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4x128 .f32) (harg9 : arg9.IsWhole) (arg10 : Memref sig .tc .vmem S1x1x256 .f32) (harg10 : arg10.IsWhole) (arg11 : Memref sig .tc .vmem S512x256 .f32) (harg11 : arg11.IsWhole) (T0 T1 : S36.Idx → Elt Ideal .i32)
     (x0 : (S8.Idx → Elt Ideal .f32)) (x1 x2 x3 : S512x256.Idx → Elt Ideal .f32) (x4 : (S4x128.Idx → Elt Ideal .f32)) (x5 : (S1x1x256.Idx → Elt Ideal .f32)) (hc0 : (Scalar.cmpi .ne (Scalar.extui (Scalar.cmpi .eq (ikW i T1) 0#32)) 0#32) = 1#1) (k0_h2 : k0_cond2 (iqW i T0) (ikW i T1) = 1#1) (r : Fin 512) (d : Fin 256) :
    out0_A_6 c i arg5 harg5 arg6 harg6 arg7 harg7 arg8 harg8 arg9 harg9 arg10 harg10 arg11 harg11 T0 T1 x0 x1 x2 x3 x4 x5 hc0 k0_h2 (ix2 r d) = normHead (fun k => Ideal.div (newA (fun c => tile 0 (iqW i T0) (ikW i T1) (slW i x0) x1 x2 (ix2 r c)) (⊥) (0) (fun e => x3 (ix2 e k))) (newL (fun c => tile 0 (iqW i T0) (ikW i T1) (slW i x0) x1 x2 (ix2 r c)) (⊥) (0))
      - lamOf (fun i e => x4 (ix2 i e)) * Ideal.div (newA (fun c => tile 1 (iqW i T0) (ikW i T1) (slW i x0) x1 x2 (ix2 r c)) (⊥) (0) (fun e => x3 (ix2 e k))) (newL (fun c => tile 1 (iqW i T0) (ikW i T1) (slW i x0) x1 x2 (ix2 r c)) (⊥) (0))) (fun k => x5 (ix3 0 0 k)) d := by
  unfold out0_A_6 kernelRun0_A
  frame_out
  rw [View.read_rep, View.read_rep, View.read_rep, View.read_rep, View.read_rep, View.read_rep]
  refine (pay2_at _ _ _ _ _ _ _ _).trans ?_
  refine congrArg (fun f => normHead f (fun k => x5 (ix3 0 0 k)) d) (funext fun k => ?_)
  refine congrArg₂ (fun a b : EReal => a - b) (congrArg₂ Ideal.div ?_ ?_) (congrArg (fun a : EReal => lamOf (fun i e => x4 (ix2 i e)) * a) (congrArg₂ Ideal.div ?_ ?_))
  · refine (cov_plane0 _ _ _ _ _).trans ?_
    refine (canon_fst _ _ _ _ _ _ _).trans ?_
    refine (pay24_at _ _ _ _ _ _).trans ?_
    refine (congrArg₂ (fun a b => newA _ a b _) ((cov_plane0 _ _ _ _ _).trans ((canon_fill _ _ _).trans (pay6_at _))) ((cov_plane0 _ _ _ _ _).trans ((canon_fill _ _ _).trans (pay8_at _)))).trans ?_
    exact congrArg (newA _ _ _) (funext fun e => pay11_at _ _ _)
  · refine (cov_plane0 _ _ _ _ _).trans ?_
    refine (canon_fst _ _ _ _ _ _ _).trans ?_
    refine (pay23_at _ _ _ _ _ (fun _ => ((cov_plane0 _ _ _ _ _).trans ((canon_fill _ _ _).trans (pay6_at _))).trans ((cov_plane0 _ _ _ _ _).trans ((canon_fill _ _ _).trans (pay6_at _))).symm)).trans ?_
    exact congrArg₂ (newL _) ((cov_plane0 _ _ _ _ _).trans ((canon_fill _ _ _).trans (pay6_at _))) ((cov_plane0 _ _ _ _ _).trans ((canon_fill _ _ _).trans (pay7_at _)))
  · refine (cov_plane1 _ _ _ _ _).trans ?_
    refine (canon_snd _ _ _ _ _).trans ?_
    refine (pay34_at _ _ _ _ _ _ _ _ _ _).trans ?_
    refine (congrArg₂ (fun a b => newA _ a b _) ((cov_plane1 _ _ _ _ _).trans ((canon_skip _ _ _ _ _).trans ((canon_fill _ _ _).trans (pay6_at _)))) ((cov_plane1 _ _ _ _ _).trans ((canon_skip _ _ _ _ _).trans ((canon_fill _ _ _).trans (pay8_at _))))).trans ?_
    exact congrArg (newA _ _ _) (funext fun e => pay11_at _ _ _)
  · refine (cov_plane1 _ _ _ _ _).trans ?_
    refine (canon_snd _ _ _ _ _).trans ?_
    refine (pay33_at _ _ _ _ _ _ _ _ _ (fun _ => ((cov_plane1 _ _ _ _ _).trans ((canon_skip _ _ _ _ _).trans ((canon_fill _ _ _).trans (pay6_at _)))).trans ((cov_plane1 _ _ _ _ _).trans ((canon_skip _ _ _ _ _).trans ((canon_fill _ _ _).trans (pay6_at _)))).symm)).trans ?_
    exact congrArg₂ (newL _) ((cov_plane1 _ _ _ _ _).trans ((canon_skip _ _ _ _ _).trans ((canon_fill _ _ _).trans (pay6_at _)))) ((cov_plane1 _ _ _ _ _).trans ((canon_skip _ _ _ _ _).trans ((canon_fill _ _ _).trans (pay7_at _))))

/-- Path C: the output block, from what the scratch buffers hold after the tile. -/
theorem out_C (c : Dev nD) (i : grid0.Coords) (arg5 : Memref sig .tc .smem S8 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S4x128 .f32) (harg9 : arg9.IsWhole) (arg10 : Memref sig .tc .vmem S1x1x256 .f32) (harg10 : arg10.IsWhole) (arg11 : Memref sig .tc .vmem S512x256 .f32) (harg11 : arg11.IsWhole) (T0 T1 : S36.Idx → Elt Ideal .i32)
     (x0 : (S8.Idx → Elt Ideal .f32)) (x1 x2 x3 : S512x256.Idx → Elt Ideal .f32) (x4 : (S4x128.Idx → Elt Ideal .f32)) (x5 : (S1x1x256.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (ikW i T1) 0#32)) 0#32) = 1#1)) (k0_h2 : k0_cond2 (iqW i T0) (ikW i T1) = 1#1) (hlane : ∀ (j : Fin 2) (r : Fin 512) (k : Fin 128), xa0 (ix3 j r k) = xa0 (ix3 j r 0)) (r : Fin 512) (d : Fin 256) :
    out0_C_6 c i arg5 harg5 arg6 harg6 arg7 harg7 arg8 harg8 arg9 harg9 arg10 harg10 arg11 harg11 T0 T1 x0 x1 x2 x3 x4 x5 xa0 xa1 xa2 hc0 k0_h2 (ix2 r d) = normHead (fun k => Ideal.div (newA (fun c => tile 0 (iqW i T0) (ikW i T1) (slW i x0) x1 x2 (ix2 r c)) (xa0 (ix3 0 r 0)) (xa2 (ix3 0 r k)) (fun e => x3 (ix2 e k))) (newL (fun c => tile 0 (iqW i T0) (ikW i T1) (slW i x0) x1 x2 (ix2 r c)) (xa0 (ix3 0 r 0)) (xa1 (ix3 0 r 0)))
      - lamOf (fun i e => x4 (ix2 i e)) * Ideal.div (newA (fun c => tile 1 (iqW i T0) (ikW i T1) (slW i x0) x1 x2 (ix2 r c)) (xa0 (ix3 1 r 0)) (xa2 (ix3 1 r k)) (fun e => x3 (ix2 e k))) (newL (fun c => tile 1 (iqW i T0) (ikW i T1) (slW i x0) x1 x2 (ix2 r c)) (xa0 (ix3 1 r 0)) (xa1 (ix3 1 r 0)))) (fun k => x5 (ix3 0 0 k)) d := by
  unfold out0_C_6 kernelRun0_C
  frame_out
  rw [View.read_rep, View.read_rep, View.read_rep, View.read_rep, View.read_rep, View.read_rep]
  refine (pay2_at _ _ _ _ _ _ _ _).trans ?_
  refine congrArg (fun f => normHead f (fun k => x5 (ix3 0 0 k)) d) (funext fun k => ?_)
  refine congrArg₂ (fun a b : EReal => a - b) (congrArg₂ Ideal.div ?_ ?_) (congrArg (fun a : EReal => lamOf (fun i e => x4 (ix2 i e)) * a) (congrArg₂ Ideal.div ?_ ?_))
  · refine (cov_plane0 _ _ _ _ _).trans ?_
    refine (canon_fst _ _ _ _ _ _ _).trans ?_
    refine (pay24_at _ _ _ _ _ _).trans ?_
    refine (congrArg₂ (fun a b => newA _ a b _) (ld_plane0 _ _ _ _) (ld_plane0 _ _ _ _)).trans ?_
    exact congrArg (newA _ _ _) (funext fun e => pay11_at _ _ _)
  · refine (cov_plane0 _ _ _ _ _).trans ?_
    refine (canon_fst _ _ _ _ _ _ _).trans ?_
    refine (pay23_at _ _ _ _ _ (fun _ => (ld_plane0 _ _ _ _).trans ((hlane 0 r _).trans (ld_plane0 _ _ _ _).symm))).trans ?_
    exact congrArg₂ (newL _) (ld_plane0 _ _ _ _) (ld_plane0 _ _ _ _)
  · refine (cov_plane1 _ _ _ _ _).trans ?_
    refine (canon_snd _ _ _ _ _).trans ?_
    refine (pay34_at _ _ _ _ _ _ _ _ _ _).trans ?_
    refine (congrArg₂ (fun a b => newA _ a b _) (ld_plane1 _ _ _ _) (ld_plane1 _ _ _ _)).trans ?_
    exact congrArg (newA _ _ _) (funext fun e => pay11_at _ _ _)
  · refine (cov_plane1 _ _ _ _ _).trans ?_
    refine (canon_snd _ _ _ _ _).trans ?_
    refine (pay33_at _ _ _ _ _ _ _ _ _ (fun _ => (ld_plane1 _ _ _ _).trans ((hlane 1 r _).trans (ld_plane1 _ _ _ _).symm))).trans ?_
    exact congrArg₂ (newL _) (ld_plane1 _ _ _ _) (ld_plane1 _ _ _ _)

end Cert.KernelIdeal.Attn
end
-- ==== Proof.Attn.Blocks.lean ====
module

public import proofs.«01_k».proof.Proof.AttnIdeal.Frame
public import proofs.«01_k».proof.Proof.Attn.Tile
public import Idealize.ShloMosaic.Lib.Pointwise
public import Idealize.ShloMosaic.Lib.Pipeline.ValueKit

@[expose] public section
set_option maxRecDepth 16384
noncomputable section

/-!
# Where a grid point reads and writes

Point `t` is prompt `t / 288`, head `t / 36 % 8` and pair `t % 36` of a query tile and a key tile at or before it.
-/

namespace Cert.KernelIdeal.Attn
open Cert.KernelIdeal Cert.KernelIdeal.Gen Cert.Attention
open Idealize.ShloMosaic Idealize.ShloMosaic.TcCoe Idealize.SL.Sem
open Idealize.ShloMosaic.Pipeline (Dat Cfg Window)

/-- The query tile of point `n`. -/
def iqN (n : ℕ) : ℕ := [0, 1, 1, 2, 2, 2, 3, 3, 3, 3, 4, 4, 4, 4, 4, 5, 5, 5, 5, 5, 5, 6, 6, 6, 6, 6, 6, 6, 7, 7, 7, 7, 7, 7, 7, 7].getD (n % 36) 0
/-- The key tile of point `n`. -/
def ikN (n : ℕ) : ℕ := [0, 0, 1, 0, 1, 2, 0, 1, 2, 3, 0, 1, 2, 3, 4, 0, 1, 2, 3, 4, 5, 0, 1, 2, 3, 4, 5, 6, 0, 1, 2, 3, 4, 5, 6, 7].getD (n % 36) 0

theorem iqN_lt (n : ℕ) : iqN n < 8 :=
  (by decide : ∀ k : Fin 36, iqN k.val < 8) ⟨n % 36, Nat.mod_lt _ (by norm_num)⟩ |> fun h => by simpa only [iqN, Nat.mod_mod] using h
theorem ikN_le (n : ℕ) : ikN n ≤ iqN n :=
  (by decide : ∀ k : Fin 36, ikN k.val ≤ iqN k.val) ⟨n % 36, Nat.mod_lt _ (by norm_num)⟩ |> fun h => by simpa only [iqN, ikN, Nat.mod_mod] using h

theorem N_A : (cfgA).N = 576 := by decide +kernel

set_option maxHeartbeats 4000000 in
theorem words : ∀ t : Fin (cfgA).N, iqW (crd t) pinT_0 = BitVec.ofNat 32 (iqN t.val) ∧ ikW (crd t) pinT_1 = BitVec.ofNat 32 (ikN t.val)
    ∧ k0_off2 (crd t) = ![t.val / 36 % 8] := by decide +kernel

set_option maxHeartbeats 4000000 in
theorem paths : ∀ t : Fin (cfgA).N, (P0_0 t ↔ ikN t.val = 0) ∧ (P0_1 t ↔ ikN t.val = iqN t.val) := by decide +kernel

set_option maxHeartbeats 4000000 in
theorem places : ∀ t : Fin (cfgA).N, ((cfgA).win (0 : Fin 7)).index t = ![0]
    ∧ ((cfgA).win (1 : Fin 7)).index t = ![t.val / 288 * 8 + iqN t.val, t.val / 36 % 8]
    ∧ ((cfgA).win (2 : Fin 7)).index t = ![t.val / 288 * 8 + ikN t.val, 8 + t.val / 36 % 8]
    ∧ ((cfgA).win (3 : Fin 7)).index t = ![t.val / 288 * 8 + ikN t.val, 16 + t.val / 36 % 8]
    ∧ ((cfgA).win (4 : Fin 7)).index t = ![0, 0]
    ∧ ((cfgA).win (5 : Fin 7)).index t = ![t.val / 36 % 8, 0, 0]
    ∧ ((cfgA).win (6 : Fin 7)).index t = ![t.val / 288 * 8 + iqN t.val, t.val / 36 % 8] := by decide +kernel

end Cert.KernelIdeal.Attn
end
-- ==== Proof.Attn.Entries.lean ====
module

public import proofs.«01_k».proof.Proof.Attn.Blocks
public import proofs.«01_k».proof.Proof.Attn.RefAt
public import Idealize.ShloMosaic.Lib.Claim

@[expose] public section
set_option maxRecDepth 16384
noncomputable section

/-!
# What a grid point's blocks hold, in the call's arguments
-/

namespace Cert.KernelIdeal.Attn
open Cert.KernelIdeal Cert.KernelIdeal.Gen Cert.Attention
open Cert.ReferenceIdeal.Attn (slopeOf)
open Idealize.ShloMosaic Idealize.ShloMosaic.TcCoe Idealize.SL.Sem
open Idealize.ShloMosaic.Pipeline (Dat Cfg Window)
variable (m : (ℓ : Loc nD τ sig) → Buf (Elt Ideal) ℓ)

/-- The row of the array a query of point `t`'s tile is. -/
def qRow (t : Fin (cfgA).N) (r : Fin 512) : Fin 8448 :=
  ⟨4096 * (t.val / 288) + (512 * iqN t.val + r.val), by have := t.isLt; have : (cfgA).N = 576 := N_A; have := iqN_lt t.val; omega⟩
/-- The row of the array a key of point `t`'s tile is. -/
def kRow (t : Fin (cfgA).N) (r : Fin 512) : Fin 8448 :=
  ⟨4096 * (t.val / 288) + (512 * ikN t.val + r.val), by have := t.isLt; have : (cfgA).N = 576 := N_A; have := iqN_lt t.val; have := ikN_le t.val; omega⟩

theorem q_at (c : Dev nD) (t : Fin (cfgA).N) (r : Fin 512) (e : Fin 256) :
    iblk m c (1 : Fin 7) t (ix2 r e) = m ((c : Thread nD τ).loc main_arg0) (ix2 (qRow t r) ⟨256 * (t.val / 36 % 8) + e.val, by omega⟩) := by
  blk_simp [iblk, (places t).2.1]
  entry_read
  pointwise
  unfold qRow
  blk_ext [(places t).2.1]

theorem k_at (c : Dev nD) (t : Fin (cfgA).N) (r : Fin 512) (e : Fin 256) :
    iblk m c (2 : Fin 7) t (ix2 r e) = m ((c : Thread nD τ).loc main_arg0) (ix2 (kRow t r) ⟨2048 + (256 * (t.val / 36 % 8) + e.val), by omega⟩) := by
  blk_simp [iblk, (places t).2.2.1]
  entry_read
  pointwise
  unfold kRow
  blk_ext [(places t).2.2.1]

theorem v_at (c : Dev nD) (t : Fin (cfgA).N) (r : Fin 512) (e : Fin 256) :
    iblk m c (3 : Fin 7) t (ix2 r e) = m ((c : Thread nD τ).loc main_arg0) (ix2 (kRow t r) ⟨4096 + (256 * (t.val / 36 % 8) + e.val), by omega⟩) := by
  blk_simp [iblk, (places t).2.2.2.1]
  entry_read
  pointwise
  unfold kRow
  blk_ext [(places t).2.2.2.1]

theorem lam_at (c : Dev nD) (t : Fin (cfgA).N) (r : Fin 4) (e : Fin 128) :
    iblk m c (4 : Fin 7) t (ix2 r e) = m ((c : Thread nD τ).loc main_arg2) (ix2 r e) := by
  blk_simp [iblk, (places t).2.2.2.2.1]
  entry_read
  blk_ext [(places t).2.2.2.2.1]

theorem g_at (c : Dev nD) (t : Fin (cfgA).N) (e : Fin 256) :
    iblk m c (5 : Fin 7) t (ix3 0 0 e) = m ((c : Thread nD τ).loc main_arg3) (ix2 ⟨t.val / 36 % 8, by omega⟩ e) := by
  blk_simp [iblk, (places t).2.2.2.2.2.1]
  entry_read
  pointwise
  blk_ext [(places t).2.2.2.2.2.1]

theorem sl_at (c : Dev nD) (t : Fin (cfgA).N) (h : Fin 8) :
    iblk m c (0 : Fin 7) t (ix1 h) = slopeOf h.val := by
  blk_simp [iblk, (places t).1]
  entry_read
  pointwise
  unfold slopeOf
  blk_ext [(places t).1]

end Cert.KernelIdeal.Attn
end
-- ==== Proof.Attn.Points.lean ====
module

public import proofs.«01_k».proof.Proof.Attn.Entries
public import proofs.«01_k».proof.Proof.Attn.Scores

@[expose] public section
set_option maxRecDepth 16384
noncomputable section

/-!
# What a grid point's tile of scores is

The tile of point `t` holds the scores of the queries of its query tile for the keys of its key tile.
-/

namespace Cert.KernelIdeal.Attn
open Cert.KernelIdeal Cert.KernelIdeal.Gen Cert.Attention
open Cert.ReferenceIdeal.Attn (slopeOf)
open Idealize.ShloMosaic Idealize.ShloMosaic.TcCoe Idealize.SL.Sem
open Idealize.ShloMosaic.Pipeline (Dat Cfg Window)
variable (m : (ℓ : Loc nD τ sig) → Buf (Elt Ideal) ℓ)

/-- The prompt of point `t`. -/
def pb (t : Fin (cfgA).N) : Fin 2 := ⟨t.val / 288, by have := t.isLt; have : (cfgA).N = 576 := N_A; omega⟩
/-- The head of point `t`. -/
def ph (t : Fin (cfgA).N) : Fin 8 := ⟨t.val / 36 % 8, by omega⟩
/-- The position of query `r` of point `t`'s tile. -/
def pq (t : Fin (cfgA).N) (r : Fin 512) : Fin 4096 := ⟨512 * iqN t.val + r.val, by have := iqN_lt t.val; omega⟩
/-- The position of key `r` of point `t`'s tile. -/
def pk (t : Fin (cfgA).N) (r : Fin 512) : Fin 4096 := ⟨512 * ikN t.val + r.val, by have := iqN_lt t.val; have := ikN_le t.val; omega⟩
/-- The projections' array, from memory. -/
abbrev arr (c : Dev nD) : Arr := m ((c : Thread nD τ).loc main_arg0)

theorem qRow_eq (t : Fin (cfgA).N) (r : Fin 512) : qRow t r = row (pb t) (pq t r) := rfl
theorem kRow_eq (t : Fin (cfgA).N) (r : Fin 512) : kRow t r = row (pb t) (pk t r) := rfl

theorem slope_at (c : Dev nD) (t : Fin (cfgA).N) : slW (crd t) (iblk m c (0 : Fin 7) t) = slopeOf (t.val / 36 % 8) :=
  (View.ld_unit_apply_of (iblk m c (0 : Fin 7) t) _ _ _ _ (ix1 (ph t)) (by
    intro a; fin_cases a
    show (ph t).val = k0_off2 (crd t) 0 + 0
    rw [congrFun (words t).2.2 0]; rfl)).trans (sl_at m c t (ph t))

theorem pay9_eq (q : Vec Ideal S512x256 .f32) (r : Fin 512) (e : Fin 256) : k0_pay9 q (ix2 r e) = q (ix2 r e) := by
  pointwise [k0_pay9]
theorem pay10_eq (q : Vec Ideal S512x256 .f32) (r : Fin 512) (e : Fin 256) : k0_pay10 q (ix2 r e) = q (ix2 r e) := by
  pointwise [k0_pay10]

theorem scores_pk (a : Arr) (j b : Fin 2) (h : Fin 8) (q : Fin 4096) (t : Fin (cfgA).N) (r : Fin 512) :
    scores a j b h q (512 * ikN t.val + r.val) = scoreAt a j b h q (pk t r) := by
  exact dif_pos (pk t r).isLt

theorem vals_at (a : Arr) (b : Fin 2) (h : Fin 8) (e : Fin 256) (t : Fin (cfgA).N) (r : Fin 512) :
    vals a b h e (512 * ikN t.val + r.val) = a (ix2 (row b (pk t r)) ⟨4096 + (256 * h.val + e.val), by omega⟩) :=
  dif_pos (pk t r).isLt

theorem vals_pk (c : Dev nD) (t : Fin (cfgA).N) (r : Fin 512) (e : Fin 256) :
    iblk m c (3 : Fin 7) t (ix2 r e) = vals (arr m c) (pb t) (ph t) e (512 * ikN t.val + r.val) := by
  rw [vals_at, v_at, kRow_eq]; rfl

theorem tile_at (c : Dev nD) (t : Fin (cfgA).N) (j : Fin 2) (r k : Fin 512) :
    tile j (iqW (crd t) pinT_0) (ikW (crd t) pinT_1) (slW (crd t) (iblk m c (0 : Fin 7) t)) (iblk m c (1 : Fin 7) t) (iblk m c (2 : Fin 7) t) (ix2 r k)
      = scores (arr m c) j (pb t) (ph t) (pq t r) (512 * ikN t.val + k.val) := by
  rw [scores_pk, slope_at, (words t).1, (words t).2.1]
  unfold scoreAt
  fin_cases j
  · show tile0 _ _ _ _ _ _ = _
    unfold tile0
    rw [pay18_at, pay17_at, pay14_at]
    refine congrArg (fun z : EReal => Scalar.select _ (z * _ + _) (⊥ : EReal)) (Finset.sum_congr rfl fun e _ => ?_)
    rw [pay9_eq, pay10_eq, q_at, k_at, qRow_eq, kRow_eq]
    refine congrArg₂ (fun x y : EReal => x * y) (congrArg (fun z => arr m c (ix2 _ z)) (Fin.ext ?_)) (congrArg (fun z => arr m c (ix2 _ z)) (Fin.ext ?_)) <;>
      simp [ph]
  · show tile1 _ _ _ _ _ _ = _
    unfold tile1
    rw [pay28_at, pay17_at, pay14_at]
    refine congrArg (fun z : EReal => Scalar.select _ (z * _ + _) (⊥ : EReal)) (Finset.sum_congr rfl fun e _ => ?_)
    rw [pay9_eq, pay10_eq, q_at, k_at, qRow_eq, kRow_eq]
    refine congrArg₂ (fun x y : EReal => x * y) (congrArg (fun z => arr m c (ix2 _ z)) (Fin.ext ?_)) (congrArg (fun z => arr m c (ix2 _ z)) (Fin.ext ?_)) <;>
      simp [ph]

end Cert.KernelIdeal.Attn
end
-- ==== Proof.Attn.Traj.lean ====
module

public import proofs.«01_k».proof.Proof.Attn.Points

@[expose] public section
set_option maxRecDepth 16384
noncomputable section

/-!
# What the scratch buffers hold after every grid point

After point `t` they hold, for every query of its tile, the largest score, the sum of exponentials and the weighted sum
of the values of all keys up to the end of its key tile. The proof is an induction over the points: a point whose key
tile is the first starts afresh, any other follows the point of the key tile before.
-/

namespace Cert.KernelIdeal.Attn
open Cert.KernelIdeal Cert.KernelIdeal.Gen Cert.Attention
open Idealize.ShloMosaic Idealize.ShloMosaic.TcCoe Idealize.SL.Sem
open Idealize.ShloMosaic.Pipeline (Dat Cfg Window)
variable (m : (ℓ : Loc nD τ sig) → Buf (Elt Ideal) ℓ)

/-- The scores of query `r` of point `t`'s tile. -/
abbrev sc (c : Dev nD) (t : Fin (cfgA).N) (j : Fin 2) (r : Fin 512) : ℕ → EReal := scores (arr m c) j (pb t) (ph t) (pq t r)
/-- The values of point `t`'s head. -/
abbrev vl (c : Dev nD) (t : Fin (cfgA).N) (e : Fin 256) : ℕ → EReal := vals (arr m c) (pb t) (ph t) e

/-- Three buffers hold the three quantities of the first `n` keys, for point `t`'s queries. -/
def Holds (c : Dev nD) (t : Fin (cfgA).N) (n : ℕ) (x : (S512x256.Idx → Elt Ideal .f32) × Buf (Elt Ideal) ((c : Thread nD τ).loc cc0_scratch0) × Buf (Elt Ideal) ((c : Thread nD τ).loc cc0_scratch1) × Buf (Elt Ideal) ((c : Thread nD τ).loc cc0_scratch2)) : Prop :=
  (∀ (j : Fin 2) (r : Fin 512) (k : Fin 128), x.2.1 (ix3 j r k) = preM (sc m c t j r) n)
  ∧ (∀ (j : Fin 2) (r : Fin 512) (k : Fin 128), x.2.2.1 (ix3 j r k) = preL (sc m c t j r) n)
  ∧ (∀ (j : Fin 2) (r : Fin 512) (e : Fin 256), x.2.2.2 (ix3 j r e) = preA (sc m c t j r) (vl m c t e) n)

/-- A row of the output block: the difference of the two maps' weighted sums, normed. -/
def outRow (c : Dev nD) (t : Fin (cfgA).N) (n : ℕ) (r : Fin 512) (d : Fin 256) : EReal :=
  normHead (fun e => Ideal.div (preA (sc m c t 0 r) (vl m c t e) n) (preL (sc m c t 0 r) n)
      - lamOf (fun i e => m ((c : Thread nD τ).loc main_arg2) (ix2 i e)) * Ideal.div (preA (sc m c t 1 r) (vl m c t e) n) (preL (sc m c t 1 r) n))
    (fun e => m ((c : Thread nD τ).loc main_arg3) (ix2 (ph t) e)) d

theorem tile_fn (c : Dev nD) (t : Fin (cfgA).N) (j : Fin 2) (r : Fin 512) :
    (fun k : Fin 512 => tile j (iqW (crd t) pinT_0) (ikW (crd t) pinT_1) (slW (crd t) (iblk m c (0 : Fin 7) t)) (iblk m c (1 : Fin 7) t) (iblk m c (2 : Fin 7) t) (ix2 r k))
      = fun k => sc m c t j r (512 * ikN t.val + k.val) := funext fun k => tile_at m c t j r k
theorem vals_fn (c : Dev nD) (t : Fin (cfgA).N) (e : Fin 256) :
    (fun k : Fin 512 => iblk m c (3 : Fin 7) t (ix2 k e)) = fun k => vl m c t e (512 * ikN t.val + k.val) := funext fun k => vals_pk m c t k e

theorem lam_fn (c : Dev nD) (t : Fin (cfgA).N) :
    (fun (i : Fin 4) (e : Fin 128) => iblk m c (4 : Fin 7) t (ix2 i e)) = fun i e => m ((c : Thread nD τ).loc main_arg2) (ix2 i e) :=
  funext fun i => funext fun e => lam_at m c t i e

variable {m}
/-- One tile's step of the largest score. -/
theorem stepM {c : Dev nD} {t : Fin (cfgA).N} (j : Fin 2) (r : Fin 512) {x : EReal} (hx : x = preM (sc m c t j r) (512 * ikN t.val)) :
    newM (fun k : Fin 512 => tile j (iqW (crd t) pinT_0) (ikW (crd t) pinT_1) (slW (crd t) (iblk m c (0 : Fin 7) t)) (iblk m c (1 : Fin 7) t) (iblk m c (2 : Fin 7) t) (ix2 r k)) x
      = preM (sc m c t j r) (512 * ikN t.val + 512) := by
  rw [tile_fn, hx, newM_pre]
/-- One tile's step of the sum of exponentials. -/
theorem stepL {c : Dev nD} {t : Fin (cfgA).N} (ha : Finite (arr m c)) (j : Fin 2) (r : Fin 512) {x y : EReal} (hx : x = preM (sc m c t j r) (512 * ikN t.val))
    (hy : y = preL (sc m c t j r) (512 * ikN t.val)) :
    newL (fun k : Fin 512 => tile j (iqW (crd t) pinT_0) (ikW (crd t) pinT_1) (slW (crd t) (iblk m c (0 : Fin 7) t)) (iblk m c (1 : Fin 7) t) (iblk m c (2 : Fin 7) t) (ix2 r k)) x y
      = preL (sc m c t j r) (512 * ikN t.val + 512) := by
  rw [tile_fn, hx, hy, newL_pre (scores_isScore ha _ _ _ _) (scores_first ha _ _ _ _)]
/-- One tile's step of the weighted sum. -/
theorem stepA {c : Dev nD} {t : Fin (cfgA).N} (ha : Finite (arr m c)) (j : Fin 2) (r : Fin 512) (e : Fin 256) {x y : EReal} (hx : x = preM (sc m c t j r) (512 * ikN t.val))
    (hy : y = preA (sc m c t j r) (vl m c t e) (512 * ikN t.val)) :
    newA (fun k : Fin 512 => tile j (iqW (crd t) pinT_0) (ikW (crd t) pinT_1) (slW (crd t) (iblk m c (0 : Fin 7) t)) (iblk m c (1 : Fin 7) t) (iblk m c (2 : Fin 7) t) (ix2 r k)) x y
        (fun k => iblk m c (3 : Fin 7) t (ix2 k e))
      = preA (sc m c t j r) (vl m c t e) (512 * ikN t.val + 512) := by
  rw [tile_fn, vals_fn, hx, hy, newA_pre (scores_isScore ha _ _ _ _) (scores_first ha _ _ _ _) (vals_real ha _ _ _)]

theorem startM (S : ℕ → EReal) {n : ℕ} (hn : n = 0) : (⊥ : EReal) = preM S (512 * n) := by subst hn; simp [preM]
theorem startL (S : ℕ → EReal) {n : ℕ} (hn : n = 0) : (0 : EReal) = preL S (512 * n) := by subst hn; simp [preL]
theorem startA (S V : ℕ → EReal) {n : ℕ} (hn : n = 0) : (0 : EReal) = preA S V (512 * n) := by subst hn; simp [preA]

/-- The scratch buffers after a point of path A. -/
theorem holds_A (c : Dev nD) (t : Fin (cfgA).N) (ha : Finite (arr m c)) (x) (q0 : P0_0 t) (q1 : P0_1 t) (h0 : ikN t.val = 0) :
    Holds m c t (512 * ikN t.val + 512) (step0 m c t x) := by
  have e := step0_A m c t x q0 q1
  refine ⟨Fin.forall_fin_two.mpr ⟨fun r k => ?_, fun r k => ?_⟩, Fin.forall_fin_two.mpr ⟨fun r k => ?_, fun r k => ?_⟩, Fin.forall_fin_two.mpr ⟨fun r e' => ?_, fun r e' => ?_⟩⟩
  · rw [e]
    dsimp only
    rw [m0_A c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) pinT_0 pinT_1 (iblk m c (0 : Fin 7) t) (iblk m c (1 : Fin 7) t) (iblk m c (2 : Fin 7) t) (iblk m c (3 : Fin 7) t) (iblk m c (4 : Fin 7) t) (iblk m c (5 : Fin 7) t) (hypsR0_A t q0 q1).1 (hypsR0_A t q0 q1).2.1 r k]
    rw [stepM 0 r (startM _ h0)]
  · rw [e]
    dsimp only
    rw [m1_A c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) pinT_0 pinT_1 (iblk m c (0 : Fin 7) t) (iblk m c (1 : Fin 7) t) (iblk m c (2 : Fin 7) t) (iblk m c (3 : Fin 7) t) (iblk m c (4 : Fin 7) t) (iblk m c (5 : Fin 7) t) (hypsR0_A t q0 q1).1 (hypsR0_A t q0 q1).2.1 r k]
    rw [stepM 1 r (startM _ h0)]
  · rw [e]
    dsimp only
    rw [l0_A c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) pinT_0 pinT_1 (iblk m c (0 : Fin 7) t) (iblk m c (1 : Fin 7) t) (iblk m c (2 : Fin 7) t) (iblk m c (3 : Fin 7) t) (iblk m c (4 : Fin 7) t) (iblk m c (5 : Fin 7) t) (hypsR0_A t q0 q1).1 (hypsR0_A t q0 q1).2.1 r k]
    rw [stepL ha 0 r (startM _ h0) (startL _ h0)]
  · rw [e]
    dsimp only
    rw [l1_A c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) pinT_0 pinT_1 (iblk m c (0 : Fin 7) t) (iblk m c (1 : Fin 7) t) (iblk m c (2 : Fin 7) t) (iblk m c (3 : Fin 7) t) (iblk m c (4 : Fin 7) t) (iblk m c (5 : Fin 7) t) (hypsR0_A t q0 q1).1 (hypsR0_A t q0 q1).2.1 r k]
    rw [stepL ha 1 r (startM _ h0) (startL _ h0)]
  · rw [e]
    dsimp only
    rw [a0_A c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) pinT_0 pinT_1 (iblk m c (0 : Fin 7) t) (iblk m c (1 : Fin 7) t) (iblk m c (2 : Fin 7) t) (iblk m c (3 : Fin 7) t) (iblk m c (4 : Fin 7) t) (iblk m c (5 : Fin 7) t) (hypsR0_A t q0 q1).1 (hypsR0_A t q0 q1).2.1 r e']
    rw [stepA ha 0 r e' (startM _ h0) (startA _ _ h0)]
  · rw [e]
    dsimp only
    rw [a1_A c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) pinT_0 pinT_1 (iblk m c (0 : Fin 7) t) (iblk m c (1 : Fin 7) t) (iblk m c (2 : Fin 7) t) (iblk m c (3 : Fin 7) t) (iblk m c (4 : Fin 7) t) (iblk m c (5 : Fin 7) t) (hypsR0_A t q0 q1).1 (hypsR0_A t q0 q1).2.1 r e']
    rw [stepA ha 1 r e' (startM _ h0) (startA _ _ h0)]

/-- The output block after a point of path A. -/
theorem out_row_A (c : Dev nD) (t : Fin (cfgA).N) (ha : Finite (arr m c)) (x) (q0 : P0_0 t) (q1 : P0_1 t) (h0 : ikN t.val = 0) (r : Fin 512) (d : Fin 256) :
    (step0 m c t x).1 (ix2 r d) = outRow m c t (512 * ikN t.val + 512) r d := by
  rw [step0_A m c t x q0 q1]
  dsimp only
  rw [out_A c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) pinT_0 pinT_1 (iblk m c (0 : Fin 7) t) (iblk m c (1 : Fin 7) t) (iblk m c (2 : Fin 7) t) (iblk m c (3 : Fin 7) t) (iblk m c (4 : Fin 7) t) (iblk m c (5 : Fin 7) t) (hypsR0_A t q0 q1).1 (hypsR0_A t q0 q1).2.1 r d]
  unfold outRow
  refine congrArg₂ (fun f g => normHead f g d) (funext fun e => ?_) (funext fun e => g_at m c t e)
  rw [stepA ha 0 r e (startM _ h0) (startA _ _ h0), stepL ha 0 r (startM _ h0) (startL _ h0), stepA ha 1 r e (startM _ h0) (startA _ _ h0), stepL ha 1 r (startM _ h0) (startL _ h0), lam_fn]

/-- The scratch buffers after a point of path B. -/
theorem holds_B (c : Dev nD) (t : Fin (cfgA).N) (ha : Finite (arr m c)) (x) (q0 : P0_0 t) (q1 : ¬P0_1 t) (h0 : ikN t.val = 0) :
    Holds m c t (512 * ikN t.val + 512) (step0 m c t x) := by
  have e := step0_B m c t x q0 q1
  refine ⟨Fin.forall_fin_two.mpr ⟨fun r k => ?_, fun r k => ?_⟩, Fin.forall_fin_two.mpr ⟨fun r k => ?_, fun r k => ?_⟩, Fin.forall_fin_two.mpr ⟨fun r e' => ?_, fun r e' => ?_⟩⟩
  · rw [e]
    dsimp only
    rw [m0_B c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) pinT_0 pinT_1 (iblk m c (0 : Fin 7) t) (iblk m c (1 : Fin 7) t) (iblk m c (2 : Fin 7) t) (iblk m c (3 : Fin 7) t) (iblk m c (4 : Fin 7) t) (iblk m c (5 : Fin 7) t) (hypsR0_B t q0 q1).1 (hypsR0_B t q0 q1).2.1 r k]
    rw [stepM 0 r (startM _ h0)]
  · rw [e]
    dsimp only
    rw [m1_B c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) pinT_0 pinT_1 (iblk m c (0 : Fin 7) t) (iblk m c (1 : Fin 7) t) (iblk m c (2 : Fin 7) t) (iblk m c (3 : Fin 7) t) (iblk m c (4 : Fin 7) t) (iblk m c (5 : Fin 7) t) (hypsR0_B t q0 q1).1 (hypsR0_B t q0 q1).2.1 r k]
    rw [stepM 1 r (startM _ h0)]
  · rw [e]
    dsimp only
    rw [l0_B c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) pinT_0 pinT_1 (iblk m c (0 : Fin 7) t) (iblk m c (1 : Fin 7) t) (iblk m c (2 : Fin 7) t) (iblk m c (3 : Fin 7) t) (iblk m c (4 : Fin 7) t) (iblk m c (5 : Fin 7) t) (hypsR0_B t q0 q1).1 (hypsR0_B t q0 q1).2.1 r k]
    rw [stepL ha 0 r (startM _ h0) (startL _ h0)]
  · rw [e]
    dsimp only
    rw [l1_B c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) pinT_0 pinT_1 (iblk m c (0 : Fin 7) t) (iblk m c (1 : Fin 7) t) (iblk m c (2 : Fin 7) t) (iblk m c (3 : Fin 7) t) (iblk m c (4 : Fin 7) t) (iblk m c (5 : Fin 7) t) (hypsR0_B t q0 q1).1 (hypsR0_B t q0 q1).2.1 r k]
    rw [stepL ha 1 r (startM _ h0) (startL _ h0)]
  · rw [e]
    dsimp only
    rw [a0_B c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) pinT_0 pinT_1 (iblk m c (0 : Fin 7) t) (iblk m c (1 : Fin 7) t) (iblk m c (2 : Fin 7) t) (iblk m c (3 : Fin 7) t) (iblk m c (4 : Fin 7) t) (iblk m c (5 : Fin 7) t) (hypsR0_B t q0 q1).1 (hypsR0_B t q0 q1).2.1 r e']
    rw [stepA ha 0 r e' (startM _ h0) (startA _ _ h0)]
  · rw [e]
    dsimp only
    rw [a1_B c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) pinT_0 pinT_1 (iblk m c (0 : Fin 7) t) (iblk m c (1 : Fin 7) t) (iblk m c (2 : Fin 7) t) (iblk m c (3 : Fin 7) t) (iblk m c (4 : Fin 7) t) (iblk m c (5 : Fin 7) t) (hypsR0_B t q0 q1).1 (hypsR0_B t q0 q1).2.1 r e']
    rw [stepA ha 1 r e' (startM _ h0) (startA _ _ h0)]

/-- The scratch buffers after a point of path C. -/
theorem holds_C (c : Dev nD) (t : Fin (cfgA).N) (ha : Finite (arr m c)) (x) (q0 : ¬P0_0 t) (q1 : P0_1 t) (hp : Holds m c t (512 * ikN t.val) x) :
    Holds m c t (512 * ikN t.val + 512) (step0 m c t x) := by
  have hl : ∀ (j : Fin 2) (r : Fin 512) (k : Fin 128), x.2.1 (ix3 j r k) = x.2.1 (ix3 j r 0) := fun j r k => (hp.1 j r k).trans (hp.1 j r 0).symm
  have e := step0_C m c t x q0 q1
  refine ⟨Fin.forall_fin_two.mpr ⟨fun r k => ?_, fun r k => ?_⟩, Fin.forall_fin_two.mpr ⟨fun r k => ?_, fun r k => ?_⟩, Fin.forall_fin_two.mpr ⟨fun r e' => ?_, fun r e' => ?_⟩⟩
  · rw [e]
    dsimp only
    rw [m0_C c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) pinT_0 pinT_1 (iblk m c (0 : Fin 7) t) (iblk m c (1 : Fin 7) t) (iblk m c (2 : Fin 7) t) (iblk m c (3 : Fin 7) t) (iblk m c (4 : Fin 7) t) (iblk m c (5 : Fin 7) t) x.2.1 x.2.2.1 x.2.2.2 (hypsR0_C t q0 q1).1 (hypsR0_C t q0 q1).2.1 r k]
    rw [stepM 0 r (hp.1 0 r k)]
  · rw [e]
    dsimp only
    rw [m1_C c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) pinT_0 pinT_1 (iblk m c (0 : Fin 7) t) (iblk m c (1 : Fin 7) t) (iblk m c (2 : Fin 7) t) (iblk m c (3 : Fin 7) t) (iblk m c (4 : Fin 7) t) (iblk m c (5 : Fin 7) t) x.2.1 x.2.2.1 x.2.2.2 (hypsR0_C t q0 q1).1 (hypsR0_C t q0 q1).2.1 r k]
    rw [stepM 1 r (hp.1 1 r k)]
  · rw [e]
    dsimp only
    rw [l0_C c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) pinT_0 pinT_1 (iblk m c (0 : Fin 7) t) (iblk m c (1 : Fin 7) t) (iblk m c (2 : Fin 7) t) (iblk m c (3 : Fin 7) t) (iblk m c (4 : Fin 7) t) (iblk m c (5 : Fin 7) t) x.2.1 x.2.2.1 x.2.2.2 (hypsR0_C t q0 q1).1 (hypsR0_C t q0 q1).2.1 hl r k]
    rw [stepL ha 0 r (hp.1 0 r 0) (hp.2.1 0 r k)]
  · rw [e]
    dsimp only
    rw [l1_C c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) pinT_0 pinT_1 (iblk m c (0 : Fin 7) t) (iblk m c (1 : Fin 7) t) (iblk m c (2 : Fin 7) t) (iblk m c (3 : Fin 7) t) (iblk m c (4 : Fin 7) t) (iblk m c (5 : Fin 7) t) x.2.1 x.2.2.1 x.2.2.2 (hypsR0_C t q0 q1).1 (hypsR0_C t q0 q1).2.1 hl r k]
    rw [stepL ha 1 r (hp.1 1 r 0) (hp.2.1 1 r k)]
  · rw [e]
    dsimp only
    rw [a0_C c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) pinT_0 pinT_1 (iblk m c (0 : Fin 7) t) (iblk m c (1 : Fin 7) t) (iblk m c (2 : Fin 7) t) (iblk m c (3 : Fin 7) t) (iblk m c (4 : Fin 7) t) (iblk m c (5 : Fin 7) t) x.2.1 x.2.2.1 x.2.2.2 (hypsR0_C t q0 q1).1 (hypsR0_C t q0 q1).2.1 r e']
    rw [stepA ha 0 r e' (hp.1 0 r 0) (hp.2.2 0 r e')]
  · rw [e]
    dsimp only
    rw [a1_C c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) pinT_0 pinT_1 (iblk m c (0 : Fin 7) t) (iblk m c (1 : Fin 7) t) (iblk m c (2 : Fin 7) t) (iblk m c (3 : Fin 7) t) (iblk m c (4 : Fin 7) t) (iblk m c (5 : Fin 7) t) x.2.1 x.2.2.1 x.2.2.2 (hypsR0_C t q0 q1).1 (hypsR0_C t q0 q1).2.1 r e']
    rw [stepA ha 1 r e' (hp.1 1 r 0) (hp.2.2 1 r e')]

/-- The output block after a point of path C. -/
theorem out_row_C (c : Dev nD) (t : Fin (cfgA).N) (ha : Finite (arr m c)) (x) (q0 : ¬P0_0 t) (q1 : P0_1 t) (hp : Holds m c t (512 * ikN t.val) x) (r : Fin 512) (d : Fin 256) :
    (step0 m c t x).1 (ix2 r d) = outRow m c t (512 * ikN t.val + 512) r d := by
  have hl : ∀ (j : Fin 2) (r : Fin 512) (k : Fin 128), x.2.1 (ix3 j r k) = x.2.1 (ix3 j r 0) := fun j r k => (hp.1 j r k).trans (hp.1 j r 0).symm
  rw [step0_C m c t x q0 q1]
  dsimp only
  rw [out_C c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) pinT_0 pinT_1 (iblk m c (0 : Fin 7) t) (iblk m c (1 : Fin 7) t) (iblk m c (2 : Fin 7) t) (iblk m c (3 : Fin 7) t) (iblk m c (4 : Fin 7) t) (iblk m c (5 : Fin 7) t) x.2.1 x.2.2.1 x.2.2.2 (hypsR0_C t q0 q1).1 (hypsR0_C t q0 q1).2.1 hl r d]
  unfold outRow
  refine congrArg₂ (fun f g => normHead f g d) (funext fun e => ?_) (funext fun e => g_at m c t e)
  rw [stepA ha 0 r e (hp.1 0 r 0) (hp.2.2 0 r e), stepL ha 0 r (hp.1 0 r 0) (hp.2.1 0 r 0), stepA ha 1 r e (hp.1 1 r 0) (hp.2.2 1 r e), stepL ha 1 r (hp.1 1 r 0) (hp.2.1 1 r 0), lam_fn]

/-- The scratch buffers after a point of path D. -/
theorem holds_D (c : Dev nD) (t : Fin (cfgA).N) (ha : Finite (arr m c)) (x) (q0 : ¬P0_0 t) (q1 : ¬P0_1 t) (hp : Holds m c t (512 * ikN t.val) x) :
    Holds m c t (512 * ikN t.val + 512) (step0 m c t x) := by
  have hl : ∀ (j : Fin 2) (r : Fin 512) (k : Fin 128), x.2.1 (ix3 j r k) = x.2.1 (ix3 j r 0) := fun j r k => (hp.1 j r k).trans (hp.1 j r 0).symm
  have e := step0_D m c t x q0 q1
  refine ⟨Fin.forall_fin_two.mpr ⟨fun r k => ?_, fun r k => ?_⟩, Fin.forall_fin_two.mpr ⟨fun r k => ?_, fun r k => ?_⟩, Fin.forall_fin_two.mpr ⟨fun r e' => ?_, fun r e' => ?_⟩⟩
  · rw [e]
    dsimp only
    rw [m0_D c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) pinT_0 pinT_1 (iblk m c (0 : Fin 7) t) (iblk m c (1 : Fin 7) t) (iblk m c (2 : Fin 7) t) (iblk m c (3 : Fin 7) t) (iblk m c (4 : Fin 7) t) (iblk m c (5 : Fin 7) t) x.2.1 x.2.2.1 x.2.2.2 (hypsR0_D t q0 q1).1 (hypsR0_D t q0 q1).2.1 r k]
    rw [stepM 0 r (hp.1 0 r k)]
  · rw [e]
    dsimp only
    rw [m1_D c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) pinT_0 pinT_1 (iblk m c (0 : Fin 7) t) (iblk m c (1 : Fin 7) t) (iblk m c (2 : Fin 7) t) (iblk m c (3 : Fin 7) t) (iblk m c (4 : Fin 7) t) (iblk m c (5 : Fin 7) t) x.2.1 x.2.2.1 x.2.2.2 (hypsR0_D t q0 q1).1 (hypsR0_D t q0 q1).2.1 r k]
    rw [stepM 1 r (hp.1 1 r k)]
  · rw [e]
    dsimp only
    rw [l0_D c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) pinT_0 pinT_1 (iblk m c (0 : Fin 7) t) (iblk m c (1 : Fin 7) t) (iblk m c (2 : Fin 7) t) (iblk m c (3 : Fin 7) t) (iblk m c (4 : Fin 7) t) (iblk m c (5 : Fin 7) t) x.2.1 x.2.2.1 x.2.2.2 (hypsR0_D t q0 q1).1 (hypsR0_D t q0 q1).2.1 hl r k]
    rw [stepL ha 0 r (hp.1 0 r 0) (hp.2.1 0 r k)]
  · rw [e]
    dsimp only
    rw [l1_D c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) pinT_0 pinT_1 (iblk m c (0 : Fin 7) t) (iblk m c (1 : Fin 7) t) (iblk m c (2 : Fin 7) t) (iblk m c (3 : Fin 7) t) (iblk m c (4 : Fin 7) t) (iblk m c (5 : Fin 7) t) x.2.1 x.2.2.1 x.2.2.2 (hypsR0_D t q0 q1).1 (hypsR0_D t q0 q1).2.1 hl r k]
    rw [stepL ha 1 r (hp.1 1 r 0) (hp.2.1 1 r k)]
  · rw [e]
    dsimp only
    rw [a0_D c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) pinT_0 pinT_1 (iblk m c (0 : Fin 7) t) (iblk m c (1 : Fin 7) t) (iblk m c (2 : Fin 7) t) (iblk m c (3 : Fin 7) t) (iblk m c (4 : Fin 7) t) (iblk m c (5 : Fin 7) t) x.2.1 x.2.2.1 x.2.2.2 (hypsR0_D t q0 q1).1 (hypsR0_D t q0 q1).2.1 r e']
    rw [stepA ha 0 r e' (hp.1 0 r 0) (hp.2.2 0 r e')]
  · rw [e]
    dsimp only
    rw [a1_D c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) pinT_0 pinT_1 (iblk m c (0 : Fin 7) t) (iblk m c (1 : Fin 7) t) (iblk m c (2 : Fin 7) t) (iblk m c (3 : Fin 7) t) (iblk m c (4 : Fin 7) t) (iblk m c (5 : Fin 7) t) x.2.1 x.2.2.1 x.2.2.2 (hypsR0_D t q0 q1).1 (hypsR0_D t q0 q1).2.1 r e']
    rw [stepA ha 1 r e' (hp.1 1 r 0) (hp.2.2 1 r e')]

set_option maxHeartbeats 4000000 in
/-- A point whose key tile is not the first follows the point of the same prompt, head and query tile whose key tile is
    the one before. -/
theorem pred_point : ∀ t : Fin (cfgA).N, ikN t.val ≠ 0 → t.val ≠ 0 ∧ (t.val - 1) / 288 = t.val / 288 ∧ (t.val - 1) / 36 % 8 = t.val / 36 % 8
    ∧ iqN (t.val - 1) = iqN t.val ∧ ikN (t.val - 1) + 1 = ikN t.val := by decide +kernel

/-- What is held is the same for a point of the same prompt, head and query tile. -/
theorem Holds.of_same {c : Dev nD} {t u : Fin (cfgA).N} (h1 : u.val / 288 = t.val / 288) (h2 : u.val / 36 % 8 = t.val / 36 % 8)
    (h3 : iqN u.val = iqN t.val) {n n' : ℕ} (hn : n = n') {x} (h : Holds m c u n x) : Holds m c t n' x := by
  subst hn
  have e1 : pb u = pb t := Fin.ext h1
  have e2 : ph u = ph t := Fin.ext h2
  have e3 : ∀ r, pq u r = pq t r := fun r => Fin.ext (by show 512 * iqN u.val + r.val = 512 * iqN t.val + r.val; rw [h3])
  unfold Holds sc vl at *
  simpa only [e1, e2, e3] using h

/-- The buffers before a point whose key tile is not the first. -/
theorem holds_prev {c : Dev nD} {t : Fin (cfgA).N} (h0 : ikN t.val ≠ 0)
    (ih : ∀ u : Fin (cfgA).N, u.val < t.val → Holds m c u (512 * ikN u.val + 512) (traj0 m c u.val u.isLt)) :
    Holds m c t (512 * ikN t.val) (prev0 m c t) := by
  obtain ⟨hz, h1, h2, h3, h4⟩ := pred_point t h0
  unfold prev0
  rw [dif_neg hz]
  exact (ih ⟨t.val - 1, by omega⟩ (by show t.val - 1 < t.val; omega)).of_same h1 h2 h3 (by show 512 * ikN (t.val - 1) + 512 = _; omega)

/-- After every point the buffers hold the quantities of the keys up to the end of its key tile. -/
theorem holds (c : Dev nD) (ha : Finite (arr m c)) : ∀ (n : ℕ) (h : n < (cfgA).N), Holds m c ⟨n, h⟩ (512 * ikN n + 512) (traj0 m c n h) := by
  intro n
  induction n using Nat.strong_induction_on with
  | _ n ih =>
    intro h
    have ih' : ∀ u : Fin (cfgA).N, u.val < n → Holds m c u (512 * ikN u.val + 512) (traj0 m c u.val u.isLt) := fun u hu => ih u.val hu u.isLt
    have e := traj0_eq m c ⟨n, h⟩
    rw [e]
    have hp := paths ⟨n, h⟩
    by_cases q0 : P0_0 ⟨n, h⟩ <;> by_cases q1 : P0_1 ⟨n, h⟩
    · exact holds_A c ⟨n, h⟩ ha _ q0 q1 (hp.1.mp q0)
    · exact holds_B c ⟨n, h⟩ ha _ q0 q1 (hp.1.mp q0)
    · exact holds_C c ⟨n, h⟩ ha _ q0 q1 (holds_prev (t := ⟨n, h⟩) (fun z => q0 (hp.1.mpr z)) ih')
    · exact holds_D c ⟨n, h⟩ ha _ q0 q1 (holds_prev (t := ⟨n, h⟩) (fun z => q0 (hp.1.mpr z)) ih')

/-- The output block after the last key tile of a query tile. -/
theorem out_at (c : Dev nD) (ha : Finite (arr m c)) (t : Fin (cfgA).N) (ht : ikN t.val = iqN t.val) (r : Fin 512) (d : Fin 256) :
    (traj0 m c t.val t.isLt).1 (ix2 r d) = outRow m c t (512 * ikN t.val + 512) r d := by
  rw [traj0_eq m c t]
  have hp := paths t
  by_cases q0 : P0_0 t
  · exact out_row_A c t ha _ q0 (hp.2.mpr ht) (hp.1.mp q0) r d
  · exact out_row_C c t ha _ q0 (hp.2.mpr ht) (holds_prev (fun z => q0 (hp.1.mpr z)) fun u _ => holds c ha u.val u.isLt) r d

end Cert.KernelIdeal.Attn
end
-- ==== Proof.Attn.Flush.lean ====
module

public import proofs.«01_k».proof.Proof.Attn.Blocks

@[expose] public section
set_option maxRecDepth 16384
noncomputable section

/-!
# When the result's block leaves the core

Only at the points of the diagonal, where a query tile has met its last key tile; and every block leaves at some point.
-/

namespace Cert.KernelIdeal.Attn
open Cert.KernelIdeal Cert.KernelIdeal.Gen
open Idealize.ShloMosaic Idealize.ShloMosaic.TcCoe
open Idealize.ShloMosaic.Pipeline (Dat Cfg Window)

set_option maxHeartbeats 4000000 in
theorem flush_diag : ∀ t : Fin (cfgA).N, ((cfgA).win (6 : Fin 7)).flush t = true → ikN t.val = iqN t.val := by decide +kernel

end Cert.KernelIdeal.Attn
end
-- ==== Proof.Attn.AttnValue.lean ====
module

public import proofs.«01_k».proof.Proof.Attn.RefRow
public import proofs.«01_k».proof.Proof.Attn.Traj
public import proofs.«01_k».proof.Proof.Attn.Flush

@[expose] public section
set_option maxRecDepth 16384
noncomputable section

/-!
# The attention's array is the reference's

A block leaves the core when its query tile has met the key tile of the diagonal. The keys after that are hidden from
every query of the tile, so the sums over the keys met are the sums over all keys.
-/

namespace Cert.KernelIdeal.Attn
open Cert.KernelIdeal Cert.KernelIdeal.Gen Cert.Attention
open Cert.ReferenceIdeal.Attn (attnT attn_at)
open Idealize.ShloMosaic Idealize.ShloMosaic.TcCoe Idealize.SL.Sem
open Idealize.ShloMosaic.Pipeline (Dat Cfg Window)
variable (m : (ℓ : Loc nD τ sig) → Buf (Elt Ideal) ℓ)

/-- The attention of the kernel's own arguments. -/
abbrev ATT (c : Dev nD) := attnT (m ((c : Thread nD τ).loc main_arg0)) (m ((c : Thread nD τ).loc main_arg2)) (m ((c : Thread nD τ).loc main_arg3))

/-- At the diagonal the row is the row over all keys. -/
theorem row_full (c : Dev nD) (ha : Finite (arr m c)) (t : Fin (cfgA).N) (ht : ikN t.val = iqN t.val) (r : Fin 512) (d : Fin 256) :
    outRow m c t (512 * ikN t.val + 512) r d = outRow m c t 4096 r d := by
  have hi := iqN_lt t.val
  have hn : 0 < 512 * ikN t.val + 512 := by omega
  have hN : 512 * ikN t.val + 512 ≤ 4096 := by omega
  have hb : ∀ j k, 512 * ikN t.val + 512 ≤ k → sc m c t j r k = ⊥ := fun j k hk =>
    scores_tail (arr m c) j (pb t) (ph t) (pq t r) (8 * ikN t.val + 8) k (by show 512 * iqN t.val + r.val < _; have := r.isLt; omega) (by omega)
  have hS := fun j => scores_isScore ha j (pb t) (ph t) (pq t r)
  have h0 := fun j => scores_first ha j (pb t) (ph t) (pq t r)
  unfold outRow
  refine congrArg (fun f => normHead f _ d) (funext fun e => ?_)
  rw [preL_tail (hS 0) (h0 0) hn hN (hb 0), preL_tail (hS 1) (h0 1) hn hN (hb 1),
    preA_tail (hS 0) (h0 0) hn hN (hb 0), preA_tail (hS 1) (h0 1) hn hN (hb 1)]

/-- The block that leaves at a point of the diagonal is the reference's. -/
theorem flushed_at (c : Dev nD) (ha : Finite (arr m c)) (hl : ∀ i e, IsReal (m ((c : Thread nD τ).loc main_arg2) (ix2 i e)))
    (t : Fin (cfgA).N) (ht : ikN t.val = iqN t.val) (r : Fin 512) (d : Fin 256) :
    (dats m 0 c).after (6 : Fin 7) t (ix2 r d)
      = ATT m c (ix2 ⟨4096 * (pb t).val + (pq t r).val, by omega⟩ ⟨256 * (ph t).val + d.val, by omega⟩) := by
  rw [after0_6, out_at c ha t ht r d, row_full m c ha t ht r d]
  unfold ATT
  rw [attn_at _ ha _ hl _ (pb t) (pq t r) (ph t) d]
  unfold outRow
  rfl

theorem final6 (c : Dev nD) (ha : Finite (arr m c)) (hl : ∀ i e, IsReal (m ((c : Thread nD τ).loc main_arg2) (ix2 i e))) :
    (dats m 0 c).arrAt (6 : Fin 7) (cfgA).N = ATT m c := by
  refine (dats m 0 c).arrAt_eq_of_covers (6 : Fin 7) _ (by decide +kernel) fun t hf y => ?_
  have ht := flush_diag t hf
  blk_simp
  obtain ⟨r, d, rfl⟩ : ∃ (r : Fin 512) (d : Fin 256), y = ix2 r d := ⟨y 0, y 1, eq_ix2 y⟩
  rw [flushed_at m c ha hl t ht r d]
  blk_ext [(places t).2.2.2.2.2.2]
  · simp only [pb, pq]; omega
  · simp only [ph]; omega

end Cert.KernelIdeal.Attn
end
-- ==== Proof.Attn.Finite.lean ====
module

public import proofs.«01_k».proof.Proof.Gen.Pre_finite_values
public import proofs.«01_k».proof.Proof.Attn.Scores
public import Idealize.ShloMosaic.Lib.ReduceAll

@[expose] public section
set_option maxRecDepth 16384
noncomputable section

/-!
# What the precondition says

Its two conjunctions say that the entries of the prompts' rows and of the rows behind lambda are real.
-/

namespace Cert.Attention
open Cert.Pre_finite_values
open Idealize.ShloMosaic Idealize.ShloMosaic.TcCoe

/-- A number whose absolute value is below infinity is real. -/
theorem real_of_abs {x : EReal} (h : Ideal.cmp .olt (max x (-x)) (⊤ : EReal) = 1#1) : IsReal x := by
  have h : max x (-x) < ⊤ := by
    by_contra hn
    have : Ideal.cmp .olt (max x (-x)) (⊤ : EReal) = 0#1 := by
      show BitVec.ofBool (decide (max x (-x) < ⊤)) = 0#1
      rw [decide_eq_false hn]; rfl
    rw [this] at h
    exact absurd h (by decide)
  have ht : x ≠ ⊤ := fun e => by rw [e] at h; simp at h
  have hb : x ≠ ⊥ := fun e => by rw [e] at h; simp at h
  exact ⟨_, (EReal.coe_toReal ht hb).symm⟩

instance : Subsingleton S_.Idx := ⟨fun a b => funext fun k => k.elim0⟩

theorem pre_split (a : Arr) (o : FVec Ideal S8448x2048 .f32) (l : FVec Ideal S4x128 .f32) (g : FVec Ideal S8x256 .f32)
    (h : Cert.Pre_finite_values.fn (F := Ideal) a o l g = fun _ => 1#1) : Finite a ∧ ∀ i e, IsReal (l (ix2 i e)) := by
  have h := congrFun h ix0
  dsimp only [fn] at h
  obtain ⟨h1, h2⟩ := IntOp.andi_eq_one.1 h
  refine ⟨fun b q e => ?_, fun i e => ?_⟩
  · have hp := Host.reduce_andi_all _ _ _ _ ix0 h1 (ix2 ⟨4096 * b.val + q.val, by omega⟩ e)
    refine real_of_abs (Eq.trans ?_ hp)
    pointwise
    rfl
  · have hp := Host.reduce_andi_all _ _ _ _ ix0 h2 (ix2 i e)
    refine real_of_abs (Eq.trans ?_ hp)
    pointwise
    rfl

end Cert.Attention
end
-- ==== Proof.Attn.Pair.lean ====
module

public import proofs.«01_k».proof.Defs
public import proofs.«01_k».proof.Proof.Attn.AttnValue
public import proofs.«01_k».proof.Proof.Attn.Finite
public import proofs.«01_k».proof.Proof.Gen.ReferenceIdeal.Run

@[expose] public section
set_option maxRecDepth 16384
noncomputable section

/-!
# The attention and its reference return the same array
-/

namespace Cert.Pairs
open Idealize.ShloMosaic Idealize.ShloMosaic.TcCoe Idealize.SL.Sem

theorem attn : Cert.algebraic_KernelIdeal_ReferenceIdeal_pre_finite_values (hKernelIdeal := Cert.KernelIdeal.Gen.facts)
    (hReferenceIdeal := Cert.ReferenceIdeal.Gen.facts) (hPre_finite_values := Cert.Pre_finite_values.Gen.facts) := by
  intro m g m' g' hpre hagree
  refine ⟨fun c => Cert.KernelIdeal.Attn.ATT m c, (θ_run _ _ _).mono (fun r h c => ?_) (Cert.KernelIdeal.Attn.run_main_quiescent m g),
    (θ_run _ _ _).mono (fun r h c => ?_) (Cert.ReferenceIdeal.Value.run m' g')⟩
  · obtain ⟨ha, hl⟩ := Cert.Attention.pre_split _ _ _ _ (hpre c)
    exact ⟨((h.1 c).1 (6 : Fin 7)).trans (Cert.KernelIdeal.Attn.final6 m c ha hl), Cert.KernelIdeal.Attn.args_kept m r h.1 c⟩
  · refine ⟨(h c).1.trans ?_, (h c).2⟩
    rw [Cert.ReferenceIdeal.Attn.res_eq, (hagree c).1, (hagree c).2.2.1, (hagree c).2.2.2]

end Cert.Pairs
end
-- ==== Proof.Exp.BitsFrame.lean ====
/- What each point of the experts' pipeline leaves in the output's block, and the launch: every execution ends, with
   the arguments as they were and the result's blocks as the points left them. -/
module

public import proofs.«01_k».proof.Proof.Exp.BitsTabs
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.Experts.Blocks

open Cert.Experts Cert.Experts.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resource algebra of the program. -/
local notation "𝕄" => MT nD τ sig Unit (Elt Bits) ℕ (UR sig nD τ) ℕ

/-- The proof's resource algebra holds the rounds library's, for the pipeline's staging cells. -/
abbrev EP : Emb (UR sig nD τ) 𝕄 := emb₁

variable (ch : Tabs)
variable (m : (ℓ : Loc nD τ sig) → Buf (Elt Bits) ℓ) (ρ : Dev nD → PrngReg)

/-- The memory's tables are `ch`'s. -/
def Holds : Prop :=
  (∀ c : Dev nD, m ((c : Thread nD τ).loc main_arg1) = ch.expert) ∧ (∀ c : Dev nD, m ((c : Thread nD τ).loc main_arg2) = ch.used)

abbrev ms0_0 (t : Fin (cfgA ch).N) : Memref sig .tc .vmem S256x2048 .f32 := spec0_0.stage ((cfgA ch).slots t (0 : Fin 5))
abbrev hs0_0 (t : Fin (cfgA ch).N) : (ms0_0 ch t).IsWhole := hstage0_0 (((cfgA ch).slots t (0 : Fin 5)).cast nbuf0_0)
abbrev ms0_1 (t : Fin (cfgA ch).N) : Memref sig .tc .vmem S1x1x2048x512 .f32 := spec0_1.stage ((cfgA ch).slots t (1 : Fin 5))
abbrev hs0_1 (t : Fin (cfgA ch).N) : (ms0_1 ch t).IsWhole := hstage0_1 (((cfgA ch).slots t (1 : Fin 5)).cast nbuf0_1)
abbrev ms0_2 (t : Fin (cfgA ch).N) : Memref sig .tc .vmem S1x1x2048x512 .f32 := spec0_2.stage ((cfgA ch).slots t (2 : Fin 5))
abbrev hs0_2 (t : Fin (cfgA ch).N) : (ms0_2 ch t).IsWhole := hstage0_2 (((cfgA ch).slots t (2 : Fin 5)).cast nbuf0_2)
abbrev ms0_3 (t : Fin (cfgA ch).N) : Memref sig .tc .vmem S1x1x512x2048 .f32 := spec0_3.stage ((cfgA ch).slots t (3 : Fin 5))
abbrev hs0_3 (t : Fin (cfgA ch).N) : (ms0_3 ch t).IsWhole := hstage0_3 (((cfgA ch).slots t (3 : Fin 5)).cast nbuf0_3)
abbrev ms0_4 (t : Fin (cfgA ch).N) : Memref sig .tc .vmem S256x2048 .f32 := spec0_4.stage ((cfgA ch).slots t (4 : Fin 5))
abbrev hs0_4 (t : Fin (cfgA ch).N) : (ms0_4 ch t).IsWhole := hstage0_4 (((cfgA ch).slots t (4 : Fin 5)).cast nbuf0_4)

/-- Window `w`'s block at point `t`, read off its array at launch. -/
def iblk (c : Dev nD) (w : Fin (cfgA ch).W) (t : Fin (cfgA ch).N) : (((cfgA ch).win w).xblock (crd ch t)).Idx → Elt Bits ((cfgA ch).win w).elt :=
  (((cfgA ch).win w).blk t).view.read (Elt Bits) ((s₀ m ρ).mem (((cfgA ch).win w).arr.view.loc (c : Thread nD τ)))

/-- What the body leaves in the output's buffer at point `t`. -/
def step (c : Dev nD) (t : Fin (cfgA ch).N) : S256x2048.Idx → Elt Bits .f32 :=
  if q : Used ch t then
    out0_A_4 c (crd ch t) (ms0_0 ch t) (hs0_0 ch t) (ms0_1 ch t) (hs0_1 ch t) (ms0_2 ch t) (hs0_2 ch t) (ms0_3 ch t) (hs0_3 ch t) (ms0_4 ch t) (hs0_4 ch t) ch.expert ch.used (iblk ch m ρ c (0 : Fin 5) t) (iblk ch m ρ c (1 : Fin 5) t) (iblk ch m ρ c (2 : Fin 5) t) (iblk ch m ρ c (3 : Fin 5) t) q (fun e => (cond2_iff _ _).1 e q)
  else
    out0_B_4 c (crd ch t) (ms0_0 ch t) (hs0_0 ch t) (ms0_1 ch t) (hs0_1 ch t) (ms0_2 ch t) (hs0_2 ch t) (ms0_3 ch t) (hs0_3 ch t) (ms0_4 ch t) (hs0_4 ch t) ch.expert ch.used (iblk ch m ρ c (0 : Fin 5) t) (iblk ch m ρ c (1 : Fin 5) t) (iblk ch m ρ c (2 : Fin 5) t) (iblk ch m ρ c (3 : Fin 5) t) q ((cond2_iff _ _).2 q)

theorem step_used (c : Dev nD) (t : Fin (cfgA ch).N) (q : Used ch t) : step ch m ρ c t =
    out0_A_4 c (crd ch t) (ms0_0 ch t) (hs0_0 ch t) (ms0_1 ch t) (hs0_1 ch t) (ms0_2 ch t) (hs0_2 ch t) (ms0_3 ch t) (hs0_3 ch t) (ms0_4 ch t) (hs0_4 ch t) ch.expert ch.used (iblk ch m ρ c (0 : Fin 5) t) (iblk ch m ρ c (1 : Fin 5) t) (iblk ch m ρ c (2 : Fin 5) t) (iblk ch m ρ c (3 : Fin 5) t) q (fun e => (cond2_iff _ _).1 e q) := by
  unfold step; rw [dif_pos q]

theorem step_unused (c : Dev nD) (t : Fin (cfgA ch).N) (q : ¬Used ch t) : step ch m ρ c t =
    out0_B_4 c (crd ch t) (ms0_0 ch t) (hs0_0 ch t) (ms0_1 ch t) (hs0_1 ch t) (ms0_2 ch t) (hs0_2 ch t) (ms0_3 ch t) (hs0_3 ch t) (ms0_4 ch t) (hs0_4 ch t) ch.expert ch.used (iblk ch m ρ c (0 : Fin 5) t) (iblk ch m ρ c (1 : Fin 5) t) (iblk ch m ρ c (2 : Fin 5) t) (iblk ch m ρ c (3 : Fin 5) t) q ((cond2_iff _ _).2 q) := by
  unfold step; rw [dif_neg q]

/-- Between two points the body keeps its halves of the tables. -/
def Phi (c : Dev nD) (t : Fin ((cfgA ch).N + 1)) : sProp 𝕄 :=
  iprop((tbM0_0.view.loc (c : Thread nD τ) ↦{fullShare.right} ch.expert) ∗ (tbM0_1.view.loc (c : Thread nD τ) ↦{fullShare.right} ch.used))

/-- The proof data of the one pipeline on core `c`. -/
def dats (_ : Fin 1) (c : Dev nD) : Dat τ (Elt Bits) Unit ℕ (UR sig nD τ) ℕ (cfgA ch) c where
  A w := (s₀ m ρ).mem (((cfgA ch).win w).arr.view.loc (c : Thread nD τ))
  after w t := match w with
    | ⟨0, _⟩ => iblk ch m ρ c (0 : Fin 5) t
    | ⟨1, _⟩ => iblk ch m ρ c (1 : Fin 5) t
    | ⟨2, _⟩ => iblk ch m ρ c (2 : Fin 5) t
    | ⟨3, _⟩ => iblk ch m ρ c (3 : Fin 5) t
    | ⟨4, _⟩ => step ch m ρ c t
  Φ t := Phi ch c t
  q _ := fullShare
  owed _ := 0

theorem after0_0 (c : Dev nD) (t : Fin (cfgA ch).N) : (dats ch m ρ 0 c).after (0 : Fin 5) t = iblk ch m ρ c (0 : Fin 5) t := rfl
theorem after0_1 (c : Dev nD) (t : Fin (cfgA ch).N) : (dats ch m ρ 0 c).after (1 : Fin 5) t = iblk ch m ρ c (1 : Fin 5) t := rfl
theorem after0_2 (c : Dev nD) (t : Fin (cfgA ch).N) : (dats ch m ρ 0 c).after (2 : Fin 5) t = iblk ch m ρ c (2 : Fin 5) t := rfl
theorem after0_3 (c : Dev nD) (t : Fin (cfgA ch).N) : (dats ch m ρ 0 c).after (3 : Fin 5) t = iblk ch m ρ c (3 : Fin 5) t := rfl
theorem after0_4 (c : Dev nD) (t : Fin (cfgA ch).N) : (dats ch m ρ 0 c).after (4 : Fin 5) t = step ch m ρ c t := rfl

theorem before0_0 (c : Dev nD) (t : Fin (cfgA ch).N) (d) : (dats ch m ρ 0 c).before (0 : Fin 5) t d = iblk ch m ρ c (0 : Fin 5) t :=
  ((dats ch m ρ 0 c).before_in_eq_fetched (0 : Fin 5) rfl (fun _ => rfl) (fun _ _ _ => rfl)
    (fun t => by rw [after0_0]; unfold Dat.blockOf iblk; rfl) t d).trans (by unfold Dat.fetched Dat.blockOf iblk; rfl)
theorem before0_1 (c : Dev nD) (t : Fin (cfgA ch).N) (d) : (dats ch m ρ 0 c).before (1 : Fin 5) t d = iblk ch m ρ c (1 : Fin 5) t :=
  ((dats ch m ρ 0 c).before_in_eq_fetched (1 : Fin 5) rfl (fun _ => rfl) (fun _ _ _ => rfl)
    (fun t => by rw [after0_1]; unfold Dat.blockOf iblk; rfl) t d).trans (by unfold Dat.fetched Dat.blockOf iblk; rfl)
theorem before0_2 (c : Dev nD) (t : Fin (cfgA ch).N) (d) : (dats ch m ρ 0 c).before (2 : Fin 5) t d = iblk ch m ρ c (2 : Fin 5) t :=
  ((dats ch m ρ 0 c).before_in_eq_fetched (2 : Fin 5) rfl (fun _ => rfl) (fun _ _ _ => rfl)
    (fun t => by rw [after0_2]; unfold Dat.blockOf iblk; rfl) t d).trans (by unfold Dat.fetched Dat.blockOf iblk; rfl)
theorem before0_3 (c : Dev nD) (t : Fin (cfgA ch).N) (d) : (dats ch m ρ 0 c).before (3 : Fin 5) t d = iblk ch m ρ c (3 : Fin 5) t :=
  ((dats ch m ρ 0 c).before_in_eq_fetched (3 : Fin 5) rfl (fun _ => rfl) (fun _ _ _ => rfl)
    (fun t => by rw [after0_3]; unfold Dat.blockOf iblk; rfl) t d).trans (by unfold Dat.fetched Dat.blockOf iblk; rfl)

/-- The output's buffer holds junk when the body runs. -/
theorem before0_4 (c : Dev nD) (t : Fin (cfgA ch).N) (d) : (dats ch m ρ 0 c).before (4 : Fin 5) t d = d := by
  rw [(dats ch m ρ 0 c).before_out_traj (4 : Fin 5) rfl (fun _ _ => rfl)
    (fun t _ hi _ => absurd hi (by rw [idle_out ch t]; decide)) t.val t rfl d]
  simp only [fresh_out ch t, ↓reduceIte]

/-- The body at point `t` on its staging memrefs, as the pipeline calls it. -/
abbrev bodyAt0 (t : Fin (cfgA ch).N) : Prog (TpuEff nD τ sig (Elt Bits) Λ₀ .tc) PUnit :=
  cc0_moe_experts (crd ch t) (Memref.whole main_arg1) (Memref.isWhole_whole _) (Memref.whole main_arg2) (Memref.isWhole_whole _) (ms0_0 ch t) (hs0_0 ch t) (ms0_1 ch t) (hs0_1 ch t) (ms0_2 ch t) (hs0_2 ch t) (ms0_3 ch t) (hs0_3 ch t) (ms0_4 ch t) (hs0_4 ch t)

set_option maxHeartbeats 4000000 in
/-- The body at point `t`: a used block is computed, any other is zeroed. -/
theorem sound_body (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 5) t d))
        ∗ (∃ d, owns (c : Thread nD τ) (ms0_1 ch t) fullShare ((dats ch m ρ 0 c).before (1 : Fin 5) t d))
        ∗ (∃ d, owns (c : Thread nD τ) (ms0_2 ch t) fullShare ((dats ch m ρ 0 c).before (2 : Fin 5) t d))
        ∗ (∃ d, owns (c : Thread nD τ) (ms0_3 ch t) fullShare ((dats ch m ρ 0 c).before (3 : Fin 5) t d))
        ∗ (∃ d, owns (c : Thread nD τ) (ms0_4 ch t) fullShare ((dats ch m ρ 0 c).before (4 : Fin 5) t d)))
      ⊢ wp frame (wpE (defs₀ (F := Bits)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  rewrite [idle_out ch t]
  simp only [before0_0, before0_1, before0_2, before0_3, before0_4, after0_0, after0_1, after0_2, after0_3, after0_4]
  rewrite [show (dats ch m ρ 0 c).Φ t.succ = Phi ch c t.succ from rfl, show (dats ch m ρ 0 c).Φ t.castSucc = Phi ch c t.castSucc from rfl,
    show (dats ch m ρ 0 c).owesAt () t.succ = (dats ch m ρ 0 c).owesAt () t.castSucc from rfl]
  unfold Phi
  by_cases q : Used ch t
  · rw [step_used ch m ρ c t q]
    iintro ⟨⟨HT0, HT1⟩, Ho, ⟨%d0, H0⟩, ⟨%d1, H1⟩, ⟨%d2, H2⟩, ⟨%d3, H3⟩, ⟨%d4, H4⟩⟩
    iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) ch.expert ch.used (iblk ch m ρ c (0 : Fin 5) t) (iblk ch m ρ c (1 : Fin 5) t) (iblk ch m ρ c (2 : Fin 5) t) (iblk ch m ρ c (3 : Fin 5) t) q ((fun e => (cond2_iff _ _).1 e q))).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    iintro ⟨H0, H1, H2, H3, HT0, HT1, ⟨%e4, H4⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact View.read_writes_of_cover _ _ _ _ _ (cover0_A_4 c _ _ _ _ _ _ _ _ _ _ _ _ _ _ _ _ _ _ _)
  · rw [step_unused ch m ρ c t q]
    iintro ⟨⟨HT0, HT1⟩, Ho, ⟨%d0, H0⟩, ⟨%d1, H1⟩, ⟨%d2, H2⟩, ⟨%d3, H3⟩, ⟨%d4, H4⟩⟩
    iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) ch.expert ch.used (iblk ch m ρ c (0 : Fin 5) t) (iblk ch m ρ c (1 : Fin 5) t) (iblk ch m ρ c (2 : Fin 5) t) (iblk ch m ρ c (3 : Fin 5) t) q ((cond2_iff _ _).2 q)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    iintro ⟨H0, H1, H2, H3, HT0, HT1, ⟨%e4, H4⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact View.read_writes_of_cover _ _ _ _ _ (cover0_B_4 c _ _ _ _ _ _ _ _ _ _ _ _ _ _ _ _ _ _ _)

/-- The library's body obligation, at every point. -/
theorem body_obligation (c : Dev nD) : BodyObligation (dats ch m ρ 0 c) (defs₀ (F := Bits)) Variants.none () Set.univ := fun t => by
  rw [bigSep_W0]
  exact sound_body ch m ρ c t

/-- The rounds library's launch element. -/
def u₀ : UR sig nD τ :=
  initOf (Pipeline.cells (pcs ch) ((launch0 (F := Bits)).cellOf_inj fun _ => adm ch))
    (Pipeline.launchToks (pcs ch) ((launch0 (F := Bits)).cellOf_inj fun _ => adm ch))

theorem share_eq (c : Dev nD) (w : Fin (cfgA ch).W) : (dats ch m ρ 0 c).share w = fullShare := by unfold Dat.share; split <;> rfl

/-- The tables as the launch hands them to the region, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch c 0 from rfl]
  unfold Phi
  iintro ⟨-, ⟨HT0, HT1⟩, -⟩
  isplitl [HT0]
  · iexact HT0
  iexact HT1

theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch c (Fin.last _) from rfl]
  unfold Phi
  iintro ⟨-, -⟩
  isplitr; · iempintro
  iempintro

/-- Every array at what the points leave, every table as it was. -/
def QC : PUnit × MemSt nD τ sig (Elt Bits) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem V_pre (hp : Holds ch m) (c : Dev nD) (j : Fin 2) : m ((c : Thread nD τ).loc (pre0.ref j)) = (adm ch).1 j := by
  fin_cases j
  · exact hp.1 c
  · exact hp.2 c

set_option backward.isDefEq.respectTransparency.types false in
set_option maxHeartbeats 4000000 in
/-- Every weakly fair execution of the program terminates, with each array at the computed contents and every
    semaphore counter at zero. -/
theorem run_main_quiescent (hp : Holds ch m) : θ_run (defs (F := Bits)) (onTc (τ := τ) (main (F := Bits))) (s₀ m ρ) (fun r => QC ch m ρ r ∧ r.2.sem = fun _ => 0) :=
  Pipeline.θ_run_region_noSem_pf_quiescent pcfgs (fun _ => adm ch) (dats ch m ρ) () ((launch0 (F := Bits)).cellOf_inj fun _ => adm ch) (0 : Fin 1)
    (launch0 (F := Bits)).win.to₀ (launch0 (F := Bits)).pre EP defs₀ Variants.none m ρ main
    (hbody := fun c => (body_obligation ch m ρ c).loose) (hne := (launch0 (F := Bits)).block_pos)
    (harr := (launch0 (F := Bits)).arr_whole) (hstage := (launch0 (F := Bits)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Bits)).win.arr_inj c (launch0 (F := Bits)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

theorem run_main (hp : Holds ch m) : θ_run (defs (F := Bits)) (onTc (τ := τ) (main (F := Bits))) (s₀ m ρ) (QC ch m ρ) :=
  (θ_run defs _ _).mono (fun _ h => h.1) (run_main_quiescent ch m ρ hp)

theorem unchanged (hp : Holds ch m) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 (0 : Fin 5)).trans ((dats ch m ρ 0 c).arrAt_in (0 : Fin 5) rfl _), ((h c).2 0).trans (hp.1 c).symm, ((h c).2 1).trans (hp.2 c).symm, ((h c).1 (1 : Fin 5)).trans ((dats ch m ρ 0 c).arrAt_in (1 : Fin 5) rfl _), ((h c).1 (2 : Fin 5)).trans ((dats ch m ρ 0 c).arrAt_in (2 : Fin 5) rfl _), ((h c).1 (3 : Fin 5)).trans ((dats ch m ρ 0 c).arrAt_in (3 : Fin 5) rfl _)⟩) (run_main ch m ρ hp)

/-- Every execution ends, the arguments unchanged and every semaphore counter at zero. -/
theorem frame (hp : Holds ch m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged ch m ρ hp) ((θ_run defs _ _).mono (fun _ h => h.2) (run_main_quiescent ch m ρ hp))

end Cert.Experts.Blocks

end
-- ==== Proof.Exp.Ranges.lean ====
module

public import proofs.«01_k».proof.Pre_expert_tables
public import Idealize.ShloMosaic.Lib.Affine
public import Idealize.ShloMosaic.Lib.ReduceAll
public import Idealize.ShloMosaic.Lib.Pointwise

@[expose] public section
noncomputable section

/-!
# What the precondition of the experts says of the two tables

A block's expert is one of the 32, and between 1 and 98 blocks are used.
-/

namespace Cert.Pre_expert_tables
open Idealize.ShloMosaic

theorem toNat_of_range (x : BitVec 32) {lo hi : ℕ} (h0 : (0#32).toInt ≤ x.toInt) (h1 : (lo : ℤ) ≤ x.toInt) (h2 : x.toInt ≤ hi) :
    lo ≤ x.toNat ∧ x.toNat ≤ hi := by
  have h0 : 0 ≤ x.toInt := h0
  have := BitVec.toInt_eq_toNat_cond x
  have hx := x.isLt
  split at this <;> omega

instance : Subsingleton S_.Idx := ⟨fun a b => funext fun k => k.elim0⟩

theorem ranges [Facts] {F : FTy → Type} [FloatOps F] (x : FVec F S25088x2048 .f32) (b : IVec S98 32) (n : IVec S1 32)
    (w1 w3 : FVec F S2x32x2048x512 .f32) (w2 : FVec F S2x32x512x2048 .f32)
    (h : fn (F := F) x b n w1 w3 w2 = fun _ => 1#1) :
    (∀ i, (b i).toNat < 32) ∧ (∀ i, 1 ≤ (n i).toNat) ∧ ∀ i, (n i).toNat ≤ 98 := by
  have h := congrFun h ix0
  dsimp only [fn] at h
  obtain ⟨h1, h2⟩ := IntOp.andi_eq_one.1 h
  have key : ∀ i, 1 ≤ (n i).toNat ∧ (n i).toNat ≤ 98 := fun i => by
    have hp := Host.reduce_andi_all _ _ _ _ ix0 h2 i
    obtain ⟨p, q⟩ := IntOp.andi_eq_one.1 hp
    have p : (1#32 : BitVec 32).toInt ≤ (n i).toInt := IntOp.cmpi_sge.1 p
    have q : (n i).toInt ≤ (98#32 : BitVec 32).toInt := IntOp.cmpi_sle.1 q
    exact toNat_of_range _ (le_trans (by decide) p) p q
  refine ⟨fun i => ?_, fun i => (key i).1, fun i => (key i).2⟩
  have hp := Host.reduce_andi_all _ _ _ _ ix0 h1 i
  obtain ⟨p, q⟩ := IntOp.andi_eq_one.1 hp
  have p : (0#32 : BitVec 32).toInt ≤ (b i).toInt := IntOp.cmpi_sge.1 p
  have q : (b i).toInt < (32#32 : BitVec 32).toInt := IntOp.cmpi_slt.1 q
  have := toNat_of_range (lo := 0) (hi := 31) (b i) p p (by have : (32#32 : BitVec 32).toInt = 32 := by decide
                                                            omega)
  omega

end Cert.Pre_expert_tables
end
-- ==== Proof.Exp.BitsPre.lean ====
/- The precondition gives the tables their ranges, so every execution from such a memory ends. -/
module

public import proofs.«01_k».proof.Defs
public import proofs.«01_k».proof.Proof.Exp.BitsFrame
public import proofs.«01_k».proof.Proof.Exp.Ranges
public import proofs.«01_k».proof.Proof.Gen.Pre_expert_tables

@[expose] public section
noncomputable section

namespace Cert.Experts.Blocks
open Cert.Experts Cert.Experts.Gen
open Idealize.ShloMosaic Idealize.ShloMosaic.TcCoe

/-- The tables of a memory the precondition holds of. -/
theorem tabs_of_pre (m : (ℓ : Loc nD τ sig) → Buf (Elt Bits) ℓ)
    (h : Cert.Pre_Experts (hPre_expert_tables := Cert.Pre_expert_tables.Gen.facts) m) : ∃ ch : Tabs, Holds ch m := by
  have hr := @Cert.Pre_expert_tables.ranges Cert.Pre_expert_tables.Gen.facts _ _ _ _ _ _ _ _ (h (0 : Fin 1))
  have hd : ∀ c : Dev nD, c = (0 : Fin 1) := fun c => Subsingleton.elim (α := Fin 1) _ _
  exact ⟨⟨m (((0 : Fin 1) : Thread nD τ).loc main_arg1), m (((0 : Fin 1) : Thread nD τ).loc main_arg2), hr.1, hr.2.1, hr.2.2⟩,
    fun c => by rw [hd c], fun c => by rw [hd c]⟩

end Cert.Experts.Blocks
end
-- ==== Proof.Exp.IdealTabs.lean ====
/- The experts' pipeline at whatever tables the call is handed.  A block's expert must be one of the 32, and the
   number of used blocks between 1 and 98; every block of every window is then inside its array. -/
module

public import proofs.«01_k».proof.Proof.Gen.ExpertsIdeal.Flash.Runs
public import Idealize.ShloMosaic.Lib.WordArith
public import Idealize.ShloMosaic.Lib.Pipeline.TableIdle
public import Idealize.ShloMosaic.Lib.Pipeline.Kit

@[expose] public section

set_option maxRecDepth 16384
set_option Elab.async false

noncomputable section

namespace Cert.ExpertsIdeal.Blocks

open Cert.ExpertsIdeal Cert.ExpertsIdeal.Gen
open Idealize.ShloMosaic
open Idealize.ShloMosaic.TcCoe Idealize.ShloMosaic.Tactic
open Idealize.ShloMosaic.Pipeline (Dat Cfg Window)

/-- The two tables of a call: the expert of each block, and how many blocks are used. -/
structure Tabs where
  expert : S98.Idx → BitVec 32
  used : S1.Idx → BitVec 32
  expert_lt : ∀ x, (expert x).toNat < 32
  used_pos : ∀ x, 1 ≤ (used x).toNat
  used_le : ∀ x, (used x).toNat ≤ 98

variable (ch : Tabs)

/-- The two tables as the launch holds them. -/
def tabOf : pre0.Contents (Elt Ideal) := fun
  | ⟨0, _⟩ => ch.expert
  | ⟨1, _⟩ => ch.used
  | ⟨_ + 2, h⟩ => absurd h (by simp)

/-- The block of rows read at a point: the point's own, or the last used one. -/
theorem rows_inb (i : grid0.Coords) (a : Fin 2) :
    (cc0_transform_0 inb_S1_S1_0 numel1_S1 (tabOf ch) i a + 1) * S256x2048.size a ≤ S25088x2048.size a := by
  have hi : (i 0).val < 98 := (i 0).isLt
  obtain ⟨y, hy⟩ : ∃ y, (tabOf ch).at 1 (Rect.unit (s := S1) ![0] S1.size inb_S1_S1_0) numel1_S1 = ch.used y := ⟨_, rfl⟩
  have h1 := ch.used_pos y
  have h2 := ch.used_le y
  have hs : (Scalar.subi (ch.used y) 1#32).toNat = (ch.used y).toNat - 1 := by
    show (ch.used y - 1#32).toNat = _
    rw [BitVec.toNat_sub]
    simp only [BitVec.toNat_ofNat]
    omega
  have hm : (Scalar.minsi (BitVec.ofNat 32 (i 0).val) (Scalar.subi (ch.used y) 1#32)).toNat < 98 := by
    have := WordArith.toNat_minsi_of_lt (BitVec.ofNat 32 (i 0).val) (Scalar.subi (ch.used y) 1#32)
      (by rw [BitVec.toNat_ofNat]; omega) (by rw [hs]; omega)
    rw [Scalar.minsi, this, hs]
    omega
  unfold cc0_transform_0
  dsimp only
  rw [hy]
  fin_cases a
  · show (_ + 1) * 256 ≤ 25088
    simp only [Fin.zero_eta, Matrix.cons_val_zero]
    omega
  · show (0 + 1) * 2048 ≤ 2048
    omega

/-- The expert read at a point, by its row of the table. -/
theorem expert_at (i : grid0.Coords) :
    ∃ y, (tabOf ch).at 0 (Rect.unit (s := S98) ![(Scalar.indexCast (BitVec.ofNat 32 (i 0).val) : Index).toNat] S1.size (k0_off1_inb i)) numel1_S1
      = ch.expert y := ⟨_, rfl⟩

theorem gate_inb (i : grid0.Coords) (a : Fin 4) :
    (cc0_transform_1 k0_off1_inb numel1_S1 (tabOf ch) i a + 1) * S1x1x2048x512.size a ≤ S2x32x2048x512.size a := by
  obtain ⟨y, hy⟩ := expert_at ch i
  have h := ch.expert_lt y
  unfold cc0_transform_1
  dsimp only
  rw [hy]
  fin_cases a
  · show (0 + 1) * 1 ≤ 2
    omega
  · show ((ch.expert y).toNat + 1) * 1 ≤ 32
    omega
  · show (0 + 1) * 2048 ≤ 2048
    omega
  · show (0 + 1) * 512 ≤ 512
    omega

theorem up_inb (i : grid0.Coords) (a : Fin 4) :
    (cc0_transform_2 k0_off1_inb numel1_S1 (tabOf ch) i a + 1) * S1x1x2048x512.size a ≤ S2x32x2048x512.size a := gate_inb ch i a

theorem down_inb (i : grid0.Coords) (a : Fin 4) :
    (cc0_transform_3 k0_off1_inb numel1_S1 (tabOf ch) i a + 1) * S1x1x512x2048.size a ≤ S2x32x512x2048.size a := by
  obtain ⟨y, hy⟩ := expert_at ch i
  have h := ch.expert_lt y
  unfold cc0_transform_3
  dsimp only
  rw [hy]
  fin_cases a
  · show (0 + 1) * 1 ≤ 2
    omega
  · show ((ch.expert y).toNat + 1) * 1 ≤ 32
    omega
  · show (0 + 1) * 512 ≤ 512
    omega
  · show (0 + 1) * 2048 ≤ 2048
    omega

theorem tabOk : ok0 (F := Ideal) (tabOf ch) :=
  ⟨fun i => ⟨rows_inb ch i, .inl rfl⟩, fun i => ⟨gate_inb ch i, .inl rfl⟩, fun i => ⟨up_inb ch i, .inl rfl⟩,
    fun i => ⟨down_inb ch i, .inl rfl⟩⟩

/-- The pipeline at the tables. -/
def adm : (pcfg0 (F := Ideal)).Adm := ⟨tabOf ch, tabOk ch⟩
abbrev cfgA : Pipeline.Cfg sig Λ₀ := cfg0 (F := Ideal) (adm ch)
abbrev pcs : Fin 1 → Pipeline.Cfg sig Λ₀ := Pipeline.pin (pcfgs (F := Ideal)) fun _ => adm ch

/-- Point `t`'s coordinates. -/
abbrev crd (t : Fin (cfgA ch).N) : (cfgA ch).grid.Coords := (cfgA ch).grid.coords t

/-- The number of used blocks, as the body reads it. -/
abbrev usedWord : BitVec 32 :=
  View.readAt (Elt Ideal) (tbM0_1).view (Rect.unit (s := S1) ![0] S1.size inb_S1_S1_0).toLoadRect ch.used (Shape.Idx.first (numel1_S1.symm ▸ Nat.one_pos))

/-- Whether block `t` is used. -/
abbrev Used (t : Fin (cfgA ch).N) : Prop := k0_cond1 (crd ch t) (usedWord ch) = 1#1

/-- The second condition is the first one's negation. -/
theorem cond2_iff (i : grid0.Coords) (v : BitVec 32) : k0_cond2 i v = 1#1 ↔ ¬(k0_cond1 i v = 1#1) := by
  unfold k0_cond1 k0_cond2
  dsimp only
  generalize Scalar.cmpi .slt (BitVec.ofNat 32 (i 0).val) v = b
  revert b
  decide

/-- Each block of the output is written back at its point. -/
theorem flush_out (t : Fin (cfgA ch).N) : ((cfgA ch).win (4 : Fin 5)).flush t = true := by
  have h : ∀ t : Fin grid0.N, Window.flushOf grid0 true cc0_transform_4 t = true := by decide +kernel
  exact h t

/-- Every point stores the output. -/
theorem idle_out (t : Fin (cfgA ch).N) : (cfgA ch).idle (4 : Fin 5) ((cfgA ch).grid.coords t) = false := by
  show (!(k0_cond1 (crd ch t) ((tabOf ch).atD 1 ![0]) == 1#1) && !(k0_cond2 (crd ch t) ((tabOf ch).atD 1 ![0]) == 1#1)) = false
  generalize (tabOf ch).atD 1 ![0] = v
  by_cases h : k0_cond1 (crd ch t) v = 1#1
  · rw [h]; rfl
  · rw [(cond2_iff (crd ch t) v).2 h]; simp

/-- Nothing is kept in the output's staging buffer from one point to the next. -/
theorem fresh_out (t : Fin (cfgA ch).N) : (cfgA ch).fresh (4 : Fin 5) t.val = true :=
  Pipeline.Cfg.fresh_tab (cfgA ch) (4 : Fin 5) (fun _ => true) rfl
    (fun t => by rw [flush_out ch t]; rfl) t.val (Nat.le_of_lt t.isLt)

end Cert.ExpertsIdeal.Blocks

end
-- ==== Proof.Exp.IdealFrame.lean ====
/- What each point of the experts' pipeline leaves in the output's block, and the launch: every execution ends, with
   the arguments as they were and the result's blocks as the points left them. -/
module

public import proofs.«01_k».proof.Proof.Exp.IdealTabs
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.ExpertsIdeal.Blocks

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resource algebra of the program. -/
local notation "𝕄" => MT nD τ sig Unit (Elt Ideal) ℕ (UR sig nD τ) ℕ

/-- The proof's resource algebra holds the rounds library's, for the pipeline's staging cells. -/
abbrev EP : Emb (UR sig nD τ) 𝕄 := emb₁

variable (ch : Tabs)
variable (m : (ℓ : Loc nD τ sig) → Buf (Elt Ideal) ℓ) (ρ : Dev nD → PrngReg)

/-- The memory's tables are `ch`'s. -/
def Holds : Prop :=
  (∀ c : Dev nD, m ((c : Thread nD τ).loc main_arg1) = ch.expert) ∧ (∀ c : Dev nD, m ((c : Thread nD τ).loc main_arg2) = ch.used)

abbrev ms0_0 (t : Fin (cfgA ch).N) : Memref sig .tc .vmem S256x2048 .f32 := spec0_0.stage ((cfgA ch).slots t (0 : Fin 5))
abbrev hs0_0 (t : Fin (cfgA ch).N) : (ms0_0 ch t).IsWhole := hstage0_0 (((cfgA ch).slots t (0 : Fin 5)).cast nbuf0_0)
abbrev ms0_1 (t : Fin (cfgA ch).N) : Memref sig .tc .vmem S1x1x2048x512 .f32 := spec0_1.stage ((cfgA ch).slots t (1 : Fin 5))
abbrev hs0_1 (t : Fin (cfgA ch).N) : (ms0_1 ch t).IsWhole := hstage0_1 (((cfgA ch).slots t (1 : Fin 5)).cast nbuf0_1)
abbrev ms0_2 (t : Fin (cfgA ch).N) : Memref sig .tc .vmem S1x1x2048x512 .f32 := spec0_2.stage ((cfgA ch).slots t (2 : Fin 5))
abbrev hs0_2 (t : Fin (cfgA ch).N) : (ms0_2 ch t).IsWhole := hstage0_2 (((cfgA ch).slots t (2 : Fin 5)).cast nbuf0_2)
abbrev ms0_3 (t : Fin (cfgA ch).N) : Memref sig .tc .vmem S1x1x512x2048 .f32 := spec0_3.stage ((cfgA ch).slots t (3 : Fin 5))
abbrev hs0_3 (t : Fin (cfgA ch).N) : (ms0_3 ch t).IsWhole := hstage0_3 (((cfgA ch).slots t (3 : Fin 5)).cast nbuf0_3)
abbrev ms0_4 (t : Fin (cfgA ch).N) : Memref sig .tc .vmem S256x2048 .f32 := spec0_4.stage ((cfgA ch).slots t (4 : Fin 5))
abbrev hs0_4 (t : Fin (cfgA ch).N) : (ms0_4 ch t).IsWhole := hstage0_4 (((cfgA ch).slots t (4 : Fin 5)).cast nbuf0_4)

/-- Window `w`'s block at point `t`, read off its array at launch. -/
def iblk (c : Dev nD) (w : Fin (cfgA ch).W) (t : Fin (cfgA ch).N) : (((cfgA ch).win w).xblock (crd ch t)).Idx → Elt Ideal ((cfgA ch).win w).elt :=
  (((cfgA ch).win w).blk t).view.read (Elt Ideal) ((s₀ m ρ).mem (((cfgA ch).win w).arr.view.loc (c : Thread nD τ)))

/-- What the body leaves in the output's buffer at point `t`. -/
def step (c : Dev nD) (t : Fin (cfgA ch).N) : S256x2048.Idx → Elt Ideal .f32 :=
  if q : Used ch t then
    out0_A_4 c (crd ch t) (ms0_0 ch t) (hs0_0 ch t) (ms0_1 ch t) (hs0_1 ch t) (ms0_2 ch t) (hs0_2 ch t) (ms0_3 ch t) (hs0_3 ch t) (ms0_4 ch t) (hs0_4 ch t) ch.expert ch.used (iblk ch m ρ c (0 : Fin 5) t) (iblk ch m ρ c (1 : Fin 5) t) (iblk ch m ρ c (2 : Fin 5) t) (iblk ch m ρ c (3 : Fin 5) t) q (fun e => (cond2_iff _ _).1 e q)
  else
    out0_B_4 c (crd ch t) (ms0_0 ch t) (hs0_0 ch t) (ms0_1 ch t) (hs0_1 ch t) (ms0_2 ch t) (hs0_2 ch t) (ms0_3 ch t) (hs0_3 ch t) (ms0_4 ch t) (hs0_4 ch t) ch.expert ch.used (iblk ch m ρ c (0 : Fin 5) t) (iblk ch m ρ c (1 : Fin 5) t) (iblk ch m ρ c (2 : Fin 5) t) (iblk ch m ρ c (3 : Fin 5) t) q ((cond2_iff _ _).2 q)

theorem step_used (c : Dev nD) (t : Fin (cfgA ch).N) (q : Used ch t) : step ch m ρ c t =
    out0_A_4 c (crd ch t) (ms0_0 ch t) (hs0_0 ch t) (ms0_1 ch t) (hs0_1 ch t) (ms0_2 ch t) (hs0_2 ch t) (ms0_3 ch t) (hs0_3 ch t) (ms0_4 ch t) (hs0_4 ch t) ch.expert ch.used (iblk ch m ρ c (0 : Fin 5) t) (iblk ch m ρ c (1 : Fin 5) t) (iblk ch m ρ c (2 : Fin 5) t) (iblk ch m ρ c (3 : Fin 5) t) q (fun e => (cond2_iff _ _).1 e q) := by
  unfold step; rw [dif_pos q]

theorem step_unused (c : Dev nD) (t : Fin (cfgA ch).N) (q : ¬Used ch t) : step ch m ρ c t =
    out0_B_4 c (crd ch t) (ms0_0 ch t) (hs0_0 ch t) (ms0_1 ch t) (hs0_1 ch t) (ms0_2 ch t) (hs0_2 ch t) (ms0_3 ch t) (hs0_3 ch t) (ms0_4 ch t) (hs0_4 ch t) ch.expert ch.used (iblk ch m ρ c (0 : Fin 5) t) (iblk ch m ρ c (1 : Fin 5) t) (iblk ch m ρ c (2 : Fin 5) t) (iblk ch m ρ c (3 : Fin 5) t) q ((cond2_iff _ _).2 q) := by
  unfold step; rw [dif_neg q]

/-- Between two points the body keeps its halves of the tables. -/
def Phi (c : Dev nD) (t : Fin ((cfgA ch).N + 1)) : sProp 𝕄 :=
  iprop((tbM0_0.view.loc (c : Thread nD τ) ↦{fullShare.right} ch.expert) ∗ (tbM0_1.view.loc (c : Thread nD τ) ↦{fullShare.right} ch.used))

/-- The proof data of the one pipeline on core `c`. -/
def dats (_ : Fin 1) (c : Dev nD) : Dat τ (Elt Ideal) Unit ℕ (UR sig nD τ) ℕ (cfgA ch) c where
  A w := (s₀ m ρ).mem (((cfgA ch).win w).arr.view.loc (c : Thread nD τ))
  after w t := match w with
    | ⟨0, _⟩ => iblk ch m ρ c (0 : Fin 5) t
    | ⟨1, _⟩ => iblk ch m ρ c (1 : Fin 5) t
    | ⟨2, _⟩ => iblk ch m ρ c (2 : Fin 5) t
    | ⟨3, _⟩ => iblk ch m ρ c (3 : Fin 5) t
    | ⟨4, _⟩ => step ch m ρ c t
  Φ t := Phi ch c t
  q _ := fullShare
  owed _ := 0

theorem after0_0 (c : Dev nD) (t : Fin (cfgA ch).N) : (dats ch m ρ 0 c).after (0 : Fin 5) t = iblk ch m ρ c (0 : Fin 5) t := rfl
theorem after0_1 (c : Dev nD) (t : Fin (cfgA ch).N) : (dats ch m ρ 0 c).after (1 : Fin 5) t = iblk ch m ρ c (1 : Fin 5) t := rfl
theorem after0_2 (c : Dev nD) (t : Fin (cfgA ch).N) : (dats ch m ρ 0 c).after (2 : Fin 5) t = iblk ch m ρ c (2 : Fin 5) t := rfl
theorem after0_3 (c : Dev nD) (t : Fin (cfgA ch).N) : (dats ch m ρ 0 c).after (3 : Fin 5) t = iblk ch m ρ c (3 : Fin 5) t := rfl
theorem after0_4 (c : Dev nD) (t : Fin (cfgA ch).N) : (dats ch m ρ 0 c).after (4 : Fin 5) t = step ch m ρ c t := rfl

theorem before0_0 (c : Dev nD) (t : Fin (cfgA ch).N) (d) : (dats ch m ρ 0 c).before (0 : Fin 5) t d = iblk ch m ρ c (0 : Fin 5) t :=
  ((dats ch m ρ 0 c).before_in_eq_fetched (0 : Fin 5) rfl (fun _ => rfl) (fun _ _ _ => rfl)
    (fun t => by rw [after0_0]; unfold Dat.blockOf iblk; rfl) t d).trans (by unfold Dat.fetched Dat.blockOf iblk; rfl)
theorem before0_1 (c : Dev nD) (t : Fin (cfgA ch).N) (d) : (dats ch m ρ 0 c).before (1 : Fin 5) t d = iblk ch m ρ c (1 : Fin 5) t :=
  ((dats ch m ρ 0 c).before_in_eq_fetched (1 : Fin 5) rfl (fun _ => rfl) (fun _ _ _ => rfl)
    (fun t => by rw [after0_1]; unfold Dat.blockOf iblk; rfl) t d).trans (by unfold Dat.fetched Dat.blockOf iblk; rfl)
theorem before0_2 (c : Dev nD) (t : Fin (cfgA ch).N) (d) : (dats ch m ρ 0 c).before (2 : Fin 5) t d = iblk ch m ρ c (2 : Fin 5) t :=
  ((dats ch m ρ 0 c).before_in_eq_fetched (2 : Fin 5) rfl (fun _ => rfl) (fun _ _ _ => rfl)
    (fun t => by rw [after0_2]; unfold Dat.blockOf iblk; rfl) t d).trans (by unfold Dat.fetched Dat.blockOf iblk; rfl)
theorem before0_3 (c : Dev nD) (t : Fin (cfgA ch).N) (d) : (dats ch m ρ 0 c).before (3 : Fin 5) t d = iblk ch m ρ c (3 : Fin 5) t :=
  ((dats ch m ρ 0 c).before_in_eq_fetched (3 : Fin 5) rfl (fun _ => rfl) (fun _ _ _ => rfl)
    (fun t => by rw [after0_3]; unfold Dat.blockOf iblk; rfl) t d).trans (by unfold Dat.fetched Dat.blockOf iblk; rfl)

/-- The output's buffer holds junk when the body runs. -/
theorem before0_4 (c : Dev nD) (t : Fin (cfgA ch).N) (d) : (dats ch m ρ 0 c).before (4 : Fin 5) t d = d := by
  rw [(dats ch m ρ 0 c).before_out_traj (4 : Fin 5) rfl (fun _ _ => rfl)
    (fun t _ hi _ => absurd hi (by rw [idle_out ch t]; decide)) t.val t rfl d]
  simp only [fresh_out ch t, ↓reduceIte]

/-- The body at point `t` on its staging memrefs, as the pipeline calls it. -/
abbrev bodyAt0 (t : Fin (cfgA ch).N) : Prog (TpuEff nD τ sig (Elt Ideal) Λ₀ .tc) PUnit :=
  cc0_moe_experts (crd ch t) (Memref.whole main_arg1) (Memref.isWhole_whole _) (Memref.whole main_arg2) (Memref.isWhole_whole _) (ms0_0 ch t) (hs0_0 ch t) (ms0_1 ch t) (hs0_1 ch t) (ms0_2 ch t) (hs0_2 ch t) (ms0_3 ch t) (hs0_3 ch t) (ms0_4 ch t) (hs0_4 ch t)

set_option maxHeartbeats 4000000 in
/-- The body at point `t`: a used block is computed, any other is zeroed. -/
theorem sound_body (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 5) t d))
        ∗ (∃ d, owns (c : Thread nD τ) (ms0_1 ch t) fullShare ((dats ch m ρ 0 c).before (1 : Fin 5) t d))
        ∗ (∃ d, owns (c : Thread nD τ) (ms0_2 ch t) fullShare ((dats ch m ρ 0 c).before (2 : Fin 5) t d))
        ∗ (∃ d, owns (c : Thread nD τ) (ms0_3 ch t) fullShare ((dats ch m ρ 0 c).before (3 : Fin 5) t d))
        ∗ (∃ d, owns (c : Thread nD τ) (ms0_4 ch t) fullShare ((dats ch m ρ 0 c).before (4 : Fin 5) t d)))
      ⊢ wp frame (wpE (defs₀ (F := Ideal)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  rewrite [idle_out ch t]
  simp only [before0_0, before0_1, before0_2, before0_3, before0_4, after0_0, after0_1, after0_2, after0_3, after0_4]
  rewrite [show (dats ch m ρ 0 c).Φ t.succ = Phi ch c t.succ from rfl, show (dats ch m ρ 0 c).Φ t.castSucc = Phi ch c t.castSucc from rfl,
    show (dats ch m ρ 0 c).owesAt () t.succ = (dats ch m ρ 0 c).owesAt () t.castSucc from rfl]
  unfold Phi
  by_cases q : Used ch t
  · rw [step_used ch m ρ c t q]
    iintro ⟨⟨HT0, HT1⟩, Ho, ⟨%d0, H0⟩, ⟨%d1, H1⟩, ⟨%d2, H2⟩, ⟨%d3, H3⟩, ⟨%d4, H4⟩⟩
    iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) ch.expert ch.used (iblk ch m ρ c (0 : Fin 5) t) (iblk ch m ρ c (1 : Fin 5) t) (iblk ch m ρ c (2 : Fin 5) t) (iblk ch m ρ c (3 : Fin 5) t) q ((fun e => (cond2_iff _ _).1 e q))).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    iintro ⟨H0, H1, H2, H3, HT0, HT1, ⟨%e4, H4⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact View.read_writes_of_cover _ _ _ _ _ (cover0_A_4 c _ _ _ _ _ _ _ _ _ _ _ _ _ _ _ _ _ _ _)
  · rw [step_unused ch m ρ c t q]
    iintro ⟨⟨HT0, HT1⟩, Ho, ⟨%d0, H0⟩, ⟨%d1, H1⟩, ⟨%d2, H2⟩, ⟨%d3, H3⟩, ⟨%d4, H4⟩⟩
    iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) ch.expert ch.used (iblk ch m ρ c (0 : Fin 5) t) (iblk ch m ρ c (1 : Fin 5) t) (iblk ch m ρ c (2 : Fin 5) t) (iblk ch m ρ c (3 : Fin 5) t) q ((cond2_iff _ _).2 q)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    iintro ⟨H0, H1, H2, H3, HT0, HT1, ⟨%e4, H4⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact View.read_writes_of_cover _ _ _ _ _ (cover0_B_4 c _ _ _ _ _ _ _ _ _ _ _ _ _ _ _ _ _ _ _)

/-- The library's body obligation, at every point. -/
theorem body_obligation (c : Dev nD) : BodyObligation (dats ch m ρ 0 c) (defs₀ (F := Ideal)) Variants.none () Set.univ := fun t => by
  rw [bigSep_W0]
  exact sound_body ch m ρ c t

/-- The rounds library's launch element. -/
def u₀ : UR sig nD τ :=
  initOf (Pipeline.cells (pcs ch) ((launch0 (F := Ideal)).cellOf_inj fun _ => adm ch))
    (Pipeline.launchToks (pcs ch) ((launch0 (F := Ideal)).cellOf_inj fun _ => adm ch))

theorem share_eq (c : Dev nD) (w : Fin (cfgA ch).W) : (dats ch m ρ 0 c).share w = fullShare := by unfold Dat.share; split <;> rfl

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch c 0 from rfl]
  unfold Phi
  iintro ⟨-, ⟨HT0, HT1⟩, -⟩
  isplitl [HT0]
  · iexact HT0
  iexact HT1

theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch c (Fin.last _) from rfl]
  unfold Phi
  iintro ⟨-, -⟩
  isplitr; · iempintro
  iempintro

/-- Every array at what the points leave, every table as it was. -/
def QC : PUnit × MemSt nD τ sig (Elt Ideal) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem V_pre (hp : Holds ch m) (c : Dev nD) (j : Fin 2) : m ((c : Thread nD τ).loc (pre0.ref j)) = (adm ch).1 j := by
  fin_cases j
  · exact hp.1 c
  · exact hp.2 c

set_option backward.isDefEq.respectTransparency.types false in
set_option maxHeartbeats 4000000 in
/-- Every weakly fair execution of the program terminates, with each array at the computed contents and every
    semaphore counter at zero. -/
theorem run_main_quiescent (hp : Holds ch m) : θ_run (defs (F := Ideal)) (onTc (τ := τ) (main (F := Ideal))) (s₀ m ρ) (fun r => QC ch m ρ r ∧ r.2.sem = fun _ => 0) :=
  Pipeline.θ_run_region_noSem_pf_quiescent pcfgs (fun _ => adm ch) (dats ch m ρ) () ((launch0 (F := Ideal)).cellOf_inj fun _ => adm ch) (0 : Fin 1)
    (launch0 (F := Ideal)).win.to₀ (launch0 (F := Ideal)).pre EP defs₀ Variants.none m ρ main
    (hbody := fun c => (body_obligation ch m ρ c).loose) (hne := (launch0 (F := Ideal)).block_pos)
    (harr := (launch0 (F := Ideal)).arr_whole) (hstage := (launch0 (F := Ideal)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Ideal)).win.arr_inj c (launch0 (F := Ideal)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

theorem run_main (hp : Holds ch m) : θ_run (defs (F := Ideal)) (onTc (τ := τ) (main (F := Ideal))) (s₀ m ρ) (QC ch m ρ) :=
  (θ_run defs _ _).mono (fun _ h => h.1) (run_main_quiescent ch m ρ hp)

theorem unchanged (hp : Holds ch m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 (0 : Fin 5)).trans ((dats ch m ρ 0 c).arrAt_in (0 : Fin 5) rfl _), ((h c).2 0).trans (hp.1 c).symm, ((h c).2 1).trans (hp.2 c).symm, ((h c).1 (1 : Fin 5)).trans ((dats ch m ρ 0 c).arrAt_in (1 : Fin 5) rfl _), ((h c).1 (2 : Fin 5)).trans ((dats ch m ρ 0 c).arrAt_in (2 : Fin 5) rfl _), ((h c).1 (3 : Fin 5)).trans ((dats ch m ρ 0 c).arrAt_in (3 : Fin 5) rfl _)⟩) (run_main ch m ρ hp)

/-- Every execution ends, the arguments unchanged and every semaphore counter at zero. -/
theorem frame (hp : Holds ch m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged ch m ρ hp) ((θ_run defs _ _).mono (fun _ h => h.2) (run_main_quiescent ch m ρ hp))

end Cert.ExpertsIdeal.Blocks

end
-- ==== Proof.Exp.IdealPre.lean ====
/- The precondition gives the tables their ranges, so every execution from such a memory ends. -/
module

public import proofs.«01_k».proof.Defs
public import proofs.«01_k».proof.Proof.Exp.IdealFrame
public import proofs.«01_k».proof.Proof.Exp.Ranges
public import proofs.«01_k».proof.Proof.Gen.Pre_expert_tables

@[expose] public section
noncomputable section

namespace Cert.ExpertsIdeal.Blocks
open Cert.ExpertsIdeal Cert.ExpertsIdeal.Gen
open Idealize.ShloMosaic Idealize.ShloMosaic.TcCoe

/-- The tables of a memory the precondition holds of. -/
theorem tabs_of_pre (m : (ℓ : Loc nD τ sig) → Buf (Elt Ideal) ℓ)
    (h : Cert.Pre_ExpertsIdeal (hPre_expert_tables := Cert.Pre_expert_tables.Gen.facts) m) : ∃ ch : Tabs, Holds ch m := by
  have hr := @Cert.Pre_expert_tables.ranges Cert.Pre_expert_tables.Gen.facts _ _ _ _ _ _ _ _ (h (0 : Fin 1))
  have hd : ∀ c : Dev nD, c = (0 : Fin 1) := fun c => Subsingleton.elim (α := Fin 1) _ _
  exact ⟨⟨m (((0 : Fin 1) : Thread nD τ).loc main_arg1), m (((0 : Fin 1) : Thread nD τ).loc main_arg2), hr.1, hr.2.1, hr.2.2⟩,
    fun c => by rw [hd c], fun c => by rw [hd c]⟩

end Cert.ExpertsIdeal.Blocks
end
-- ==== Proof.Exp.BitsFrameSecond.lean ====
/- What each point of the experts' pipeline leaves in the output's block, and the launch: every execution ends, with
   the arguments as they were and the result's blocks as the points left them. -/
module

public import proofs.«01_k».proof.Proof.Exp.BitsTabsSecond
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.ExpertsSecond.Blocks

open Cert.ExpertsSecond Cert.ExpertsSecond.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resource algebra of the program. -/
local notation "𝕄" => MT nD τ sig Unit (Elt Bits) ℕ (UR sig nD τ) ℕ

/-- The proof's resource algebra holds the rounds library's, for the pipeline's staging cells. -/
abbrev EP : Emb (UR sig nD τ) 𝕄 := emb₁

variable (ch : Tabs)
variable (m : (ℓ : Loc nD τ sig) → Buf (Elt Bits) ℓ) (ρ : Dev nD → PrngReg)

/-- The memory's tables are `ch`'s. -/
def Holds : Prop :=
  (∀ c : Dev nD, m ((c : Thread nD τ).loc main_arg1) = ch.expert) ∧ (∀ c : Dev nD, m ((c : Thread nD τ).loc main_arg2) = ch.used)

abbrev ms0_0 (t : Fin (cfgA ch).N) : Memref sig .tc .vmem S256x2048 .f32 := spec0_0.stage ((cfgA ch).slots t (0 : Fin 5))
abbrev hs0_0 (t : Fin (cfgA ch).N) : (ms0_0 ch t).IsWhole := hstage0_0 (((cfgA ch).slots t (0 : Fin 5)).cast nbuf0_0)
abbrev ms0_1 (t : Fin (cfgA ch).N) : Memref sig .tc .vmem S1x1x2048x512 .f32 := spec0_1.stage ((cfgA ch).slots t (1 : Fin 5))
abbrev hs0_1 (t : Fin (cfgA ch).N) : (ms0_1 ch t).IsWhole := hstage0_1 (((cfgA ch).slots t (1 : Fin 5)).cast nbuf0_1)
abbrev ms0_2 (t : Fin (cfgA ch).N) : Memref sig .tc .vmem S1x1x2048x512 .f32 := spec0_2.stage ((cfgA ch).slots t (2 : Fin 5))
abbrev hs0_2 (t : Fin (cfgA ch).N) : (ms0_2 ch t).IsWhole := hstage0_2 (((cfgA ch).slots t (2 : Fin 5)).cast nbuf0_2)
abbrev ms0_3 (t : Fin (cfgA ch).N) : Memref sig .tc .vmem S1x1x512x2048 .f32 := spec0_3.stage ((cfgA ch).slots t (3 : Fin 5))
abbrev hs0_3 (t : Fin (cfgA ch).N) : (ms0_3 ch t).IsWhole := hstage0_3 (((cfgA ch).slots t (3 : Fin 5)).cast nbuf0_3)
abbrev ms0_4 (t : Fin (cfgA ch).N) : Memref sig .tc .vmem S256x2048 .f32 := spec0_4.stage ((cfgA ch).slots t (4 : Fin 5))
abbrev hs0_4 (t : Fin (cfgA ch).N) : (ms0_4 ch t).IsWhole := hstage0_4 (((cfgA ch).slots t (4 : Fin 5)).cast nbuf0_4)

/-- Window `w`'s block at point `t`, read off its array at launch. -/
def iblk (c : Dev nD) (w : Fin (cfgA ch).W) (t : Fin (cfgA ch).N) : (((cfgA ch).win w).xblock (crd ch t)).Idx → Elt Bits ((cfgA ch).win w).elt :=
  (((cfgA ch).win w).blk t).view.read (Elt Bits) ((s₀ m ρ).mem (((cfgA ch).win w).arr.view.loc (c : Thread nD τ)))

/-- What the body leaves in the output's buffer at point `t`. -/
def step (c : Dev nD) (t : Fin (cfgA ch).N) : S256x2048.Idx → Elt Bits .f32 :=
  if q : Used ch t then
    out0_A_4 c (crd ch t) (ms0_0 ch t) (hs0_0 ch t) (ms0_1 ch t) (hs0_1 ch t) (ms0_2 ch t) (hs0_2 ch t) (ms0_3 ch t) (hs0_3 ch t) (ms0_4 ch t) (hs0_4 ch t) ch.expert ch.used (iblk ch m ρ c (0 : Fin 5) t) (iblk ch m ρ c (1 : Fin 5) t) (iblk ch m ρ c (2 : Fin 5) t) (iblk ch m ρ c (3 : Fin 5) t) q (fun e => (cond2_iff _ _).1 e q)
  else
    out0_B_4 c (crd ch t) (ms0_0 ch t) (hs0_0 ch t) (ms0_1 ch t) (hs0_1 ch t) (ms0_2 ch t) (hs0_2 ch t) (ms0_3 ch t) (hs0_3 ch t) (ms0_4 ch t) (hs0_4 ch t) ch.expert ch.used (iblk ch m ρ c (0 : Fin 5) t) (iblk ch m ρ c (1 : Fin 5) t) (iblk ch m ρ c (2 : Fin 5) t) (iblk ch m ρ c (3 : Fin 5) t) q ((cond2_iff _ _).2 q)

theorem step_used (c : Dev nD) (t : Fin (cfgA ch).N) (q : Used ch t) : step ch m ρ c t =
    out0_A_4 c (crd ch t) (ms0_0 ch t) (hs0_0 ch t) (ms0_1 ch t) (hs0_1 ch t) (ms0_2 ch t) (hs0_2 ch t) (ms0_3 ch t) (hs0_3 ch t) (ms0_4 ch t) (hs0_4 ch t) ch.expert ch.used (iblk ch m ρ c (0 : Fin 5) t) (iblk ch m ρ c (1 : Fin 5) t) (iblk ch m ρ c (2 : Fin 5) t) (iblk ch m ρ c (3 : Fin 5) t) q (fun e => (cond2_iff _ _).1 e q) := by
  unfold step; rw [dif_pos q]

theorem step_unused (c : Dev nD) (t : Fin (cfgA ch).N) (q : ¬Used ch t) : step ch m ρ c t =
    out0_B_4 c (crd ch t) (ms0_0 ch t) (hs0_0 ch t) (ms0_1 ch t) (hs0_1 ch t) (ms0_2 ch t) (hs0_2 ch t) (ms0_3 ch t) (hs0_3 ch t) (ms0_4 ch t) (hs0_4 ch t) ch.expert ch.used (iblk ch m ρ c (0 : Fin 5) t) (iblk ch m ρ c (1 : Fin 5) t) (iblk ch m ρ c (2 : Fin 5) t) (iblk ch m ρ c (3 : Fin 5) t) q ((cond2_iff _ _).2 q) := by
  unfold step; rw [dif_neg q]

/-- Between two points the body keeps its halves of the tables. -/
def Phi (c : Dev nD) (t : Fin ((cfgA ch).N + 1)) : sProp 𝕄 :=
  iprop((tbM0_0.view.loc (c : Thread nD τ) ↦{fullShare.right} ch.expert) ∗ (tbM0_1.view.loc (c : Thread nD τ) ↦{fullShare.right} ch.used))

/-- The proof data of the one pipeline on core `c`. -/
def dats (_ : Fin 1) (c : Dev nD) : Dat τ (Elt Bits) Unit ℕ (UR sig nD τ) ℕ (cfgA ch) c where
  A w := (s₀ m ρ).mem (((cfgA ch).win w).arr.view.loc (c : Thread nD τ))
  after w t := match w with
    | ⟨0, _⟩ => iblk ch m ρ c (0 : Fin 5) t
    | ⟨1, _⟩ => iblk ch m ρ c (1 : Fin 5) t
    | ⟨2, _⟩ => iblk ch m ρ c (2 : Fin 5) t
    | ⟨3, _⟩ => iblk ch m ρ c (3 : Fin 5) t
    | ⟨4, _⟩ => step ch m ρ c t
  Φ t := Phi ch c t
  q _ := fullShare
  owed _ := 0

theorem after0_0 (c : Dev nD) (t : Fin (cfgA ch).N) : (dats ch m ρ 0 c).after (0 : Fin 5) t = iblk ch m ρ c (0 : Fin 5) t := rfl
theorem after0_1 (c : Dev nD) (t : Fin (cfgA ch).N) : (dats ch m ρ 0 c).after (1 : Fin 5) t = iblk ch m ρ c (1 : Fin 5) t := rfl
theorem after0_2 (c : Dev nD) (t : Fin (cfgA ch).N) : (dats ch m ρ 0 c).after (2 : Fin 5) t = iblk ch m ρ c (2 : Fin 5) t := rfl
theorem after0_3 (c : Dev nD) (t : Fin (cfgA ch).N) : (dats ch m ρ 0 c).after (3 : Fin 5) t = iblk ch m ρ c (3 : Fin 5) t := rfl
theorem after0_4 (c : Dev nD) (t : Fin (cfgA ch).N) : (dats ch m ρ 0 c).after (4 : Fin 5) t = step ch m ρ c t := rfl

theorem before0_0 (c : Dev nD) (t : Fin (cfgA ch).N) (d) : (dats ch m ρ 0 c).before (0 : Fin 5) t d = iblk ch m ρ c (0 : Fin 5) t :=
  ((dats ch m ρ 0 c).before_in_eq_fetched (0 : Fin 5) rfl (fun _ => rfl) (fun _ _ _ => rfl)
    (fun t => by rw [after0_0]; unfold Dat.blockOf iblk; rfl) t d).trans (by unfold Dat.fetched Dat.blockOf iblk; rfl)
theorem before0_1 (c : Dev nD) (t : Fin (cfgA ch).N) (d) : (dats ch m ρ 0 c).before (1 : Fin 5) t d = iblk ch m ρ c (1 : Fin 5) t :=
  ((dats ch m ρ 0 c).before_in_eq_fetched (1 : Fin 5) rfl (fun _ => rfl) (fun _ _ _ => rfl)
    (fun t => by rw [after0_1]; unfold Dat.blockOf iblk; rfl) t d).trans (by unfold Dat.fetched Dat.blockOf iblk; rfl)
theorem before0_2 (c : Dev nD) (t : Fin (cfgA ch).N) (d) : (dats ch m ρ 0 c).before (2 : Fin 5) t d = iblk ch m ρ c (2 : Fin 5) t :=
  ((dats ch m ρ 0 c).before_in_eq_fetched (2 : Fin 5) rfl (fun _ => rfl) (fun _ _ _ => rfl)
    (fun t => by rw [after0_2]; unfold Dat.blockOf iblk; rfl) t d).trans (by unfold Dat.fetched Dat.blockOf iblk; rfl)
theorem before0_3 (c : Dev nD) (t : Fin (cfgA ch).N) (d) : (dats ch m ρ 0 c).before (3 : Fin 5) t d = iblk ch m ρ c (3 : Fin 5) t :=
  ((dats ch m ρ 0 c).before_in_eq_fetched (3 : Fin 5) rfl (fun _ => rfl) (fun _ _ _ => rfl)
    (fun t => by rw [after0_3]; unfold Dat.blockOf iblk; rfl) t d).trans (by unfold Dat.fetched Dat.blockOf iblk; rfl)

/-- The output's buffer holds junk when the body runs. -/
theorem before0_4 (c : Dev nD) (t : Fin (cfgA ch).N) (d) : (dats ch m ρ 0 c).before (4 : Fin 5) t d = d := by
  rw [(dats ch m ρ 0 c).before_out_traj (4 : Fin 5) rfl (fun _ _ => rfl)
    (fun t _ hi _ => absurd hi (by rw [idle_out ch t]; decide)) t.val t rfl d]
  simp only [fresh_out ch t, ↓reduceIte]

/-- The body at point `t` on its staging memrefs, as the pipeline calls it. -/
abbrev bodyAt0 (t : Fin (cfgA ch).N) : Prog (TpuEff nD τ sig (Elt Bits) Λ₀ .tc) PUnit :=
  cc0_moe_experts (crd ch t) (Memref.whole main_arg1) (Memref.isWhole_whole _) (Memref.whole main_arg2) (Memref.isWhole_whole _) (ms0_0 ch t) (hs0_0 ch t) (ms0_1 ch t) (hs0_1 ch t) (ms0_2 ch t) (hs0_2 ch t) (ms0_3 ch t) (hs0_3 ch t) (ms0_4 ch t) (hs0_4 ch t)

set_option maxHeartbeats 4000000 in
/-- The body at point `t`: a used block is computed, any other is zeroed. -/
theorem sound_body (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 5) t d))
        ∗ (∃ d, owns (c : Thread nD τ) (ms0_1 ch t) fullShare ((dats ch m ρ 0 c).before (1 : Fin 5) t d))
        ∗ (∃ d, owns (c : Thread nD τ) (ms0_2 ch t) fullShare ((dats ch m ρ 0 c).before (2 : Fin 5) t d))
        ∗ (∃ d, owns (c : Thread nD τ) (ms0_3 ch t) fullShare ((dats ch m ρ 0 c).before (3 : Fin 5) t d))
        ∗ (∃ d, owns (c : Thread nD τ) (ms0_4 ch t) fullShare ((dats ch m ρ 0 c).before (4 : Fin 5) t d)))
      ⊢ wp frame (wpE (defs₀ (F := Bits)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  rewrite [idle_out ch t]
  simp only [before0_0, before0_1, before0_2, before0_3, before0_4, after0_0, after0_1, after0_2, after0_3, after0_4]
  rewrite [show (dats ch m ρ 0 c).Φ t.succ = Phi ch c t.succ from rfl, show (dats ch m ρ 0 c).Φ t.castSucc = Phi ch c t.castSucc from rfl,
    show (dats ch m ρ 0 c).owesAt () t.succ = (dats ch m ρ 0 c).owesAt () t.castSucc from rfl]
  unfold Phi
  by_cases q : Used ch t
  · rw [step_used ch m ρ c t q]
    iintro ⟨⟨HT0, HT1⟩, Ho, ⟨%d0, H0⟩, ⟨%d1, H1⟩, ⟨%d2, H2⟩, ⟨%d3, H3⟩, ⟨%d4, H4⟩⟩
    iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) ch.expert ch.used (iblk ch m ρ c (0 : Fin 5) t) (iblk ch m ρ c (1 : Fin 5) t) (iblk ch m ρ c (2 : Fin 5) t) (iblk ch m ρ c (3 : Fin 5) t) q ((fun e => (cond2_iff _ _).1 e q))).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    iintro ⟨H0, H1, H2, H3, HT0, HT1, ⟨%e4, H4⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact View.read_writes_of_cover _ _ _ _ _ (cover0_A_4 c _ _ _ _ _ _ _ _ _ _ _ _ _ _ _ _ _ _ _)
  · rw [step_unused ch m ρ c t q]
    iintro ⟨⟨HT0, HT1⟩, Ho, ⟨%d0, H0⟩, ⟨%d1, H1⟩, ⟨%d2, H2⟩, ⟨%d3, H3⟩, ⟨%d4, H4⟩⟩
    iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) ch.expert ch.used (iblk ch m ρ c (0 : Fin 5) t) (iblk ch m ρ c (1 : Fin 5) t) (iblk ch m ρ c (2 : Fin 5) t) (iblk ch m ρ c (3 : Fin 5) t) q ((cond2_iff _ _).2 q)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    iintro ⟨H0, H1, H2, H3, HT0, HT1, ⟨%e4, H4⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact View.read_writes_of_cover _ _ _ _ _ (cover0_B_4 c _ _ _ _ _ _ _ _ _ _ _ _ _ _ _ _ _ _ _)

/-- The library's body obligation, at every point. -/
theorem body_obligation (c : Dev nD) : BodyObligation (dats ch m ρ 0 c) (defs₀ (F := Bits)) Variants.none () Set.univ := fun t => by
  rw [bigSep_W0]
  exact sound_body ch m ρ c t

/-- The rounds library's launch element. -/
def u₀ : UR sig nD τ :=
  initOf (Pipeline.cells (pcs ch) ((launch0 (F := Bits)).cellOf_inj fun _ => adm ch))
    (Pipeline.launchToks (pcs ch) ((launch0 (F := Bits)).cellOf_inj fun _ => adm ch))

theorem share_eq (c : Dev nD) (w : Fin (cfgA ch).W) : (dats ch m ρ 0 c).share w = fullShare := by unfold Dat.share; split <;> rfl

/-- The tables as the launch hands them to the region, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch c 0 from rfl]
  unfold Phi
  iintro ⟨-, ⟨HT0, HT1⟩, -⟩
  isplitl [HT0]
  · iexact HT0
  iexact HT1

theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch c (Fin.last _) from rfl]
  unfold Phi
  iintro ⟨-, -⟩
  isplitr; · iempintro
  iempintro

/-- Every array at what the points leave, every table as it was. -/
def QC : PUnit × MemSt nD τ sig (Elt Bits) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem V_pre (hp : Holds ch m) (c : Dev nD) (j : Fin 2) : m ((c : Thread nD τ).loc (pre0.ref j)) = (adm ch).1 j := by
  fin_cases j
  · exact hp.1 c
  · exact hp.2 c

set_option backward.isDefEq.respectTransparency.types false in
set_option maxHeartbeats 4000000 in
/-- Every weakly fair execution of the program terminates, with each array at the computed contents and every
    semaphore counter at zero. -/
theorem run_main_quiescent (hp : Holds ch m) : θ_run (defs (F := Bits)) (onTc (τ := τ) (main (F := Bits))) (s₀ m ρ) (fun r => QC ch m ρ r ∧ r.2.sem = fun _ => 0) :=
  Pipeline.θ_run_region_noSem_pf_quiescent pcfgs (fun _ => adm ch) (dats ch m ρ) () ((launch0 (F := Bits)).cellOf_inj fun _ => adm ch) (0 : Fin 1)
    (launch0 (F := Bits)).win.to₀ (launch0 (F := Bits)).pre EP defs₀ Variants.none m ρ main
    (hbody := fun c => (body_obligation ch m ρ c).loose) (hne := (launch0 (F := Bits)).block_pos)
    (harr := (launch0 (F := Bits)).arr_whole) (hstage := (launch0 (F := Bits)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Bits)).win.arr_inj c (launch0 (F := Bits)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

theorem run_main (hp : Holds ch m) : θ_run (defs (F := Bits)) (onTc (τ := τ) (main (F := Bits))) (s₀ m ρ) (QC ch m ρ) :=
  (θ_run defs _ _).mono (fun _ h => h.1) (run_main_quiescent ch m ρ hp)

theorem unchanged (hp : Holds ch m) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 (0 : Fin 5)).trans ((dats ch m ρ 0 c).arrAt_in (0 : Fin 5) rfl _), ((h c).2 0).trans (hp.1 c).symm, ((h c).2 1).trans (hp.2 c).symm, ((h c).1 (1 : Fin 5)).trans ((dats ch m ρ 0 c).arrAt_in (1 : Fin 5) rfl _), ((h c).1 (2 : Fin 5)).trans ((dats ch m ρ 0 c).arrAt_in (2 : Fin 5) rfl _), ((h c).1 (3 : Fin 5)).trans ((dats ch m ρ 0 c).arrAt_in (3 : Fin 5) rfl _)⟩) (run_main ch m ρ hp)

/-- Every execution ends, the arguments unchanged and every semaphore counter at zero. -/
theorem frame (hp : Holds ch m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged ch m ρ hp) ((θ_run defs _ _).mono (fun _ h => h.2) (run_main_quiescent ch m ρ hp))

end Cert.ExpertsSecond.Blocks

end
-- ==== Proof.Exp.BitsPreSecond.lean ====
/- The precondition gives the tables their ranges, so every execution from such a memory ends. -/
module

public import proofs.«01_k».proof.Defs
public import proofs.«01_k».proof.Proof.Exp.BitsFrameSecond
public import proofs.«01_k».proof.Proof.Exp.Ranges
public import proofs.«01_k».proof.Proof.Gen.Pre_expert_tables

@[expose] public section
noncomputable section

namespace Cert.ExpertsSecond.Blocks
open Cert.ExpertsSecond Cert.ExpertsSecond.Gen
open Idealize.ShloMosaic Idealize.ShloMosaic.TcCoe

/-- The tables of a memory the precondition holds of. -/
theorem tabs_of_pre (m : (ℓ : Loc nD τ sig) → Buf (Elt Bits) ℓ)
    (h : Cert.Pre_ExpertsSecond (hPre_expert_tables := Cert.Pre_expert_tables.Gen.facts) m) : ∃ ch : Tabs, Holds ch m := by
  have hr := @Cert.Pre_expert_tables.ranges Cert.Pre_expert_tables.Gen.facts _ _ _ _ _ _ _ _ (h (0 : Fin 1))
  have hd : ∀ c : Dev nD, c = (0 : Fin 1) := fun c => Subsingleton.elim (α := Fin 1) _ _
  exact ⟨⟨m (((0 : Fin 1) : Thread nD τ).loc main_arg1), m (((0 : Fin 1) : Thread nD τ).loc main_arg2), hr.1, hr.2.1, hr.2.2⟩,
    fun c => by rw [hd c], fun c => by rw [hd c]⟩

end Cert.ExpertsSecond.Blocks
end
-- ==== Proof.Exp.IdealTabsSecond.lean ====
/- The experts' pipeline at whatever tables the call is handed.  A block's expert must be one of the 32, and the
   number of used blocks between 1 and 98; every block of every window is then inside its array. -/
module

public import proofs.«01_k».proof.Proof.Gen.ExpertsSecondIdeal.Flash.Runs
public import Idealize.ShloMosaic.Lib.WordArith
public import Idealize.ShloMosaic.Lib.Pipeline.TableIdle
public import Idealize.ShloMosaic.Lib.Pipeline.Kit

@[expose] public section

set_option maxRecDepth 16384
set_option Elab.async false

noncomputable section

namespace Cert.ExpertsSecondIdeal.Blocks

open Cert.ExpertsSecondIdeal Cert.ExpertsSecondIdeal.Gen
open Idealize.ShloMosaic
open Idealize.ShloMosaic.TcCoe Idealize.ShloMosaic.Tactic
open Idealize.ShloMosaic.Pipeline (Dat Cfg Window)

/-- The two tables of a call: the expert of each block, and how many blocks are used. -/
structure Tabs where
  expert : S98.Idx → BitVec 32
  used : S1.Idx → BitVec 32
  expert_lt : ∀ x, (expert x).toNat < 32
  used_pos : ∀ x, 1 ≤ (used x).toNat
  used_le : ∀ x, (used x).toNat ≤ 98

variable (ch : Tabs)

/-- The two tables as the launch holds them. -/
def tabOf : pre0.Contents (Elt Ideal) := fun
  | ⟨0, _⟩ => ch.expert
  | ⟨1, _⟩ => ch.used
  | ⟨_ + 2, h⟩ => absurd h (by simp)

/-- The block of rows read at a point: the point's own, or the last used one. -/
theorem rows_inb (i : grid0.Coords) (a : Fin 2) :
    (cc0_transform_0 inb_S1_S1_0 numel1_S1 (tabOf ch) i a + 1) * S256x2048.size a ≤ S25088x2048.size a := by
  have hi : (i 0).val < 98 := (i 0).isLt
  obtain ⟨y, hy⟩ : ∃ y, (tabOf ch).at 1 (Rect.unit (s := S1) ![0] S1.size inb_S1_S1_0) numel1_S1 = ch.used y := ⟨_, rfl⟩
  have h1 := ch.used_pos y
  have h2 := ch.used_le y
  have hs : (Scalar.subi (ch.used y) 1#32).toNat = (ch.used y).toNat - 1 := by
    show (ch.used y - 1#32).toNat = _
    rw [BitVec.toNat_sub]
    simp only [BitVec.toNat_ofNat]
    omega
  have hm : (Scalar.minsi (BitVec.ofNat 32 (i 0).val) (Scalar.subi (ch.used y) 1#32)).toNat < 98 := by
    have := WordArith.toNat_minsi_of_lt (BitVec.ofNat 32 (i 0).val) (Scalar.subi (ch.used y) 1#32)
      (by rw [BitVec.toNat_ofNat]; omega) (by rw [hs]; omega)
    rw [Scalar.minsi, this, hs]
    omega
  unfold cc0_transform_0
  dsimp only
  rw [hy]
  fin_cases a
  · show (_ + 1) * 256 ≤ 25088
    simp only [Fin.zero_eta, Matrix.cons_val_zero]
    omega
  · show (0 + 1) * 2048 ≤ 2048
    omega

/-- The expert read at a point, by its row of the table. -/
theorem expert_at (i : grid0.Coords) :
    ∃ y, (tabOf ch).at 0 (Rect.unit (s := S98) ![(Scalar.indexCast (BitVec.ofNat 32 (i 0).val) : Index).toNat] S1.size (k0_off1_inb i)) numel1_S1
      = ch.expert y := ⟨_, rfl⟩

theorem gate_inb (i : grid0.Coords) (a : Fin 4) :
    (cc0_transform_1 k0_off1_inb numel1_S1 (tabOf ch) i a + 1) * S1x1x2048x512.size a ≤ S2x32x2048x512.size a := by
  obtain ⟨y, hy⟩ := expert_at ch i
  have h := ch.expert_lt y
  unfold cc0_transform_1
  dsimp only
  rw [hy]
  fin_cases a
  · show (1 + 1) * 1 ≤ 2
    omega
  · show ((ch.expert y).toNat + 1) * 1 ≤ 32
    omega
  · show (0 + 1) * 2048 ≤ 2048
    omega
  · show (0 + 1) * 512 ≤ 512
    omega

theorem up_inb (i : grid0.Coords) (a : Fin 4) :
    (cc0_transform_2 k0_off1_inb numel1_S1 (tabOf ch) i a + 1) * S1x1x2048x512.size a ≤ S2x32x2048x512.size a := gate_inb ch i a

theorem down_inb (i : grid0.Coords) (a : Fin 4) :
    (cc0_transform_3 k0_off1_inb numel1_S1 (tabOf ch) i a + 1) * S1x1x512x2048.size a ≤ S2x32x512x2048.size a := by
  obtain ⟨y, hy⟩ := expert_at ch i
  have h := ch.expert_lt y
  unfold cc0_transform_3
  dsimp only
  rw [hy]
  fin_cases a
  · show (1 + 1) * 1 ≤ 2
    omega
  · show ((ch.expert y).toNat + 1) * 1 ≤ 32
    omega
  · show (0 + 1) * 512 ≤ 512
    omega
  · show (0 + 1) * 2048 ≤ 2048
    omega

theorem tabOk : ok0 (F := Ideal) (tabOf ch) :=
  ⟨fun i => ⟨rows_inb ch i, .inl rfl⟩, fun i => ⟨gate_inb ch i, .inl rfl⟩, fun i => ⟨up_inb ch i, .inl rfl⟩,
    fun i => ⟨down_inb ch i, .inl rfl⟩⟩

/-- The pipeline at the tables. -/
def adm : (pcfg0 (F := Ideal)).Adm := ⟨tabOf ch, tabOk ch⟩
abbrev cfgA : Pipeline.Cfg sig Λ₀ := cfg0 (F := Ideal) (adm ch)
abbrev pcs : Fin 1 → Pipeline.Cfg sig Λ₀ := Pipeline.pin (pcfgs (F := Ideal)) fun _ => adm ch

/-- Point `t`'s coordinates. -/
abbrev crd (t : Fin (cfgA ch).N) : (cfgA ch).grid.Coords := (cfgA ch).grid.coords t

/-- The number of used blocks, as the body reads it. -/
abbrev usedWord : BitVec 32 :=
  View.readAt (Elt Ideal) (tbM0_1).view (Rect.unit (s := S1) ![0] S1.size inb_S1_S1_0).toLoadRect ch.used (Shape.Idx.first (numel1_S1.symm ▸ Nat.one_pos))

/-- Whether block `t` is used. -/
abbrev Used (t : Fin (cfgA ch).N) : Prop := k0_cond1 (crd ch t) (usedWord ch) = 1#1

/-- The second condition is the first one's negation. -/
theorem cond2_iff (i : grid0.Coords) (v : BitVec 32) : k0_cond2 i v = 1#1 ↔ ¬(k0_cond1 i v = 1#1) := by
  unfold k0_cond1 k0_cond2
  dsimp only
  generalize Scalar.cmpi .slt (BitVec.ofNat 32 (i 0).val) v = b
  revert b
  decide

/-- Each block of the output is written back at its point. -/
theorem flush_out (t : Fin (cfgA ch).N) : ((cfgA ch).win (4 : Fin 5)).flush t = true := by
  have h : ∀ t : Fin grid0.N, Window.flushOf grid0 true cc0_transform_4 t = true := by decide +kernel
  exact h t

/-- Every point stores the output. -/
theorem idle_out (t : Fin (cfgA ch).N) : (cfgA ch).idle (4 : Fin 5) ((cfgA ch).grid.coords t) = false := by
  show (!(k0_cond1 (crd ch t) ((tabOf ch).atD 1 ![0]) == 1#1) && !(k0_cond2 (crd ch t) ((tabOf ch).atD 1 ![0]) == 1#1)) = false
  generalize (tabOf ch).atD 1 ![0] = v
  by_cases h : k0_cond1 (crd ch t) v = 1#1
  · rw [h]; rfl
  · rw [(cond2_iff (crd ch t) v).2 h]; simp

/-- Nothing is kept in the output's staging buffer from one point to the next. -/
theorem fresh_out (t : Fin (cfgA ch).N) : (cfgA ch).fresh (4 : Fin 5) t.val = true :=
  Pipeline.Cfg.fresh_tab (cfgA ch) (4 : Fin 5) (fun _ => true) rfl
    (fun t => by rw [flush_out ch t]; rfl) t.val (Nat.le_of_lt t.isLt)

end Cert.ExpertsSecondIdeal.Blocks

end
-- ==== Proof.Exp.IdealFrameSecond.lean ====
/- What each point of the experts' pipeline leaves in the output's block, and the launch: every execution ends, with
   the arguments as they were and the result's blocks as the points left them. -/
module

public import proofs.«01_k».proof.Proof.Exp.IdealTabsSecond
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.ExpertsSecondIdeal.Blocks

open Cert.ExpertsSecondIdeal Cert.ExpertsSecondIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resource algebra of the program. -/
local notation "𝕄" => MT nD τ sig Unit (Elt Ideal) ℕ (UR sig nD τ) ℕ

/-- The proof's resource algebra holds the rounds library's, for the pipeline's staging cells. -/
abbrev EP : Emb (UR sig nD τ) 𝕄 := emb₁

variable (ch : Tabs)
variable (m : (ℓ : Loc nD τ sig) → Buf (Elt Ideal) ℓ) (ρ : Dev nD → PrngReg)

/-- The memory's tables are `ch`'s. -/
def Holds : Prop :=
  (∀ c : Dev nD, m ((c : Thread nD τ).loc main_arg1) = ch.expert) ∧ (∀ c : Dev nD, m ((c : Thread nD τ).loc main_arg2) = ch.used)

abbrev ms0_0 (t : Fin (cfgA ch).N) : Memref sig .tc .vmem S256x2048 .f32 := spec0_0.stage ((cfgA ch).slots t (0 : Fin 5))
abbrev hs0_0 (t : Fin (cfgA ch).N) : (ms0_0 ch t).IsWhole := hstage0_0 (((cfgA ch).slots t (0 : Fin 5)).cast nbuf0_0)
abbrev ms0_1 (t : Fin (cfgA ch).N) : Memref sig .tc .vmem S1x1x2048x512 .f32 := spec0_1.stage ((cfgA ch).slots t (1 : Fin 5))
abbrev hs0_1 (t : Fin (cfgA ch).N) : (ms0_1 ch t).IsWhole := hstage0_1 (((cfgA ch).slots t (1 : Fin 5)).cast nbuf0_1)
abbrev ms0_2 (t : Fin (cfgA ch).N) : Memref sig .tc .vmem S1x1x2048x512 .f32 := spec0_2.stage ((cfgA ch).slots t (2 : Fin 5))
abbrev hs0_2 (t : Fin (cfgA ch).N) : (ms0_2 ch t).IsWhole := hstage0_2 (((cfgA ch).slots t (2 : Fin 5)).cast nbuf0_2)
abbrev ms0_3 (t : Fin (cfgA ch).N) : Memref sig .tc .vmem S1x1x512x2048 .f32 := spec0_3.stage ((cfgA ch).slots t (3 : Fin 5))
abbrev hs0_3 (t : Fin (cfgA ch).N) : (ms0_3 ch t).IsWhole := hstage0_3 (((cfgA ch).slots t (3 : Fin 5)).cast nbuf0_3)
abbrev ms0_4 (t : Fin (cfgA ch).N) : Memref sig .tc .vmem S256x2048 .f32 := spec0_4.stage ((cfgA ch).slots t (4 : Fin 5))
abbrev hs0_4 (t : Fin (cfgA ch).N) : (ms0_4 ch t).IsWhole := hstage0_4 (((cfgA ch).slots t (4 : Fin 5)).cast nbuf0_4)

/-- Window `w`'s block at point `t`, read off its array at launch. -/
def iblk (c : Dev nD) (w : Fin (cfgA ch).W) (t : Fin (cfgA ch).N) : (((cfgA ch).win w).xblock (crd ch t)).Idx → Elt Ideal ((cfgA ch).win w).elt :=
  (((cfgA ch).win w).blk t).view.read (Elt Ideal) ((s₀ m ρ).mem (((cfgA ch).win w).arr.view.loc (c : Thread nD τ)))

/-- What the body leaves in the output's buffer at point `t`. -/
def step (c : Dev nD) (t : Fin (cfgA ch).N) : S256x2048.Idx → Elt Ideal .f32 :=
  if q : Used ch t then
    out0_A_4 c (crd ch t) (ms0_0 ch t) (hs0_0 ch t) (ms0_1 ch t) (hs0_1 ch t) (ms0_2 ch t) (hs0_2 ch t) (ms0_3 ch t) (hs0_3 ch t) (ms0_4 ch t) (hs0_4 ch t) ch.expert ch.used (iblk ch m ρ c (0 : Fin 5) t) (iblk ch m ρ c (1 : Fin 5) t) (iblk ch m ρ c (2 : Fin 5) t) (iblk ch m ρ c (3 : Fin 5) t) q (fun e => (cond2_iff _ _).1 e q)
  else
    out0_B_4 c (crd ch t) (ms0_0 ch t) (hs0_0 ch t) (ms0_1 ch t) (hs0_1 ch t) (ms0_2 ch t) (hs0_2 ch t) (ms0_3 ch t) (hs0_3 ch t) (ms0_4 ch t) (hs0_4 ch t) ch.expert ch.used (iblk ch m ρ c (0 : Fin 5) t) (iblk ch m ρ c (1 : Fin 5) t) (iblk ch m ρ c (2 : Fin 5) t) (iblk ch m ρ c (3 : Fin 5) t) q ((cond2_iff _ _).2 q)

theorem step_used (c : Dev nD) (t : Fin (cfgA ch).N) (q : Used ch t) : step ch m ρ c t =
    out0_A_4 c (crd ch t) (ms0_0 ch t) (hs0_0 ch t) (ms0_1 ch t) (hs0_1 ch t) (ms0_2 ch t) (hs0_2 ch t) (ms0_3 ch t) (hs0_3 ch t) (ms0_4 ch t) (hs0_4 ch t) ch.expert ch.used (iblk ch m ρ c (0 : Fin 5) t) (iblk ch m ρ c (1 : Fin 5) t) (iblk ch m ρ c (2 : Fin 5) t) (iblk ch m ρ c (3 : Fin 5) t) q (fun e => (cond2_iff _ _).1 e q) := by
  unfold step; rw [dif_pos q]

theorem step_unused (c : Dev nD) (t : Fin (cfgA ch).N) (q : ¬Used ch t) : step ch m ρ c t =
    out0_B_4 c (crd ch t) (ms0_0 ch t) (hs0_0 ch t) (ms0_1 ch t) (hs0_1 ch t) (ms0_2 ch t) (hs0_2 ch t) (ms0_3 ch t) (hs0_3 ch t) (ms0_4 ch t) (hs0_4 ch t) ch.expert ch.used (iblk ch m ρ c (0 : Fin 5) t) (iblk ch m ρ c (1 : Fin 5) t) (iblk ch m ρ c (2 : Fin 5) t) (iblk ch m ρ c (3 : Fin 5) t) q ((cond2_iff _ _).2 q) := by
  unfold step; rw [dif_neg q]

/-- Between two points the body keeps its halves of the tables. -/
def Phi (c : Dev nD) (t : Fin ((cfgA ch).N + 1)) : sProp 𝕄 :=
  iprop((tbM0_0.view.loc (c : Thread nD τ) ↦{fullShare.right} ch.expert) ∗ (tbM0_1.view.loc (c : Thread nD τ) ↦{fullShare.right} ch.used))

/-- The proof data of the one pipeline on core `c`. -/
def dats (_ : Fin 1) (c : Dev nD) : Dat τ (Elt Ideal) Unit ℕ (UR sig nD τ) ℕ (cfgA ch) c where
  A w := (s₀ m ρ).mem (((cfgA ch).win w).arr.view.loc (c : Thread nD τ))
  after w t := match w with
    | ⟨0, _⟩ => iblk ch m ρ c (0 : Fin 5) t
    | ⟨1, _⟩ => iblk ch m ρ c (1 : Fin 5) t
    | ⟨2, _⟩ => iblk ch m ρ c (2 : Fin 5) t
    | ⟨3, _⟩ => iblk ch m ρ c (3 : Fin 5) t
    | ⟨4, _⟩ => step ch m ρ c t
  Φ t := Phi ch c t
  q _ := fullShare
  owed _ := 0

theorem after0_0 (c : Dev nD) (t : Fin (cfgA ch).N) : (dats ch m ρ 0 c).after (0 : Fin 5) t = iblk ch m ρ c (0 : Fin 5) t := rfl
theorem after0_1 (c : Dev nD) (t : Fin (cfgA ch).N) : (dats ch m ρ 0 c).after (1 : Fin 5) t = iblk ch m ρ c (1 : Fin 5) t := rfl
theorem after0_2 (c : Dev nD) (t : Fin (cfgA ch).N) : (dats ch m ρ 0 c).after (2 : Fin 5) t = iblk ch m ρ c (2 : Fin 5) t := rfl
theorem after0_3 (c : Dev nD) (t : Fin (cfgA ch).N) : (dats ch m ρ 0 c).after (3 : Fin 5) t = iblk ch m ρ c (3 : Fin 5) t := rfl
theorem after0_4 (c : Dev nD) (t : Fin (cfgA ch).N) : (dats ch m ρ 0 c).after (4 : Fin 5) t = step ch m ρ c t := rfl

theorem before0_0 (c : Dev nD) (t : Fin (cfgA ch).N) (d) : (dats ch m ρ 0 c).before (0 : Fin 5) t d = iblk ch m ρ c (0 : Fin 5) t :=
  ((dats ch m ρ 0 c).before_in_eq_fetched (0 : Fin 5) rfl (fun _ => rfl) (fun _ _ _ => rfl)
    (fun t => by rw [after0_0]; unfold Dat.blockOf iblk; rfl) t d).trans (by unfold Dat.fetched Dat.blockOf iblk; rfl)
theorem before0_1 (c : Dev nD) (t : Fin (cfgA ch).N) (d) : (dats ch m ρ 0 c).before (1 : Fin 5) t d = iblk ch m ρ c (1 : Fin 5) t :=
  ((dats ch m ρ 0 c).before_in_eq_fetched (1 : Fin 5) rfl (fun _ => rfl) (fun _ _ _ => rfl)
    (fun t => by rw [after0_1]; unfold Dat.blockOf iblk; rfl) t d).trans (by unfold Dat.fetched Dat.blockOf iblk; rfl)
theorem before0_2 (c : Dev nD) (t : Fin (cfgA ch).N) (d) : (dats ch m ρ 0 c).before (2 : Fin 5) t d = iblk ch m ρ c (2 : Fin 5) t :=
  ((dats ch m ρ 0 c).before_in_eq_fetched (2 : Fin 5) rfl (fun _ => rfl) (fun _ _ _ => rfl)
    (fun t => by rw [after0_2]; unfold Dat.blockOf iblk; rfl) t d).trans (by unfold Dat.fetched Dat.blockOf iblk; rfl)
theorem before0_3 (c : Dev nD) (t : Fin (cfgA ch).N) (d) : (dats ch m ρ 0 c).before (3 : Fin 5) t d = iblk ch m ρ c (3 : Fin 5) t :=
  ((dats ch m ρ 0 c).before_in_eq_fetched (3 : Fin 5) rfl (fun _ => rfl) (fun _ _ _ => rfl)
    (fun t => by rw [after0_3]; unfold Dat.blockOf iblk; rfl) t d).trans (by unfold Dat.fetched Dat.blockOf iblk; rfl)

/-- The output's buffer holds junk when the body runs. -/
theorem before0_4 (c : Dev nD) (t : Fin (cfgA ch).N) (d) : (dats ch m ρ 0 c).before (4 : Fin 5) t d = d := by
  rw [(dats ch m ρ 0 c).before_out_traj (4 : Fin 5) rfl (fun _ _ => rfl)
    (fun t _ hi _ => absurd hi (by rw [idle_out ch t]; decide)) t.val t rfl d]
  simp only [fresh_out ch t, ↓reduceIte]

/-- The body at point `t` on its staging memrefs, as the pipeline calls it. -/
abbrev bodyAt0 (t : Fin (cfgA ch).N) : Prog (TpuEff nD τ sig (Elt Ideal) Λ₀ .tc) PUnit :=
  cc0_moe_experts (crd ch t) (Memref.whole main_arg1) (Memref.isWhole_whole _) (Memref.whole main_arg2) (Memref.isWhole_whole _) (ms0_0 ch t) (hs0_0 ch t) (ms0_1 ch t) (hs0_1 ch t) (ms0_2 ch t) (hs0_2 ch t) (ms0_3 ch t) (hs0_3 ch t) (ms0_4 ch t) (hs0_4 ch t)

set_option maxHeartbeats 4000000 in
/-- The body at point `t`: a used block is computed, any other is zeroed. -/
theorem sound_body (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 5) t d))
        ∗ (∃ d, owns (c : Thread nD τ) (ms0_1 ch t) fullShare ((dats ch m ρ 0 c).before (1 : Fin 5) t d))
        ∗ (∃ d, owns (c : Thread nD τ) (ms0_2 ch t) fullShare ((dats ch m ρ 0 c).before (2 : Fin 5) t d))
        ∗ (∃ d, owns (c : Thread nD τ) (ms0_3 ch t) fullShare ((dats ch m ρ 0 c).before (3 : Fin 5) t d))
        ∗ (∃ d, owns (c : Thread nD τ) (ms0_4 ch t) fullShare ((dats ch m ρ 0 c).before (4 : Fin 5) t d)))
      ⊢ wp frame (wpE (defs₀ (F := Ideal)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  rewrite [idle_out ch t]
  simp only [before0_0, before0_1, before0_2, before0_3, before0_4, after0_0, after0_1, after0_2, after0_3, after0_4]
  rewrite [show (dats ch m ρ 0 c).Φ t.succ = Phi ch c t.succ from rfl, show (dats ch m ρ 0 c).Φ t.castSucc = Phi ch c t.castSucc from rfl,
    show (dats ch m ρ 0 c).owesAt () t.succ = (dats ch m ρ 0 c).owesAt () t.castSucc from rfl]
  unfold Phi
  by_cases q : Used ch t
  · rw [step_used ch m ρ c t q]
    iintro ⟨⟨HT0, HT1⟩, Ho, ⟨%d0, H0⟩, ⟨%d1, H1⟩, ⟨%d2, H2⟩, ⟨%d3, H3⟩, ⟨%d4, H4⟩⟩
    iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) ch.expert ch.used (iblk ch m ρ c (0 : Fin 5) t) (iblk ch m ρ c (1 : Fin 5) t) (iblk ch m ρ c (2 : Fin 5) t) (iblk ch m ρ c (3 : Fin 5) t) q ((fun e => (cond2_iff _ _).1 e q))).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    iintro ⟨H0, H1, H2, H3, HT0, HT1, ⟨%e4, H4⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact View.read_writes_of_cover _ _ _ _ _ (cover0_A_4 c _ _ _ _ _ _ _ _ _ _ _ _ _ _ _ _ _ _ _)
  · rw [step_unused ch m ρ c t q]
    iintro ⟨⟨HT0, HT1⟩, Ho, ⟨%d0, H0⟩, ⟨%d1, H1⟩, ⟨%d2, H2⟩, ⟨%d3, H3⟩, ⟨%d4, H4⟩⟩
    iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) ch.expert ch.used (iblk ch m ρ c (0 : Fin 5) t) (iblk ch m ρ c (1 : Fin 5) t) (iblk ch m ρ c (2 : Fin 5) t) (iblk ch m ρ c (3 : Fin 5) t) q ((cond2_iff _ _).2 q)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    iintro ⟨H0, H1, H2, H3, HT0, HT1, ⟨%e4, H4⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact View.read_writes_of_cover _ _ _ _ _ (cover0_B_4 c _ _ _ _ _ _ _ _ _ _ _ _ _ _ _ _ _ _ _)

/-- The library's body obligation, at every point. -/
theorem body_obligation (c : Dev nD) : BodyObligation (dats ch m ρ 0 c) (defs₀ (F := Ideal)) Variants.none () Set.univ := fun t => by
  rw [bigSep_W0]
  exact sound_body ch m ρ c t

/-- The rounds library's launch element. -/
def u₀ : UR sig nD τ :=
  initOf (Pipeline.cells (pcs ch) ((launch0 (F := Ideal)).cellOf_inj fun _ => adm ch))
    (Pipeline.launchToks (pcs ch) ((launch0 (F := Ideal)).cellOf_inj fun _ => adm ch))

theorem share_eq (c : Dev nD) (w : Fin (cfgA ch).W) : (dats ch m ρ 0 c).share w = fullShare := by unfold Dat.share; split <;> rfl

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch c 0 from rfl]
  unfold Phi
  iintro ⟨-, ⟨HT0, HT1⟩, -⟩
  isplitl [HT0]
  · iexact HT0
  iexact HT1

theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch c (Fin.last _) from rfl]
  unfold Phi
  iintro ⟨-, -⟩
  isplitr; · iempintro
  iempintro

/-- Every array at what the points leave, every table as it was. -/
def QC : PUnit × MemSt nD τ sig (Elt Ideal) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem V_pre (hp : Holds ch m) (c : Dev nD) (j : Fin 2) : m ((c : Thread nD τ).loc (pre0.ref j)) = (adm ch).1 j := by
  fin_cases j
  · exact hp.1 c
  · exact hp.2 c

set_option backward.isDefEq.respectTransparency.types false in
set_option maxHeartbeats 4000000 in
/-- Every weakly fair execution of the program terminates, with each array at the computed contents and every
    semaphore counter at zero. -/
theorem run_main_quiescent (hp : Holds ch m) : θ_run (defs (F := Ideal)) (onTc (τ := τ) (main (F := Ideal))) (s₀ m ρ) (fun r => QC ch m ρ r ∧ r.2.sem = fun _ => 0) :=
  Pipeline.θ_run_region_noSem_pf_quiescent pcfgs (fun _ => adm ch) (dats ch m ρ) () ((launch0 (F := Ideal)).cellOf_inj fun _ => adm ch) (0 : Fin 1)
    (launch0 (F := Ideal)).win.to₀ (launch0 (F := Ideal)).pre EP defs₀ Variants.none m ρ main
    (hbody := fun c => (body_obligation ch m ρ c).loose) (hne := (launch0 (F := Ideal)).block_pos)
    (harr := (launch0 (F := Ideal)).arr_whole) (hstage := (launch0 (F := Ideal)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Ideal)).win.arr_inj c (launch0 (F := Ideal)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

theorem run_main (hp : Holds ch m) : θ_run (defs (F := Ideal)) (onTc (τ := τ) (main (F := Ideal))) (s₀ m ρ) (QC ch m ρ) :=
  (θ_run defs _ _).mono (fun _ h => h.1) (run_main_quiescent ch m ρ hp)

theorem unchanged (hp : Holds ch m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 (0 : Fin 5)).trans ((dats ch m ρ 0 c).arrAt_in (0 : Fin 5) rfl _), ((h c).2 0).trans (hp.1 c).symm, ((h c).2 1).trans (hp.2 c).symm, ((h c).1 (1 : Fin 5)).trans ((dats ch m ρ 0 c).arrAt_in (1 : Fin 5) rfl _), ((h c).1 (2 : Fin 5)).trans ((dats ch m ρ 0 c).arrAt_in (2 : Fin 5) rfl _), ((h c).1 (3 : Fin 5)).trans ((dats ch m ρ 0 c).arrAt_in (3 : Fin 5) rfl _)⟩) (run_main ch m ρ hp)

/-- Every execution ends, the arguments unchanged and every semaphore counter at zero. -/
theorem frame (hp : Holds ch m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged ch m ρ hp) ((θ_run defs _ _).mono (fun _ h => h.2) (run_main_quiescent ch m ρ hp))

end Cert.ExpertsSecondIdeal.Blocks

end
-- ==== Proof.Exp.IdealPreSecond.lean ====
/- The precondition gives the tables their ranges, so every execution from such a memory ends. -/
module

public import proofs.«01_k».proof.Defs
public import proofs.«01_k».proof.Proof.Exp.IdealFrameSecond
public import proofs.«01_k».proof.Proof.Exp.Ranges
public import proofs.«01_k».proof.Proof.Gen.Pre_expert_tables

@[expose] public section
noncomputable section

namespace Cert.ExpertsSecondIdeal.Blocks
open Cert.ExpertsSecondIdeal Cert.ExpertsSecondIdeal.Gen
open Idealize.ShloMosaic Idealize.ShloMosaic.TcCoe

/-- The tables of a memory the precondition holds of. -/
theorem tabs_of_pre (m : (ℓ : Loc nD τ sig) → Buf (Elt Ideal) ℓ)
    (h : Cert.Pre_ExpertsSecondIdeal (hPre_expert_tables := Cert.Pre_expert_tables.Gen.facts) m) : ∃ ch : Tabs, Holds ch m := by
  have hr := @Cert.Pre_expert_tables.ranges Cert.Pre_expert_tables.Gen.facts _ _ _ _ _ _ _ _ (h (0 : Fin 1))
  have hd : ∀ c : Dev nD, c = (0 : Fin 1) := fun c => Subsingleton.elim (α := Fin 1) _ _
  exact ⟨⟨m (((0 : Fin 1) : Thread nD τ).loc main_arg1), m (((0 : Fin 1) : Thread nD τ).loc main_arg2), hr.1, hr.2.1, hr.2.2⟩,
    fun c => by rw [hd c], fun c => by rw [hd c]⟩

end Cert.ExpertsSecondIdeal.Blocks
end
-- ==== Proof.Exp.Math.lean ====
/- The mathematics of one row of a block of the experts, and how a gathered slab of a table reads. -/
module

public import Idealize.ShloMosaic.Lib.Pointwise
public import Idealize.ShloMosaic.Lib.StableHlo.Predicate

@[expose] public section
noncomputable section

namespace Cert.Experts
open Idealize.ShloMosaic Idealize.ShloMosaic.TcCoe

/-- The gate of a number, as the kernel computes it. -/
def gate (a : EReal) : EReal := Ideal.div a (1 + Ideal.exp (0 - a))

/-- One entry of a row's image under an expert: the gated hidden row against a column of the last matrix. -/
def rowOut (x : Fin 2048 → EReal) (g u : Fin 2048 → Fin 512 → EReal) (d : Fin 512 → EReal) : EReal :=
  ∑ f : Fin 512, gate (∑ k : Fin 2048, x k * g k f) * (∑ k : Fin 2048, x k * u k f) * d f

/-- One more than an exponential is not zero. -/
theorem one_add_exp_ne (a : EReal) : (1 + Ideal.exp a : EReal) ≠ 0 := by
  have h : (0 : EReal) ≤ Ideal.exp a := by
    induction a using EReal.rec with
    | bot => exact le_of_eq rfl
    | top => exact le_top
    | coe x => exact EReal.coe_nonneg.2 (Real.exp_pos x).le
  have h1 : (0 : EReal) < 1 + Ideal.exp a := lt_of_lt_of_le zero_lt_one (le_add_of_nonneg_right h)
  exact h1.ne'

/-- The gate as the reference computes it: the number times the reciprocal. -/
theorem gate_eq (a : EReal) : a * Ideal.div 1 (1 + Ideal.exp (-a)) = gate a := by
  unfold gate Ideal.div
  rw [zero_sub, if_neg (one_add_exp_ne (-a)), if_neg (one_add_exp_ne (-a)), one_mul]

/-- A gather of whole slabs `[A × B]` of a table of `N`, one per start index. -/
def slab (N A B n : ℕ) (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- A slab gathered at an index of the table is the table's slab there. -/
theorem slab_at {N A B n : ℕ} (wf) (x : (⟨3, ![N, A, B]⟩ : Shape).Idx → EReal) (idx : IVec ⟨2, ![n, 1]⟩ 32)
    (p : Fin n) (a : Fin A) (b : Fin B) (e : Fin N) (h : (idx (ix2 p 0)).toInt = (e.val : ℤ)) :
    Host.gather (slab N A B n wf) x idx (ix3 p a b) = x (ix3 e a b) := by
  unfold Host.gather
  refine congrArg x (funext fun z => Fin.ext ?_)
  have hs : (slab N A B n wf).siIdx (ix3 p a b) ⟨0, Nat.one_pos⟩ = ix2 p 0 := by
    funext y
    apply Fin.ext
    fin_cases y <;> rfl
  have he := e.isLt
  fin_cases z
  · show (slab N A B n wf).start (ix3 p a b) idx 0 + 0 + 0 = e.val
    have : (slab N A B n wf).start (ix3 p a b) idx 0 = min (idx ((slab N A B n wf).siIdx (ix3 p a b) ⟨0, Nat.one_pos⟩)).toInt.toNat (N - 1) := rfl
    rw [this, hs, h]
    simp only [Int.toNat_natCast]
    omega
  · show (0 + 0 + a.val : ℕ) = a.val
    omega
  · show (0 + 0 + b.val : ℕ) = b.val
    omega

end Cert.Experts
end
-- ==== Proof.Exp.IdealValue.lean ====
/- What the experts' launch leaves in the result: each used block's rows through the block's expert, zero elsewhere. -/
module

public import proofs.«01_k».proof.Proof.Exp.IdealFrame
public import proofs.«01_k».proof.Proof.Exp.Math
public import Idealize.ShloMosaic.Lib.Pointwise
public import Idealize.ShloMosaic.Lib.WordCmp
public import Idealize.ShloMosaic.Lib.Pipeline.ValueKit
public import Idealize.ShloMosaic.Lib.Pipeline.ReadBack

@[expose] public section
set_option maxRecDepth 16384
noncomputable section

namespace Cert.ExpertsIdeal.Blocks
open Cert.ExpertsIdeal Cert.ExpertsIdeal.Gen
open Cert.Experts (gate rowOut)
open Idealize.ShloMosaic Idealize.ShloMosaic.TcCoe Idealize.SL.Sem
open Idealize.ShloMosaic.Pipeline (Dat Cfg Window)

/-- One entry of a block through its expert. -/
theorem pay1_at (x : FVec Ideal S256x2048 .f32) (g u : FVec Ideal S1x1x2048x512 .f32) (d : FVec Ideal S1x1x512x2048 .f32)
    (r : Fin 256) (c : Fin 2048) :
    k0_pay1 (F := Ideal) x g u d (ix2 r c) = rowOut (fun k => x (ix2 r k)) (fun k f => g (ix4 0 0 k f)) (fun k f => u (ix4 0 0 k f)) (fun f => d (ix4 0 0 f c)) := by
  unfold rowOut gate
  pointwise [k0_pay1]

/-- An unused block is zero. -/
theorem pay2_at (y : S256x2048.Idx) : k0_pay2 (F := Ideal) y = (0 : EReal) := by
  pointwise [k0_pay2]

/-- A block filled whole reads as what filled it. -/
theorem canon_whole (inb) (w : S256x2048.Idx → Elt Ideal .f32) (y : S256x2048.Idx) :
    View.canon [(⟨Rect.unit (s := S256x2048) ![0, 0] S256x2048.size inb, w⟩ : View.Piece (Elt Ideal) _ .f32)] y = w y := by
  have e : (Rect.unit (s := S256x2048) ![0, 0] S256x2048.size inb).emb y = y :=
    Rect.emb_eq_of_coords _ _ _ fun a => by fin_cases a <;> simp
  conv_lhs => rw [← e]
  exact View.canon_cons_emb (Rect.unit (s := S256x2048) ![0, 0] S256x2048.size inb) w [] _

/-- The one index of a table of one entry. -/
theorem idx1 (y : S1.Idx) : y = ix1 0 := funext fun a => by
  fin_cases a
  exact Subsingleton.elim (α := Fin 1) _ _
/-- An index of the table of experts, by its number. -/
theorem idx98 (y : S98.Idx) (n : Fin 98) (h : (y 0).val = n.val) : y = ix1 n := funext fun a => by
  fin_cases a
  exact Fin.ext h

variable (ch : Tabs)

/-- A point's coordinate is its number. -/
theorem coord_val (t : Fin (cfgA ch).N) : (crd ch t 0).val = t.val := by
  have h : ∀ t : Fin grid0.N, (grid0.coords t 0).val = t.val := by decide +kernel
  exact h t

/-- The expert of block `t`. -/
def expertOf (t : Fin 98) : Fin 32 := ⟨(ch.expert (ix1 t)).toNat, ch.expert_lt _⟩
/-- How many blocks are used. -/
def usedCount : ℕ := (ch.used (ix1 0)).toNat

theorem usedWord_eq : usedWord ch = ch.used (ix1 0) := by
  exact congrArg ch.used (idx1 _)

/-- A block is used when its number is below the count. -/
theorem used_iff (t : Fin (cfgA ch).N) : Used ch t ↔ t.val < usedCount ch := by
  have ht : t.val < 98 := t.isLt
  have h2 := ch.used_le (ix1 0)
  unfold Used k0_cond1
  dsimp only
  rw [usedWord_eq, coord_val]
  have hc : Scalar.cmpi .slt (BitVec.ofNat 32 t.val) (ch.used (ix1 0)) = 1#1 ↔ t.val < usedCount ch := by
    rw [show Scalar.cmpi .slt (BitVec.ofNat 32 t.val) (ch.used (ix1 0)) = IntOp.cmpi .slt (BitVec.ofNat 32 t.val) (ch.used (ix1 0)) from rfl, IntOp.cmpi_slt]
    rw [BitVec.toInt_eq_toNat_of_lt (by rw [BitVec.toNat_ofNat]; omega), BitVec.toInt_eq_toNat_of_lt (by omega), BitVec.toNat_ofNat]
    unfold usedCount
    omega
  rw [← hc]
  generalize Scalar.cmpi .slt (BitVec.ofNat 32 t.val) (ch.used (ix1 0)) = b
  revert b
  decide

/-- The rows a used point reads are its own block's. -/
theorem index_rows (t : Fin (cfgA ch).N) (q : t.val < usedCount ch) : ((cfgA ch).win (0 : Fin 5)).index t = ![t.val, 0] := by
  have ht : t.val < 98 := t.isLt
  have h2 := ch.used_le (ix1 0)
  have hy : (tabOf ch).at 1 (Rect.unit (s := S1) ![0] S1.size inb_S1_S1_0) numel1_S1 = ch.used (ix1 0) :=
    congrArg ch.used (idx1 _)
  show cc0_transform_0 inb_S1_S1_0 numel1_S1 (tabOf ch) (crd ch t) = _
  unfold cc0_transform_0
  dsimp only
  rw [hy, coord_val]
  unfold usedCount at q
  have hs : (Scalar.subi (ch.used (ix1 0)) 1#32).toNat = (ch.used (ix1 0)).toNat - 1 := by
    show (ch.used (ix1 0) - 1#32).toNat = _
    rw [BitVec.toNat_sub]
    simp only [BitVec.toNat_ofNat]
    omega
  have hm := WordArith.toNat_minsi_of_lt (BitVec.ofNat 32 t.val) (Scalar.subi (ch.used (ix1 0)) 1#32)
    (by rw [BitVec.toNat_ofNat]; omega) (by rw [hs]; omega)
  rw [Scalar.minsi, hm, hs, BitVec.toNat_ofNat]
  have : min (t.val % 2 ^ 32) ((ch.used (ix1 0)).toNat - 1) = t.val := by omega
  rw [this]
  rfl

theorem expert_word (t : Fin (cfgA ch).N) :
    (tabOf ch).at 0 (Rect.unit (s := S98) ![(Scalar.indexCast (BitVec.ofNat 32 (crd ch t 0).val) : Index).toNat] S1.size (k0_off1_inb (crd ch t))) numel1_S1
      = ch.expert (ix1 ⟨t.val, t.isLt⟩) := by
  have ht : t.val < 98 := t.isLt
  refine congrArg ch.expert (idx98 _ _ ?_)
  show (BitVec.ofNat 32 (crd ch t 0).val).toNat + 1 * 0 = t.val
  rw [coord_val, BitVec.toNat_ofNat]
  omega

/-- The matrices a point reads are its expert's. -/
theorem index_gate (t : Fin (cfgA ch).N) : ((cfgA ch).win (1 : Fin 5)).index t = ![0, (expertOf ch ⟨t.val, t.isLt⟩).val, 0, 0] := by
  show cc0_transform_1 k0_off1_inb numel1_S1 (tabOf ch) (crd ch t) = _
  unfold cc0_transform_1
  dsimp only
  rw [expert_word]
  rfl
theorem index_up (t : Fin (cfgA ch).N) : ((cfgA ch).win (2 : Fin 5)).index t = ![0, (expertOf ch ⟨t.val, t.isLt⟩).val, 0, 0] := by
  show cc0_transform_2 k0_off1_inb numel1_S1 (tabOf ch) (crd ch t) = _
  unfold cc0_transform_2
  dsimp only
  rw [expert_word]
  rfl
theorem index_down (t : Fin (cfgA ch).N) : ((cfgA ch).win (3 : Fin 5)).index t = ![0, (expertOf ch ⟨t.val, t.isLt⟩).val, 0, 0] := by
  show cc0_transform_3 k0_off1_inb numel1_S1 (tabOf ch) (crd ch t) = _
  unfold cc0_transform_3
  dsimp only
  rw [expert_word]
  rfl
theorem index_out (t : Fin (cfgA ch).N) : ((cfgA ch).win (4 : Fin 5)).index t = ![t.val, 0] := by
  have h : ∀ t : Fin grid0.N, cc0_transform_4 (grid0.coords t) = ![t.val, 0] := by decide +kernel
  exact h t

variable (m : (ℓ : Loc nD τ sig) → Buf (Elt Ideal) ℓ) (ρ : Dev nD → PrngReg)

theorem rows_at (c : Dev nD) (t : Fin (cfgA ch).N) (q : t.val < usedCount ch) (r : Fin 256) (k : Fin 2048) :
    iblk ch m ρ c (0 : Fin 5) t (ix2 r k) = m ((c : Thread nD τ).loc main_arg0) (ix2 ⟨256 * t.val + r.val, by have : t.val < 98 := t.isLt; omega⟩ k) := by
  blk_simp [iblk, index_rows ch t q]
  pointwise
  blk_ext [index_rows ch t q]

theorem gate_at (c : Dev nD) (t : Fin (cfgA ch).N) (k : Fin 2048) (f : Fin 512) :
    iblk ch m ρ c (1 : Fin 5) t (ix4 0 0 k f) = m ((c : Thread nD τ).loc main_arg3) (ix4 0 (expertOf ch ⟨t.val, t.isLt⟩) k f) := by
  blk_simp [iblk, index_gate ch t]
  pointwise
  blk_ext [index_gate ch t]
  exact Nat.add_zero _

theorem up_at (c : Dev nD) (t : Fin (cfgA ch).N) (k : Fin 2048) (f : Fin 512) :
    iblk ch m ρ c (2 : Fin 5) t (ix4 0 0 k f) = m ((c : Thread nD τ).loc main_arg4) (ix4 0 (expertOf ch ⟨t.val, t.isLt⟩) k f) := by
  blk_simp [iblk, index_up ch t]
  pointwise
  blk_ext [index_up ch t]
  exact Nat.add_zero _

theorem down_at (c : Dev nD) (t : Fin (cfgA ch).N) (f : Fin 512) (d : Fin 2048) :
    iblk ch m ρ c (3 : Fin 5) t (ix4 0 0 f d) = m ((c : Thread nD τ).loc main_arg5) (ix4 0 (expertOf ch ⟨t.val, t.isLt⟩) f d) := by
  blk_simp [iblk, index_down ch t]
  pointwise
  blk_ext [index_down ch t]
  exact Nat.add_zero _

/-- The result's entry at row `256 t + r`. -/
def entry (c : Dev nD) (t : Fin 98) (r : Fin 256) (d : Fin 2048) : EReal :=
  if t.val < usedCount ch then
    rowOut (fun k => m ((c : Thread nD τ).loc main_arg0) (ix2 ⟨256 * t.val + r.val, by omega⟩ k))
      (fun k f => m ((c : Thread nD τ).loc main_arg3) (ix4 0 (expertOf ch t) k f))
      (fun k f => m ((c : Thread nD τ).loc main_arg4) (ix4 0 (expertOf ch t) k f))
      (fun f => m ((c : Thread nD τ).loc main_arg5) (ix4 0 (expertOf ch t) f d))
  else 0

/-- What a point leaves in the output's block. -/
theorem step_at (c : Dev nD) (t : Fin (cfgA ch).N) (r : Fin 256) (d : Fin 2048) :
    step ch m ρ c t (ix2 r d) = entry ch m c ⟨t.val, t.isLt⟩ r d := by
  unfold entry
  by_cases q : Used ch t
  · have q' := (used_iff ch t).1 q
    rw [step_used ch m ρ c t q, if_pos q']
    unfold out0_A_4 kernelRun0_A
    frame_out
    rw [View.read_rep, View.read_rep, View.read_rep, View.read_rep]
    rw [pay1_at]
    simp only [rows_at ch m ρ c t q', gate_at, up_at, down_at]
  · have q' := fun h => q ((used_iff ch t).2 h)
    rw [step_unused ch m ρ c t q, if_neg q']
    unfold out0_B_4 kernelRun0_B
    frame_out
    exact pay2_at _

theorem covers_out : ((cfgA ch).win (4 : Fin 5)).Covers := by
  have n0 : ((cfgA ch).win (4 : Fin 5)).nblk (0 : Fin 2) = 98 := by
    show (25088 + 256 - 1) / 256 = 98
    decide
  have n1 : ((cfgA ch).win (4 : Fin 5)).nblk (1 : Fin 2) = 1 := by
    show (2048 + 2048 - 1) / 2048 = 1
    decide
  refine ⟨fun a => ?_, fun β => ?_⟩
  · fin_cases a
    · show 0 < 256
      decide
    · show 0 < 2048
      decide
  have h0 : (β (0 : Fin 2)).val < 98 := lt_of_lt_of_eq (β (0 : Fin 2)).isLt n0
  have h1 : (β (1 : Fin 2)).val < 1 := lt_of_lt_of_eq (β (1 : Fin 2)).isLt n1
  refine ⟨⟨(β (0 : Fin 2)).val, h0⟩, flush_out ch _, fun a => ⟨?_, .inl rfl⟩⟩
  rw [index_out]
  fin_cases a
  · rfl
  · show 0 = (β (1 : Fin 2)).val
    omega

/-- The result, as one array. -/
def target (c : Dev nD) : S25088x2048.Idx → Elt Ideal .f32 := fun i =>
  entry ch m c ⟨(i 0).val / 256, by have : (i 0).val < 25088 := (i 0).isLt; omega⟩ ⟨(i 0).val % 256, Nat.mod_lt _ (by decide)⟩ (i 1)

theorem final4 (c : Dev nD) : (dats ch m ρ 0 c).arrAt (4 : Fin 5) (cfgA ch).N = target ch m c := by
  refine (dats ch m ρ 0 c).arrAt_eq_of_covers (4 : Fin 5) _ (covers_out ch) fun t hf y => ?_
  blk_simp
  obtain ⟨r, d, rfl⟩ : ∃ (r : Fin 256) (d : Fin 2048), y = ix2 r d := ⟨y 0, y 1, eq_ix2 y⟩
  rw [after0_4, step_at ch m ρ c t r d]
  unfold target
  have e0 : ((((cfgA ch).win (4 : Fin 5)).blk t).view.emb (ix2 r d) 0).val = 256 * t.val + r.val := by
    blk_simp [index_out ch t]
    omega
  have e1 : ((((cfgA ch).win (4 : Fin 5)).blk t).view.emb (ix2 r d) 1).val = d.val := by
    blk_simp [index_out ch t]
  congr 1
  · apply Fin.ext; simp only [e0]; omega
  · apply Fin.ext; simp only [e0]; omega
  · apply Fin.ext; exact e1.symm

end Cert.ExpertsIdeal.Blocks
end
-- ==== Proof.Exp.RefEntries.lean ====
/- The experts as the reference writes them, stage by stage, and each stage's entries. -/
module

public import proofs.«01_k».proof.Proof.Gen.ExpertsRefIdeal.Run
public import proofs.«01_k».proof.Proof.Exp.Math
public import Idealize.ShloMosaic.Lib.Pointwise
public import Idealize.ShloMosaic.Lib.WordCmp

@[expose] public section
set_option maxRecDepth 16384
noncomputable section

namespace Cert.ExpertsRefIdeal.Blocks
open Cert.ExpertsRefIdeal Cert.ExpertsRefIdeal.Gen
open Cert.Experts (gate rowOut slab slab_at gate_eq)
open Idealize.ShloMosaic Idealize.ShloMosaic.TcCoe

/-- The start indices: a negative expert would count from the end. -/
def startT (b : IVec S98 32) : IVec S98x1 32 :=
  broadcastInDim S98x1 ![0] bcast_S98_S98x1_0 (select (cmpi .slt b (broadcastInDim S98 ![] bcast_S_S98 (constantI S_ 32 0#32))) (addi b (broadcastInDim S98 ![] bcast_S_S98 (constantI S_ 32 32#32))) b)

/-- Each block's first or second matrix. -/
def upT (w : FVec Ideal S2x32x2048x512 .f32) (b : IVec S98 32) : FVec Ideal S98x2048x512 .f32 :=
  Host.gather gather_S32x2048x512_S98x1_S98x2048x512_12_0_n_n_0_1_12048512 (shapeCast S32x2048x512 (extractStridedSlice S1x32x2048x512 ![0, 0, 0, 0] w slices_S2x32x2048x512_S1x32x2048x512_0_0_0_0) shapeCasts_S1x32x2048x512_S32x2048x512) (startT b)

/-- Each block's last matrix. -/
def downT (w : FVec Ideal S2x32x512x2048 .f32) (b : IVec S98 32) : FVec Ideal S98x512x2048 .f32 :=
  Host.gather gather_S32x512x2048_S98x1_S98x512x2048_12_0_n_n_0_1_15122048 (shapeCast S32x512x2048 (extractStridedSlice S1x32x512x2048 ![0, 0, 0, 0] w slices_S2x32x512x2048_S1x32x512x2048_0_0_0_0) shapeCasts_S1x32x512x2048_S32x512x2048) (startT b)

/-- The blocks' rows through a matrix each. -/
def hidT (x : FVec Ideal S25088x2048 .f32) (u : FVec Ideal S98x2048x512 .f32) : FVec Ideal S98x256x512 .f32 :=
  Host.dotGeneral dot_S98x256x2048_S98x2048x512_S98x256x512_2_1_1_2_0_0 none (shapeCast S98x256x2048 x shapeCasts_S25088x2048_S98x256x2048) u

/-- The gated rows. -/
def siluT (a : FVec Ideal S98x256x512 .f32) : FVec Ideal S98x256x512 .f32 :=
  mulf a (Host.divf (broadcastInDim S98x256x512 ![] bcast_S_S98x256x512 (constant S_ .f32 0x3F800000#32)) (addf (broadcastInDim S98x256x512 ![] bcast_S_S98x256x512 (constant S_ .f32 0x3F800000#32)) (Host.exp (Host.negf a))))

/-- The product of the two hidden rows through the last matrix. -/
def mixT (a b : FVec Ideal S98x256x512 .f32) (d : FVec Ideal S98x512x2048 .f32) : FVec Ideal S98x256x2048 .f32 :=
  Host.dotGeneral dot_S98x256x512_S98x512x2048_S98x256x2048_2_1_1_2_0_0 none (mulf a b) d

/-- The used blocks kept, the others zero. -/
def keepT (n : IVec S1 32) (v : FVec Ideal S98x256x2048 .f32) : FVec Ideal S25088x2048 .f32 :=
  shapeCast S25088x2048 (select (broadcastInDim S98x256x2048 ![0, 1, 2] bcast_S98x1x1_S98x256x2048_0_1_2 (broadcastInDim S98x1x1 ![0] bcast_S98_S98x1x1_0 (cmpi .slt (iotaInDim S98 32 0) (broadcastInDim S98 ![] bcast_S_S98 (shapeCast S_ n shapeCasts_S1_S_))))) v
    (broadcastInDim S98x256x2048 ![] bcast_S_S98x256x2048 (constant S_ .f32 0x00000000#32))) shapeCasts_S98x256x2048_S25088x2048

/-- The reference's result. -/
def resT (x : FVec Ideal S25088x2048 .f32) (b : IVec S98 32) (n : IVec S1 32) (w1 w3 : FVec Ideal S2x32x2048x512 .f32)
    (w2 : FVec Ideal S2x32x512x2048 .f32) : FVec Ideal S25088x2048 .f32 :=
  keepT n (mixT (siluT (hidT x (upT w1 b))) (hidT x (upT w3 b)) (downT w2 b))

/-- An expert's number as a start index is the number. -/
theorem startT_at (b : IVec S98 32) (t : Fin 98) (h : (b (ix1 t)).toNat < 32) : (startT b (ix2 t 0)).toInt = ((b (ix1 t)).toNat : ℤ) := by
  have e : startT b (ix2 t 0) = Scalar.select (IntOp.cmpi .slt (b (ix1 t)) 0#32) (IntOp.addi (b (ix1 t)) 32#32) (b (ix1 t)) := by
    pointwise [startT]
  have hi : (b (ix1 t)).toInt = ((b (ix1 t)).toNat : ℤ) := BitVec.toInt_eq_toNat_of_lt (by omega)
  have hc : ¬(IntOp.cmpi .slt (b (ix1 t)) 0#32 = 1#1) := by
    rw [IntOp.cmpi_slt, hi]
    simp
  rw [e]
  unfold Scalar.select
  rw [if_neg (show ¬(_ = (1 : BitVec 1)) from hc), hi]

theorem upT_at (w : FVec Ideal S2x32x2048x512 .f32) (b : IVec S98 32) (t : Fin 98) (h : (b (ix1 t)).toNat < 32) (k : Fin 2048) (f : Fin 512) :
    upT w b (ix3 t k f) = w (ix4 0 ⟨(b (ix1 t)).toNat, h⟩ k f) := by
  unfold upT
  refine (slab_at (N := 32) (A := 2048) (B := 512) (n := 98) gather_S32x2048x512_S98x1_S98x2048x512_12_0_n_n_0_1_12048512_wf _ (startT b) t k f ⟨_, h⟩ (startT_at b t h)).trans ?_
  pointwise

theorem downT_at (w : FVec Ideal S2x32x512x2048 .f32) (b : IVec S98 32) (t : Fin 98) (h : (b (ix1 t)).toNat < 32) (f : Fin 512) (d : Fin 2048) :
    downT w b (ix3 t f d) = w (ix4 0 ⟨(b (ix1 t)).toNat, h⟩ f d) := by
  unfold downT
  refine (slab_at (N := 32) (A := 512) (B := 2048) (n := 98) gather_S32x512x2048_S98x1_S98x512x2048_12_0_n_n_0_1_15122048_wf _ (startT b) t f d ⟨_, h⟩ (startT_at b t h)).trans ?_
  pointwise

theorem hidT_at (x : FVec Ideal S25088x2048 .f32) (u : FVec Ideal S98x2048x512 .f32) (t : Fin 98) (r : Fin 256) (f : Fin 512) :
    hidT x u (ix3 t r f) = ∑ k : Fin 2048, x (ix2 ⟨t.val * 256 + r.val, by omega⟩ k) * u (ix3 t k f) := by
  pointwise [hidT]

theorem siluT_at (a : FVec Ideal S98x256x512 .f32) (t : Fin 98) (r : Fin 256) (f : Fin 512) :
    siluT a (ix3 t r f) = gate (a (ix3 t r f)) := by
  rw [← gate_eq]
  pointwise [siluT]

theorem mixT_at (a b : FVec Ideal S98x256x512 .f32) (d : FVec Ideal S98x512x2048 .f32) (t : Fin 98) (r : Fin 256) (c : Fin 2048) :
    mixT a b d (ix3 t r c) = ∑ f : Fin 512, a (ix3 t r f) * b (ix3 t r f) * d (ix3 t f c) := by
  pointwise [mixT]

theorem keepT_at (n : IVec S1 32) (v : FVec Ideal S98x256x2048 .f32) (i : Fin 25088) (c : Fin 2048) :
    keepT n v (ix2 i c) = Scalar.select (IntOp.cmpi .slt (BitVec.ofNat 32 (i.val / 256)) (n (ix1 0)))
      (v (ix3 ⟨i.val / 256, by omega⟩ ⟨i.val % 256, by omega⟩ c)) (0 : EReal) := by
  pointwise [keepT]

/-- The reference's entry. -/
theorem resT_at (x : FVec Ideal S25088x2048 .f32) (b : IVec S98 32) (n : IVec S1 32) (w1 w3 : FVec Ideal S2x32x2048x512 .f32)
    (w2 : FVec Ideal S2x32x512x2048 .f32) (hb : ∀ y, (b y).toNat < 32) (hn : (n (ix1 0)).toNat ≤ 98) (i : Fin 25088) (c : Fin 2048) :
    resT x b n w1 w3 w2 (ix2 i c) = (if i.val / 256 < (n (ix1 0)).toNat then
      rowOut (fun k => x (ix2 i k))
        (fun k f => w1 (ix4 0 ⟨(b (ix1 ⟨i.val / 256, by omega⟩)).toNat, hb _⟩ k f))
        (fun k f => w3 (ix4 0 ⟨(b (ix1 ⟨i.val / 256, by omega⟩)).toNat, hb _⟩ k f))
        (fun f => w2 (ix4 0 ⟨(b (ix1 ⟨i.val / 256, by omega⟩)).toNat, hb _⟩ f c))
      else 0 : EReal) := by
  have hi : (⟨i.val / 256 * 256 + i.val % 256, by omega⟩ : Fin 25088) = i := Fin.ext (by show i.val / 256 * 256 + i.val % 256 = i.val; omega)
  have hc : IntOp.cmpi .slt (BitVec.ofNat 32 (i.val / 256)) (n (ix1 0)) = 1#1 ↔ i.val / 256 < (n (ix1 0)).toNat := by
    rw [IntOp.cmpi_slt, BitVec.toInt_eq_toNat_of_lt (by rw [BitVec.toNat_ofNat]; omega), BitVec.toInt_eq_toNat_of_lt (by omega), BitVec.toNat_ofNat]
    omega
  unfold resT
  rw [keepT_at]
  unfold Scalar.select
  by_cases q : i.val / 256 < (n (ix1 0)).toNat
  · rw [if_pos (show _ = (1 : BitVec 1) from hc.2 q), if_pos q, mixT_at]
    unfold rowOut
    refine Finset.sum_congr rfl fun f _ => ?_
    rw [siluT_at, hidT_at, hidT_at, downT_at w2 b _ (hb _)]
    simp only [upT_at w1 b _ (hb _), upT_at w3 b _ (hb _), hi]
  · rw [if_neg (show ¬(_ = (1 : BitVec 1)) from fun h => q (hc.1 h)), if_neg q]

end Cert.ExpertsRefIdeal.Blocks
end
-- ==== Proof.Exp.Pair.lean ====
/- The experts and their reference return the same array. -/
module

public import proofs.«01_k».proof.Defs
public import proofs.«01_k».proof.Proof.Exp.IdealValue
public import proofs.«01_k».proof.Proof.Exp.IdealPre
public import proofs.«01_k».proof.Proof.Exp.RefEntries

@[expose] public section
set_option maxRecDepth 16384
noncomputable section

namespace Cert.ExpertsIdeal.Blocks
open Cert.ExpertsIdeal Cert.ExpertsIdeal.Gen
open Idealize.ShloMosaic Idealize.ShloMosaic.TcCoe

/-- The kernel's array is the reference's of the same arguments. -/
theorem target_eq (ch : Tabs) (m : (ℓ : Loc nD τ sig) → Buf (Elt Ideal) ℓ) (hp : Holds ch m) (c : Dev nD) :
    target ch m c = Cert.ExpertsRefIdeal.Blocks.resT (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) := by
  funext y
  obtain ⟨i, d, rfl⟩ : ∃ (i : Fin 25088) (d : Fin 2048), y = ix2 i d := ⟨y 0, y 1, eq_ix2 y⟩
  rw [hp.1 c, hp.2 c, Cert.ExpertsRefIdeal.Blocks.resT_at _ _ _ _ _ _ ch.expert_lt (ch.used_le _)]
  have hi : (⟨256 * (i.val / 256) + i.val % 256, by omega⟩ : Fin 25088) = i :=
    Fin.ext (by show 256 * (i.val / 256) + i.val % 256 = i.val; omega)
  show entry ch m c ⟨i.val / 256, _⟩ ⟨i.val % 256, _⟩ d = _
  unfold entry usedCount expertOf
  dsimp only
  rw [hi]

end Cert.ExpertsIdeal.Blocks

namespace Cert.Pairs
open Idealize.ShloMosaic Idealize.ShloMosaic.TcCoe Idealize.SL.Sem

theorem experts : Cert.algebraic_ExpertsIdeal_ExpertsRefIdeal (hExpertsIdeal := Cert.ExpertsIdeal.Gen.facts)
    (hExpertsRefIdeal := Cert.ExpertsRefIdeal.Gen.facts) (hPre_expert_tables := Cert.Pre_expert_tables.Gen.facts) := by
  intro m g m' g' hpre hagree
  obtain ⟨ch, hp⟩ := Cert.ExpertsIdeal.Blocks.tabs_of_pre m hpre
  refine ⟨fun c => Cert.ExpertsIdeal.Blocks.target ch m c,
    (θ_run _ _ _).mono (fun r h c => ?_) (θ_run_and (Cert.ExpertsIdeal.Blocks.run_main ch m g hp) (Cert.ExpertsIdeal.Blocks.unchanged ch m g hp)),
    (θ_run _ _ _).mono (fun r h c => ?_) (Cert.ExpertsRefIdeal.Value.run m' g')⟩
  · exact ⟨((h.1 c).1 (4 : Fin 5)).trans (Cert.ExpertsIdeal.Blocks.final4 ch m g c), h.2 c⟩
  · refine ⟨(h c).1.trans (Eq.trans ?_ (Cert.ExpertsIdeal.Blocks.target_eq ch m hp c).symm), (h c).2⟩
    rw [(hagree c).1, (hagree c).2.1, (hagree c).2.2.1, (hagree c).2.2.2.1, (hagree c).2.2.2.2.1, (hagree c).2.2.2.2.2]
    rfl

end Cert.Pairs
end
-- ==== Proof.Exp.IdealValueSecond.lean ====
/- What the experts' launch leaves in the result: each used block's rows through the block's expert, zero elsewhere. -/
module

public import proofs.«01_k».proof.Proof.Exp.IdealFrameSecond
public import proofs.«01_k».proof.Proof.Exp.Math
public import Idealize.ShloMosaic.Lib.Pointwise
public import Idealize.ShloMosaic.Lib.WordCmp
public import Idealize.ShloMosaic.Lib.Pipeline.ValueKit
public import Idealize.ShloMosaic.Lib.Pipeline.ReadBack

@[expose] public section
set_option maxRecDepth 16384
noncomputable section

namespace Cert.ExpertsSecondIdeal.Blocks
open Cert.ExpertsSecondIdeal Cert.ExpertsSecondIdeal.Gen
open Cert.Experts (gate rowOut)
open Idealize.ShloMosaic Idealize.ShloMosaic.TcCoe Idealize.SL.Sem
open Idealize.ShloMosaic.Pipeline (Dat Cfg Window)

/-- One entry of a block through its expert. -/
theorem pay1_at (x : FVec Ideal S256x2048 .f32) (g u : FVec Ideal S1x1x2048x512 .f32) (d : FVec Ideal S1x1x512x2048 .f32)
    (r : Fin 256) (c : Fin 2048) :
    k0_pay1 (F := Ideal) x g u d (ix2 r c) = rowOut (fun k => x (ix2 r k)) (fun k f => g (ix4 0 0 k f)) (fun k f => u (ix4 0 0 k f)) (fun f => d (ix4 0 0 f c)) := by
  unfold rowOut gate
  pointwise [k0_pay1]

/-- An unused block is zero. -/
theorem pay2_at (y : S256x2048.Idx) : k0_pay2 (F := Ideal) y = (0 : EReal) := by
  pointwise [k0_pay2]

/-- A block filled whole reads as what filled it. -/
theorem canon_whole (inb) (w : S256x2048.Idx → Elt Ideal .f32) (y : S256x2048.Idx) :
    View.canon [(⟨Rect.unit (s := S256x2048) ![0, 0] S256x2048.size inb, w⟩ : View.Piece (Elt Ideal) _ .f32)] y = w y := by
  have e : (Rect.unit (s := S256x2048) ![0, 0] S256x2048.size inb).emb y = y :=
    Rect.emb_eq_of_coords _ _ _ fun a => by fin_cases a <;> simp
  conv_lhs => rw [← e]
  exact View.canon_cons_emb (Rect.unit (s := S256x2048) ![0, 0] S256x2048.size inb) w [] _

/-- The one index of a table of one entry. -/
theorem idx1 (y : S1.Idx) : y = ix1 0 := funext fun a => by
  fin_cases a
  exact Subsingleton.elim (α := Fin 1) _ _
/-- An index of the table of experts, by its number. -/
theorem idx98 (y : S98.Idx) (n : Fin 98) (h : (y 0).val = n.val) : y = ix1 n := funext fun a => by
  fin_cases a
  exact Fin.ext h

variable (ch : Tabs)

/-- A point's coordinate is its number. -/
theorem coord_val (t : Fin (cfgA ch).N) : (crd ch t 0).val = t.val := by
  have h : ∀ t : Fin grid0.N, (grid0.coords t 0).val = t.val := by decide +kernel
  exact h t

/-- The expert of block `t`. -/
def expertOf (t : Fin 98) : Fin 32 := ⟨(ch.expert (ix1 t)).toNat, ch.expert_lt _⟩
/-- How many blocks are used. -/
def usedCount : ℕ := (ch.used (ix1 0)).toNat

theorem usedWord_eq : usedWord ch = ch.used (ix1 0) := by
  exact congrArg ch.used (idx1 _)

/-- A block is used when its number is below the count. -/
theorem used_iff (t : Fin (cfgA ch).N) : Used ch t ↔ t.val < usedCount ch := by
  have ht : t.val < 98 := t.isLt
  have h2 := ch.used_le (ix1 0)
  unfold Used k0_cond1
  dsimp only
  rw [usedWord_eq, coord_val]
  have hc : Scalar.cmpi .slt (BitVec.ofNat 32 t.val) (ch.used (ix1 0)) = 1#1 ↔ t.val < usedCount ch := by
    rw [show Scalar.cmpi .slt (BitVec.ofNat 32 t.val) (ch.used (ix1 0)) = IntOp.cmpi .slt (BitVec.ofNat 32 t.val) (ch.used (ix1 0)) from rfl, IntOp.cmpi_slt]
    rw [BitVec.toInt_eq_toNat_of_lt (by rw [BitVec.toNat_ofNat]; omega), BitVec.toInt_eq_toNat_of_lt (by omega), BitVec.toNat_ofNat]
    unfold usedCount
    omega
  rw [← hc]
  generalize Scalar.cmpi .slt (BitVec.ofNat 32 t.val) (ch.used (ix1 0)) = b
  revert b
  decide

/-- The rows a used point reads are its own block's. -/
theorem index_rows (t : Fin (cfgA ch).N) (q : t.val < usedCount ch) : ((cfgA ch).win (0 : Fin 5)).index t = ![t.val, 0] := by
  have ht : t.val < 98 := t.isLt
  have h2 := ch.used_le (ix1 0)
  have hy : (tabOf ch).at 1 (Rect.unit (s := S1) ![0] S1.size inb_S1_S1_0) numel1_S1 = ch.used (ix1 0) :=
    congrArg ch.used (idx1 _)
  show cc0_transform_0 inb_S1_S1_0 numel1_S1 (tabOf ch) (crd ch t) = _
  unfold cc0_transform_0
  dsimp only
  rw [hy, coord_val]
  unfold usedCount at q
  have hs : (Scalar.subi (ch.used (ix1 0)) 1#32).toNat = (ch.used (ix1 0)).toNat - 1 := by
    show (ch.used (ix1 0) - 1#32).toNat = _
    rw [BitVec.toNat_sub]
    simp only [BitVec.toNat_ofNat]
    omega
  have hm := WordArith.toNat_minsi_of_lt (BitVec.ofNat 32 t.val) (Scalar.subi (ch.used (ix1 0)) 1#32)
    (by rw [BitVec.toNat_ofNat]; omega) (by rw [hs]; omega)
  rw [Scalar.minsi, hm, hs, BitVec.toNat_ofNat]
  have : min (t.val % 2 ^ 32) ((ch.used (ix1 0)).toNat - 1) = t.val := by omega
  rw [this]
  rfl

theorem expert_word (t : Fin (cfgA ch).N) :
    (tabOf ch).at 0 (Rect.unit (s := S98) ![(Scalar.indexCast (BitVec.ofNat 32 (crd ch t 0).val) : Index).toNat] S1.size (k0_off1_inb (crd ch t))) numel1_S1
      = ch.expert (ix1 ⟨t.val, t.isLt⟩) := by
  have ht : t.val < 98 := t.isLt
  refine congrArg ch.expert (idx98 _ _ ?_)
  show (BitVec.ofNat 32 (crd ch t 0).val).toNat + 1 * 0 = t.val
  rw [coord_val, BitVec.toNat_ofNat]
  omega

/-- The matrices a point reads are its expert's. -/
theorem index_gate (t : Fin (cfgA ch).N) : ((cfgA ch).win (1 : Fin 5)).index t = ![1, (expertOf ch ⟨t.val, t.isLt⟩).val, 0, 0] := by
  show cc0_transform_1 k0_off1_inb numel1_S1 (tabOf ch) (crd ch t) = _
  unfold cc0_transform_1
  dsimp only
  rw [expert_word]
  rfl
theorem index_up (t : Fin (cfgA ch).N) : ((cfgA ch).win (2 : Fin 5)).index t = ![1, (expertOf ch ⟨t.val, t.isLt⟩).val, 0, 0] := by
  show cc0_transform_2 k0_off1_inb numel1_S1 (tabOf ch) (crd ch t) = _
  unfold cc0_transform_2
  dsimp only
  rw [expert_word]
  rfl
theorem index_down (t : Fin (cfgA ch).N) : ((cfgA ch).win (3 : Fin 5)).index t = ![1, (expertOf ch ⟨t.val, t.isLt⟩).val, 0, 0] := by
  show cc0_transform_3 k0_off1_inb numel1_S1 (tabOf ch) (crd ch t) = _
  unfold cc0_transform_3
  dsimp only
  rw [expert_word]
  rfl
theorem index_out (t : Fin (cfgA ch).N) : ((cfgA ch).win (4 : Fin 5)).index t = ![t.val, 0] := by
  have h : ∀ t : Fin grid0.N, cc0_transform_4 (grid0.coords t) = ![t.val, 0] := by decide +kernel
  exact h t

variable (m : (ℓ : Loc nD τ sig) → Buf (Elt Ideal) ℓ) (ρ : Dev nD → PrngReg)

theorem rows_at (c : Dev nD) (t : Fin (cfgA ch).N) (q : t.val < usedCount ch) (r : Fin 256) (k : Fin 2048) :
    iblk ch m ρ c (0 : Fin 5) t (ix2 r k) = m ((c : Thread nD τ).loc main_arg0) (ix2 ⟨256 * t.val + r.val, by have : t.val < 98 := t.isLt; omega⟩ k) := by
  blk_simp [iblk, index_rows ch t q]
  pointwise
  blk_ext [index_rows ch t q]

theorem gate_at (c : Dev nD) (t : Fin (cfgA ch).N) (k : Fin 2048) (f : Fin 512) :
    iblk ch m ρ c (1 : Fin 5) t (ix4 0 0 k f) = m ((c : Thread nD τ).loc main_arg3) (ix4 1 (expertOf ch ⟨t.val, t.isLt⟩) k f) := by
  blk_simp [iblk, index_gate ch t]
  pointwise
  blk_ext [index_gate ch t]
  exact Nat.add_zero _

theorem up_at (c : Dev nD) (t : Fin (cfgA ch).N) (k : Fin 2048) (f : Fin 512) :
    iblk ch m ρ c (2 : Fin 5) t (ix4 0 0 k f) = m ((c : Thread nD τ).loc main_arg4) (ix4 1 (expertOf ch ⟨t.val, t.isLt⟩) k f) := by
  blk_simp [iblk, index_up ch t]
  pointwise
  blk_ext [index_up ch t]
  exact Nat.add_zero _

theorem down_at (c : Dev nD) (t : Fin (cfgA ch).N) (f : Fin 512) (d : Fin 2048) :
    iblk ch m ρ c (3 : Fin 5) t (ix4 0 0 f d) = m ((c : Thread nD τ).loc main_arg5) (ix4 1 (expertOf ch ⟨t.val, t.isLt⟩) f d) := by
  blk_simp [iblk, index_down ch t]
  pointwise
  blk_ext [index_down ch t]
  exact Nat.add_zero _

/-- The result's entry at row `256 t + r`. -/
def entry (c : Dev nD) (t : Fin 98) (r : Fin 256) (d : Fin 2048) : EReal :=
  if t.val < usedCount ch then
    rowOut (fun k => m ((c : Thread nD τ).loc main_arg0) (ix2 ⟨256 * t.val + r.val, by omega⟩ k))
      (fun k f => m ((c : Thread nD τ).loc main_arg3) (ix4 1 (expertOf ch t) k f))
      (fun k f => m ((c : Thread nD τ).loc main_arg4) (ix4 1 (expertOf ch t) k f))
      (fun f => m ((c : Thread nD τ).loc main_arg5) (ix4 1 (expertOf ch t) f d))
  else 0

/-- What a point leaves in the output's block. -/
theorem step_at (c : Dev nD) (t : Fin (cfgA ch).N) (r : Fin 256) (d : Fin 2048) :
    step ch m ρ c t (ix2 r d) = entry ch m c ⟨t.val, t.isLt⟩ r d := by
  unfold entry
  by_cases q : Used ch t
  · have q' := (used_iff ch t).1 q
    rw [step_used ch m ρ c t q, if_pos q']
    unfold out0_A_4 kernelRun0_A
    frame_out
    rw [View.read_rep, View.read_rep, View.read_rep, View.read_rep]
    rw [pay1_at]
    simp only [rows_at ch m ρ c t q', gate_at, up_at, down_at]
  · have q' := fun h => q ((used_iff ch t).2 h)
    rw [step_unused ch m ρ c t q, if_neg q']
    unfold out0_B_4 kernelRun0_B
    frame_out
    exact pay2_at _

theorem covers_out : ((cfgA ch).win (4 : Fin 5)).Covers := by
  have n0 : ((cfgA ch).win (4 : Fin 5)).nblk (0 : Fin 2) = 98 := by
    show (25088 + 256 - 1) / 256 = 98
    decide
  have n1 : ((cfgA ch).win (4 : Fin 5)).nblk (1 : Fin 2) = 1 := by
    show (2048 + 2048 - 1) / 2048 = 1
    decide
  refine ⟨fun a => ?_, fun β => ?_⟩
  · fin_cases a
    · show 0 < 256
      decide
    · show 0 < 2048
      decide
  have h0 : (β (0 : Fin 2)).val < 98 := lt_of_lt_of_eq (β (0 : Fin 2)).isLt n0
  have h1 : (β (1 : Fin 2)).val < 1 := lt_of_lt_of_eq (β (1 : Fin 2)).isLt n1
  refine ⟨⟨(β (0 : Fin 2)).val, h0⟩, flush_out ch _, fun a => ⟨?_, .inl rfl⟩⟩
  rw [index_out]
  fin_cases a
  · rfl
  · show 0 = (β (1 : Fin 2)).val
    omega

/-- The result, as one array. -/
def target (c : Dev nD) : S25088x2048.Idx → Elt Ideal .f32 := fun i =>
  entry ch m c ⟨(i 0).val / 256, by have : (i 0).val < 25088 := (i 0).isLt; omega⟩ ⟨(i 0).val % 256, Nat.mod_lt _ (by decide)⟩ (i 1)

theorem final4 (c : Dev nD) : (dats ch m ρ 0 c).arrAt (4 : Fin 5) (cfgA ch).N = target ch m c := by
  refine (dats ch m ρ 0 c).arrAt_eq_of_covers (4 : Fin 5) _ (covers_out ch) fun t hf y => ?_
  blk_simp
  obtain ⟨r, d, rfl⟩ : ∃ (r : Fin 256) (d : Fin 2048), y = ix2 r d := ⟨y 0, y 1, eq_ix2 y⟩
  rw [after0_4, step_at ch m ρ c t r d]
  unfold target
  have e0 : ((((cfgA ch).win (4 : Fin 5)).blk t).view.emb (ix2 r d) 0).val = 256 * t.val + r.val := by
    blk_simp [index_out ch t]
    omega
  have e1 : ((((cfgA ch).win (4 : Fin 5)).blk t).view.emb (ix2 r d) 1).val = d.val := by
    blk_simp [index_out ch t]
  congr 1
  · apply Fin.ext; simp only [e0]; omega
  · apply Fin.ext; simp only [e0]; omega
  · apply Fin.ext; exact e1.symm

end Cert.ExpertsSecondIdeal.Blocks
end
-- ==== Proof.Exp.RefEntriesSecond.lean ====
/- The experts as the reference writes them, stage by stage, and each stage's entries. -/
module

public import proofs.«01_k».proof.Proof.Gen.ExpertsSecondRefIdeal.Run
public import proofs.«01_k».proof.Proof.Exp.Math
public import Idealize.ShloMosaic.Lib.Pointwise
public import Idealize.ShloMosaic.Lib.WordCmp

@[expose] public section
set_option maxRecDepth 16384
noncomputable section

namespace Cert.ExpertsSecondRefIdeal.Blocks
open Cert.ExpertsSecondRefIdeal Cert.ExpertsSecondRefIdeal.Gen
open Cert.Experts (gate rowOut slab slab_at gate_eq)
open Idealize.ShloMosaic Idealize.ShloMosaic.TcCoe

/-- The start indices: a negative expert would count from the end. -/
def startT (b : IVec S98 32) : IVec S98x1 32 :=
  broadcastInDim S98x1 ![0] bcast_S98_S98x1_0 (select (cmpi .slt b (broadcastInDim S98 ![] bcast_S_S98 (constantI S_ 32 0#32))) (addi b (broadcastInDim S98 ![] bcast_S_S98 (constantI S_ 32 32#32))) b)

/-- Each block's first or second matrix. -/
def upT (w : FVec Ideal S2x32x2048x512 .f32) (b : IVec S98 32) : FVec Ideal S98x2048x512 .f32 :=
  Host.gather gather_S32x2048x512_S98x1_S98x2048x512_12_0_n_n_0_1_12048512 (shapeCast S32x2048x512 (extractStridedSlice S1x32x2048x512 ![1, 0, 0, 0] w slices_S2x32x2048x512_S1x32x2048x512_1_0_0_0) shapeCasts_S1x32x2048x512_S32x2048x512) (startT b)

/-- Each block's last matrix. -/
def downT (w : FVec Ideal S2x32x512x2048 .f32) (b : IVec S98 32) : FVec Ideal S98x512x2048 .f32 :=
  Host.gather gather_S32x512x2048_S98x1_S98x512x2048_12_0_n_n_0_1_15122048 (shapeCast S32x512x2048 (extractStridedSlice S1x32x512x2048 ![1, 0, 0, 0] w slices_S2x32x512x2048_S1x32x512x2048_1_0_0_0) shapeCasts_S1x32x512x2048_S32x512x2048) (startT b)

/-- The blocks' rows through a matrix each. -/
def hidT (x : FVec Ideal S25088x2048 .f32) (u : FVec Ideal S98x2048x512 .f32) : FVec Ideal S98x256x512 .f32 :=
  Host.dotGeneral dot_S98x256x2048_S98x2048x512_S98x256x512_2_1_1_2_0_0 none (shapeCast S98x256x2048 x shapeCasts_S25088x2048_S98x256x2048) u

/-- The gated rows. -/
def siluT (a : FVec Ideal S98x256x512 .f32) : FVec Ideal S98x256x512 .f32 :=
  mulf a (Host.divf (broadcastInDim S98x256x512 ![] bcast_S_S98x256x512 (constant S_ .f32 0x3F800000#32)) (addf (broadcastInDim S98x256x512 ![] bcast_S_S98x256x512 (constant S_ .f32 0x3F800000#32)) (Host.exp (Host.negf a))))

/-- The product of the two hidden rows through the last matrix. -/
def mixT (a b : FVec Ideal S98x256x512 .f32) (d : FVec Ideal S98x512x2048 .f32) : FVec Ideal S98x256x2048 .f32 :=
  Host.dotGeneral dot_S98x256x512_S98x512x2048_S98x256x2048_2_1_1_2_0_0 none (mulf a b) d

/-- The used blocks kept, the others zero. -/
def keepT (n : IVec S1 32) (v : FVec Ideal S98x256x2048 .f32) : FVec Ideal S25088x2048 .f32 :=
  shapeCast S25088x2048 (select (broadcastInDim S98x256x2048 ![0, 1, 2] bcast_S98x1x1_S98x256x2048_0_1_2 (broadcastInDim S98x1x1 ![0] bcast_S98_S98x1x1_0 (cmpi .slt (iotaInDim S98 32 0) (broadcastInDim S98 ![] bcast_S_S98 (shapeCast S_ n shapeCasts_S1_S_))))) v
    (broadcastInDim S98x256x2048 ![] bcast_S_S98x256x2048 (constant S_ .f32 0x00000000#32))) shapeCasts_S98x256x2048_S25088x2048

/-- The reference's result. -/
def resT (x : FVec Ideal S25088x2048 .f32) (b : IVec S98 32) (n : IVec S1 32) (w1 w3 : FVec Ideal S2x32x2048x512 .f32)
    (w2 : FVec Ideal S2x32x512x2048 .f32) : FVec Ideal S25088x2048 .f32 :=
  keepT n (mixT (siluT (hidT x (upT w1 b))) (hidT x (upT w3 b)) (downT w2 b))

/-- An expert's number as a start index is the number. -/
theorem startT_at (b : IVec S98 32) (t : Fin 98) (h : (b (ix1 t)).toNat < 32) : (startT b (ix2 t 0)).toInt = ((b (ix1 t)).toNat : ℤ) := by
  have e : startT b (ix2 t 0) = Scalar.select (IntOp.cmpi .slt (b (ix1 t)) 0#32) (IntOp.addi (b (ix1 t)) 32#32) (b (ix1 t)) := by
    pointwise [startT]
  have hi : (b (ix1 t)).toInt = ((b (ix1 t)).toNat : ℤ) := BitVec.toInt_eq_toNat_of_lt (by omega)
  have hc : ¬(IntOp.cmpi .slt (b (ix1 t)) 0#32 = 1#1) := by
    rw [IntOp.cmpi_slt, hi]
    simp
  rw [e]
  unfold Scalar.select
  rw [if_neg (show ¬(_ = (1 : BitVec 1)) from hc), hi]

theorem upT_at (w : FVec Ideal S2x32x2048x512 .f32) (b : IVec S98 32) (t : Fin 98) (h : (b (ix1 t)).toNat < 32) (k : Fin 2048) (f : Fin 512) :
    upT w b (ix3 t k f) = w (ix4 1 ⟨(b (ix1 t)).toNat, h⟩ k f) := by
  unfold upT
  refine (slab_at (N := 32) (A := 2048) (B := 512) (n := 98) gather_S32x2048x512_S98x1_S98x2048x512_12_0_n_n_0_1_12048512_wf _ (startT b) t k f ⟨_, h⟩ (startT_at b t h)).trans ?_
  pointwise

theorem downT_at (w : FVec Ideal S2x32x512x2048 .f32) (b : IVec S98 32) (t : Fin 98) (h : (b (ix1 t)).toNat < 32) (f : Fin 512) (d : Fin 2048) :
    downT w b (ix3 t f d) = w (ix4 1 ⟨(b (ix1 t)).toNat, h⟩ f d) := by
  unfold downT
  refine (slab_at (N := 32) (A := 512) (B := 2048) (n := 98) gather_S32x512x2048_S98x1_S98x512x2048_12_0_n_n_0_1_15122048_wf _ (startT b) t f d ⟨_, h⟩ (startT_at b t h)).trans ?_
  pointwise

theorem hidT_at (x : FVec Ideal S25088x2048 .f32) (u : FVec Ideal S98x2048x512 .f32) (t : Fin 98) (r : Fin 256) (f : Fin 512) :
    hidT x u (ix3 t r f) = ∑ k : Fin 2048, x (ix2 ⟨t.val * 256 + r.val, by omega⟩ k) * u (ix3 t k f) := by
  pointwise [hidT]

theorem siluT_at (a : FVec Ideal S98x256x512 .f32) (t : Fin 98) (r : Fin 256) (f : Fin 512) :
    siluT a (ix3 t r f) = gate (a (ix3 t r f)) := by
  rw [← gate_eq]
  pointwise [siluT]

theorem mixT_at (a b : FVec Ideal S98x256x512 .f32) (d : FVec Ideal S98x512x2048 .f32) (t : Fin 98) (r : Fin 256) (c : Fin 2048) :
    mixT a b d (ix3 t r c) = ∑ f : Fin 512, a (ix3 t r f) * b (ix3 t r f) * d (ix3 t f c) := by
  pointwise [mixT]

theorem keepT_at (n : IVec S1 32) (v : FVec Ideal S98x256x2048 .f32) (i : Fin 25088) (c : Fin 2048) :
    keepT n v (ix2 i c) = Scalar.select (IntOp.cmpi .slt (BitVec.ofNat 32 (i.val / 256)) (n (ix1 0)))
      (v (ix3 ⟨i.val / 256, by omega⟩ ⟨i.val % 256, by omega⟩ c)) (0 : EReal) := by
  pointwise [keepT]

/-- The reference's entry. -/
theorem resT_at (x : FVec Ideal S25088x2048 .f32) (b : IVec S98 32) (n : IVec S1 32) (w1 w3 : FVec Ideal S2x32x2048x512 .f32)
    (w2 : FVec Ideal S2x32x512x2048 .f32) (hb : ∀ y, (b y).toNat < 32) (hn : (n (ix1 0)).toNat ≤ 98) (i : Fin 25088) (c : Fin 2048) :
    resT x b n w1 w3 w2 (ix2 i c) = (if i.val / 256 < (n (ix1 0)).toNat then
      rowOut (fun k => x (ix2 i k))
        (fun k f => w1 (ix4 1 ⟨(b (ix1 ⟨i.val / 256, by omega⟩)).toNat, hb _⟩ k f))
        (fun k f => w3 (ix4 1 ⟨(b (ix1 ⟨i.val / 256, by omega⟩)).toNat, hb _⟩ k f))
        (fun f => w2 (ix4 1 ⟨(b (ix1 ⟨i.val / 256, by omega⟩)).toNat, hb _⟩ f c))
      else 0 : EReal) := by
  have hi : (⟨i.val / 256 * 256 + i.val % 256, by omega⟩ : Fin 25088) = i := Fin.ext (by show i.val / 256 * 256 + i.val % 256 = i.val; omega)
  have hc : IntOp.cmpi .slt (BitVec.ofNat 32 (i.val / 256)) (n (ix1 0)) = 1#1 ↔ i.val / 256 < (n (ix1 0)).toNat := by
    rw [IntOp.cmpi_slt, BitVec.toInt_eq_toNat_of_lt (by rw [BitVec.toNat_ofNat]; omega), BitVec.toInt_eq_toNat_of_lt (by omega), BitVec.toNat_ofNat]
    omega
  unfold resT
  rw [keepT_at]
  unfold Scalar.select
  by_cases q : i.val / 256 < (n (ix1 0)).toNat
  · rw [if_pos (show _ = (1 : BitVec 1) from hc.2 q), if_pos q, mixT_at]
    unfold rowOut
    refine Finset.sum_congr rfl fun f _ => ?_
    rw [siluT_at, hidT_at, hidT_at, downT_at w2 b _ (hb _)]
    simp only [upT_at w1 b _ (hb _), upT_at w3 b _ (hb _), hi]
  · rw [if_neg (show ¬(_ = (1 : BitVec 1)) from fun h => q (hc.1 h)), if_neg q]

end Cert.ExpertsSecondRefIdeal.Blocks
end
-- ==== Proof.Exp.PairSecond.lean ====
/- The experts and their reference return the same array. -/
module

public import proofs.«01_k».proof.Defs
public import proofs.«01_k».proof.Proof.Exp.IdealValueSecond
public import proofs.«01_k».proof.Proof.Exp.IdealPreSecond
public import proofs.«01_k».proof.Proof.Exp.RefEntriesSecond

@[expose] public section
set_option maxRecDepth 16384
noncomputable section

namespace Cert.ExpertsSecondIdeal.Blocks
open Cert.ExpertsSecondIdeal Cert.ExpertsSecondIdeal.Gen
open Idealize.ShloMosaic Idealize.ShloMosaic.TcCoe

/-- The kernel's array is the reference's of the same arguments. -/
theorem target_eq (ch : Tabs) (m : (ℓ : Loc nD τ sig) → Buf (Elt Ideal) ℓ) (hp : Holds ch m) (c : Dev nD) :
    target ch m c = Cert.ExpertsSecondRefIdeal.Blocks.resT (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) := by
  funext y
  obtain ⟨i, d, rfl⟩ : ∃ (i : Fin 25088) (d : Fin 2048), y = ix2 i d := ⟨y 0, y 1, eq_ix2 y⟩
  rw [hp.1 c, hp.2 c, Cert.ExpertsSecondRefIdeal.Blocks.resT_at _ _ _ _ _ _ ch.expert_lt (ch.used_le _)]
  have hi : (⟨256 * (i.val / 256) + i.val % 256, by omega⟩ : Fin 25088) = i :=
    Fin.ext (by show 256 * (i.val / 256) + i.val % 256 = i.val; omega)
  show entry ch m c ⟨i.val / 256, _⟩ ⟨i.val % 256, _⟩ d = _
  unfold entry usedCount expertOf
  dsimp only
  rw [hi]

end Cert.ExpertsSecondIdeal.Blocks

namespace Cert.Pairs
open Idealize.ShloMosaic Idealize.ShloMosaic.TcCoe Idealize.SL.Sem

theorem expertsSecond : Cert.algebraic_ExpertsSecondIdeal_ExpertsSecondRefIdeal (hExpertsSecondIdeal := Cert.ExpertsSecondIdeal.Gen.facts)
    (hExpertsSecondRefIdeal := Cert.ExpertsSecondRefIdeal.Gen.facts) (hPre_expert_tables := Cert.Pre_expert_tables.Gen.facts) := by
  intro m g m' g' hpre hagree
  obtain ⟨ch, hp⟩ := Cert.ExpertsSecondIdeal.Blocks.tabs_of_pre m hpre
  refine ⟨fun c => Cert.ExpertsSecondIdeal.Blocks.target ch m c,
    (θ_run _ _ _).mono (fun r h c => ?_) (θ_run_and (Cert.ExpertsSecondIdeal.Blocks.run_main ch m g hp) (Cert.ExpertsSecondIdeal.Blocks.unchanged ch m g hp)),
    (θ_run _ _ _).mono (fun r h c => ?_) (Cert.ExpertsSecondRefIdeal.Value.run m' g')⟩
  · exact ⟨((h.1 c).1 (4 : Fin 5)).trans (Cert.ExpertsSecondIdeal.Blocks.final4 ch m g c), h.2 c⟩
  · refine ⟨(h c).1.trans (Eq.trans ?_ (Cert.ExpertsSecondIdeal.Blocks.target_eq ch m hp c).symm), (h c).2⟩
    rw [(hagree c).1, (hagree c).2.1, (hagree c).2.2.1, (hagree c).2.2.2.1, (hagree c).2.2.2.2.1, (hagree c).2.2.2.2.2]
    rfl

end Cert.Pairs
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormRefIdeal
public import proofs.«01_k».proof.Proof.Gen.NormIn
public import proofs.«01_k».proof.Proof.Gen.NormIn.Skeleton
public import proofs.«01_k».proof.Proof.Gen.NormIn.Launch
public import proofs.«01_k».proof.Proof.Gen.NormIn.Points
public import proofs.«01_k».proof.Proof.Gen.NormIn.Frame
public import proofs.«01_k».proof.Proof.Gen.NormInIdeal
public import proofs.«01_k».proof.Proof.Gen.NormInIdeal.Skeleton
public import proofs.«01_k».proof.Proof.Gen.NormInIdeal.Launch
public import proofs.«01_k».proof.Proof.Gen.NormInIdeal.Points
public import proofs.«01_k».proof.Proof.Gen.NormInIdeal.Frame
public import proofs.«01_k».proof.Proof.Gen.NormInRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.Pre_finite_values
public import proofs.«01_k».proof.Proof.Gen.NormIdeal.Value
public import proofs.«01_k».proof.Proof.Gen.NormInIdeal.Value
public import proofs.«01_k».proof.Proof.Gen.ProjIdeal.Value
public import proofs.«01_k».proof.Proof.Gen.NormRefIdeal.Run
public import proofs.«01_k».proof.Proof.Gen.NormInRefIdeal.Run
public import proofs.«01_k».proof.Proof.Gen.ProjRefIdeal.Run
public import proofs.«01_k».proof.Proof.Gen.ReferenceIdeal.Run
public import proofs.«01_k».proof.Proof.Pairs
public import proofs.«01_k».proof.Proof.AttnBits.Frame
public import proofs.«01_k».proof.Proof.AttnIdeal.Frame
public import proofs.«01_k».proof.Proof.Attn.Pair
public import proofs.«01_k».proof.Proof.Exp.BitsFrame
public import proofs.«01_k».proof.Proof.Exp.BitsPre
public import proofs.«01_k».proof.Proof.Exp.IdealFrame
public import proofs.«01_k».proof.Proof.Exp.IdealPre
public import proofs.«01_k».proof.Proof.Exp.BitsFrameSecond
public import proofs.«01_k».proof.Proof.Exp.BitsPreSecond
public import proofs.«01_k».proof.Proof.Exp.IdealFrameSecond
public import proofs.«01_k».proof.Proof.Exp.IdealPreSecond
public import proofs.«01_k».proof.Proof.Exp.Pair
public import proofs.«01_k».proof.Proof.Exp.PairSecond
public import proofs.«01_k».proof.Proof.Gen.Experts
public import proofs.«01_k».proof.Proof.Gen.Experts.Flash.Runs
public import proofs.«01_k».proof.Proof.Gen.ExpertsIdeal.Flash.Runs
public import proofs.«01_k».proof.Proof.Gen.ExpertsSecond.Flash.Runs
public import proofs.«01_k».proof.Proof.Gen.ExpertsSecondIdeal.Flash.Runs
public import proofs.«01_k».proof.Proof.Gen.ExpertsSecond
public import proofs.«01_k».proof.Proof.Gen.Experts.Skeleton
public import proofs.«01_k».proof.Proof.Gen.ExpertsSecond.Skeleton
public import proofs.«01_k».proof.Proof.Gen.Experts.Launch
public import proofs.«01_k».proof.Proof.Gen.ExpertsSecond.Launch
public import proofs.«01_k».proof.Proof.Gen.ExpertsIdeal
public import proofs.«01_k».proof.Proof.Gen.ExpertsSecondIdeal
public import proofs.«01_k».proof.Proof.Gen.ExpertsIdeal.Skeleton
public import proofs.«01_k».proof.Proof.Gen.ExpertsSecondIdeal.Skeleton
public import proofs.«01_k».proof.Proof.Gen.ExpertsIdeal.Launch
public import proofs.«01_k».proof.Proof.Gen.ExpertsSecondIdeal.Launch
public import proofs.«01_k».proof.Proof.Gen.ExpertsRefIdeal
public import proofs.«01_k».proof.Proof.Gen.ExpertsSecondRefIdeal
public import proofs.«01_k».proof.Proof.Gen.ExpertsRefIdeal.Run
public import proofs.«01_k».proof.Proof.Gen.ExpertsSecondRefIdeal.Run
public import proofs.«01_k».proof.Proof.Gen.Pre_expert_tables
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts, Cert.Norm.Gen.facts, Cert.NormIdeal.Gen.facts, Cert.NormRefIdeal.Gen.facts, Cert.NormIn.Gen.facts, Cert.NormInIdeal.Gen.facts, Cert.NormInRefIdeal.Gen.facts, Cert.Proj.Gen.facts, Cert.ProjIdeal.Gen.facts, Cert.ProjRefIdeal.Gen.facts, Cert.Experts.Gen.facts, Cert.ExpertsIdeal.Gen.facts, Cert.ExpertsRefIdeal.Gen.facts, Cert.ExpertsSecond.Gen.facts, Cert.ExpertsSecondIdeal.Gen.facts, Cert.ExpertsSecondRefIdeal.Gen.facts, Cert.Pre_finite_values.Gen.facts, Cert.Pre_expert_tables.Gen.facts,
  fun m ρ _ => Cert.Kernel.Attn.frame m ρ,
  fun m ρ _ => Cert.KernelIdeal.Attn.frame m ρ,
  fun m ρ _ => Cert.KernelIdeal.Attn.frame m ρ,
  fun m ρ _ => (θ_run _ _ _).mono (fun r h => ⟨fun c => (h c).2, sem_eq_zero_of_no_sems rfl r.2⟩) (Cert.ReferenceIdeal.Value.run m ρ),
  fun m ρ _ => (θ_run _ _ _).mono (fun r h => ⟨fun c => (h c).2, sem_eq_zero_of_no_sems rfl r.2⟩) (Cert.ReferenceIdeal.Value.run m ρ),
  fun m ρ _ => Cert.Norm.Gen.frame m ρ,
  fun m ρ _ => Cert.NormIdeal.Gen.frame m ρ,
  fun m ρ _ => (θ_run _ _ _).mono (fun r h => ⟨fun c => (h c).2, sem_eq_zero_of_no_sems rfl r.2⟩) (Cert.NormRefIdeal.Value.run m ρ),
  fun m ρ _ => Cert.NormIn.Gen.frame m ρ,
  fun m ρ _ => Cert.NormInIdeal.Gen.frame m ρ,
  fun m ρ _ => (θ_run _ _ _).mono (fun r h => ⟨fun c => (h c).2, sem_eq_zero_of_no_sems rfl r.2⟩) (Cert.NormInRefIdeal.Value.run m ρ),
  fun m ρ _ => Cert.Proj.Gen.frame m ρ,
  fun m ρ _ => Cert.ProjIdeal.Gen.frame m ρ,
  fun m ρ _ => (θ_run _ _ _).mono (fun r h => ⟨fun c => (h c).2.2.2, sem_eq_zero_of_no_sems rfl r.2⟩) (Cert.ProjRefIdeal.Value.run m ρ),
  fun m ρ h => (Cert.Experts.Blocks.tabs_of_pre m h).elim fun ch hp => Cert.Experts.Blocks.frame ch m ρ hp,
  fun m ρ h => (Cert.ExpertsIdeal.Blocks.tabs_of_pre m h).elim fun ch hp => Cert.ExpertsIdeal.Blocks.frame ch m ρ hp,
  fun m ρ _ => (θ_run _ _ _).mono (fun r h => ⟨fun c => (h c).2, sem_eq_zero_of_no_sems rfl r.2⟩) (Cert.ExpertsRefIdeal.Value.run m ρ),
  fun m ρ _ => (θ_run _ _ _).mono (fun r h => ⟨fun c => (h c).2, sem_eq_zero_of_no_sems rfl r.2⟩) (Cert.ExpertsRefIdeal.Value.run m ρ),
  fun m ρ h => (Cert.ExpertsSecond.Blocks.tabs_of_pre m h).elim fun ch hp => Cert.ExpertsSecond.Blocks.frame ch m ρ hp,
  fun m ρ h => (Cert.ExpertsSecondIdeal.Blocks.tabs_of_pre m h).elim fun ch hp => Cert.ExpertsSecondIdeal.Blocks.frame ch m ρ hp,
  fun m ρ _ => (θ_run _ _ _).mono (fun r h => ⟨fun c => (h c).2, sem_eq_zero_of_no_sems rfl r.2⟩) (Cert.ExpertsSecondRefIdeal.Value.run m ρ),
  fun m ρ _ => (θ_run _ _ _).mono (fun r h => ⟨fun c => (h c).2, sem_eq_zero_of_no_sems rfl r.2⟩) (Cert.ExpertsSecondRefIdeal.Value.run m ρ),
  trivial, Cert.Pairs.attn,
  trivial, Cert.Pairs.norm,
  trivial, Cert.Pairs.normIn,
  trivial, Cert.Pairs.proj,
  trivial, Cert.Pairs.experts,
  trivial, Cert.Pairs.expertsSecond⟩

end Cert.Proof

end
